-- ==== Defs.lean ====
def Pre_XAttn (m : (ℓ : Loc Cert.XAttn.nD Cert.XAttn.τ Cert.XAttn.sig) → Buf (Elt Bits) ℓ) : Prop :=
  True

def Pre_XAttnIdeal (m : (ℓ : Loc Cert.XAttnIdeal.nD Cert.XAttnIdeal.τ Cert.XAttnIdeal.sig) → Buf (Elt Ideal) ℓ) : Prop :=
  True

def Pre_XAttnIdeal_finite_gains [hPre_finite_gains : Cert.Pre_finite_gains.Facts] (m : (ℓ : Loc Cert.XAttnIdeal.nD Cert.XAttnIdeal.τ Cert.XAttnIdeal.sig) → Buf (Elt Ideal) ℓ) : Prop :=
  ∀ c : Dev Cert.XAttnIdeal.nD,
    (Cert.Pre_finite_gains.fn (F := Ideal) (m ((c.tc : Thread Cert.XAttnIdeal.nD Cert.XAttnIdeal.τ).loc Cert.XAttnIdeal.main_arg0)) (m ((c.tc : Thread Cert.XAttnIdeal.nD Cert.XAttnIdeal.τ).loc Cert.XAttnIdeal.main_arg1)) (m ((c.tc : Thread Cert.XAttnIdeal.nD Cert.XAttnIdeal.τ).loc Cert.XAttnIdeal.main_arg2)) (m ((c.tc : Thread Cert.XAttnIdeal.nD Cert.XAttnIdeal.τ).loc Cert.XAttnIdeal.main_arg3)) (m ((c.tc : Thread Cert.XAttnIdeal.nD Cert.XAttnIdeal.τ).loc Cert.XAttnIdeal.main_arg4)) (m ((c.tc : Thread Cert.XAttnIdeal.nD Cert.XAttnIdeal.τ).loc Cert.XAttnIdeal.main_arg5)) (m ((c.tc : Thread Cert.XAttnIdeal.nD Cert.XAttnIdeal.τ).loc Cert.XAttnIdeal.main_arg6)) (m ((c.tc : Thread Cert.XAttnIdeal.nD Cert.XAttnIdeal.τ).loc Cert.XAttnIdeal.main_arg7))).1 = (fun _ => 1#1)
    ∧ (Cert.Pre_finite_gains.fn (F := Ideal) (m ((c.tc : Thread Cert.XAttnIdeal.nD Cert.XAttnIdeal.τ).loc Cert.XAttnIdeal.main_arg0)) (m ((c.tc : Thread Cert.XAttnIdeal.nD Cert.XAttnIdeal.τ).loc Cert.XAttnIdeal.main_arg1)) (m ((c.tc : Thread Cert.XAttnIdeal.nD Cert.XAttnIdeal.τ).loc Cert.XAttnIdeal.main_arg2)) (m ((c.tc : Thread Cert.XAttnIdeal.nD Cert.XAttnIdeal.τ).loc Cert.XAttnIdeal.main_arg3)) (m ((c.tc : Thread Cert.XAttnIdeal.nD Cert.XAttnIdeal.τ).loc Cert.XAttnIdeal.main_arg4)) (m ((c.tc : Thread Cert.XAttnIdeal.nD Cert.XAttnIdeal.τ).loc Cert.XAttnIdeal.main_arg5)) (m ((c.tc : Thread Cert.XAttnIdeal.nD Cert.XAttnIdeal.τ).loc Cert.XAttnIdeal.main_arg6)) (m ((c.tc : Thread Cert.XAttnIdeal.nD Cert.XAttnIdeal.τ).loc Cert.XAttnIdeal.main_arg7))).2.1 = (fun _ => 1#1)
    ∧ (Cert.Pre_finite_gains.fn (F := Ideal) (m ((c.tc : Thread Cert.XAttnIdeal.nD Cert.XAttnIdeal.τ).loc Cert.XAttnIdeal.main_arg0)) (m ((c.tc : Thread Cert.XAttnIdeal.nD Cert.XAttnIdeal.τ).loc Cert.XAttnIdeal.main_arg1)) (m ((c.tc : Thread Cert.XAttnIdeal.nD Cert.XAttnIdeal.τ).loc Cert.XAttnIdeal.main_arg2)) (m ((c.tc : Thread Cert.XAttnIdeal.nD Cert.XAttnIdeal.τ).loc Cert.XAttnIdeal.main_arg3)) (m ((c.tc : Thread Cert.XAttnIdeal.nD Cert.XAttnIdeal.τ).loc Cert.XAttnIdeal.main_arg4)) (m ((c.tc : Thread Cert.XAttnIdeal.nD Cert.XAttnIdeal.τ).loc Cert.XAttnIdeal.main_arg5)) (m ((c.tc : Thread Cert.XAttnIdeal.nD Cert.XAttnIdeal.τ).loc Cert.XAttnIdeal.main_arg6)) (m ((c.tc : Thread Cert.XAttnIdeal.nD Cert.XAttnIdeal.τ).loc Cert.XAttnIdeal.main_arg7))).2.2.1 = (fun _ => 1#1)
    ∧ (Cert.Pre_finite_gains.fn (F := Ideal) (m ((c.tc : Thread Cert.XAttnIdeal.nD Cert.XAttnIdeal.τ).loc Cert.XAttnIdeal.main_arg0)) (m ((c.tc : Thread Cert.XAttnIdeal.nD Cert.XAttnIdeal.τ).loc Cert.XAttnIdeal.main_arg1)) (m ((c.tc : Thread Cert.XAttnIdeal.nD Cert.XAttnIdeal.τ).loc Cert.XAttnIdeal.main_arg2)) (m ((c.tc : Thread Cert.XAttnIdeal.nD Cert.XAttnIdeal.τ).loc Cert.XAttnIdeal.main_arg3)) (m ((c.tc : Thread Cert.XAttnIdeal.nD Cert.XAttnIdeal.τ).loc Cert.XAttnIdeal.main_arg4)) (m ((c.tc : Thread Cert.XAttnIdeal.nD Cert.XAttnIdeal.τ).loc Cert.XAttnIdeal.main_arg5)) (m ((c.tc : Thread Cert.XAttnIdeal.nD Cert.XAttnIdeal.τ).loc Cert.XAttnIdeal.main_arg6)) (m ((c.tc : Thread Cert.XAttnIdeal.nD Cert.XAttnIdeal.τ).loc Cert.XAttnIdeal.main_arg7))).2.2.2 = (fun _ => 1#1)

def Pre_XAttnRefIdeal (m : (ℓ : Loc Cert.XAttnRefIdeal.nD Cert.XAttnRefIdeal.τ Cert.XAttnRefIdeal.sig) → Buf (Elt Ideal) ℓ) : Prop :=
  True

def Pre_XAttnRefIdeal_finite_gains [hPre_finite_gains : Cert.Pre_finite_gains.Facts] (m : (ℓ : Loc Cert.XAttnRefIdeal.nD Cert.XAttnRefIdeal.τ Cert.XAttnRefIdeal.sig) → Buf (Elt Ideal) ℓ) : Prop :=
  ∀ c : Dev Cert.XAttnRefIdeal.nD,
    (Cert.Pre_finite_gains.fn (F := Ideal) (m ((c.tc : Thread Cert.XAttnRefIdeal.nD Cert.XAttnRefIdeal.τ).loc Cert.XAttnRefIdeal.main_arg0)) (m ((c.tc : Thread Cert.XAttnRefIdeal.nD Cert.XAttnRefIdeal.τ).loc Cert.XAttnRefIdeal.main_arg1)) (m ((c.tc : Thread Cert.XAttnRefIdeal.nD Cert.XAttnRefIdeal.τ).loc Cert.XAttnRefIdeal.main_arg2)) (m ((c.tc : Thread Cert.XAttnRefIdeal.nD Cert.XAttnRefIdeal.τ).loc Cert.XAttnRefIdeal.main_arg3)) (m ((c.tc : Thread Cert.XAttnRefIdeal.nD Cert.XAttnRefIdeal.τ).loc Cert.XAttnRefIdeal.main_arg4)) (m ((c.tc : Thread Cert.XAttnRefIdeal.nD Cert.XAttnRefIdeal.τ).loc Cert.XAttnRefIdeal.main_arg5)) (m ((c.tc : Thread Cert.XAttnRefIdeal.nD Cert.XAttnRefIdeal.τ).loc Cert.XAttnRefIdeal.main_arg6)) (m ((c.tc : Thread Cert.XAttnRefIdeal.nD Cert.XAttnRefIdeal.τ).loc Cert.XAttnRefIdeal.main_arg7))).1 = (fun _ => 1#1)
    ∧ (Cert.Pre_finite_gains.fn (F := Ideal) (m ((c.tc : Thread Cert.XAttnRefIdeal.nD Cert.XAttnRefIdeal.τ).loc Cert.XAttnRefIdeal.main_arg0)) (m ((c.tc : Thread Cert.XAttnRefIdeal.nD Cert.XAttnRefIdeal.τ).loc Cert.XAttnRefIdeal.main_arg1)) (m ((c.tc : Thread Cert.XAttnRefIdeal.nD Cert.XAttnRefIdeal.τ).loc Cert.XAttnRefIdeal.main_arg2)) (m ((c.tc : Thread Cert.XAttnRefIdeal.nD Cert.XAttnRefIdeal.τ).loc Cert.XAttnRefIdeal.main_arg3)) (m ((c.tc : Thread Cert.XAttnRefIdeal.nD Cert.XAttnRefIdeal.τ).loc Cert.XAttnRefIdeal.main_arg4)) (m ((c.tc : Thread Cert.XAttnRefIdeal.nD Cert.XAttnRefIdeal.τ).loc Cert.XAttnRefIdeal.main_arg5)) (m ((c.tc : Thread Cert.XAttnRefIdeal.nD Cert.XAttnRefIdeal.τ).loc Cert.XAttnRefIdeal.main_arg6)) (m ((c.tc : Thread Cert.XAttnRefIdeal.nD Cert.XAttnRefIdeal.τ).loc Cert.XAttnRefIdeal.main_arg7))).2.1 = (fun _ => 1#1)
    ∧ (Cert.Pre_finite_gains.fn (F := Ideal) (m ((c.tc : Thread Cert.XAttnRefIdeal.nD Cert.XAttnRefIdeal.τ).loc Cert.XAttnRefIdeal.main_arg0)) (m ((c.tc : Thread Cert.XAttnRefIdeal.nD Cert.XAttnRefIdeal.τ).loc Cert.XAttnRefIdeal.main_arg1)) (m ((c.tc : Thread Cert.XAttnRefIdeal.nD Cert.XAttnRefIdeal.τ).loc Cert.XAttnRefIdeal.main_arg2)) (m ((c.tc : Thread Cert.XAttnRefIdeal.nD Cert.XAttnRefIdeal.τ).loc Cert.XAttnRefIdeal.main_arg3)) (m ((c.tc : Thread Cert.XAttnRefIdeal.nD Cert.XAttnRefIdeal.τ).loc Cert.XAttnRefIdeal.main_arg4)) (m ((c.tc : Thread Cert.XAttnRefIdeal.nD Cert.XAttnRefIdeal.τ).loc Cert.XAttnRefIdeal.main_arg5)) (m ((c.tc : Thread Cert.XAttnRefIdeal.nD Cert.XAttnRefIdeal.τ).loc Cert.XAttnRefIdeal.main_arg6)) (m ((c.tc : Thread Cert.XAttnRefIdeal.nD Cert.XAttnRefIdeal.τ).loc Cert.XAttnRefIdeal.main_arg7))).2.2.1 = (fun _ => 1#1)
    ∧ (Cert.Pre_finite_gains.fn (F := Ideal) (m ((c.tc : Thread Cert.XAttnRefIdeal.nD Cert.XAttnRefIdeal.τ).loc Cert.XAttnRefIdeal.main_arg0)) (m ((c.tc : Thread Cert.XAttnRefIdeal.nD Cert.XAttnRefIdeal.τ).loc Cert.XAttnRefIdeal.main_arg1)) (m ((c.tc : Thread Cert.XAttnRefIdeal.nD Cert.XAttnRefIdeal.τ).loc Cert.XAttnRefIdeal.main_arg2)) (m ((c.tc : Thread Cert.XAttnRefIdeal.nD Cert.XAttnRefIdeal.τ).loc Cert.XAttnRefIdeal.main_arg3)) (m ((c.tc : Thread Cert.XAttnRefIdeal.nD Cert.XAttnRefIdeal.τ).loc Cert.XAttnRefIdeal.main_arg4)) (m ((c.tc : Thread Cert.XAttnRefIdeal.nD Cert.XAttnRefIdeal.τ).loc Cert.XAttnRefIdeal.main_arg5)) (m ((c.tc : Thread Cert.XAttnRefIdeal.nD Cert.XAttnRefIdeal.τ).loc Cert.XAttnRefIdeal.main_arg6)) (m ((c.tc : Thread Cert.XAttnRefIdeal.nD Cert.XAttnRefIdeal.τ).loc Cert.XAttnRefIdeal.main_arg7))).2.2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_RwPrep (m : (ℓ : Loc Cert.RwPrep.nD Cert.RwPrep.τ Cert.RwPrep.sig) → Buf (Elt Bits) ℓ) : Prop :=
  True

def Pre_RwPrepIdeal (m : (ℓ : Loc Cert.RwPrepIdeal.nD Cert.RwPrepIdeal.τ Cert.RwPrepIdeal.sig) → Buf (Elt Ideal) ℓ) : Prop :=
  True

def Pre_RwPrepIdeal_finite_mix [hPre_finite_mix : Cert.Pre_finite_mix.Facts] (m : (ℓ : Loc Cert.RwPrepIdeal.nD Cert.RwPrepIdeal.τ Cert.RwPrepIdeal.sig) → Buf (Elt Ideal) ℓ) : Prop :=
  ∀ c : Dev Cert.RwPrepIdeal.nD,
    (Cert.Pre_finite_mix.fn (F := Ideal) (m ((c.tc : Thread Cert.RwPrepIdeal.nD Cert.RwPrepIdeal.τ).loc Cert.RwPrepIdeal.main_arg0)) (m ((c.tc : Thread Cert.RwPrepIdeal.nD Cert.RwPrepIdeal.τ).loc Cert.RwPrepIdeal.main_arg1)) (m ((c.tc : Thread Cert.RwPrepIdeal.nD Cert.RwPrepIdeal.τ).loc Cert.RwPrepIdeal.main_arg2)) (m ((c.tc : Thread Cert.RwPrepIdeal.nD Cert.RwPrepIdeal.τ).loc Cert.RwPrepIdeal.main_arg3)) (m ((c.tc : Thread Cert.RwPrepIdeal.nD Cert.RwPrepIdeal.τ).loc Cert.RwPrepIdeal.main_arg4)) (m ((c.tc : Thread Cert.RwPrepIdeal.nD Cert.RwPrepIdeal.τ).loc Cert.RwPrepIdeal.main_arg5)) (m ((c.tc : Thread Cert.RwPrepIdeal.nD Cert.RwPrepIdeal.τ).loc Cert.RwPrepIdeal.main_arg6)) (m ((c.tc : Thread Cert.RwPrepIdeal.nD Cert.RwPrepIdeal.τ).loc Cert.RwPrepIdeal.main_arg7)) (m ((c.tc : Thread Cert.RwPrepIdeal.nD Cert.RwPrepIdeal.τ).loc Cert.RwPrepIdeal.main_arg8)) (m ((c.tc : Thread Cert.RwPrepIdeal.nD Cert.RwPrepIdeal.τ).loc Cert.RwPrepIdeal.main_arg9)) (m ((c.tc : Thread Cert.RwPrepIdeal.nD Cert.RwPrepIdeal.τ).loc Cert.RwPrepIdeal.main_arg10))).1 = (fun _ => 1#1)
    ∧ (Cert.Pre_finite_mix.fn (F := Ideal) (m ((c.tc : Thread Cert.RwPrepIdeal.nD Cert.RwPrepIdeal.τ).loc Cert.RwPrepIdeal.main_arg0)) (m ((c.tc : Thread Cert.RwPrepIdeal.nD Cert.RwPrepIdeal.τ).loc Cert.RwPrepIdeal.main_arg1)) (m ((c.tc : Thread Cert.RwPrepIdeal.nD Cert.RwPrepIdeal.τ).loc Cert.RwPrepIdeal.main_arg2)) (m ((c.tc : Thread Cert.RwPrepIdeal.nD Cert.RwPrepIdeal.τ).loc Cert.RwPrepIdeal.main_arg3)) (m ((c.tc : Thread Cert.RwPrepIdeal.nD Cert.RwPrepIdeal.τ).loc Cert.RwPrepIdeal.main_arg4)) (m ((c.tc : Thread Cert.RwPrepIdeal.nD Cert.RwPrepIdeal.τ).loc Cert.RwPrepIdeal.main_arg5)) (m ((c.tc : Thread Cert.RwPrepIdeal.nD Cert.RwPrepIdeal.τ).loc Cert.RwPrepIdeal.main_arg6)) (m ((c.tc : Thread Cert.RwPrepIdeal.nD Cert.RwPrepIdeal.τ).loc Cert.RwPrepIdeal.main_arg7)) (m ((c.tc : Thread Cert.RwPrepIdeal.nD Cert.RwPrepIdeal.τ).loc Cert.RwPrepIdeal.main_arg8)) (m ((c.tc : Thread Cert.RwPrepIdeal.nD Cert.RwPrepIdeal.τ).loc Cert.RwPrepIdeal.main_arg9)) (m ((c.tc : Thread Cert.RwPrepIdeal.nD Cert.RwPrepIdeal.τ).loc Cert.RwPrepIdeal.main_arg10))).2.1 = (fun _ => 1#1)
    ∧ (Cert.Pre_finite_mix.fn (F := Ideal) (m ((c.tc : Thread Cert.RwPrepIdeal.nD Cert.RwPrepIdeal.τ).loc Cert.RwPrepIdeal.main_arg0)) (m ((c.tc : Thread Cert.RwPrepIdeal.nD Cert.RwPrepIdeal.τ).loc Cert.RwPrepIdeal.main_arg1)) (m ((c.tc : Thread Cert.RwPrepIdeal.nD Cert.RwPrepIdeal.τ).loc Cert.RwPrepIdeal.main_arg2)) (m ((c.tc : Thread Cert.RwPrepIdeal.nD Cert.RwPrepIdeal.τ).loc Cert.RwPrepIdeal.main_arg3)) (m ((c.tc : Thread Cert.RwPrepIdeal.nD Cert.RwPrepIdeal.τ).loc Cert.RwPrepIdeal.main_arg4)) (m ((c.tc : Thread Cert.RwPrepIdeal.nD Cert.RwPrepIdeal.τ).loc Cert.RwPrepIdeal.main_arg5)) (m ((c.tc : Thread Cert.RwPrepIdeal.nD Cert.RwPrepIdeal.τ).loc Cert.RwPrepIdeal.main_arg6)) (m ((c.tc : Thread Cert.RwPrepIdeal.nD Cert.RwPrepIdeal.τ).loc Cert.RwPrepIdeal.main_arg7)) (m ((c.tc : Thread Cert.RwPrepIdeal.nD Cert.RwPrepIdeal.τ).loc Cert.RwPrepIdeal.main_arg8)) (m ((c.tc : Thread Cert.RwPrepIdeal.nD Cert.RwPrepIdeal.τ).loc Cert.RwPrepIdeal.main_arg9)) (m ((c.tc : Thread Cert.RwPrepIdeal.nD Cert.RwPrepIdeal.τ).loc Cert.RwPrepIdeal.main_arg10))).2.2.1 = (fun _ => 1#1)
    ∧ (Cert.Pre_finite_mix.fn (F := Ideal) (m ((c.tc : Thread Cert.RwPrepIdeal.nD Cert.RwPrepIdeal.τ).loc Cert.RwPrepIdeal.main_arg0)) (m ((c.tc : Thread Cert.RwPrepIdeal.nD Cert.RwPrepIdeal.τ).loc Cert.RwPrepIdeal.main_arg1)) (m ((c.tc : Thread Cert.RwPrepIdeal.nD Cert.RwPrepIdeal.τ).loc Cert.RwPrepIdeal.main_arg2)) (m ((c.tc : Thread Cert.RwPrepIdeal.nD Cert.RwPrepIdeal.τ).loc Cert.RwPrepIdeal.main_arg3)) (m ((c.tc : Thread Cert.RwPrepIdeal.nD Cert.RwPrepIdeal.τ).loc Cert.RwPrepIdeal.main_arg4)) (m ((c.tc : Thread Cert.RwPrepIdeal.nD Cert.RwPrepIdeal.τ).loc Cert.RwPrepIdeal.main_arg5)) (m ((c.tc : Thread Cert.RwPrepIdeal.nD Cert.RwPrepIdeal.τ).loc Cert.RwPrepIdeal.main_arg6)) (m ((c.tc : Thread Cert.RwPrepIdeal.nD Cert.RwPrepIdeal.τ).loc Cert.RwPrepIdeal.main_arg7)) (m ((c.tc : Thread Cert.RwPrepIdeal.nD Cert.RwPrepIdeal.τ).loc Cert.RwPrepIdeal.main_arg8)) (m ((c.tc : Thread Cert.RwPrepIdeal.nD Cert.RwPrepIdeal.τ).loc Cert.RwPrepIdeal.main_arg9)) (m ((c.tc : Thread Cert.RwPrepIdeal.nD Cert.RwPrepIdeal.τ).loc Cert.RwPrepIdeal.main_arg10))).2.2.2.1 = (fun _ => 1#1)
    ∧ (Cert.Pre_finite_mix.fn (F := Ideal) (m ((c.tc : Thread Cert.RwPrepIdeal.nD Cert.RwPrepIdeal.τ).loc Cert.RwPrepIdeal.main_arg0)) (m ((c.tc : Thread Cert.RwPrepIdeal.nD Cert.RwPrepIdeal.τ).loc Cert.RwPrepIdeal.main_arg1)) (m ((c.tc : Thread Cert.RwPrepIdeal.nD Cert.RwPrepIdeal.τ).loc Cert.RwPrepIdeal.main_arg2)) (m ((c.tc : Thread Cert.RwPrepIdeal.nD Cert.RwPrepIdeal.τ).loc Cert.RwPrepIdeal.main_arg3)) (m ((c.tc : Thread Cert.RwPrepIdeal.nD Cert.RwPrepIdeal.τ).loc Cert.RwPrepIdeal.main_arg4)) (m ((c.tc : Thread Cert.RwPrepIdeal.nD Cert.RwPrepIdeal.τ).loc Cert.RwPrepIdeal.main_arg5)) (m ((c.tc : Thread Cert.RwPrepIdeal.nD Cert.RwPrepIdeal.τ).loc Cert.RwPrepIdeal.main_arg6)) (m ((c.tc : Thread Cert.RwPrepIdeal.nD Cert.RwPrepIdeal.τ).loc Cert.RwPrepIdeal.main_arg7)) (m ((c.tc : Thread Cert.RwPrepIdeal.nD Cert.RwPrepIdeal.τ).loc Cert.RwPrepIdeal.main_arg8)) (m ((c.tc : Thread Cert.RwPrepIdeal.nD Cert.RwPrepIdeal.τ).loc Cert.RwPrepIdeal.main_arg9)) (m ((c.tc : Thread Cert.RwPrepIdeal.nD Cert.RwPrepIdeal.τ).loc Cert.RwPrepIdeal.main_arg10))).2.2.2.2.1 = (fun _ => 1#1)
    ∧ (Cert.Pre_finite_mix.fn (F := Ideal) (m ((c.tc : Thread Cert.RwPrepIdeal.nD Cert.RwPrepIdeal.τ).loc Cert.RwPrepIdeal.main_arg0)) (m ((c.tc : Thread Cert.RwPrepIdeal.nD Cert.RwPrepIdeal.τ).loc Cert.RwPrepIdeal.main_arg1)) (m ((c.tc : Thread Cert.RwPrepIdeal.nD Cert.RwPrepIdeal.τ).loc Cert.RwPrepIdeal.main_arg2)) (m ((c.tc : Thread Cert.RwPrepIdeal.nD Cert.RwPrepIdeal.τ).loc Cert.RwPrepIdeal.main_arg3)) (m ((c.tc : Thread Cert.RwPrepIdeal.nD Cert.RwPrepIdeal.τ).loc Cert.RwPrepIdeal.main_arg4)) (m ((c.tc : Thread Cert.RwPrepIdeal.nD Cert.RwPrepIdeal.τ).loc Cert.RwPrepIdeal.main_arg5)) (m ((c.tc : Thread Cert.RwPrepIdeal.nD Cert.RwPrepIdeal.τ).loc Cert.RwPrepIdeal.main_arg6)) (m ((c.tc : Thread Cert.RwPrepIdeal.nD Cert.RwPrepIdeal.τ).loc Cert.RwPrepIdeal.main_arg7)) (m ((c.tc : Thread Cert.RwPrepIdeal.nD Cert.RwPrepIdeal.τ).loc Cert.RwPrepIdeal.main_arg8)) (m ((c.tc : Thread Cert.RwPrepIdeal.nD Cert.RwPrepIdeal.τ).loc Cert.RwPrepIdeal.main_arg9)) (m ((c.tc : Thread Cert.RwPrepIdeal.nD Cert.RwPrepIdeal.τ).loc Cert.RwPrepIdeal.main_arg10))).2.2.2.2.2.1 = (fun _ => 1#1)
    ∧ (Cert.Pre_finite_mix.fn (F := Ideal) (m ((c.tc : Thread Cert.RwPrepIdeal.nD Cert.RwPrepIdeal.τ).loc Cert.RwPrepIdeal.main_arg0)) (m ((c.tc : Thread Cert.RwPrepIdeal.nD Cert.RwPrepIdeal.τ).loc Cert.RwPrepIdeal.main_arg1)) (m ((c.tc : Thread Cert.RwPrepIdeal.nD Cert.RwPrepIdeal.τ).loc Cert.RwPrepIdeal.main_arg2)) (m ((c.tc : Thread Cert.RwPrepIdeal.nD Cert.RwPrepIdeal.τ).loc Cert.RwPrepIdeal.main_arg3)) (m ((c.tc : Thread Cert.RwPrepIdeal.nD Cert.RwPrepIdeal.τ).loc Cert.RwPrepIdeal.main_arg4)) (m ((c.tc : Thread Cert.RwPrepIdeal.nD Cert.RwPrepIdeal.τ).loc Cert.RwPrepIdeal.main_arg5)) (m ((c.tc : Thread Cert.RwPrepIdeal.nD Cert.RwPrepIdeal.τ).loc Cert.RwPrepIdeal.main_arg6)) (m ((c.tc : Thread Cert.RwPrepIdeal.nD Cert.RwPrepIdeal.τ).loc Cert.RwPrepIdeal.main_arg7)) (m ((c.tc : Thread Cert.RwPrepIdeal.nD Cert.RwPrepIdeal.τ).loc Cert.RwPrepIdeal.main_arg8)) (m ((c.tc : Thread Cert.RwPrepIdeal.nD Cert.RwPrepIdeal.τ).loc Cert.RwPrepIdeal.main_arg9)) (m ((c.tc : Thread Cert.RwPrepIdeal.nD Cert.RwPrepIdeal.τ).loc Cert.RwPrepIdeal.main_arg10))).2.2.2.2.2.2.1 = (fun _ => 1#1)
    ∧ (Cert.Pre_finite_mix.fn (F := Ideal) (m ((c.tc : Thread Cert.RwPrepIdeal.nD Cert.RwPrepIdeal.τ).loc Cert.RwPrepIdeal.main_arg0)) (m ((c.tc : Thread Cert.RwPrepIdeal.nD Cert.RwPrepIdeal.τ).loc Cert.RwPrepIdeal.main_arg1)) (m ((c.tc : Thread Cert.RwPrepIdeal.nD Cert.RwPrepIdeal.τ).loc Cert.RwPrepIdeal.main_arg2)) (m ((c.tc : Thread Cert.RwPrepIdeal.nD Cert.RwPrepIdeal.τ).loc Cert.RwPrepIdeal.main_arg3)) (m ((c.tc : Thread Cert.RwPrepIdeal.nD Cert.RwPrepIdeal.τ).loc Cert.RwPrepIdeal.main_arg4)) (m ((c.tc : Thread Cert.RwPrepIdeal.nD Cert.RwPrepIdeal.τ).loc Cert.RwPrepIdeal.main_arg5)) (m ((c.tc : Thread Cert.RwPrepIdeal.nD Cert.RwPrepIdeal.τ).loc Cert.RwPrepIdeal.main_arg6)) (m ((c.tc : Thread Cert.RwPrepIdeal.nD Cert.RwPrepIdeal.τ).loc Cert.RwPrepIdeal.main_arg7)) (m ((c.tc : Thread Cert.RwPrepIdeal.nD Cert.RwPrepIdeal.τ).loc Cert.RwPrepIdeal.main_arg8)) (m ((c.tc : Thread Cert.RwPrepIdeal.nD Cert.RwPrepIdeal.τ).loc Cert.RwPrepIdeal.main_arg9)) (m ((c.tc : Thread Cert.RwPrepIdeal.nD Cert.RwPrepIdeal.τ).loc Cert.RwPrepIdeal.main_arg10))).2.2.2.2.2.2.2.1 = (fun _ => 1#1)
    ∧ (Cert.Pre_finite_mix.fn (F := Ideal) (m ((c.tc : Thread Cert.RwPrepIdeal.nD Cert.RwPrepIdeal.τ).loc Cert.RwPrepIdeal.main_arg0)) (m ((c.tc : Thread Cert.RwPrepIdeal.nD Cert.RwPrepIdeal.τ).loc Cert.RwPrepIdeal.main_arg1)) (m ((c.tc : Thread Cert.RwPrepIdeal.nD Cert.RwPrepIdeal.τ).loc Cert.RwPrepIdeal.main_arg2)) (m ((c.tc : Thread Cert.RwPrepIdeal.nD Cert.RwPrepIdeal.τ).loc Cert.RwPrepIdeal.main_arg3)) (m ((c.tc : Thread Cert.RwPrepIdeal.nD Cert.RwPrepIdeal.τ).loc Cert.RwPrepIdeal.main_arg4)) (m ((c.tc : Thread Cert.RwPrepIdeal.nD Cert.RwPrepIdeal.τ).loc Cert.RwPrepIdeal.main_arg5)) (m ((c.tc : Thread Cert.RwPrepIdeal.nD Cert.RwPrepIdeal.τ).loc Cert.RwPrepIdeal.main_arg6)) (m ((c.tc : Thread Cert.RwPrepIdeal.nD Cert.RwPrepIdeal.τ).loc Cert.RwPrepIdeal.main_arg7)) (m ((c.tc : Thread Cert.RwPrepIdeal.nD Cert.RwPrepIdeal.τ).loc Cert.RwPrepIdeal.main_arg8)) (m ((c.tc : Thread Cert.RwPrepIdeal.nD Cert.RwPrepIdeal.τ).loc Cert.RwPrepIdeal.main_arg9)) (m ((c.tc : Thread Cert.RwPrepIdeal.nD Cert.RwPrepIdeal.τ).loc Cert.RwPrepIdeal.main_arg10))).2.2.2.2.2.2.2.2.1 = (fun _ => 1#1)
    ∧ (Cert.Pre_finite_mix.fn (F := Ideal) (m ((c.tc : Thread Cert.RwPrepIdeal.nD Cert.RwPrepIdeal.τ).loc Cert.RwPrepIdeal.main_arg0)) (m ((c.tc : Thread Cert.RwPrepIdeal.nD Cert.RwPrepIdeal.τ).loc Cert.RwPrepIdeal.main_arg1)) (m ((c.tc : Thread Cert.RwPrepIdeal.nD Cert.RwPrepIdeal.τ).loc Cert.RwPrepIdeal.main_arg2)) (m ((c.tc : Thread Cert.RwPrepIdeal.nD Cert.RwPrepIdeal.τ).loc Cert.RwPrepIdeal.main_arg3)) (m ((c.tc : Thread Cert.RwPrepIdeal.nD Cert.RwPrepIdeal.τ).loc Cert.RwPrepIdeal.main_arg4)) (m ((c.tc : Thread Cert.RwPrepIdeal.nD Cert.RwPrepIdeal.τ).loc Cert.RwPrepIdeal.main_arg5)) (m ((c.tc : Thread Cert.RwPrepIdeal.nD Cert.RwPrepIdeal.τ).loc Cert.RwPrepIdeal.main_arg6)) (m ((c.tc : Thread Cert.RwPrepIdeal.nD Cert.RwPrepIdeal.τ).loc Cert.RwPrepIdeal.main_arg7)) (m ((c.tc : Thread Cert.RwPrepIdeal.nD Cert.RwPrepIdeal.τ).loc Cert.RwPrepIdeal.main_arg8)) (m ((c.tc : Thread Cert.RwPrepIdeal.nD Cert.RwPrepIdeal.τ).loc Cert.RwPrepIdeal.main_arg9)) (m ((c.tc : Thread Cert.RwPrepIdeal.nD Cert.RwPrepIdeal.τ).loc Cert.RwPrepIdeal.main_arg10))).2.2.2.2.2.2.2.2.2 = (fun _ => 1#1)

def Pre_RwPrepRefIdeal (m : (ℓ : Loc Cert.RwPrepRefIdeal.nD Cert.RwPrepRefIdeal.τ Cert.RwPrepRefIdeal.sig) → Buf (Elt Ideal) ℓ) : Prop :=
  True

def Pre_RwPrepRefIdeal_finite_mix [hPre_finite_mix : Cert.Pre_finite_mix.Facts] (m : (ℓ : Loc Cert.RwPrepRefIdeal.nD Cert.RwPrepRefIdeal.τ Cert.RwPrepRefIdeal.sig) → Buf (Elt Ideal) ℓ) : Prop :=
  ∀ c : Dev Cert.RwPrepRefIdeal.nD,
    (Cert.Pre_finite_mix.fn (F := Ideal) (m ((c.tc : Thread Cert.RwPrepRefIdeal.nD Cert.RwPrepRefIdeal.τ).loc Cert.RwPrepRefIdeal.main_arg0)) (m ((c.tc : Thread Cert.RwPrepRefIdeal.nD Cert.RwPrepRefIdeal.τ).loc Cert.RwPrepRefIdeal.main_arg1)) (m ((c.tc : Thread Cert.RwPrepRefIdeal.nD Cert.RwPrepRefIdeal.τ).loc Cert.RwPrepRefIdeal.main_arg2)) (m ((c.tc : Thread Cert.RwPrepRefIdeal.nD Cert.RwPrepRefIdeal.τ).loc Cert.RwPrepRefIdeal.main_arg3)) (m ((c.tc : Thread Cert.RwPrepRefIdeal.nD Cert.RwPrepRefIdeal.τ).loc Cert.RwPrepRefIdeal.main_arg4)) (m ((c.tc : Thread Cert.RwPrepRefIdeal.nD Cert.RwPrepRefIdeal.τ).loc Cert.RwPrepRefIdeal.main_arg5)) (m ((c.tc : Thread Cert.RwPrepRefIdeal.nD Cert.RwPrepRefIdeal.τ).loc Cert.RwPrepRefIdeal.main_arg6)) (m ((c.tc : Thread Cert.RwPrepRefIdeal.nD Cert.RwPrepRefIdeal.τ).loc Cert.RwPrepRefIdeal.main_arg7)) (m ((c.tc : Thread Cert.RwPrepRefIdeal.nD Cert.RwPrepRefIdeal.τ).loc Cert.RwPrepRefIdeal.main_arg8)) (m ((c.tc : Thread Cert.RwPrepRefIdeal.nD Cert.RwPrepRefIdeal.τ).loc Cert.RwPrepRefIdeal.main_arg9)) (m ((c.tc : Thread Cert.RwPrepRefIdeal.nD Cert.RwPrepRefIdeal.τ).loc Cert.RwPrepRefIdeal.main_arg10))).1 = (fun _ => 1#1)
    ∧ (Cert.Pre_finite_mix.fn (F := Ideal) (m ((c.tc : Thread Cert.RwPrepRefIdeal.nD Cert.RwPrepRefIdeal.τ).loc Cert.RwPrepRefIdeal.main_arg0)) (m ((c.tc : Thread Cert.RwPrepRefIdeal.nD Cert.RwPrepRefIdeal.τ).loc Cert.RwPrepRefIdeal.main_arg1)) (m ((c.tc : Thread Cert.RwPrepRefIdeal.nD Cert.RwPrepRefIdeal.τ).loc Cert.RwPrepRefIdeal.main_arg2)) (m ((c.tc : Thread Cert.RwPrepRefIdeal.nD Cert.RwPrepRefIdeal.τ).loc Cert.RwPrepRefIdeal.main_arg3)) (m ((c.tc : Thread Cert.RwPrepRefIdeal.nD Cert.RwPrepRefIdeal.τ).loc Cert.RwPrepRefIdeal.main_arg4)) (m ((c.tc : Thread Cert.RwPrepRefIdeal.nD Cert.RwPrepRefIdeal.τ).loc Cert.RwPrepRefIdeal.main_arg5)) (m ((c.tc : Thread Cert.RwPrepRefIdeal.nD Cert.RwPrepRefIdeal.τ).loc Cert.RwPrepRefIdeal.main_arg6)) (m ((c.tc : Thread Cert.RwPrepRefIdeal.nD Cert.RwPrepRefIdeal.τ).loc Cert.RwPrepRefIdeal.main_arg7)) (m ((c.tc : Thread Cert.RwPrepRefIdeal.nD Cert.RwPrepRefIdeal.τ).loc Cert.RwPrepRefIdeal.main_arg8)) (m ((c.tc : Thread Cert.RwPrepRefIdeal.nD Cert.RwPrepRefIdeal.τ).loc Cert.RwPrepRefIdeal.main_arg9)) (m ((c.tc : Thread Cert.RwPrepRefIdeal.nD Cert.RwPrepRefIdeal.τ).loc Cert.RwPrepRefIdeal.main_arg10))).2.1 = (fun _ => 1#1)
    ∧ (Cert.Pre_finite_mix.fn (F := Ideal) (m ((c.tc : Thread Cert.RwPrepRefIdeal.nD Cert.RwPrepRefIdeal.τ).loc Cert.RwPrepRefIdeal.main_arg0)) (m ((c.tc : Thread Cert.RwPrepRefIdeal.nD Cert.RwPrepRefIdeal.τ).loc Cert.RwPrepRefIdeal.main_arg1)) (m ((c.tc : Thread Cert.RwPrepRefIdeal.nD Cert.RwPrepRefIdeal.τ).loc Cert.RwPrepRefIdeal.main_arg2)) (m ((c.tc : Thread Cert.RwPrepRefIdeal.nD Cert.RwPrepRefIdeal.τ).loc Cert.RwPrepRefIdeal.main_arg3)) (m ((c.tc : Thread Cert.RwPrepRefIdeal.nD Cert.RwPrepRefIdeal.τ).loc Cert.RwPrepRefIdeal.main_arg4)) (m ((c.tc : Thread Cert.RwPrepRefIdeal.nD Cert.RwPrepRefIdeal.τ).loc Cert.RwPrepRefIdeal.main_arg5)) (m ((c.tc : Thread Cert.RwPrepRefIdeal.nD Cert.RwPrepRefIdeal.τ).loc Cert.RwPrepRefIdeal.main_arg6)) (m ((c.tc : Thread Cert.RwPrepRefIdeal.nD Cert.RwPrepRefIdeal.τ).loc Cert.RwPrepRefIdeal.main_arg7)) (m ((c.tc : Thread Cert.RwPrepRefIdeal.nD Cert.RwPrepRefIdeal.τ).loc Cert.RwPrepRefIdeal.main_arg8)) (m ((c.tc : Thread Cert.RwPrepRefIdeal.nD Cert.RwPrepRefIdeal.τ).loc Cert.RwPrepRefIdeal.main_arg9)) (m ((c.tc : Thread Cert.RwPrepRefIdeal.nD Cert.RwPrepRefIdeal.τ).loc Cert.RwPrepRefIdeal.main_arg10))).2.2.1 = (fun _ => 1#1)
    ∧ (Cert.Pre_finite_mix.fn (F := Ideal) (m ((c.tc : Thread Cert.RwPrepRefIdeal.nD Cert.RwPrepRefIdeal.τ).loc Cert.RwPrepRefIdeal.main_arg0)) (m ((c.tc : Thread Cert.RwPrepRefIdeal.nD Cert.RwPrepRefIdeal.τ).loc Cert.RwPrepRefIdeal.main_arg1)) (m ((c.tc : Thread Cert.RwPrepRefIdeal.nD Cert.RwPrepRefIdeal.τ).loc Cert.RwPrepRefIdeal.main_arg2)) (m ((c.tc : Thread Cert.RwPrepRefIdeal.nD Cert.RwPrepRefIdeal.τ).loc Cert.RwPrepRefIdeal.main_arg3)) (m ((c.tc : Thread Cert.RwPrepRefIdeal.nD Cert.RwPrepRefIdeal.τ).loc Cert.RwPrepRefIdeal.main_arg4)) (m ((c.tc : Thread Cert.RwPrepRefIdeal.nD Cert.RwPrepRefIdeal.τ).loc Cert.RwPrepRefIdeal.main_arg5)) (m ((c.tc : Thread Cert.RwPrepRefIdeal.nD Cert.RwPrepRefIdeal.τ).loc Cert.RwPrepRefIdeal.main_arg6)) (m ((c.tc : Thread Cert.RwPrepRefIdeal.nD Cert.RwPrepRefIdeal.τ).loc Cert.RwPrepRefIdeal.main_arg7)) (m ((c.tc : Thread Cert.RwPrepRefIdeal.nD Cert.RwPrepRefIdeal.τ).loc Cert.RwPrepRefIdeal.main_arg8)) (m ((c.tc : Thread Cert.RwPrepRefIdeal.nD Cert.RwPrepRefIdeal.τ).loc Cert.RwPrepRefIdeal.main_arg9)) (m ((c.tc : Thread Cert.RwPrepRefIdeal.nD Cert.RwPrepRefIdeal.τ).loc Cert.RwPrepRefIdeal.main_arg10))).2.2.2.1 = (fun _ => 1#1)
    ∧ (Cert.Pre_finite_mix.fn (F := Ideal) (m ((c.tc : Thread Cert.RwPrepRefIdeal.nD Cert.RwPrepRefIdeal.τ).loc Cert.RwPrepRefIdeal.main_arg0)) (m ((c.tc : Thread Cert.RwPrepRefIdeal.nD Cert.RwPrepRefIdeal.τ).loc Cert.RwPrepRefIdeal.main_arg1)) (m ((c.tc : Thread Cert.RwPrepRefIdeal.nD Cert.RwPrepRefIdeal.τ).loc Cert.RwPrepRefIdeal.main_arg2)) (m ((c.tc : Thread Cert.RwPrepRefIdeal.nD Cert.RwPrepRefIdeal.τ).loc Cert.RwPrepRefIdeal.main_arg3)) (m ((c.tc : Thread Cert.RwPrepRefIdeal.nD Cert.RwPrepRefIdeal.τ).loc Cert.RwPrepRefIdeal.main_arg4)) (m ((c.tc : Thread Cert.RwPrepRefIdeal.nD Cert.RwPrepRefIdeal.τ).loc Cert.RwPrepRefIdeal.main_arg5)) (m ((c.tc : Thread Cert.RwPrepRefIdeal.nD Cert.RwPrepRefIdeal.τ).loc Cert.RwPrepRefIdeal.main_arg6)) (m ((c.tc : Thread Cert.RwPrepRefIdeal.nD Cert.RwPrepRefIdeal.τ).loc Cert.RwPrepRefIdeal.main_arg7)) (m ((c.tc : Thread Cert.RwPrepRefIdeal.nD Cert.RwPrepRefIdeal.τ).loc Cert.RwPrepRefIdeal.main_arg8)) (m ((c.tc : Thread Cert.RwPrepRefIdeal.nD Cert.RwPrepRefIdeal.τ).loc Cert.RwPrepRefIdeal.main_arg9)) (m ((c.tc : Thread Cert.RwPrepRefIdeal.nD Cert.RwPrepRefIdeal.τ).loc Cert.RwPrepRefIdeal.main_arg10))).2.2.2.2.1 = (fun _ => 1#1)
    ∧ (Cert.Pre_finite_mix.fn (F := Ideal) (m ((c.tc : Thread Cert.RwPrepRefIdeal.nD Cert.RwPrepRefIdeal.τ).loc Cert.RwPrepRefIdeal.main_arg0)) (m ((c.tc : Thread Cert.RwPrepRefIdeal.nD Cert.RwPrepRefIdeal.τ).loc Cert.RwPrepRefIdeal.main_arg1)) (m ((c.tc : Thread Cert.RwPrepRefIdeal.nD Cert.RwPrepRefIdeal.τ).loc Cert.RwPrepRefIdeal.main_arg2)) (m ((c.tc : Thread Cert.RwPrepRefIdeal.nD Cert.RwPrepRefIdeal.τ).loc Cert.RwPrepRefIdeal.main_arg3)) (m ((c.tc : Thread Cert.RwPrepRefIdeal.nD Cert.RwPrepRefIdeal.τ).loc Cert.RwPrepRefIdeal.main_arg4)) (m ((c.tc : Thread Cert.RwPrepRefIdeal.nD Cert.RwPrepRefIdeal.τ).loc Cert.RwPrepRefIdeal.main_arg5)) (m ((c.tc : Thread Cert.RwPrepRefIdeal.nD Cert.RwPrepRefIdeal.τ).loc Cert.RwPrepRefIdeal.main_arg6)) (m ((c.tc : Thread Cert.RwPrepRefIdeal.nD Cert.RwPrepRefIdeal.τ).loc Cert.RwPrepRefIdeal.main_arg7)) (m ((c.tc : Thread Cert.RwPrepRefIdeal.nD Cert.RwPrepRefIdeal.τ).loc Cert.RwPrepRefIdeal.main_arg8)) (m ((c.tc : Thread Cert.RwPrepRefIdeal.nD Cert.RwPrepRefIdeal.τ).loc Cert.RwPrepRefIdeal.main_arg9)) (m ((c.tc : Thread Cert.RwPrepRefIdeal.nD Cert.RwPrepRefIdeal.τ).loc Cert.RwPrepRefIdeal.main_arg10))).2.2.2.2.2.1 = (fun _ => 1#1)
    ∧ (Cert.Pre_finite_mix.fn (F := Ideal) (m ((c.tc : Thread Cert.RwPrepRefIdeal.nD Cert.RwPrepRefIdeal.τ).loc Cert.RwPrepRefIdeal.main_arg0)) (m ((c.tc : Thread Cert.RwPrepRefIdeal.nD Cert.RwPrepRefIdeal.τ).loc Cert.RwPrepRefIdeal.main_arg1)) (m ((c.tc : Thread Cert.RwPrepRefIdeal.nD Cert.RwPrepRefIdeal.τ).loc Cert.RwPrepRefIdeal.main_arg2)) (m ((c.tc : Thread Cert.RwPrepRefIdeal.nD Cert.RwPrepRefIdeal.τ).loc Cert.RwPrepRefIdeal.main_arg3)) (m ((c.tc : Thread Cert.RwPrepRefIdeal.nD Cert.RwPrepRefIdeal.τ).loc Cert.RwPrepRefIdeal.main_arg4)) (m ((c.tc : Thread Cert.RwPrepRefIdeal.nD Cert.RwPrepRefIdeal.τ).loc Cert.RwPrepRefIdeal.main_arg5)) (m ((c.tc : Thread Cert.RwPrepRefIdeal.nD Cert.RwPrepRefIdeal.τ).loc Cert.RwPrepRefIdeal.main_arg6)) (m ((c.tc : Thread Cert.RwPrepRefIdeal.nD Cert.RwPrepRefIdeal.τ).loc Cert.RwPrepRefIdeal.main_arg7)) (m ((c.tc : Thread Cert.RwPrepRefIdeal.nD Cert.RwPrepRefIdeal.τ).loc Cert.RwPrepRefIdeal.main_arg8)) (m ((c.tc : Thread Cert.RwPrepRefIdeal.nD Cert.RwPrepRefIdeal.τ).loc Cert.RwPrepRefIdeal.main_arg9)) (m ((c.tc : Thread Cert.RwPrepRefIdeal.nD Cert.RwPrepRefIdeal.τ).loc Cert.RwPrepRefIdeal.main_arg10))).2.2.2.2.2.2.1 = (fun _ => 1#1)
    ∧ (Cert.Pre_finite_mix.fn (F := Ideal) (m ((c.tc : Thread Cert.RwPrepRefIdeal.nD Cert.RwPrepRefIdeal.τ).loc Cert.RwPrepRefIdeal.main_arg0)) (m ((c.tc : Thread Cert.RwPrepRefIdeal.nD Cert.RwPrepRefIdeal.τ).loc Cert.RwPrepRefIdeal.main_arg1)) (m ((c.tc : Thread Cert.RwPrepRefIdeal.nD Cert.RwPrepRefIdeal.τ).loc Cert.RwPrepRefIdeal.main_arg2)) (m ((c.tc : Thread Cert.RwPrepRefIdeal.nD Cert.RwPrepRefIdeal.τ).loc Cert.RwPrepRefIdeal.main_arg3)) (m ((c.tc : Thread Cert.RwPrepRefIdeal.nD Cert.RwPrepRefIdeal.τ).loc Cert.RwPrepRefIdeal.main_arg4)) (m ((c.tc : Thread Cert.RwPrepRefIdeal.nD Cert.RwPrepRefIdeal.τ).loc Cert.RwPrepRefIdeal.main_arg5)) (m ((c.tc : Thread Cert.RwPrepRefIdeal.nD Cert.RwPrepRefIdeal.τ).loc Cert.RwPrepRefIdeal.main_arg6)) (m ((c.tc : Thread Cert.RwPrepRefIdeal.nD Cert.RwPrepRefIdeal.τ).loc Cert.RwPrepRefIdeal.main_arg7)) (m ((c.tc : Thread Cert.RwPrepRefIdeal.nD Cert.RwPrepRefIdeal.τ).loc Cert.RwPrepRefIdeal.main_arg8)) (m ((c.tc : Thread Cert.RwPrepRefIdeal.nD Cert.RwPrepRefIdeal.τ).loc Cert.RwPrepRefIdeal.main_arg9)) (m ((c.tc : Thread Cert.RwPrepRefIdeal.nD Cert.RwPrepRefIdeal.τ).loc Cert.RwPrepRefIdeal.main_arg10))).2.2.2.2.2.2.2.1 = (fun _ => 1#1)
    ∧ (Cert.Pre_finite_mix.fn (F := Ideal) (m ((c.tc : Thread Cert.RwPrepRefIdeal.nD Cert.RwPrepRefIdeal.τ).loc Cert.RwPrepRefIdeal.main_arg0)) (m ((c.tc : Thread Cert.RwPrepRefIdeal.nD Cert.RwPrepRefIdeal.τ).loc Cert.RwPrepRefIdeal.main_arg1)) (m ((c.tc : Thread Cert.RwPrepRefIdeal.nD Cert.RwPrepRefIdeal.τ).loc Cert.RwPrepRefIdeal.main_arg2)) (m ((c.tc : Thread Cert.RwPrepRefIdeal.nD Cert.RwPrepRefIdeal.τ).loc Cert.RwPrepRefIdeal.main_arg3)) (m ((c.tc : Thread Cert.RwPrepRefIdeal.nD Cert.RwPrepRefIdeal.τ).loc Cert.RwPrepRefIdeal.main_arg4)) (m ((c.tc : Thread Cert.RwPrepRefIdeal.nD Cert.RwPrepRefIdeal.τ).loc Cert.RwPrepRefIdeal.main_arg5)) (m ((c.tc : Thread Cert.RwPrepRefIdeal.nD Cert.RwPrepRefIdeal.τ).loc Cert.RwPrepRefIdeal.main_arg6)) (m ((c.tc : Thread Cert.RwPrepRefIdeal.nD Cert.RwPrepRefIdeal.τ).loc Cert.RwPrepRefIdeal.main_arg7)) (m ((c.tc : Thread Cert.RwPrepRefIdeal.nD Cert.RwPrepRefIdeal.τ).loc Cert.RwPrepRefIdeal.main_arg8)) (m ((c.tc : Thread Cert.RwPrepRefIdeal.nD Cert.RwPrepRefIdeal.τ).loc Cert.RwPrepRefIdeal.main_arg9)) (m ((c.tc : Thread Cert.RwPrepRefIdeal.nD Cert.RwPrepRefIdeal.τ).loc Cert.RwPrepRefIdeal.main_arg10))).2.2.2.2.2.2.2.2.1 = (fun _ => 1#1)
    ∧ (Cert.Pre_finite_mix.fn (F := Ideal) (m ((c.tc : Thread Cert.RwPrepRefIdeal.nD Cert.RwPrepRefIdeal.τ).loc Cert.RwPrepRefIdeal.main_arg0)) (m ((c.tc : Thread Cert.RwPrepRefIdeal.nD Cert.RwPrepRefIdeal.τ).loc Cert.RwPrepRefIdeal.main_arg1)) (m ((c.tc : Thread Cert.RwPrepRefIdeal.nD Cert.RwPrepRefIdeal.τ).loc Cert.RwPrepRefIdeal.main_arg2)) (m ((c.tc : Thread Cert.RwPrepRefIdeal.nD Cert.RwPrepRefIdeal.τ).loc Cert.RwPrepRefIdeal.main_arg3)) (m ((c.tc : Thread Cert.RwPrepRefIdeal.nD Cert.RwPrepRefIdeal.τ).loc Cert.RwPrepRefIdeal.main_arg4)) (m ((c.tc : Thread Cert.RwPrepRefIdeal.nD Cert.RwPrepRefIdeal.τ).loc Cert.RwPrepRefIdeal.main_arg5)) (m ((c.tc : Thread Cert.RwPrepRefIdeal.nD Cert.RwPrepRefIdeal.τ).loc Cert.RwPrepRefIdeal.main_arg6)) (m ((c.tc : Thread Cert.RwPrepRefIdeal.nD Cert.RwPrepRefIdeal.τ).loc Cert.RwPrepRefIdeal.main_arg7)) (m ((c.tc : Thread Cert.RwPrepRefIdeal.nD Cert.RwPrepRefIdeal.τ).loc Cert.RwPrepRefIdeal.main_arg8)) (m ((c.tc : Thread Cert.RwPrepRefIdeal.nD Cert.RwPrepRefIdeal.τ).loc Cert.RwPrepRefIdeal.main_arg9)) (m ((c.tc : Thread Cert.RwPrepRefIdeal.nD Cert.RwPrepRefIdeal.τ).loc Cert.RwPrepRefIdeal.main_arg10))).2.2.2.2.2.2.2.2.2 = (fun _ => 1#1)

def quiescent_XAttn [hXAttn : Cert.XAttn.Facts] : Prop :=
  ∀ (m : (ℓ : Loc Cert.XAttn.nD Cert.XAttn.τ Cert.XAttn.sig) → Buf (Elt Bits) ℓ) (g : Dev Cert.XAttn.nD → PrngReg), Pre_XAttn m →
    θ_run (Cert.XAttn.defs (F := Bits)) (onTc (τ := Cert.XAttn.τ) (Cert.XAttn.main (F := Bits))) ⟨m, fun _ => 0, g⟩ (fun r => (∀ c : Dev Cert.XAttn.nD,
      r.2.mem ((c.tc : Thread Cert.XAttn.nD Cert.XAttn.τ).loc Cert.XAttn.main_arg0) = m ((c.tc : Thread Cert.XAttn.nD Cert.XAttn.τ).loc Cert.XAttn.main_arg0)
      ∧ r.2.mem ((c.tc : Thread Cert.XAttn.nD Cert.XAttn.τ).loc Cert.XAttn.main_arg1) = m ((c.tc : Thread Cert.XAttn.nD Cert.XAttn.τ).loc Cert.XAttn.main_arg1)
      ∧ r.2.mem ((c.tc : Thread Cert.XAttn.nD Cert.XAttn.τ).loc Cert.XAttn.main_arg2) = m ((c.tc : Thread Cert.XAttn.nD Cert.XAttn.τ).loc Cert.XAttn.main_arg2)
      ∧ r.2.mem ((c.tc : Thread Cert.XAttn.nD Cert.XAttn.τ).loc Cert.XAttn.main_arg3) = m ((c.tc : Thread Cert.XAttn.nD Cert.XAttn.τ).loc Cert.XAttn.main_arg3)
      ∧ r.2.mem ((c.tc : Thread Cert.XAttn.nD Cert.XAttn.τ).loc Cert.XAttn.main_arg4) = m ((c.tc : Thread Cert.XAttn.nD Cert.XAttn.τ).loc Cert.XAttn.main_arg4)
      ∧ r.2.mem ((c.tc : Thread Cert.XAttn.nD Cert.XAttn.τ).loc Cert.XAttn.main_arg5) = m ((c.tc : Thread Cert.XAttn.nD Cert.XAttn.τ).loc Cert.XAttn.main_arg5)
      ∧ r.2.mem ((c.tc : Thread Cert.XAttn.nD Cert.XAttn.τ).loc Cert.XAttn.main_arg6) = m ((c.tc : Thread Cert.XAttn.nD Cert.XAttn.τ).loc Cert.XAttn.main_arg6)
      ∧ r.2.mem ((c.tc : Thread Cert.XAttn.nD Cert.XAttn.τ).loc Cert.XAttn.main_arg7) = m ((c.tc : Thread Cert.XAttn.nD Cert.XAttn.τ).loc Cert.XAttn.main_arg7))
      ∧ r.2.sem = fun _ => 0)

def quiescent_XAttnIdeal [hXAttnIdeal : Cert.XAttnIdeal.Facts] : Prop :=
  ∀ (m : (ℓ : Loc Cert.XAttnIdeal.nD Cert.XAttnIdeal.τ Cert.XAttnIdeal.sig) → Buf (Elt Ideal) ℓ) (g : Dev Cert.XAttnIdeal.nD → PrngReg), Pre_XAttnIdeal m →
    θ_run (Cert.XAttnIdeal.defs (F := Ideal)) (onTc (τ := Cert.XAttnIdeal.τ) (Cert.XAttnIdeal.main (F := Ideal))) ⟨m, fun _ => 0, g⟩ (fun r => (∀ c : Dev Cert.XAttnIdeal.nD,
      r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
      ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
      ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2)
      ∧ r.2.mem ((c.tc : Thread Cert.XAttnIdeal.nD Cert.XAttnIdeal.τ).loc Cert.XAttnIdeal.main_arg3) = m ((c.tc : Thread Cert.XAttnIdeal.nD Cert.XAttnIdeal.τ).loc Cert.XAttnIdeal.main_arg3)
      ∧ r.2.mem ((c.tc : Thread Cert.XAttnIdeal.nD Cert.XAttnIdeal.τ).loc Cert.XAttnIdeal.main_arg4) = m ((c.tc : Thread Cert.XAttnIdeal.nD Cert.XAttnIdeal.τ).loc Cert.XAttnIdeal.main_arg4)
      ∧ r.2.mem ((c.tc : Thread Cert.XAttnIdeal.nD Cert.XAttnIdeal.τ).loc Cert.XAttnIdeal.main_arg5) = m ((c.tc : Thread Cert.XAttnIdeal.nD Cert.XAttnIdeal.τ).loc Cert.XAttnIdeal.main_arg5)
      ∧ r.2.mem ((c.tc : Thread Cert.XAttnIdeal.nD Cert.XAttnIdeal.τ).loc Cert.XAttnIdeal.main_arg6) = m ((c.tc : Thread Cert.XAttnIdeal.nD Cert.XAttnIdeal.τ).loc Cert.XAttnIdeal.main_arg6)
      ∧ r.2.mem ((c.tc : Thread Cert.XAttnIdeal.nD Cert.XAttnIdeal.τ).loc Cert.XAttnIdeal.main_arg7) = m ((c.tc : Thread Cert.XAttnIdeal.nD Cert.XAttnIdeal.τ).loc Cert.XAttnIdeal.main_arg7))
      ∧ r.2.sem = fun _ => 0)

def quiescent_XAttnIdeal_pre_finite_gains [hXAttnIdeal : Cert.XAttnIdeal.Facts] [hPre_finite_gains : Cert.Pre_finite_gains.Facts] : Prop :=
  ∀ (m : (ℓ : Loc Cert.XAttnIdeal.nD Cert.XAttnIdeal.τ Cert.XAttnIdeal.sig) → Buf (Elt Ideal) ℓ) (g : Dev Cert.XAttnIdeal.nD → PrngReg), Pre_XAttnIdeal_finite_gains m →
    θ_run (Cert.XAttnIdeal.defs (F := Ideal)) (onTc (τ := Cert.XAttnIdeal.τ) (Cert.XAttnIdeal.main (F := Ideal))) ⟨m, fun _ => 0, g⟩ (fun r => (∀ c : Dev Cert.XAttnIdeal.nD,
      r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
      ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
      ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2)
      ∧ r.2.mem ((c.tc : Thread Cert.XAttnIdeal.nD Cert.XAttnIdeal.τ).loc Cert.XAttnIdeal.main_arg3) = m ((c.tc : Thread Cert.XAttnIdeal.nD Cert.XAttnIdeal.τ).loc Cert.XAttnIdeal.main_arg3)
      ∧ r.2.mem ((c.tc : Thread Cert.XAttnIdeal.nD Cert.XAttnIdeal.τ).loc Cert.XAttnIdeal.main_arg4) = m ((c.tc : Thread Cert.XAttnIdeal.nD Cert.XAttnIdeal.τ).loc Cert.XAttnIdeal.main_arg4)
      ∧ r.2.mem ((c.tc : Thread Cert.XAttnIdeal.nD Cert.XAttnIdeal.τ).loc Cert.XAttnIdeal.main_arg5) = m ((c.tc : Thread Cert.XAttnIdeal.nD Cert.XAttnIdeal.τ).loc Cert.XAttnIdeal.main_arg5)
      ∧ r.2.mem ((c.tc : Thread Cert.XAttnIdeal.nD Cert.XAttnIdeal.τ).loc Cert.XAttnIdeal.main_arg6) = m ((c.tc : Thread Cert.XAttnIdeal.nD Cert.XAttnIdeal.τ).loc Cert.XAttnIdeal.main_arg6)
      ∧ r.2.mem ((c.tc : Thread Cert.XAttnIdeal.nD Cert.XAttnIdeal.τ).loc Cert.XAttnIdeal.main_arg7) = m ((c.tc : Thread Cert.XAttnIdeal.nD Cert.XAttnIdeal.τ).loc Cert.XAttnIdeal.main_arg7))
      ∧ r.2.sem = fun _ => 0)

def quiescent_XAttnRefIdeal [hXAttnRefIdeal : Cert.XAttnRefIdeal.Facts] : Prop :=
  ∀ (m : (ℓ : Loc Cert.XAttnRefIdeal.nD Cert.XAttnRefIdeal.τ Cert.XAttnRefIdeal.sig) → Buf (Elt Ideal) ℓ) (g : Dev Cert.XAttnRefIdeal.nD → PrngReg), Pre_XAttnRefIdeal m →
    θ_run (Cert.XAttnRefIdeal.defs (F := Ideal)) (onTc (τ := Cert.XAttnRefIdeal.τ) (Cert.XAttnRefIdeal.main (F := Ideal))) ⟨m, fun _ => 0, g⟩ (fun r => (∀ c : Dev Cert.XAttnRefIdeal.nD,
      r.2.mem ((c.tc : Thread Cert.XAttnRefIdeal.nD Cert.XAttnRefIdeal.τ).loc Cert.XAttnRefIdeal.main_arg0) = m ((c.tc : Thread Cert.XAttnRefIdeal.nD Cert.XAttnRefIdeal.τ).loc Cert.XAttnRefIdeal.main_arg0)
      ∧ r.2.mem ((c.tc : Thread Cert.XAttnRefIdeal.nD Cert.XAttnRefIdeal.τ).loc Cert.XAttnRefIdeal.main_arg1) = m ((c.tc : Thread Cert.XAttnRefIdeal.nD Cert.XAttnRefIdeal.τ).loc Cert.XAttnRefIdeal.main_arg1)
      ∧ r.2.mem ((c.tc : Thread Cert.XAttnRefIdeal.nD Cert.XAttnRefIdeal.τ).loc Cert.XAttnRefIdeal.main_arg2) = m ((c.tc : Thread Cert.XAttnRefIdeal.nD Cert.XAttnRefIdeal.τ).loc Cert.XAttnRefIdeal.main_arg2)
      ∧ r.2.mem ((c.tc : Thread Cert.XAttnRefIdeal.nD Cert.XAttnRefIdeal.τ).loc Cert.XAttnRefIdeal.main_arg3) = m ((c.tc : Thread Cert.XAttnRefIdeal.nD Cert.XAttnRefIdeal.τ).loc Cert.XAttnRefIdeal.main_arg3)
      ∧ r.2.mem ((c.tc : Thread Cert.XAttnRefIdeal.nD Cert.XAttnRefIdeal.τ).loc Cert.XAttnRefIdeal.main_arg4) = m ((c.tc : Thread Cert.XAttnRefIdeal.nD Cert.XAttnRefIdeal.τ).loc Cert.XAttnRefIdeal.main_arg4)
      ∧ r.2.mem ((c.tc : Thread Cert.XAttnRefIdeal.nD Cert.XAttnRefIdeal.τ).loc Cert.XAttnRefIdeal.main_arg5) = m ((c.tc : Thread Cert.XAttnRefIdeal.nD Cert.XAttnRefIdeal.τ).loc Cert.XAttnRefIdeal.main_arg5)
      ∧ r.2.mem ((c.tc : Thread Cert.XAttnRefIdeal.nD Cert.XAttnRefIdeal.τ).loc Cert.XAttnRefIdeal.main_arg6) = m ((c.tc : Thread Cert.XAttnRefIdeal.nD Cert.XAttnRefIdeal.τ).loc Cert.XAttnRefIdeal.main_arg6)
      ∧ r.2.mem ((c.tc : Thread Cert.XAttnRefIdeal.nD Cert.XAttnRefIdeal.τ).loc Cert.XAttnRefIdeal.main_arg7) = m ((c.tc : Thread Cert.XAttnRefIdeal.nD Cert.XAttnRefIdeal.τ).loc Cert.XAttnRefIdeal.main_arg7))
      ∧ r.2.sem = fun _ => 0)

def quiescent_XAttnRefIdeal_pre_finite_gains [hXAttnRefIdeal : Cert.XAttnRefIdeal.Facts] [hPre_finite_gains : Cert.Pre_finite_gains.Facts] : Prop :=
  ∀ (m : (ℓ : Loc Cert.XAttnRefIdeal.nD Cert.XAttnRefIdeal.τ Cert.XAttnRefIdeal.sig) → Buf (Elt Ideal) ℓ) (g : Dev Cert.XAttnRefIdeal.nD → PrngReg), Pre_XAttnRefIdeal_finite_gains m →
    θ_run (Cert.XAttnRefIdeal.defs (F := Ideal)) (onTc (τ := Cert.XAttnRefIdeal.τ) (Cert.XAttnRefIdeal.main (F := Ideal))) ⟨m, fun _ => 0, g⟩ (fun r => (∀ c : Dev Cert.XAttnRefIdeal.nD,
      r.2.mem ((c.tc : Thread Cert.XAttnRefIdeal.nD Cert.XAttnRefIdeal.τ).loc Cert.XAttnRefIdeal.main_arg0) = m ((c.tc : Thread Cert.XAttnRefIdeal.nD Cert.XAttnRefIdeal.τ).loc Cert.XAttnRefIdeal.main_arg0)
      ∧ r.2.mem ((c.tc : Thread Cert.XAttnRefIdeal.nD Cert.XAttnRefIdeal.τ).loc Cert.XAttnRefIdeal.main_arg1) = m ((c.tc : Thread Cert.XAttnRefIdeal.nD Cert.XAttnRefIdeal.τ).loc Cert.XAttnRefIdeal.main_arg1)
      ∧ r.2.mem ((c.tc : Thread Cert.XAttnRefIdeal.nD Cert.XAttnRefIdeal.τ).loc Cert.XAttnRefIdeal.main_arg2) = m ((c.tc : Thread Cert.XAttnRefIdeal.nD Cert.XAttnRefIdeal.τ).loc Cert.XAttnRefIdeal.main_arg2)
      ∧ r.2.mem ((c.tc : Thread Cert.XAttnRefIdeal.nD Cert.XAttnRefIdeal.τ).loc Cert.XAttnRefIdeal.main_arg3) = m ((c.tc : Thread Cert.XAttnRefIdeal.nD Cert.XAttnRefIdeal.τ).loc Cert.XAttnRefIdeal.main_arg3)
      ∧ r.2.mem ((c.tc : Thread Cert.XAttnRefIdeal.nD Cert.XAttnRefIdeal.τ).loc Cert.XAttnRefIdeal.main_arg4) = m ((c.tc : Thread Cert.XAttnRefIdeal.nD Cert.XAttnRefIdeal.τ).loc Cert.XAttnRefIdeal.main_arg4)
      ∧ r.2.mem ((c.tc : Thread Cert.XAttnRefIdeal.nD Cert.XAttnRefIdeal.τ).loc Cert.XAttnRefIdeal.main_arg5) = m ((c.tc : Thread Cert.XAttnRefIdeal.nD Cert.XAttnRefIdeal.τ).loc Cert.XAttnRefIdeal.main_arg5)
      ∧ r.2.mem ((c.tc : Thread Cert.XAttnRefIdeal.nD Cert.XAttnRefIdeal.τ).loc Cert.XAttnRefIdeal.main_arg6) = m ((c.tc : Thread Cert.XAttnRefIdeal.nD Cert.XAttnRefIdeal.τ).loc Cert.XAttnRefIdeal.main_arg6)
      ∧ r.2.mem ((c.tc : Thread Cert.XAttnRefIdeal.nD Cert.XAttnRefIdeal.τ).loc Cert.XAttnRefIdeal.main_arg7) = m ((c.tc : Thread Cert.XAttnRefIdeal.nD Cert.XAttnRefIdeal.τ).loc Cert.XAttnRefIdeal.main_arg7))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3))
      ∧ r.2.sem = fun _ => 0)

def quiescent_RwPrep [hRwPrep : Cert.RwPrep.Facts] : Prop :=
  ∀ (m : (ℓ : Loc Cert.RwPrep.nD Cert.RwPrep.τ Cert.RwPrep.sig) → Buf (Elt Bits) ℓ) (g : Dev Cert.RwPrep.nD → PrngReg), Pre_RwPrep m →
    θ_run (Cert.RwPrep.defs (F := Bits)) (onTc (τ := Cert.RwPrep.τ) (Cert.RwPrep.main (F := Bits))) ⟨m, fun _ => 0, g⟩ (fun r => (∀ c : Dev Cert.RwPrep.nD,
      r.2.mem ((c.tc : Thread Cert.RwPrep.nD Cert.RwPrep.τ).loc Cert.RwPrep.main_arg0) = m ((c.tc : Thread Cert.RwPrep.nD Cert.RwPrep.τ).loc Cert.RwPrep.main_arg0)
      ∧ r.2.mem ((c.tc : Thread Cert.RwPrep.nD Cert.RwPrep.τ).loc Cert.RwPrep.main_arg1) = m ((c.tc : Thread Cert.RwPrep.nD Cert.RwPrep.τ).loc Cert.RwPrep.main_arg1)
      ∧ r.2.mem ((c.tc : Thread Cert.RwPrep.nD Cert.RwPrep.τ).loc Cert.RwPrep.main_arg2) = m ((c.tc : Thread Cert.RwPrep.nD Cert.RwPrep.τ).loc Cert.RwPrep.main_arg2)
      ∧ r.2.mem ((c.tc : Thread Cert.RwPrep.nD Cert.RwPrep.τ).loc Cert.RwPrep.main_arg3) = m ((c.tc : Thread Cert.RwPrep.nD Cert.RwPrep.τ).loc Cert.RwPrep.main_arg3)
      ∧ r.2.mem ((c.tc : Thread Cert.RwPrep.nD Cert.RwPrep.τ).loc Cert.RwPrep.main_arg4) = m ((c.tc : Thread Cert.RwPrep.nD Cert.RwPrep.τ).loc Cert.RwPrep.main_arg4)
      ∧ r.2.mem ((c.tc : Thread Cert.RwPrep.nD Cert.RwPrep.τ).loc Cert.RwPrep.main_arg5) = m ((c.tc : Thread Cert.RwPrep.nD Cert.RwPrep.τ).loc Cert.RwPrep.main_arg5)
      ∧ r.2.mem ((c.tc : Thread Cert.RwPrep.nD Cert.RwPrep.τ).loc Cert.RwPrep.main_arg6) = m ((c.tc : Thread Cert.RwPrep.nD Cert.RwPrep.τ).loc Cert.RwPrep.main_arg6)
      ∧ r.2.mem ((c.tc : Thread Cert.RwPrep.nD Cert.RwPrep.τ).loc Cert.RwPrep.main_arg7) = m ((c.tc : Thread Cert.RwPrep.nD Cert.RwPrep.τ).loc Cert.RwPrep.main_arg7)
      ∧ r.2.mem ((c.tc : Thread Cert.RwPrep.nD Cert.RwPrep.τ).loc Cert.RwPrep.main_arg8) = m ((c.tc : Thread Cert.RwPrep.nD Cert.RwPrep.τ).loc Cert.RwPrep.main_arg8)
      ∧ r.2.mem ((c.tc : Thread Cert.RwPrep.nD Cert.RwPrep.τ).loc Cert.RwPrep.main_arg9) = m ((c.tc : Thread Cert.RwPrep.nD Cert.RwPrep.τ).loc Cert.RwPrep.main_arg9)
      ∧ r.2.mem ((c.tc : Thread Cert.RwPrep.nD Cert.RwPrep.τ).loc Cert.RwPrep.main_arg10) = m ((c.tc : Thread Cert.RwPrep.nD Cert.RwPrep.τ).loc Cert.RwPrep.main_arg10))
      ∧ r.2.sem = fun _ => 0)

def quiescent_RwPrepIdeal [hRwPrepIdeal : Cert.RwPrepIdeal.Facts] : Prop :=
  ∀ (m : (ℓ : Loc Cert.RwPrepIdeal.nD Cert.RwPrepIdeal.τ Cert.RwPrepIdeal.sig) → Buf (Elt Ideal) ℓ) (g : Dev Cert.RwPrepIdeal.nD → PrngReg), Pre_RwPrepIdeal m →
    θ_run (Cert.RwPrepIdeal.defs (F := Ideal)) (onTc (τ := Cert.RwPrepIdeal.τ) (Cert.RwPrepIdeal.main (F := Ideal))) ⟨m, fun _ => 0, g⟩ (fun r => (∀ c : Dev Cert.RwPrepIdeal.nD,
      r.2.mem ((c.tc : Thread Cert.RwPrepIdeal.nD Cert.RwPrepIdeal.τ).loc Cert.RwPrepIdeal.main_arg0) = m ((c.tc : Thread Cert.RwPrepIdeal.nD Cert.RwPrepIdeal.τ).loc Cert.RwPrepIdeal.main_arg0)
      ∧ r.2.mem ((c.tc : Thread Cert.RwPrepIdeal.nD Cert.RwPrepIdeal.τ).loc Cert.RwPrepIdeal.main_arg1) = m ((c.tc : Thread Cert.RwPrepIdeal.nD Cert.RwPrepIdeal.τ).loc Cert.RwPrepIdeal.main_arg1)
      ∧ r.2.mem ((c.tc : Thread Cert.RwPrepIdeal.nD Cert.RwPrepIdeal.τ).loc Cert.RwPrepIdeal.main_arg2) = m ((c.tc : Thread Cert.RwPrepIdeal.nD Cert.RwPrepIdeal.τ).loc Cert.RwPrepIdeal.main_arg2)
      ∧ r.2.mem ((c.tc : Thread Cert.RwPrepIdeal.nD Cert.RwPrepIdeal.τ).loc Cert.RwPrepIdeal.main_arg3) = m ((c.tc : Thread Cert.RwPrepIdeal.nD Cert.RwPrepIdeal.τ).loc Cert.RwPrepIdeal.main_arg3)
      ∧ r.2.mem ((c.tc : Thread Cert.RwPrepIdeal.nD Cert.RwPrepIdeal.τ).loc Cert.RwPrepIdeal.main_arg4) = m ((c.tc : Thread Cert.RwPrepIdeal.nD Cert.RwPrepIdeal.τ).loc Cert.RwPrepIdeal.main_arg4)
      ∧ r.2.mem ((c.tc : Thread Cert.RwPrepIdeal.nD Cert.RwPrepIdeal.τ).loc Cert.RwPrepIdeal.main_arg5) = m ((c.tc : Thread Cert.RwPrepIdeal.nD Cert.RwPrepIdeal.τ).loc Cert.RwPrepIdeal.main_arg5)
      ∧ r.2.mem ((c.tc : Thread Cert.RwPrepIdeal.nD Cert.RwPrepIdeal.τ).loc Cert.RwPrepIdeal.main_arg6) = m ((c.tc : Thread Cert.RwPrepIdeal.nD Cert.RwPrepIdeal.τ).loc Cert.RwPrepIdeal.main_arg6)
      ∧ r.2.mem ((c.tc : Thread Cert.RwPrepIdeal.nD Cert.RwPrepIdeal.τ).loc Cert.RwPrepIdeal.main_arg7) = m ((c.tc : Thread Cert.RwPrepIdeal.nD Cert.RwPrepIdeal.τ).loc Cert.RwPrepIdeal.main_arg7)
      ∧ r.2.mem ((c.tc : Thread Cert.RwPrepIdeal.nD Cert.RwPrepIdeal.τ).loc Cert.RwPrepIdeal.main_arg8) = m ((c.tc : Thread Cert.RwPrepIdeal.nD Cert.RwPrepIdeal.τ).loc Cert.RwPrepIdeal.main_arg8)
      ∧ r.2.mem ((c.tc : Thread Cert.RwPrepIdeal.nD Cert.RwPrepIdeal.τ).loc Cert.RwPrepIdeal.main_arg9) = m ((c.tc : Thread Cert.RwPrepIdeal.nD Cert.RwPrepIdeal.τ).loc Cert.RwPrepIdeal.main_arg9)
      ∧ r.2.mem ((c.tc : Thread Cert.RwPrepIdeal.nD Cert.RwPrepIdeal.τ).loc Cert.RwPrepIdeal.main_arg10) = m ((c.tc : Thread Cert.RwPrepIdeal.nD Cert.RwPrepIdeal.τ).loc Cert.RwPrepIdeal.main_arg10))
      ∧ r.2.sem = fun _ => 0)

def quiescent_RwPrepIdeal_pre_finite_mix [hRwPrepIdeal : Cert.RwPrepIdeal.Facts] [hPre_finite_mix : Cert.Pre_finite_mix.Facts] : Prop :=
  ∀ (m : (ℓ : Loc Cert.RwPrepIdeal.nD Cert.RwPrepIdeal.τ Cert.RwPrepIdeal.sig) → Buf (Elt Ideal) ℓ) (g : Dev Cert.RwPrepIdeal.nD → PrngReg), Pre_RwPrepIdeal_finite_mix m →
    θ_run (Cert.RwPrepIdeal.defs (F := Ideal)) (onTc (τ := Cert.RwPrepIdeal.τ) (Cert.RwPrepIdeal.main (F := Ideal))) ⟨m, fun _ => 0, g⟩ (fun r => (∀ c : Dev Cert.RwPrepIdeal.nD,
      r.2.mem ((c.tc : Thread Cert.RwPrepIdeal.nD Cert.RwPrepIdeal.τ).loc Cert.RwPrepIdeal.main_arg0) = m ((c.tc : Thread Cert.RwPrepIdeal.nD Cert.RwPrepIdeal.τ).loc Cert.RwPrepIdeal.main_arg0)
      ∧ r.2.mem ((c.tc : Thread Cert.RwPrepIdeal.nD Cert.RwPrepIdeal.τ).loc Cert.RwPrepIdeal.main_arg1) = m ((c.tc : Thread Cert.RwPrepIdeal.nD Cert.RwPrepIdeal.τ).loc Cert.RwPrepIdeal.main_arg1)
      ∧ r.2.mem ((c.tc : Thread Cert.RwPrepIdeal.nD Cert.RwPrepIdeal.τ).loc Cert.RwPrepIdeal.main_arg2) = m ((c.tc : Thread Cert.RwPrepIdeal.nD Cert.RwPrepIdeal.τ).loc Cert.RwPrepIdeal.main_arg2)
      ∧ r.2.mem ((c.tc : Thread Cert.RwPrepIdeal.nD Cert.RwPrepIdeal.τ).loc Cert.RwPrepIdeal.main_arg3) = m ((c.tc : Thread Cert.RwPrepIdeal.nD Cert.RwPrepIdeal.τ).loc Cert.RwPrepIdeal.main_arg3)
      ∧ r.2.mem ((c.tc : Thread Cert.RwPrepIdeal.nD Cert.RwPrepIdeal.τ).loc Cert.RwPrepIdeal.main_arg4) = m ((c.tc : Thread Cert.RwPrepIdeal.nD Cert.RwPrepIdeal.τ).loc Cert.RwPrepIdeal.main_arg4)
      ∧ r.2.mem ((c.tc : Thread Cert.RwPrepIdeal.nD Cert.RwPrepIdeal.τ).loc Cert.RwPrepIdeal.main_arg5) = m ((c.tc : Thread Cert.RwPrepIdeal.nD Cert.RwPrepIdeal.τ).loc Cert.RwPrepIdeal.main_arg5)
      ∧ r.2.mem ((c.tc : Thread Cert.RwPrepIdeal.nD Cert.RwPrepIdeal.τ).loc Cert.RwPrepIdeal.main_arg6) = m ((c.tc : Thread Cert.RwPrepIdeal.nD Cert.RwPrepIdeal.τ).loc Cert.RwPrepIdeal.main_arg6)
      ∧ r.2.mem ((c.tc : Thread Cert.RwPrepIdeal.nD Cert.RwPrepIdeal.τ).loc Cert.RwPrepIdeal.main_arg7) = m ((c.tc : Thread Cert.RwPrepIdeal.nD Cert.RwPrepIdeal.τ).loc Cert.RwPrepIdeal.main_arg7)
      ∧ r.2.mem ((c.tc : Thread Cert.RwPrepIdeal.nD Cert.RwPrepIdeal.τ).loc Cert.RwPrepIdeal.main_arg8) = m ((c.tc : Thread Cert.RwPrepIdeal.nD Cert.RwPrepIdeal.τ).loc Cert.RwPrepIdeal.main_arg8)
      ∧ r.2.mem ((c.tc : Thread Cert.RwPrepIdeal.nD Cert.RwPrepIdeal.τ).loc Cert.RwPrepIdeal.main_arg9) = m ((c.tc : Thread Cert.RwPrepIdeal.nD Cert.RwPrepIdeal.τ).loc Cert.RwPrepIdeal.main_arg9)
      ∧ r.2.mem ((c.tc : Thread Cert.RwPrepIdeal.nD Cert.RwPrepIdeal.τ).loc Cert.RwPrepIdeal.main_arg10) = m ((c.tc : Thread Cert.RwPrepIdeal.nD Cert.RwPrepIdeal.τ).loc Cert.RwPrepIdeal.main_arg10))
      ∧ r.2.sem = fun _ => 0)

def quiescent_RwPrepRefIdeal [hRwPrepRefIdeal : Cert.RwPrepRefIdeal.Facts] : Prop :=
  ∀ (m : (ℓ : Loc Cert.RwPrepRefIdeal.nD Cert.RwPrepRefIdeal.τ Cert.RwPrepRefIdeal.sig) → Buf (Elt Ideal) ℓ) (g : Dev Cert.RwPrepRefIdeal.nD → PrngReg), Pre_RwPrepRefIdeal m →
    θ_run (Cert.RwPrepRefIdeal.defs (F := Ideal)) (onTc (τ := Cert.RwPrepRefIdeal.τ) (Cert.RwPrepRefIdeal.main (F := Ideal))) ⟨m, fun _ => 0, g⟩ (fun r => (∀ c : Dev Cert.RwPrepRefIdeal.nD,
      r.2.mem ((c.tc : Thread Cert.RwPrepRefIdeal.nD Cert.RwPrepRefIdeal.τ).loc Cert.RwPrepRefIdeal.main_arg0) = m ((c.tc : Thread Cert.RwPrepRefIdeal.nD Cert.RwPrepRefIdeal.τ).loc Cert.RwPrepRefIdeal.main_arg0)
      ∧ r.2.mem ((c.tc : Thread Cert.RwPrepRefIdeal.nD Cert.RwPrepRefIdeal.τ).loc Cert.RwPrepRefIdeal.main_arg1) = m ((c.tc : Thread Cert.RwPrepRefIdeal.nD Cert.RwPrepRefIdeal.τ).loc Cert.RwPrepRefIdeal.main_arg1)
      ∧ r.2.mem ((c.tc : Thread Cert.RwPrepRefIdeal.nD Cert.RwPrepRefIdeal.τ).loc Cert.RwPrepRefIdeal.main_arg2) = m ((c.tc : Thread Cert.RwPrepRefIdeal.nD Cert.RwPrepRefIdeal.τ).loc Cert.RwPrepRefIdeal.main_arg2)
      ∧ r.2.mem ((c.tc : Thread Cert.RwPrepRefIdeal.nD Cert.RwPrepRefIdeal.τ).loc Cert.RwPrepRefIdeal.main_arg3) = m ((c.tc : Thread Cert.RwPrepRefIdeal.nD Cert.RwPrepRefIdeal.τ).loc Cert.RwPrepRefIdeal.main_arg3)
      ∧ r.2.mem ((c.tc : Thread Cert.RwPrepRefIdeal.nD Cert.RwPrepRefIdeal.τ).loc Cert.RwPrepRefIdeal.main_arg4) = m ((c.tc : Thread Cert.RwPrepRefIdeal.nD Cert.RwPrepRefIdeal.τ).loc Cert.RwPrepRefIdeal.main_arg4)
      ∧ r.2.mem ((c.tc : Thread Cert.RwPrepRefIdeal.nD Cert.RwPrepRefIdeal.τ).loc Cert.RwPrepRefIdeal.main_arg5) = m ((c.tc : Thread Cert.RwPrepRefIdeal.nD Cert.RwPrepRefIdeal.τ).loc Cert.RwPrepRefIdeal.main_arg5)
      ∧ r.2.mem ((c.tc : Thread Cert.RwPrepRefIdeal.nD Cert.RwPrepRefIdeal.τ).loc Cert.RwPrepRefIdeal.main_arg6) = m ((c.tc : Thread Cert.RwPrepRefIdeal.nD Cert.RwPrepRefIdeal.τ).loc Cert.RwPrepRefIdeal.main_arg6)
      ∧ r.2.mem ((c.tc : Thread Cert.RwPrepRefIdeal.nD Cert.RwPrepRefIdeal.τ).loc Cert.RwPrepRefIdeal.main_arg7) = m ((c.tc : Thread Cert.RwPrepRefIdeal.nD Cert.RwPrepRefIdeal.τ).loc Cert.RwPrepRefIdeal.main_arg7)
      ∧ r.2.mem ((c.tc : Thread Cert.RwPrepRefIdeal.nD Cert.RwPrepRefIdeal.τ).loc Cert.RwPrepRefIdeal.main_arg8) = m ((c.tc : Thread Cert.RwPrepRefIdeal.nD Cert.RwPrepRefIdeal.τ).loc Cert.RwPrepRefIdeal.main_arg8)
      ∧ r.2.mem ((c.tc : Thread Cert.RwPrepRefIdeal.nD Cert.RwPrepRefIdeal.τ).loc Cert.RwPrepRefIdeal.main_arg9) = m ((c.tc : Thread Cert.RwPrepRefIdeal.nD Cert.RwPrepRefIdeal.τ).loc Cert.RwPrepRefIdeal.main_arg9)
      ∧ r.2.mem ((c.tc : Thread Cert.RwPrepRefIdeal.nD Cert.RwPrepRefIdeal.τ).loc Cert.RwPrepRefIdeal.main_arg10) = m ((c.tc : Thread Cert.RwPrepRefIdeal.nD Cert.RwPrepRefIdeal.τ).loc Cert.RwPrepRefIdeal.main_arg10))
      ∧ r.2.sem = fun _ => 0)

def quiescent_RwPrepRefIdeal_pre_finite_mix [hRwPrepRefIdeal : Cert.RwPrepRefIdeal.Facts] [hPre_finite_mix : Cert.Pre_finite_mix.Facts] : Prop :=
  ∀ (m : (ℓ : Loc Cert.RwPrepRefIdeal.nD Cert.RwPrepRefIdeal.τ Cert.RwPrepRefIdeal.sig) → Buf (Elt Ideal) ℓ) (g : Dev Cert.RwPrepRefIdeal.nD → PrngReg), Pre_RwPrepRefIdeal_finite_mix m →
    θ_run (Cert.RwPrepRefIdeal.defs (F := Ideal)) (onTc (τ := Cert.RwPrepRefIdeal.τ) (Cert.RwPrepRefIdeal.main (F := Ideal))) ⟨m, fun _ => 0, g⟩ (fun r => (∀ c : Dev Cert.RwPrepRefIdeal.nD,
      r.2.mem ((c.tc : Thread Cert.RwPrepRefIdeal.nD Cert.RwPrepRefIdeal.τ).loc Cert.RwPrepRefIdeal.main_arg0) = m ((c.tc : Thread Cert.RwPrepRefIdeal.nD Cert.RwPrepRefIdeal.τ).loc Cert.RwPrepRefIdeal.main_arg0)
      ∧ r.2.mem ((c.tc : Thread Cert.RwPrepRefIdeal.nD Cert.RwPrepRefIdeal.τ).loc Cert.RwPrepRefIdeal.main_arg1) = m ((c.tc : Thread Cert.RwPrepRefIdeal.nD Cert.RwPrepRefIdeal.τ).loc Cert.RwPrepRefIdeal.main_arg1)
      ∧ r.2.mem ((c.tc : Thread Cert.RwPrepRefIdeal.nD Cert.RwPrepRefIdeal.τ).loc Cert.RwPrepRefIdeal.main_arg2) = m ((c.tc : Thread Cert.RwPrepRefIdeal.nD Cert.RwPrepRefIdeal.τ).loc Cert.RwPrepRefIdeal.main_arg2)
      ∧ r.2.mem ((c.tc : Thread Cert.RwPrepRefIdeal.nD Cert.RwPrepRefIdeal.τ).loc Cert.RwPrepRefIdeal.main_arg3) = m ((c.tc : Thread Cert.RwPrepRefIdeal.nD Cert.RwPrepRefIdeal.τ).loc Cert.RwPrepRefIdeal.main_arg3)
      ∧ r.2.mem ((c.tc : Thread Cert.RwPrepRefIdeal.nD Cert.RwPrepRefIdeal.τ).loc Cert.RwPrepRefIdeal.main_arg4) = m ((c.tc : Thread Cert.RwPrepRefIdeal.nD Cert.RwPrepRefIdeal.τ).loc Cert.RwPrepRefIdeal.main_arg4)
      ∧ r.2.mem ((c.tc : Thread Cert.RwPrepRefIdeal.nD Cert.RwPrepRefIdeal.τ).loc Cert.RwPrepRefIdeal.main_arg5) = m ((c.tc : Thread Cert.RwPrepRefIdeal.nD Cert.RwPrepRefIdeal.τ).loc Cert.RwPrepRefIdeal.main_arg5)
      ∧ r.2.mem ((c.tc : Thread Cert.RwPrepRefIdeal.nD Cert.RwPrepRefIdeal.τ).loc Cert.RwPrepRefIdeal.main_arg6) = m ((c.tc : Thread Cert.RwPrepRefIdeal.nD Cert.RwPrepRefIdeal.τ).loc Cert.RwPrepRefIdeal.main_arg6)
      ∧ r.2.mem ((c.tc : Thread Cert.RwPrepRefIdeal.nD Cert.RwPrepRefIdeal.τ).loc Cert.RwPrepRefIdeal.main_arg7) = m ((c.tc : Thread Cert.RwPrepRefIdeal.nD Cert.RwPrepRefIdeal.τ).loc Cert.RwPrepRefIdeal.main_arg7)
      ∧ r.2.mem ((c.tc : Thread Cert.RwPrepRefIdeal.nD Cert.RwPrepRefIdeal.τ).loc Cert.RwPrepRefIdeal.main_arg8) = m ((c.tc : Thread Cert.RwPrepRefIdeal.nD Cert.RwPrepRefIdeal.τ).loc Cert.RwPrepRefIdeal.main_arg8)
      ∧ r.2.mem ((c.tc : Thread Cert.RwPrepRefIdeal.nD Cert.RwPrepRefIdeal.τ).loc Cert.RwPrepRefIdeal.main_arg9) = m ((c.tc : Thread Cert.RwPrepRefIdeal.nD Cert.RwPrepRefIdeal.τ).loc Cert.RwPrepRefIdeal.main_arg9)
      ∧ r.2.mem ((c.tc : Thread Cert.RwPrepRefIdeal.nD Cert.RwPrepRefIdeal.τ).loc Cert.RwPrepRefIdeal.main_arg10) = m ((c.tc : Thread Cert.RwPrepRefIdeal.nD Cert.RwPrepRefIdeal.τ).loc Cert.RwPrepRefIdeal.main_arg10))
      ∧ r.2.sem = fun _ => 0)

def preserves_XAttn_XAttnIdeal : Prop :=
  True

def algebraic_XAttnIdeal_XAttnRefIdeal_pre_finite_gains [hXAttnIdeal : Cert.XAttnIdeal.Facts] [hXAttnRefIdeal : Cert.XAttnRefIdeal.Facts] [hPre_finite_gains : Cert.Pre_finite_gains.Facts] : Prop :=
  ∀ (m : (ℓ : Loc Cert.XAttnIdeal.nD Cert.XAttnIdeal.τ Cert.XAttnIdeal.sig) → Buf (Elt Ideal) ℓ) (g : Dev Cert.XAttnIdeal.nD → PrngReg)
    (m' : (ℓ : Loc Cert.XAttnRefIdeal.nD Cert.XAttnRefIdeal.τ Cert.XAttnRefIdeal.sig) → Buf (Elt Ideal) ℓ) (g' : Dev Cert.XAttnRefIdeal.nD → PrngReg), Pre_XAttnIdeal_finite_gains m →
    (∀ c : Dev Cert.XAttnIdeal.nD,
      m' ((c.tc : Thread Cert.XAttnRefIdeal.nD Cert.XAttnRefIdeal.τ).loc Cert.XAttnRefIdeal.main_arg0) = m ((c.tc : Thread Cert.XAttnIdeal.nD Cert.XAttnIdeal.τ).loc Cert.XAttnIdeal.main_arg0)
      ∧ m' ((c.tc : Thread Cert.XAttnRefIdeal.nD Cert.XAttnRefIdeal.τ).loc Cert.XAttnRefIdeal.main_arg1) = m ((c.tc : Thread Cert.XAttnIdeal.nD Cert.XAttnIdeal.τ).loc Cert.XAttnIdeal.main_arg1)
      ∧ m' ((c.tc : Thread Cert.XAttnRefIdeal.nD Cert.XAttnRefIdeal.τ).loc Cert.XAttnRefIdeal.main_arg2) = m ((c.tc : Thread Cert.XAttnIdeal.nD Cert.XAttnIdeal.τ).loc Cert.XAttnIdeal.main_arg2)
      ∧ m' ((c.tc : Thread Cert.XAttnRefIdeal.nD Cert.XAttnRefIdeal.τ).loc Cert.XAttnRefIdeal.main_arg3) = m ((c.tc : Thread Cert.XAttnIdeal.nD Cert.XAttnIdeal.τ).loc Cert.XAttnIdeal.main_arg3)
      ∧ m' ((c.tc : Thread Cert.XAttnRefIdeal.nD Cert.XAttnRefIdeal.τ).loc Cert.XAttnRefIdeal.main_arg4) = m ((c.tc : Thread Cert.XAttnIdeal.nD Cert.XAttnIdeal.τ).loc Cert.XAttnIdeal.main_arg4)
      ∧ m' ((c.tc : Thread Cert.XAttnRefIdeal.nD Cert.XAttnRefIdeal.τ).loc Cert.XAttnRefIdeal.main_arg5) = m ((c.tc : Thread Cert.XAttnIdeal.nD Cert.XAttnIdeal.τ).loc Cert.XAttnIdeal.main_arg5)
      ∧ m' ((c.tc : Thread Cert.XAttnRefIdeal.nD Cert.XAttnRefIdeal.τ).loc Cert.XAttnRefIdeal.main_arg6) = m ((c.tc : Thread Cert.XAttnIdeal.nD Cert.XAttnIdeal.τ).loc Cert.XAttnIdeal.main_arg6)
      ∧ m' ((c.tc : Thread Cert.XAttnRefIdeal.nD Cert.XAttnRefIdeal.τ).loc Cert.XAttnRefIdeal.main_arg7) = m ((c.tc : Thread Cert.XAttnIdeal.nD Cert.XAttnIdeal.τ).loc Cert.XAttnIdeal.main_arg7)) →
    ∃ (v0 : (c : Dev Cert.XAttnIdeal.nD) → Buf (Elt Ideal) ((c.tc : Thread Cert.XAttnIdeal.nD Cert.XAttnIdeal.τ).loc Cert.XAttnIdeal.main_v15_0)) (v1 : (c : Dev Cert.XAttnIdeal.nD) → Buf (Elt Ideal) ((c.tc : Thread Cert.XAttnIdeal.nD Cert.XAttnIdeal.τ).loc Cert.XAttnIdeal.main_v15_1)),
      θ_run (Cert.XAttnIdeal.defs (F := Ideal)) (onTc (τ := Cert.XAttnIdeal.τ) (Cert.XAttnIdeal.main (F := Ideal))) ⟨m, fun _ => 0, g⟩ (fun r => ∀ c : Dev Cert.XAttnIdeal.nD,
          r.2.mem ((c.tc : Thread Cert.XAttnIdeal.nD Cert.XAttnIdeal.τ).loc Cert.XAttnIdeal.main_v15_0) = v0 c
          ∧ r.2.mem ((c.tc : Thread Cert.XAttnIdeal.nD Cert.XAttnIdeal.τ).loc Cert.XAttnIdeal.main_v15_1) = v1 c
          ∧ r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
          ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
          ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2)
          ∧ r.2.mem ((c.tc : Thread Cert.XAttnIdeal.nD Cert.XAttnIdeal.τ).loc Cert.XAttnIdeal.main_arg3) = m ((c.tc : Thread Cert.XAttnIdeal.nD Cert.XAttnIdeal.τ).loc Cert.XAttnIdeal.main_arg3)
          ∧ r.2.mem ((c.tc : Thread Cert.XAttnIdeal.nD Cert.XAttnIdeal.τ).loc Cert.XAttnIdeal.main_arg4) = m ((c.tc : Thread Cert.XAttnIdeal.nD Cert.XAttnIdeal.τ).loc Cert.XAttnIdeal.main_arg4)
          ∧ r.2.mem ((c.tc : Thread Cert.XAttnIdeal.nD Cert.XAttnIdeal.τ).loc Cert.XAttnIdeal.main_arg5) = m ((c.tc : Thread Cert.XAttnIdeal.nD Cert.XAttnIdeal.τ).loc Cert.XAttnIdeal.main_arg5)
          ∧ r.2.mem ((c.tc : Thread Cert.XAttnIdeal.nD Cert.XAttnIdeal.τ).loc Cert.XAttnIdeal.main_arg6) = m ((c.tc : Thread Cert.XAttnIdeal.nD Cert.XAttnIdeal.τ).loc Cert.XAttnIdeal.main_arg6)
          ∧ r.2.mem ((c.tc : Thread Cert.XAttnIdeal.nD Cert.XAttnIdeal.τ).loc Cert.XAttnIdeal.main_arg7) = m ((c.tc : Thread Cert.XAttnIdeal.nD Cert.XAttnIdeal.τ).loc Cert.XAttnIdeal.main_arg7))
      ∧ θ_run (Cert.XAttnRefIdeal.defs (F := Ideal)) (onTc (τ := Cert.XAttnRefIdeal.τ) (Cert.XAttnRefIdeal.main (F := Ideal))) ⟨m', fun _ => 0, g'⟩ (fun r => ∀ c : Dev Cert.XAttnRefIdeal.nD,
          r.2.mem ((c.tc : Thread Cert.XAttnRefIdeal.nD Cert.XAttnRefIdeal.τ).loc Cert.XAttnRefIdeal.main_v89) = v0 c
          ∧ r.2.mem ((c.tc : Thread Cert.XAttnRefIdeal.nD Cert.XAttnRefIdeal.τ).loc Cert.XAttnRefIdeal.main_v91) = v1 c
          ∧ r.2.mem ((c.tc : Thread Cert.XAttnRefIdeal.nD Cert.XAttnRefIdeal.τ).loc Cert.XAttnRefIdeal.main_arg0) = m' ((c.tc : Thread Cert.XAttnRefIdeal.nD Cert.XAttnRefIdeal.τ).loc Cert.XAttnRefIdeal.main_arg0)
          ∧ r.2.mem ((c.tc : Thread Cert.XAttnRefIdeal.nD Cert.XAttnRefIdeal.τ).loc Cert.XAttnRefIdeal.main_arg1) = m' ((c.tc : Thread Cert.XAttnRefIdeal.nD Cert.XAttnRefIdeal.τ).loc Cert.XAttnRefIdeal.main_arg1)
          ∧ r.2.mem ((c.tc : Thread Cert.XAttnRefIdeal.nD Cert.XAttnRefIdeal.τ).loc Cert.XAttnRefIdeal.main_arg2) = m' ((c.tc : Thread Cert.XAttnRefIdeal.nD Cert.XAttnRefIdeal.τ).loc Cert.XAttnRefIdeal.main_arg2)
          ∧ r.2.mem ((c.tc : Thread Cert.XAttnRefIdeal.nD Cert.XAttnRefIdeal.τ).loc Cert.XAttnRefIdeal.main_arg3) = m' ((c.tc : Thread Cert.XAttnRefIdeal.nD Cert.XAttnRefIdeal.τ).loc Cert.XAttnRefIdeal.main_arg3)
          ∧ r.2.mem ((c.tc : Thread Cert.XAttnRefIdeal.nD Cert.XAttnRefIdeal.τ).loc Cert.XAttnRefIdeal.main_arg4) = m' ((c.tc : Thread Cert.XAttnRefIdeal.nD Cert.XAttnRefIdeal.τ).loc Cert.XAttnRefIdeal.main_arg4)
          ∧ r.2.mem ((c.tc : Thread Cert.XAttnRefIdeal.nD Cert.XAttnRefIdeal.τ).loc Cert.XAttnRefIdeal.main_arg5) = m' ((c.tc : Thread Cert.XAttnRefIdeal.nD Cert.XAttnRefIdeal.τ).loc Cert.XAttnRefIdeal.main_arg5)
          ∧ r.2.mem ((c.tc : Thread Cert.XAttnRefIdeal.nD Cert.XAttnRefIdeal.τ).loc Cert.XAttnRefIdeal.main_arg6) = m' ((c.tc : Thread Cert.XAttnRefIdeal.nD Cert.XAttnRefIdeal.τ).loc Cert.XAttnRefIdeal.main_arg6)
          ∧ r.2.mem ((c.tc : Thread Cert.XAttnRefIdeal.nD Cert.XAttnRefIdeal.τ).loc Cert.XAttnRefIdeal.main_arg7) = m' ((c.tc : Thread Cert.XAttnRefIdeal.nD Cert.XAttnRefIdeal.τ).loc Cert.XAttnRefIdeal.main_arg7))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)) →
    ∃ (v0 : (c : Dev Cert.ShortConvIdeal.nD) → Buf (Elt Ideal) ((c.tc : Thread Cert.ShortConvIdeal.nD Cert.ShortConvIdeal.τ).loc Cert.ShortConvIdeal.main_v3)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v3) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v32) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v6)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v6) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v22) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v9_0)) (v1 : (c : Dev Cert.EvenInIdeal.nD) → Buf (Elt Ideal) ((c.tc : Thread Cert.EvenInIdeal.nD Cert.EvenInIdeal.τ).loc Cert.EvenInIdeal.main_v9_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v9_0) = v0 c
          ∧ r.2.mem ((c.tc : Thread Cert.EvenInIdeal.nD Cert.EvenInIdeal.τ).loc Cert.EvenInIdeal.main_v9_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v22) = v0 c
          ∧ r.2.mem ((c.tc : Thread Cert.EvenInRefIdeal.nD Cert.EvenInRefIdeal.τ).loc Cert.EvenInRefIdeal.main_v24) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v6_0)) (v1 : (c : Dev Cert.OddInIdeal.nD) → Buf (Elt Ideal) ((c.tc : Thread Cert.OddInIdeal.nD Cert.OddInIdeal.τ).loc Cert.OddInIdeal.main_v6_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v6_0) = v0 c
          ∧ r.2.mem ((c.tc : Thread Cert.OddInIdeal.nD Cert.OddInIdeal.τ).loc Cert.OddInIdeal.main_v6_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v19) = v0 c
          ∧ r.2.mem ((c.tc : Thread Cert.OddInRefIdeal.nD Cert.OddInRefIdeal.τ).loc Cert.OddInRefIdeal.main_v20) = v1 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v2)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v2) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v7) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v6) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3))

def preserves_RwPrep_RwPrepIdeal : Prop :=
  True

def algebraic_RwPrepIdeal_RwPrepRefIdeal_pre_finite_mix [hRwPrepIdeal : Cert.RwPrepIdeal.Facts] [hRwPrepRefIdeal : Cert.RwPrepRefIdeal.Facts] [hPre_finite_mix : Cert.Pre_finite_mix.Facts] : Prop :=
  ∀ (m : (ℓ : Loc Cert.RwPrepIdeal.nD Cert.RwPrepIdeal.τ Cert.RwPrepIdeal.sig) → Buf (Elt Ideal) ℓ) (g : Dev Cert.RwPrepIdeal.nD → PrngReg)
    (m' : (ℓ : Loc Cert.RwPrepRefIdeal.nD Cert.RwPrepRefIdeal.τ Cert.RwPrepRefIdeal.sig) → Buf (Elt Ideal) ℓ) (g' : Dev Cert.RwPrepRefIdeal.nD → PrngReg), Pre_RwPrepIdeal_finite_mix m →
    (∀ c : Dev Cert.RwPrepIdeal.nD,
      m' ((c.tc : Thread Cert.RwPrepRefIdeal.nD Cert.RwPrepRefIdeal.τ).loc Cert.RwPrepRefIdeal.main_arg0) = m ((c.tc : Thread Cert.RwPrepIdeal.nD Cert.RwPrepIdeal.τ).loc Cert.RwPrepIdeal.main_arg0)
      ∧ m' ((c.tc : Thread Cert.RwPrepRefIdeal.nD Cert.RwPrepRefIdeal.τ).loc Cert.RwPrepRefIdeal.main_arg1) = m ((c.tc : Thread Cert.RwPrepIdeal.nD Cert.RwPrepIdeal.τ).loc Cert.RwPrepIdeal.main_arg1)
      ∧ m' ((c.tc : Thread Cert.RwPrepRefIdeal.nD Cert.RwPrepRefIdeal.τ).loc Cert.RwPrepRefIdeal.main_arg2) = m ((c.tc : Thread Cert.RwPrepIdeal.nD Cert.RwPrepIdeal.τ).loc Cert.RwPrepIdeal.main_arg2)
      ∧ m' ((c.tc : Thread Cert.RwPrepRefIdeal.nD Cert.RwPrepRefIdeal.τ).loc Cert.RwPrepRefIdeal.main_arg3) = m ((c.tc : Thread Cert.RwPrepIdeal.nD Cert.RwPrepIdeal.τ).loc Cert.RwPrepIdeal.main_arg3)
      ∧ m' ((c.tc : Thread Cert.RwPrepRefIdeal.nD Cert.RwPrepRefIdeal.τ).loc Cert.RwPrepRefIdeal.main_arg4) = m ((c.tc : Thread Cert.RwPrepIdeal.nD Cert.RwPrepIdeal.τ).loc Cert.RwPrepIdeal.main_arg4)
      ∧ m' ((c.tc : Thread Cert.RwPrepRefIdeal.nD Cert.RwPrepRefIdeal.τ).loc Cert.RwPrepRefIdeal.main_arg5) = m ((c.tc : Thread Cert.RwPrepIdeal.nD Cert.RwPrepIdeal.τ).loc Cert.RwPrepIdeal.main_arg5)
      ∧ m' ((c.tc : Thread Cert.RwPrepRefIdeal.nD Cert.RwPrepRefIdeal.τ).loc Cert.RwPrepRefIdeal.main_arg6) = m ((c.tc : Thread Cert.RwPrepIdeal.nD Cert.RwPrepIdeal.τ).loc Cert.RwPrepIdeal.main_arg6)
      ∧ m' ((c.tc : Thread Cert.RwPrepRefIdeal.nD Cert.RwPrepRefIdeal.τ).loc Cert.RwPrepRefIdeal.main_arg7) = m ((c.tc : Thread Cert.RwPrepIdeal.nD Cert.RwPrepIdeal.τ).loc Cert.RwPrepIdeal.main_arg7)
      ∧ m' ((c.tc : Thread Cert.RwPrepRefIdeal.nD Cert.RwPrepRefIdeal.τ).loc Cert.RwPrepRefIdeal.main_arg8) = m ((c.tc : Thread Cert.RwPrepIdeal.nD Cert.RwPrepIdeal.τ).loc Cert.RwPrepIdeal.main_arg8)
      ∧ m' ((c.tc : Thread Cert.RwPrepRefIdeal.nD Cert.RwPrepRefIdeal.τ).loc Cert.RwPrepRefIdeal.main_arg9) = m ((c.tc : Thread Cert.RwPrepIdeal.nD Cert.RwPrepIdeal.τ).loc Cert.RwPrepIdeal.main_arg9)
      ∧ m' ((c.tc : Thread Cert.RwPrepRefIdeal.nD Cert.RwPrepRefIdeal.τ).loc Cert.RwPrepRefIdeal.main_arg10) = m ((c.tc : Thread Cert.RwPrepIdeal.nD Cert.RwPrepIdeal.τ).loc Cert.RwPrepIdeal.main_arg10)) →
    ∃ (v0 : (c : Dev Cert.RwPrepIdeal.nD) → Buf (Elt Ideal) ((c.tc : Thread Cert.RwPrepIdeal.nD Cert.RwPrepIdeal.τ).loc Cert.RwPrepIdeal.main_v25_0)) (v1 : (c : Dev Cert.RwPrepIdeal.nD) → Buf (Elt Ideal) ((c.tc : Thread Cert.RwPrepIdeal.nD Cert.RwPrepIdeal.τ).loc Cert.RwPrepIdeal.main_v25_1)) (v2 : (c : Dev Cert.RwPrepIdeal.nD) → Buf (Elt Ideal) ((c.tc : Thread Cert.RwPrepIdeal.nD Cert.RwPrepIdeal.τ).loc Cert.RwPrepIdeal.main_v25_2)) (v3 : (c : Dev Cert.RwPrepIdeal.nD) → Buf (Elt Ideal) ((c.tc : Thread Cert.RwPrepIdeal.nD Cert.RwPrepIdeal.τ).loc Cert.RwPrepIdeal.main_v25_3)) (v4 : (c : Dev Cert.RwPrepIdeal.nD) → Buf (Elt Ideal) ((c.tc : Thread Cert.RwPrepIdeal.nD Cert.RwPrepIdeal.τ).loc Cert.RwPrepIdeal.main_v25_4)) (v5 : (c : Dev Cert.RwPrepIdeal.nD) → Buf (Elt Ideal) ((c.tc : Thread Cert.RwPrepIdeal.nD Cert.RwPrepIdeal.τ).loc Cert.RwPrepIdeal.main_v25_5)) (v6 : (c : Dev Cert.RwPrepIdeal.nD) → Buf (Elt Ideal) ((c.tc : Thread Cert.RwPrepIdeal.nD Cert.RwPrepIdeal.τ).loc Cert.RwPrepIdeal.main_v25_6)) (v7 : (c : Dev Cert.RwPrepIdeal.nD) → Buf (Elt Ideal) ((c.tc : Thread Cert.RwPrepIdeal.nD Cert.RwPrepIdeal.τ).loc Cert.RwPrepIdeal.main_v25_7)) (v8 : (c : Dev Cert.RwPrepIdeal.nD) → Buf (Elt Ideal) ((c.tc : Thread Cert.RwPrepIdeal.nD Cert.RwPrepIdeal.τ).loc Cert.RwPrepIdeal.main_v25_8)) (v9 : (c : Dev Cert.RwPrepIdeal.nD) → Buf (Elt Ideal) ((c.tc : Thread Cert.RwPrepIdeal.nD Cert.RwPrepIdeal.τ).loc Cert.RwPrepIdeal.main_v25_9)) (v10 : (c : Dev Cert.RwPrepIdeal.nD) → Buf (Elt Ideal) ((c.tc : Thread Cert.RwPrepIdeal.nD Cert.RwPrepIdeal.τ).loc Cert.RwPrepIdeal.main_v25_10)),
      θ_run (Cert.RwPrepIdeal.defs (F := Ideal)) (onTc (τ := Cert.RwPrepIdeal.τ) (Cert.RwPrepIdeal.main (F := Ideal))) ⟨m, fun _ => 0, g⟩ (fun r => ∀ c : Dev Cert.RwPrepIdeal.nD,
          r.2.mem ((c.tc : Thread Cert.RwPrepIdeal.nD Cert.RwPrepIdeal.τ).loc Cert.RwPrepIdeal.main_v25_0) = v0 c
          ∧ r.2.mem ((c.tc : Thread Cert.RwPrepIdeal.nD Cert.RwPrepIdeal.τ).loc Cert.RwPrepIdeal.main_v25_1) = v1 c
          ∧ r.2.mem ((c.tc : Thread Cert.RwPrepIdeal.nD Cert.RwPrepIdeal.τ).loc Cert.RwPrepIdeal.main_v25_2) = v2 c
          ∧ r.2.mem ((c.tc : Thread Cert.RwPrepIdeal.nD Cert.RwPrepIdeal.τ).loc Cert.RwPrepIdeal.main_v25_3) = v3 c
          ∧ r.2.mem ((c.tc : Thread Cert.RwPrepIdeal.nD Cert.RwPrepIdeal.τ).loc Cert.RwPrepIdeal.main_v25_4) = v4 c
          ∧ r.2.mem ((c.tc : Thread Cert.RwPrepIdeal.nD Cert.RwPrepIdeal.τ).loc Cert.RwPrepIdeal.main_v25_5) = v5 c
          ∧ r.2.mem ((c.tc : Thread Cert.RwPrepIdeal.nD Cert.RwPrepIdeal.τ).loc Cert.RwPrepIdeal.main_v25_6) = v6 c
          ∧ r.2.mem ((c.tc : Thread Cert.RwPrepIdeal.nD Cert.RwPrepIdeal.τ).loc Cert.RwPrepIdeal.main_v25_7) = v7 c
          ∧ r.2.mem ((c.tc : Thread Cert.RwPrepIdeal.nD Cert.RwPrepIdeal.τ).loc Cert.RwPrepIdeal.main_v25_8) = v8 c
          ∧ r.2.mem ((c.tc : Thread Cert.RwPrepIdeal.nD Cert.RwPrepIdeal.τ).loc Cert.RwPrepIdeal.main_v25_9) = v9 c
          ∧ r.2.mem ((c.tc : Thread Cert.RwPrepIdeal.nD Cert.RwPrepIdeal.τ).loc Cert.RwPrepIdeal.main_v25_10) = v10 c
          ∧ r.2.mem ((c.tc : Thread Cert.RwPrepIdeal.nD Cert.RwPrepIdeal.τ).loc Cert.RwPrepIdeal.main_arg0) = m ((c.tc : Thread Cert.RwPrepIdeal.nD Cert.RwPrepIdeal.τ).loc Cert.RwPrepIdeal.main_arg0)
          ∧ r.2.mem ((c.tc : Thread Cert.RwPrepIdeal.nD Cert.RwPrepIdeal.τ).loc Cert.RwPrepIdeal.main_arg1) = m ((c.tc : Thread Cert.RwPrepIdeal.nD Cert.RwPrepIdeal.τ).loc Cert.RwPrepIdeal.main_arg1)
          ∧ r.2.mem ((c.tc : Thread Cert.RwPrepIdeal.nD Cert.RwPrepIdeal.τ).loc Cert.RwPrepIdeal.main_arg2) = m ((c.tc : Thread Cert.RwPrepIdeal.nD Cert.RwPrepIdeal.τ).loc Cert.RwPrepIdeal.main_arg2)
          ∧ r.2.mem ((c.tc : Thread Cert.RwPrepIdeal.nD Cert.RwPrepIdeal.τ).loc Cert.RwPrepIdeal.main_arg3) = m ((c.tc : Thread Cert.RwPrepIdeal.nD Cert.RwPrepIdeal.τ).loc Cert.RwPrepIdeal.main_arg3)
          ∧ r.2.mem ((c.tc : Thread Cert.RwPrepIdeal.nD Cert.RwPrepIdeal.τ).loc Cert.RwPrepIdeal.main_arg4) = m ((c.tc : Thread Cert.RwPrepIdeal.nD Cert.RwPrepIdeal.τ).loc Cert.RwPrepIdeal.main_arg4)
          ∧ r.2.mem ((c.tc : Thread Cert.RwPrepIdeal.nD Cert.RwPrepIdeal.τ).loc Cert.RwPrepIdeal.main_arg5) = m ((c.tc : Thread Cert.RwPrepIdeal.nD Cert.RwPrepIdeal.τ).loc Cert.RwPrepIdeal.main_arg5)
          ∧ r.2.mem ((c.tc : Thread Cert.RwPrepIdeal.nD Cert.RwPrepIdeal.τ).loc Cert.RwPrepIdeal.main_arg6) = m ((c.tc : Thread Cert.RwPrepIdeal.nD Cert.RwPrepIdeal.τ).loc Cert.RwPrepIdeal.main_arg6)
          ∧ r.2.mem ((c.tc : Thread Cert.RwPrepIdeal.nD Cert.RwPrepIdeal.τ).loc Cert.RwPrepIdeal.main_arg7) = m ((c.tc : Thread Cert.RwPrepIdeal.nD Cert.RwPrepIdeal.τ).loc Cert.RwPrepIdeal.main_arg7)
          ∧ r.2.mem ((c.tc : Thread Cert.RwPrepIdeal.nD Cert.RwPrepIdeal.τ).loc Cert.RwPrepIdeal.main_arg8) = m ((c.tc : Thread Cert.RwPrepIdeal.nD Cert.RwPrepIdeal.τ).loc Cert.RwPrepIdeal.main_arg8)
          ∧ r.2.mem ((c.tc : Thread Cert.RwPrepIdeal.nD Cert.RwPrepIdeal.τ).loc Cert.RwPrepIdeal.main_arg9) = m ((c.tc : Thread Cert.RwPrepIdeal.nD Cert.RwPrepIdeal.τ).loc Cert.RwPrepIdeal.main_arg9)
          ∧ r.2.mem ((c.tc : Thread Cert.RwPrepIdeal.nD Cert.RwPrepIdeal.τ).loc Cert.RwPrepIdeal.main_arg10) = m ((c.tc : Thread Cert.RwPrepIdeal.nD Cert.RwPrepIdeal.τ).loc Cert.RwPrepIdeal.main_arg10))
      ∧ θ_run (Cert.RwPrepRefIdeal.defs (F := Ideal)) (onTc (τ := Cert.RwPrepRefIdeal.τ) (Cert.RwPrepRefIdeal.main (F := Ideal))) ⟨m', fun _ => 0, g'⟩ (fun r => ∀ c : Dev Cert.RwPrepRefIdeal.nD,
          r.2.mem ((c.tc : Thread Cert.RwPrepRefIdeal.nD Cert.RwPrepRefIdeal.τ).loc Cert.RwPrepRefIdeal.main_v162) = v0 c
          ∧ r.2.mem ((c.tc : Thread Cert.RwPrepRefIdeal.nD Cert.RwPrepRefIdeal.τ).loc Cert.RwPrepRefIdeal.main_v163) = v1 c
          ∧ r.2.mem ((c.tc : Thread Cert.RwPrepRefIdeal.nD Cert.RwPrepRefIdeal.τ).loc Cert.RwPrepRefIdeal.main_v164) = v2 c
          ∧ r.2.mem ((c.tc : Thread Cert.RwPrepRefIdeal.nD Cert.RwPrepRefIdeal.τ).loc Cert.RwPrepRefIdeal.main_v166) = v3 c
          ∧ r.2.mem ((c.tc : Thread Cert.RwPrepRefIdeal.nD Cert.RwPrepRefIdeal.τ).loc Cert.RwPrepRefIdeal.main_v167) = v4 c
          ∧ r.2.mem ((c.tc : Thread Cert.RwPrepRefIdeal.nD Cert.RwPrepRefIdeal.τ).loc Cert.RwPrepRefIdeal.main_v91) = v5 c
          ∧ r.2.mem ((c.tc : Thread Cert.RwPrepRefIdeal.nD Cert.RwPrepRefIdeal.τ).loc Cert.RwPrepRefIdeal.main_v147) = v6 c
          ∧ r.2.mem ((c.tc : Thread Cert.RwPrepRefIdeal.nD Cert.RwPrepRefIdeal.τ).loc Cert.RwPrepRefIdeal.main_v92) = v7 c
          ∧ r.2.mem ((c.tc : Thread Cert.RwPrepRefIdeal.nD Cert.RwPrepRefIdeal.τ).loc Cert.RwPrepRefIdeal.main_v148) = v8 c
          ∧ r.2.mem ((c.tc : Thread Cert.RwPrepRefIdeal.nD Cert.RwPrepRefIdeal.τ).loc Cert.RwPrepRefIdeal.main_v95) = v9 c
          ∧ r.2.mem ((c.tc : Thread Cert.RwPrepRefIdeal.nD Cert.RwPrepRefIdeal.τ).loc Cert.RwPrepRefIdeal.main_v151) = v10 c
          ∧ r.2.mem ((c.tc : Thread Cert.RwPrepRefIdeal.nD Cert.RwPrepRefIdeal.τ).loc Cert.RwPrepRefIdeal.main_arg0) = m' ((c.tc : Thread Cert.RwPrepRefIdeal.nD Cert.RwPrepRefIdeal.τ).loc Cert.RwPrepRefIdeal.main_arg0)
          ∧ r.2.mem ((c.tc : Thread Cert.RwPrepRefIdeal.nD Cert.RwPrepRefIdeal.τ).loc Cert.RwPrepRefIdeal.main_arg1) = m' ((c.tc : Thread Cert.RwPrepRefIdeal.nD Cert.RwPrepRefIdeal.τ).loc Cert.RwPrepRefIdeal.main_arg1)
          ∧ r.2.mem ((c.tc : Thread Cert.RwPrepRefIdeal.nD Cert.RwPrepRefIdeal.τ).loc Cert.RwPrepRefIdeal.main_arg2) = m' ((c.tc : Thread Cert.RwPrepRefIdeal.nD Cert.RwPrepRefIdeal.τ).loc Cert.RwPrepRefIdeal.main_arg2)
          ∧ r.2.mem ((c.tc : Thread Cert.RwPrepRefIdeal.nD Cert.RwPrepRefIdeal.τ).loc Cert.RwPrepRefIdeal.main_arg3) = m' ((c.tc : Thread Cert.RwPrepRefIdeal.nD Cert.RwPrepRefIdeal.τ).loc Cert.RwPrepRefIdeal.main_arg3)
          ∧ r.2.mem ((c.tc : Thread Cert.RwPrepRefIdeal.nD Cert.RwPrepRefIdeal.τ).loc Cert.RwPrepRefIdeal.main_arg4) = m' ((c.tc : Thread Cert.RwPrepRefIdeal.nD Cert.RwPrepRefIdeal.τ).loc Cert.RwPrepRefIdeal.main_arg4)
          ∧ r.2.mem ((c.tc : Thread Cert.RwPrepRefIdeal.nD Cert.RwPrepRefIdeal.τ).loc Cert.RwPrepRefIdeal.main_arg5) = m' ((c.tc : Thread Cert.RwPrepRefIdeal.nD Cert.RwPrepRefIdeal.τ).loc Cert.RwPrepRefIdeal.main_arg5)
          ∧ r.2.mem ((c.tc : Thread Cert.RwPrepRefIdeal.nD Cert.RwPrepRefIdeal.τ).loc Cert.RwPrepRefIdeal.main_arg6) = m' ((c.tc : Thread Cert.RwPrepRefIdeal.nD Cert.RwPrepRefIdeal.τ).loc Cert.RwPrepRefIdeal.main_arg6)
          ∧ r.2.mem ((c.tc : Thread Cert.RwPrepRefIdeal.nD Cert.RwPrepRefIdeal.τ).loc Cert.RwPrepRefIdeal.main_arg7) = m' ((c.tc : Thread Cert.RwPrepRefIdeal.nD Cert.RwPrepRefIdeal.τ).loc Cert.RwPrepRefIdeal.main_arg7)
          ∧ r.2.mem ((c.tc : Thread Cert.RwPrepRefIdeal.nD Cert.RwPrepRefIdeal.τ).loc Cert.RwPrepRefIdeal.main_arg8) = m' ((c.tc : Thread Cert.RwPrepRefIdeal.nD Cert.RwPrepRefIdeal.τ).loc Cert.RwPrepRefIdeal.main_arg8)
          ∧ r.2.mem ((c.tc : Thread Cert.RwPrepRefIdeal.nD Cert.RwPrepRefIdeal.τ).loc Cert.RwPrepRefIdeal.main_arg9) = m' ((c.tc : Thread Cert.RwPrepRefIdeal.nD Cert.RwPrepRefIdeal.τ).loc Cert.RwPrepRefIdeal.main_arg9)
          ∧ r.2.mem ((c.tc : Thread Cert.RwPrepRefIdeal.nD Cert.RwPrepRefIdeal.τ).loc Cert.RwPrepRefIdeal.main_arg10) = m' ((c.tc : Thread Cert.RwPrepRefIdeal.nD Cert.RwPrepRefIdeal.τ).loc Cert.RwPrepRefIdeal.main_arg10))

def Claim : Prop :=
  ∃ (hXAttn : Cert.XAttn.Facts) (hXAttnIdeal : Cert.XAttnIdeal.Facts) (hXAttnRefIdeal : Cert.XAttnRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hShortConv : Cert.ShortConv.Facts) (hShortConvIdeal : Cert.ShortConvIdeal.Facts) (hShortConvRefIdeal : Cert.ShortConvRefIdeal.Facts) (hMemKv : Cert.MemKv.Facts) (hMemKvIdeal : Cert.MemKvIdeal.Facts) (hMemKvRefIdeal : Cert.MemKvRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hRwPrep : Cert.RwPrep.Facts) (hRwPrepIdeal : Cert.RwPrepIdeal.Facts) (hRwPrepRefIdeal : Cert.RwPrepRefIdeal.Facts) (hPre_finite_gains : Cert.Pre_finite_gains.Facts) (hPre_finite_mix : Cert.Pre_finite_mix.Facts),
    quiescent_XAttn (hXAttn := hXAttn)
    ∧ quiescent_XAttnIdeal (hXAttnIdeal := hXAttnIdeal)
    ∧ quiescent_XAttnIdeal_pre_finite_gains (hXAttnIdeal := hXAttnIdeal) (hPre_finite_gains := hPre_finite_gains)
    ∧ quiescent_XAttnRefIdeal (hXAttnRefIdeal := hXAttnRefIdeal)
    ∧ quiescent_XAttnRefIdeal_pre_finite_gains (hXAttnRefIdeal := hXAttnRefIdeal) (hPre_finite_gains := hPre_finite_gains)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_RwPrep (hRwPrep := hRwPrep)
    ∧ quiescent_RwPrepIdeal (hRwPrepIdeal := hRwPrepIdeal)
    ∧ quiescent_RwPrepIdeal_pre_finite_mix (hRwPrepIdeal := hRwPrepIdeal) (hPre_finite_mix := hPre_finite_mix)
    ∧ quiescent_RwPrepRefIdeal (hRwPrepRefIdeal := hRwPrepRefIdeal)
    ∧ quiescent_RwPrepRefIdeal_pre_finite_mix (hRwPrepRefIdeal := hRwPrepRefIdeal) (hPre_finite_mix := hPre_finite_mix)
    ∧ preserves_XAttn_XAttnIdeal
    ∧ algebraic_XAttnIdeal_XAttnRefIdeal_pre_finite_gains (hXAttnIdeal := hXAttnIdeal) (hXAttnRefIdeal := hXAttnRefIdeal) (hPre_finite_gains := hPre_finite_gains)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_ShortConv_ShortConvIdeal
    ∧ algebraic_ShortConvIdeal_ShortConvRefIdeal (hShortConvIdeal := hShortConvIdeal) (hShortConvRefIdeal := hShortConvRefIdeal)
    ∧ preserves_MemKv_MemKvIdeal
    ∧ algebraic_MemKvIdeal_MemKvRefIdeal (hMemKvIdeal := hMemKvIdeal) (hMemKvRefIdeal := hMemKvRefIdeal)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_RwPrep_RwPrepIdeal
    ∧ algebraic_RwPrepIdeal_RwPrepRefIdeal_pre_finite_mix (hRwPrepIdeal := hRwPrepIdeal) (hRwPrepRefIdeal := hRwPrepRefIdeal) (hPre_finite_mix := hPre_finite_mix)
-- ==== Pre_finite_gains.lean ====
abbrev S4x2048x2048 : Shape := ⟨3, ![4, 2048, 2048]⟩
abbrev S4x256x1024 : Shape := ⟨3, ![4, 256, 1024]⟩
abbrev S4x2048 : Shape := ⟨2, ![4, 2048]⟩
abbrev S4x2048x512 : Shape := ⟨3, ![4, 2048, 512]⟩
abbrev S4x512x2048 : Shape := ⟨3, ![4, 512, 2048]⟩
abbrev S4x128 : Shape := ⟨2, ![4, 128]⟩
abbrev S1x128 : Shape := ⟨2, ![1, 128]⟩
abbrev S128 : Shape := ⟨1, ![128]⟩
abbrev S_ : Shape := ⟨0, ![]⟩

class Facts : Prop where
  slices_S4x128_S1x128_1_0 : S4x128.Slices ![1, 0] S1x128
  shapeCasts_S1x128_S128 : S1x128.ShapeCasts S128
  bcast_S_S128 : S_.BroadcastsInDim S128 (![] : Fin 0 → Fin S128.rank)

variable [Facts]

def fn {F : FTy → Type} [FloatOps F] (main_arg0 : FVec F S4x2048x2048 .f32) (main_arg1 : FVec F S4x256x1024 .f32) (main_arg2 : FVec F S4x2048 .f32) (main_arg3 : FVec F S4x2048 .f32) (main_arg4 : FVec F S4x2048x512 .f32) (main_arg5 : FVec F S4x512x2048 .f32) (main_arg6 : FVec F S4x128 .f32) (main_arg7 : FVec F S4x128 .f32) : IVec S128 1 × IVec S128 1 × IVec S128 1 × IVec S128 1 :=
  let main_v0 : FVec F S1x128 .f32 := (extractStridedSlice S1x128 ![1, 0] · slices_S4x128_S1x128_1_0) main_arg6
  let main_v1 : FVec F S128 .f32 := shapeCast S128 main_v0 shapeCasts_S1x128_S128
  let main_v2 : FVec F S1x128 .f32 := (extractStridedSlice S1x128 ![1, 0] · slices_S4x128_S1x128_1_0) main_arg7
  let main_v3 : FVec F S128 .f32 := shapeCast S128 main_v2 shapeCasts_S1x128_S128
  let main_cst : FVec F S_ .f32 := constant S_ .f32 0xFF800000#32
  let main_v4 : FVec F S128 .f32 := broadcastInDim S128 ![] bcast_S_S128 main_cst
  let main_v5 : IVec S128 1 := cmpf .ogt main_v1 main_v4
  let main_cst_0 : FVec F S_ .f32 := constant S_ .f32 0x7F800000#32
  let main_v6 : FVec F S128 .f32 := broadcastInDim S128 ![] bcast_S_S128 main_cst_0
  let main_v7 : IVec S128 1 := cmpf .olt main_v1 main_v6
  let main_cst_1 : FVec F S_ .f32 := constant S_ .f32 0xFF800000#32
  let main_v8 : FVec F S128 .f32 := broadcastInDim S128 ![] bcast_S_S128 main_cst_1
  let main_v9 : IVec S128 1 := cmpf .ogt main_v3 main_v8
  let main_cst_2 : FVec F S_ .f32 := constant S_ .f32 0x7F800000#32
  let main_v10 : FVec F S128 .f32 := broadcastInDim S128 ![] bcast_S_S128 main_cst_2
  let main_v11 : IVec S128 1 := cmpf .olt main_v3 main_v10
  (main_v5, main_v7, main_v9, main_v11)
-- ==== Pre_finite_mix.lean ====
abbrev S8192x6144 : Shape := ⟨2, ![8192, 6144]⟩
abbrev S8192x384 : Shape := ⟨2, ![8192, 384]⟩
abbrev S2x1920 : Shape := ⟨2, ![2, 1920]⟩
abbrev S2x2x512 : Shape := ⟨3, ![2, 2, 512]⟩
abbrev S2x2x64x512 : Shape := ⟨4, ![2, 2, 64, 512]⟩
abbrev S2x128x512 : Shape := ⟨3, ![2, 128, 512]⟩
abbrev S2x512 : Shape := ⟨2, ![2, 512]⟩
abbrev S2x8x64 : Shape := ⟨3, ![2, 8, 64]⟩
abbrev S8192x1536 : Shape := ⟨2, ![8192, 1536]⟩
abbrev S1x1536 : Shape := ⟨2, ![1, 1536]⟩
abbrev S1536 : Shape := ⟨1, ![1536]⟩
abbrev S1x512 : Shape := ⟨2, ![1, 512]⟩
abbrev S512 : Shape := ⟨1, ![512]⟩
abbrev S1x8x64 : Shape := ⟨3, ![1, 8, 64]⟩
abbrev S8x64 : Shape := ⟨2, ![8, 64]⟩
abbrev S_ : Shape := ⟨0, ![]⟩

class Facts : Prop where
  slices_S8192x6144_S8192x1536_0_4608 : S8192x6144.Slices ![0, 4608] S8192x1536
  bitsLt_bf16_f32 : FTy.bits .bf16 < FTy.bits .f32
  slices_S2x1920_S1x1536_0_0 : S2x1920.Slices ![0, 0] S1x1536
  shapeCasts_S1x1536_S1536 : S1x1536.ShapeCasts S1536
  slices_S2x512_S1x512_0_0 : S2x512.Slices ![0, 0] S1x512
  shapeCasts_S1x512_S512 : S1x512.ShapeCasts S512
  slices_S2x8x64_S1x8x64_0_0_0 : S2x8x64.Slices ![0, 0, 0] S1x8x64
  shapeCasts_S1x8x64_S8x64 : S1x8x64.ShapeCasts S8x64
  bcast_S_S8192x1536 : S_.BroadcastsInDim S8192x1536 (![] : Fin 0 → Fin S8192x1536.rank)
  bcast_S_S1536 : S_.BroadcastsInDim S1536 (![] : Fin 0 → Fin S1536.rank)
  bcast_S_S512 : S_.BroadcastsInDim S512 (![] : Fin 0 → Fin S512.rank)
  bcast_S_S8x64 : S_.BroadcastsInDim S8x64 (![] : Fin 0 → Fin S8x64.rank)

variable [Facts]

def fn_part1 {F : FTy → Type} [FloatOps F] (main_v5 : FVec F S512 .f32) (main_v7 : FVec F S512 .f32) (main_v9 : FVec F S8x64 .f32) (main_v11 : IVec S8192x1536 1) (main_v13 : IVec S8192x1536 1) (main_v15 : IVec S1536 1) (main_v17 : IVec S1536 1) (main_v18 : FVec F S512 .f32) : IVec S8192x1536 1 × IVec S8192x1536 1 × IVec S1536 1 × IVec S1536 1 × IVec S512 1 × IVec S512 1 × IVec S512 1 × IVec S512 1 × IVec S8x64 1 × IVec S8x64 1 :=
  let main_v19 : IVec S512 1 := cmpf .ogt main_v5 main_v18
  let main_cst_4 : FVec F S_ .f32 := constant S_ .f32 0x7F800000#32
  let main_v20 : FVec F S512 .f32 := broadcastInDim S512 ![] bcast_S_S512 main_cst_4
  let main_v21 : IVec S512 1 := cmpf .olt main_v5 main_v20
  let main_cst_5 : FVec F S_ .f32 := constant S_ .f32 0xFF800000#32
  let main_v22 : FVec F S512 .f32 := broadcastInDim S512 ![] bcast_S_S512 main_cst_5
  let main_v23 : IVec S512 1 := cmpf .ogt main_v7 main_v22
  let main_cst_6 : FVec F S_ .f32 := constant S_ .f32 0x7F800000#32
  let main_v24 : FVec F S512 .f32 := broadcastInDim S512 ![] bcast_S_S512 main_cst_6
  let main_v25 : IVec S512 1 := cmpf .olt main_v7 main_v24
  let main_cst_7 : FVec F S_ .f32 := constant S_ .f32 0xFF800000#32
  let main_v26 : FVec F S8x64 .f32 := broadcastInDim S8x64 ![] bcast_S_S8x64 main_cst_7
  let main_v27 : IVec S8x64 1 := cmpf .ogt main_v9 main_v26
  let main_cst_8 : FVec F S_ .f32 := constant S_ .f32 0x7F800000#32
  let main_v28 : FVec F S8x64 .f32 := broadcastInDim S8x64 ![] bcast_S_S8x64 main_cst_8
  let main_v29 : IVec S8x64 1 := cmpf .olt main_v9 main_v28
  (main_v11, main_v13, main_v15, main_v17, main_v19, main_v21, main_v23, main_v25, main_v27, main_v29)

def fn {F : FTy → Type} [FloatOps F] (main_arg0 : FVec F S8192x6144 .bf16) (main_arg1 : FVec F S8192x384 .f32) (main_arg2 : FVec F S2x1920 .f32) (main_arg3 : FVec F S2x2x512 .f32) (main_arg4 : FVec F S2x2x64x512 .f32) (main_arg5 : FVec F S2x2x512 .f32) (main_arg6 : FVec F S2x2x64x512 .f32) (main_arg7 : FVec F S2x128x512 .f32) (main_arg8 : FVec F S2x512 .f32) (main_arg9 : FVec F S2x512 .f32) (main_arg10 : FVec F S2x8x64 .f32) : IVec S8192x1536 1 × IVec S8192x1536 1 × IVec S1536 1 × IVec S1536 1 × IVec S512 1 × IVec S512 1 × IVec S512 1 × IVec S512 1 × IVec S8x64 1 × IVec S8x64 1 :=
  let main_v0 : FVec F S8192x1536 .bf16 := (extractStridedSlice S8192x1536 ![0, 4608] · slices_S8192x6144_S8192x1536_0_4608) main_arg0
  let main_v1 : FVec F S8192x1536 .f32 := (extf .f32 · bitsLt_bf16_f32) main_v0
  let main_v2 : FVec F S1x1536 .f32 := (extractStridedSlice S1x1536 ![0, 0] · slices_S2x1920_S1x1536_0_0) main_arg2
  let main_v3 : FVec F S1536 .f32 := shapeCast S1536 main_v2 shapeCasts_S1x1536_S1536
  let main_v4 : FVec F S1x512 .f32 := (extractStridedSlice S1x512 ![0, 0] · slices_S2x512_S1x512_0_0) main_arg8
  let main_v5 : FVec F S512 .f32 := shapeCast S512 main_v4 shapeCasts_S1x512_S512
  let main_v6 : FVec F S1x512 .f32 := (extractStridedSlice S1x512 ![0, 0] · slices_S2x512_S1x512_0_0) main_arg9
  let main_v7 : FVec F S512 .f32 := shapeCast S512 main_v6 shapeCasts_S1x512_S512
  let main_v8 : FVec F S1x8x64 .f32 := (extractStridedSlice S1x8x64 ![0, 0, 0] · slices_S2x8x64_S1x8x64_0_0_0) main_arg10
  let main_v9 : FVec F S8x64 .f32 := shapeCast S8x64 main_v8 shapeCasts_S1x8x64_S8x64
  let main_cst : FVec F S_ .f32 := constant S_ .f32 0xFF800000#32
  let main_v10 : FVec F S8192x1536 .f32 := broadcastInDim S8192x1536 ![] bcast_S_S8192x1536 main_cst
  let main_v11 : IVec S8192x1536 1 := cmpf .ogt main_v1 main_v10
  let main_cst_0 : FVec F S_ .f32 := constant S_ .f32 0x7F800000#32
  let main_v12 : FVec F S8192x1536 .f32 := broadcastInDim S8192x1536 ![] bcast_S_S8192x1536 main_cst_0
  let main_v13 : IVec S8192x1536 1 := cmpf .olt main_v1 main_v12
  let main_cst_1 : FVec F S_ .f32 := constant S_ .f32 0xFF800000#32
  let main_v14 : FVec F S1536 .f32 := broadcastInDim S1536 ![] bcast_S_S1536 main_cst_1
  let main_v15 : IVec S1536 1 := cmpf .ogt main_v3 main_v14
  let main_cst_2 : FVec F S_ .f32 := constant S_ .f32 0x7F800000#32
  let main_v16 : FVec F S1536 .f32 := broadcastInDim S1536 ![] bcast_S_S1536 main_cst_2
  let main_v17 : IVec S1536 1 := cmpf .olt main_v3 main_v16
  let main_cst_3 : FVec F S_ .f32 := constant S_ .f32 0xFF800000#32
  let main_v18 : FVec F S512 .f32 := broadcastInDim S512 ![] bcast_S_S512 main_cst_3
  fn_part1 (F := F) main_v5 main_v7 main_v9 main_v11 main_v13 main_v15 main_v17 main_v18
-- ==== XAttn.lean ====
abbrev S4x2048x2048 : Shape := ⟨3, ![4, 2048, 2048]⟩
abbrev S4x256x1024 : Shape := ⟨3, ![4, 256, 1024]⟩
abbrev S4x2048 : Shape := ⟨2, ![4, 2048]⟩
abbrev S4x2048x512 : Shape := ⟨3, ![4, 2048, 512]⟩
abbrev S4x512x2048 : Shape := ⟨3, ![4, 512, 2048]⟩
abbrev S4x128 : Shape := ⟨2, ![4, 128]⟩
abbrev S8192x2048 : Shape := ⟨2, ![8192, 2048]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S1024x2048 : Shape := ⟨2, ![1024, 2048]⟩
abbrev S1x2048x512 : Shape := ⟨3, ![1, 2048, 512]⟩
abbrev S1x256x1024 : Shape := ⟨3, ![1, 256, 1024]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S256x1024 : Shape := ⟨2, ![256, 1024]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S1024x256 : Shape := ⟨2, ![1024, 256]⟩
abbrev S512x2048 : Shape := ⟨2, ![512, 2048]⟩

abbrev nBuf : Space → Nat
  | .hbm => 25
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S4x256x1024, .f32⟩
  | .hbm, ⟨2, _⟩ => ⟨S4x2048, .f32⟩
  | .hbm, ⟨3, _⟩ => ⟨S4x2048, .f32⟩
  | .hbm, ⟨4, _⟩ => ⟨S4x2048x512, .f32⟩
  | .hbm, ⟨5, _⟩ => ⟨S4x512x2048, .f32⟩
  | .hbm, ⟨6, _⟩ => ⟨S4x128, .f32⟩
  | .hbm, ⟨7, _⟩ => ⟨S4x128, .f32⟩
  | .hbm, ⟨8, _⟩ => ⟨S8192x2048, .f32⟩
  | .hbm, ⟨9, _⟩ => ⟨S4x2048x512, .bf16⟩
  | .hbm, ⟨10, _⟩ => ⟨S4x512x2048, .bf16⟩
  | .hbm, ⟨11, _⟩ => ⟨S1x2048, .f32⟩
  | .hbm, ⟨12, _⟩ => ⟨S2048, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S128, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S1x128, .f32⟩
  | .hbm, ⟨21, _⟩ => ⟨S1x128, .f32⟩
  | .hbm, ⟨22, _⟩ => ⟨S1x2048, .f32⟩
  | .hbm, ⟨23, _⟩ => ⟨S8192x2048, .f32⟩
  | .hbm, ⟨24, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x256x1024, .f32⟩
  | .local _ .vmem, ⟨5, _⟩ => ⟨S1x256x1024, .f32⟩
  | .local _ .vmem, ⟨6, _⟩ => ⟨S1x512x2048, .bf16⟩
  | .local _ .vmem, ⟨7, _⟩ => ⟨S1x128, .f32⟩
  | .local _ .vmem, ⟨8, _⟩ => ⟨S1x128, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | .local _ .vmem, ⟨13, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== XAttnRefIdeal.lean ====
abbrev S4x2048x2048 : Shape := ⟨3, ![4, 2048, 2048]⟩
abbrev S4x256x1024 : Shape := ⟨3, ![4, 256, 1024]⟩
abbrev S4x2048 : Shape := ⟨2, ![4, 2048]⟩
abbrev S4x2048x512 : Shape := ⟨3, ![4, 2048, 512]⟩
abbrev S4x512x2048 : Shape := ⟨3, ![4, 512, 2048]⟩
abbrev S4x128 : Shape := ⟨2, ![4, 128]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x512 : Shape := ⟨3, ![1, 2048, 512]⟩
abbrev S2048x512 : Shape := ⟨2, ![2048, 512]⟩
abbrev S4x2048x4x128 : Shape := ⟨4, ![4, 2048, 4, 128]⟩
abbrev S1x128 : Shape := ⟨2, ![1, 128]⟩
abbrev S128 : Shape := ⟨1, ![128]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S1x512x2048 : Shape := ⟨3, ![1, 512, 2048]⟩
abbrev S512x2048 : Shape := ⟨2, ![512, 2048]⟩
abbrev S8192x2048 : Shape := ⟨2, ![8192, 2048]⟩

abbrev nBuf : Space → Nat
  | .hbm => 116
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x256x1024, .f32⟩
  | .hbm, ⟨2, _⟩ => ⟨S4x2048, .f32⟩
  | .hbm, ⟨3, _⟩ => ⟨S4x2048, .f32⟩
  | .hbm, ⟨4, _⟩ => ⟨S4x2048x512, .f32⟩
  | .hbm, ⟨5, _⟩ => ⟨S4x512x2048, .f32⟩
  | .hbm, ⟨6, _⟩ => ⟨S4x128, .f32⟩
  | .hbm, ⟨7, _⟩ => ⟨S4x128, .f32⟩
  | .hbm, ⟨8, _⟩ => ⟨S1x2048, .f32⟩
  | .hbm, ⟨9, _⟩ => ⟨S2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S1x2048x512, .f32⟩
  | .hbm, ⟨27, _⟩ => ⟨S2048x512, .f32⟩
  | .hbm, ⟨28, _⟩ => ⟨S4x2048x512, .f32⟩
  | .hbm, ⟨29, _⟩ => ⟨S4x2048x4x128, .f32⟩
  | .hbm, ⟨30, _⟩ => ⟨S1x128, .f32⟩
  | .hbm, ⟨31, _⟩ => ⟨S128, .f32⟩
  | .hbm, ⟨32, _⟩ => ⟨S4x2048x4x128, .f32⟩
  | .hbm, ⟨33, _⟩ => ⟨S_, .f32⟩
  | .hbm, ⟨34, _⟩ => ⟨S4x2048x4, .f32⟩
  | .hbm, ⟨35, _⟩ => ⟨S4x2048x4x1, .f32⟩
  | .hbm, ⟨36, _⟩ => ⟨S_, .f32⟩
  | .hbm, ⟨37, _⟩ => ⟨S4x2048x4x1, .f32⟩
  | .hbm, ⟨38, _⟩ => ⟨S4x2048x4x1, .f32⟩
  | .hbm, ⟨39, _⟩ => ⟨S_, .f32⟩
  | .hbm, ⟨40, _⟩ => ⟨S4x2048x4x1, .f32⟩
  | .hbm, ⟨41, _⟩ => ⟨S4x2048x4x1, .f32⟩
  | .hbm, ⟨42, _⟩ => ⟨S4x2048x4x1, .f32⟩
  | .hbm, ⟨43, _⟩ => ⟨S4x2048x4x128, .f32⟩
  | .hbm, ⟨44, _⟩ => ⟨S4x2048x4x128, .f32⟩
  | .hbm, ⟨45, _⟩ => ⟨S1x1x1x128, .f32⟩
  | .hbm, ⟨46, _⟩ => ⟨S4x2048x4x128, .f32⟩
  | .hbm, ⟨47, _⟩ => ⟨S4x2048x4x128, .f32⟩
  | .hbm, ⟨48, _⟩ => ⟨S4x256x512, .f32⟩
  | .hbm, ⟨49, _⟩ => ⟨S4x256x4x128, .f32⟩
  | .hbm, ⟨50, _⟩ => ⟨S1x128, .f32⟩
  | .hbm, ⟨51, _⟩ => ⟨S128, .f32⟩
  | .hbm, ⟨52, _⟩ => ⟨S4x256x4x128, .f32⟩
  | .hbm, ⟨53, _⟩ => ⟨S_, .f32⟩
  | .hbm, ⟨54, _⟩ => ⟨S4x256x4, .f32⟩
  | .hbm, ⟨55, _⟩ => ⟨S4x256x4x1, .f32⟩
  | .hbm, ⟨56, _⟩ => ⟨S_, .f32⟩
  | .hbm, ⟨57, _⟩ => ⟨S4x256x4x1, .f32⟩
  | .hbm, ⟨58, _⟩ => ⟨S4x256x4x1, .f32⟩
  | .hbm, ⟨59, _⟩ => ⟨S_, .f32⟩
  | .hbm, ⟨60, _⟩ => ⟨S4x256x4x1, .f32⟩
  | .hbm, ⟨61, _⟩ => ⟨S4x256x4x1, .f32⟩
  | .hbm, ⟨62, _⟩ => ⟨S4x256x4x1, .f32⟩
  | .hbm, ⟨63, _⟩ => ⟨S4x256x4x128, .f32⟩
  | .hbm, ⟨64, _⟩ => ⟨S4x256x4x128, .f32⟩
  | .hbm, ⟨65, _⟩ => ⟨S1x1x1x128, .f32⟩
  | .hbm, ⟨66, _⟩ => ⟨S4x256x4x128, .f32⟩
  | .hbm, ⟨67, _⟩ => ⟨S4x256x4x128, .f32⟩
  | .hbm, ⟨68, _⟩ => ⟨S4x256x512, .f32⟩
  | .hbm, ⟨69, _⟩ => ⟨S4x256x4x128, .f32⟩
  | .hbm, ⟨70, _⟩ => ⟨S4x4x2048x256, .f32⟩
  | .hbm, ⟨71, _⟩ => ⟨S_, .f32⟩
  | .hbm, ⟨72, _⟩ => ⟨S4x4x2048x256, .f32⟩
  | .hbm, ⟨73, _⟩ => ⟨S4x4x2048x256, .f32⟩
  | .hbm, ⟨74, _⟩ => ⟨S_, .f32⟩
  | .hbm, ⟨75, _⟩ => ⟨S4x4x2048, .f32⟩
  | .hbm, ⟨76, _⟩ => ⟨S_, .f32⟩
  | .hbm, ⟨77, _⟩ => ⟨S4x4x2048, .f32⟩
  | .hbm, ⟨78, _⟩ => ⟨S4x4x2048, .f32⟩
  | .hbm, ⟨79, _⟩ => ⟨S4x4x2048x1, .f32⟩
  | .hbm, ⟨80, _⟩ => ⟨S4x4x2048x256, .f32⟩
  | .hbm, ⟨81, _⟩ => ⟨S4x4x2048x256, .f32⟩
  | .hbm, ⟨82, _⟩ => ⟨S4x4x2048x256, .f32⟩
  | .hbm, ⟨83, _⟩ => ⟨S_, .f32⟩
  | .hbm, ⟨84, _⟩ => ⟨S4x4x2048, .f32⟩
  | .hbm, ⟨85, _⟩ => ⟨S4x4x2048x1, .f32⟩
  | .hbm, ⟨86, _⟩ => ⟨S4x4x2048x256, .f32⟩
  | .hbm, ⟨87, _⟩ => ⟨S4x4x2048x256, .f32⟩
  | .hbm, ⟨88, _⟩ => ⟨S4x4x128x2048, .f32⟩
  | .hbm, ⟨89, _⟩ => ⟨S4x2048x4x128, .f32⟩
  | .hbm, ⟨90, _⟩ => ⟨S4x2048x512, .f32⟩
  | .hbm, ⟨91, _⟩ => ⟨S1x512x2048, .f32⟩
  | .hbm, ⟨92, _⟩ => ⟨S512x2048, .f32⟩
  | .hbm, ⟨93, _⟩ => ⟨S4x2048x2048, .f32⟩
  | .hbm, ⟨94, _⟩ => ⟨S4x2048x2048, .f32⟩
  | .hbm, ⟨95, _⟩ => ⟨S1x2048, .f32⟩
  | .hbm, ⟨96, _⟩ => ⟨S2048, .f32⟩
  | .hbm, ⟨97, _⟩ => ⟨S4x2048x2048, .f32⟩
  | .hbm, ⟨98, _⟩ => ⟨S_, .f32⟩
  | .hbm, ⟨99, _⟩ => ⟨S4x2048, .f32⟩
  | .hbm, ⟨100, _⟩ => ⟨S4x2048x1, .f32⟩
  | .hbm, ⟨101, _⟩ => ⟨S_, .f32⟩
  | .hbm, ⟨102, _⟩ => ⟨S4x2048x1, .f32⟩
  | .hbm, ⟨103, _⟩ => ⟨S4x2048x1, .f32⟩
  | .hbm, ⟨104, _⟩ => ⟨S_, .f32⟩
  | .hbm, ⟨105, _⟩ => ⟨S4x2048x1, .f32⟩
  | .hbm, ⟨106, _⟩ => ⟨S4x2048x1, .f32⟩
  | .hbm, ⟨107, _⟩ => ⟨S4x2048x1, .f32⟩
  | .hbm, ⟨108, _⟩ => ⟨S4x2048x2048, .f32⟩
  | .hbm, ⟨109, _⟩ => ⟨S4x2048x2048, .f32⟩
  | .hbm, ⟨110, _⟩ => ⟨S1x1x2048, .f32⟩
  | .hbm, ⟨111, _⟩ => ⟨S4x2048x2048, .f32⟩
  | .hbm, ⟨112, _⟩ => ⟨S4x2048x2048, .f32⟩
  | .hbm, ⟨113, _⟩ => ⟨S8192x2048, .f32⟩
  | .hbm, ⟨114, _⟩ => ⟨S8192x2048, .f32⟩
  | .hbm, ⟨115, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_cst_13 : Ref sig .tc := ⟨.hbm, 101, rfl⟩
abbrev main_v79 : Ref sig .tc := ⟨.hbm, 102, rfl⟩
abbrev main_v80 : Ref sig .tc := ⟨.hbm, 103, rfl⟩
abbrev main_cst_14 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== FfnUp.lean ====
abbrev S8192x2048 : Shape := ⟨2, ![8192, 2048]⟩
abbrev S4x2048x8192 : Shape := ⟨3, ![4, 2048, 8192]⟩
abbrev S8192x8192 : Shape := ⟨2, ![8192, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .f32⟩
  | .hbm, ⟨2, _⟩ => ⟨S8192x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpRefIdeal.lean ====
abbrev S8192x2048 : Shape := ⟨2, ![8192, 2048]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .f32⟩
  | .hbm, ⟨2, _⟩ => ⟨S8192x2048, .f32⟩
  | .hbm, ⟨3, _⟩ => ⟨S1x2048x8192, .f32⟩
  | .hbm, ⟨4, _⟩ => ⟨S2048x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnDown.lean ====
abbrev S8192x8192 : Shape := ⟨2, ![8192, 8192]⟩
abbrev S4x8192x2048 : Shape := ⟨3, ![4, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x8192 : Shape := ⟨2, ![8192, 8192]⟩
abbrev S4x8192x2048 : Shape := ⟨3, ![4, 8192, 2048]⟩
abbrev S8192x2048 : Shape := ⟨2, ![8192, 2048]⟩
abbrev S1x8192x2048 : Shape := ⟨3, ![1, 8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .f32⟩
  | .hbm, ⟨2, _⟩ => ⟨S8192x2048, .f32⟩
  | .hbm, ⟨3, _⟩ => ⟨S8192x8192, .f32⟩
  | .hbm, ⟨4, _⟩ => ⟨S1x8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ShortConv.lean ====
abbrev S8192x7168 : Shape := ⟨2, ![8192, 7168]⟩
abbrev S2x1024x3 : Shape := ⟨3, ![2, 1024, 3]⟩
abbrev S1x1024x3 : Shape := ⟨3, ![1, 1024, 3]⟩
abbrev S1024x3 : Shape := ⟨2, ![1024, 3]⟩
abbrev S3x1024 : Shape := ⟨2, ![3, 1024]⟩
abbrev S8192x1024 : Shape := ⟨2, ![8192, 1024]⟩
abbrev S2048x512 : Shape := ⟨2, ![2048, 512]⟩
abbrev S3x512 : Shape := ⟨2, ![3, 512]⟩
abbrev S2048x1 : Shape := ⟨2, ![2048, 1]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x7168, .bf16⟩
  | .hbm, ⟨1, _⟩ => ⟨S2x1024x3, .f32⟩
  | .hbm, ⟨2, _⟩ => ⟨S1x1024x3, .f32⟩
  | .hbm, ⟨3, _⟩ => ⟨S1024x3, .f32⟩
  | .hbm, ⟨4, _⟩ => ⟨S3x1024, .f32⟩
  | .hbm, ⟨5, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S2048x512, .bf16⟩
  | .local _ .vmem, ⟨9, _⟩ => ⟨S2048x512, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShortConvRefIdeal.lean ====
abbrev S8192x7168 : Shape := ⟨2, ![8192, 7168]⟩
abbrev S2x1024x3 : Shape := ⟨3, ![2, 1024, 3]⟩
abbrev S1x1024x3 : Shape := ⟨3, ![1, 1024, 3]⟩
abbrev S1024x3 : Shape := ⟨2, ![1024, 3]⟩
abbrev S4x2048x7168 : Shape := ⟨3, ![4, 2048, 7168]⟩
abbrev S4x2048x3072 : Shape := ⟨3, ![4, 2048, 3072]⟩
abbrev S4x2048x1024 : Shape := ⟨3, ![4, 2048, 1024]⟩
abbrev S_ : Shape := ⟨0, ![]⟩
abbrev S4x2050x1024 : Shape := ⟨3, ![4, 2050, 1024]⟩
abbrev S1024x1 : Shape := ⟨2, ![1024, 1]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S2x1024x3, .f32⟩
  | .hbm, ⟨2, _⟩ => ⟨S1x1024x3, .f32⟩
  | .hbm, ⟨3, _⟩ => ⟨S1024x3, .f32⟩
  | .hbm, ⟨4, _⟩ => ⟨S8192x7168, .f32⟩
  | .hbm, ⟨5, _⟩ => ⟨S4x2048x7168, .f32⟩
  | .hbm, ⟨6, _⟩ => ⟨S4x2048x3072, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S_, .i32⟩
  | .hbm, ⟨12, _⟩ => ⟨S_, .f32⟩
  | .hbm, ⟨13, _⟩ => ⟨S4x2050x1024, .f32⟩
  | .hbm, ⟨14, _⟩ => ⟨S4x2048x1024, .f32⟩
  | .hbm, ⟨15, _⟩ => ⟨S1024x1, .f32⟩
  | .hbm, ⟨16, _⟩ => ⟨S1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S1024x1, .f32⟩
  | .hbm, ⟨22, _⟩ => ⟨S1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1024x1, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S8192x1024, .f32⟩
  | .hbm, ⟨36, _⟩ => ⟨S8192x1024, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== MemKv.lean ====
abbrev S4x256x2048 : Shape := ⟨3, ![4, 256, 2048]⟩
abbrev S4x2048 : Shape := ⟨2, ![4, 2048]⟩
abbrev S4x2048x512 : Shape := ⟨3, ![4, 2048, 512]⟩
abbrev S1024x2048 : Shape := ⟨2, ![1024, 2048]⟩
abbrev S4x2048x1024 : Shape := ⟨3, ![4, 2048, 1024]⟩
abbrev S1x2048 : Shape := ⟨2, ![1, 2048]⟩
abbrev S2048 : Shape := ⟨1, ![2048]⟩
abbrev S1024x1024 : Shape := ⟨2, ![1024, 1024]⟩
abbrev S1x2048x1024 : Shape := ⟨3, ![1, 2048, 1024]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4x256x2048, .f32⟩
  | .hbm, ⟨1, _⟩ => ⟨S4x2048, .f32⟩
  | .hbm, ⟨2, _⟩ => ⟨S4x2048x512, .f32⟩
  | .hbm, ⟨3, _⟩ => ⟨S4x2048x512, .f32⟩
  | .hbm, ⟨4, _⟩ => ⟨S1024x2048, .f32⟩
  | .hbm, ⟨5, _⟩ => ⟨S4x2048x1024, .f32⟩
  | .hbm, ⟨6, _⟩ => ⟨S4x2048x1024, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1024x1024, .f32⟩
  | .local _ .vmem, ⟨0, _⟩ => ⟨S1024x2048, .f32⟩
  | .local _ .vmem, ⟨1, _⟩ => ⟨S1x2048, .f32⟩
  | .local _ .vmem, ⟨2, _⟩ => ⟨S1x2048x1024, .bf16⟩
  | .local _ .vmem, ⟨3, _⟩ => ⟨S1024x1024, .f32⟩
  | .local _ .vmem, ⟨4, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== MemKvRefIdeal.lean ====
abbrev S4x256x2048 : Shape := ⟨3, ![4, 256, 2048]⟩
abbrev S4x2048 : Shape := ⟨2, ![4, 2048]⟩
abbrev S4x2048x512 : Shape := ⟨3, ![4, 2048, 512]⟩
abbrev S1x2048 : Shape := ⟨2, ![1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x512 : Shape := ⟨3, ![1, 2048, 512]⟩
abbrev S2048x512 : Shape := ⟨2, ![2048, 512]⟩
abbrev S4x256x512 : Shape := ⟨3, ![4, 256, 512]⟩
abbrev S4x256x1024 : Shape := ⟨3, ![4, 256, 1024]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x2048, .f32⟩
  | .hbm, ⟨2, _⟩ => ⟨S4x2048x512, .f32⟩
  | .hbm, ⟨3, _⟩ => ⟨S4x2048x512, .f32⟩
  | .hbm, ⟨4, _⟩ => ⟨S1x2048, .f32⟩
  | .hbm, ⟨5, _⟩ => ⟨S2048, .f32⟩
  | .hbm, ⟨6, _⟩ => ⟨S4x256x2048, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S4x256x1, .f32⟩
  | .hbm, ⟨17, _⟩ => ⟨S4x256x2048, .f32⟩
  | .hbm, ⟨18, _⟩ => ⟨S4x256x2048, .f32⟩
  | .hbm, ⟨19, _⟩ => ⟨S1x1x2048, .f32⟩
  | .hbm, ⟨20, _⟩ => ⟨S4x256x2048, .f32⟩
  | .hbm, ⟨21, _⟩ => ⟨S4x256x2048, .f32⟩
  | .hbm, ⟨22, _⟩ => ⟨S1x2048x512, .f32⟩
  | .hbm, ⟨23, _⟩ => ⟨S2048x512, .f32⟩
  | .hbm, ⟨24, _⟩ => ⟨S4x256x512, .f32⟩
  | .hbm, ⟨25, _⟩ => ⟨S1x2048x512, .f32⟩
  | .hbm, ⟨26, _⟩ => ⟨S2048x512, .f32⟩
  | .hbm, ⟨27, _⟩ => ⟨S4x256x512, .f32⟩
  | .hbm, ⟨28, _⟩ => ⟨S4x256x1024, .f32⟩
  | .hbm, ⟨29, _⟩ => ⟨S1024x1024, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== EvenIn.lean ====
abbrev S4x2048x2048 : Shape := ⟨3, ![4, 2048, 2048]⟩
abbrev S4x2048 : Shape := ⟨2, ![4, 2048]⟩
abbrev S2x2048x7200 : Shape := ⟨3, ![2, 2048, 7200]⟩
abbrev S8192x2048 : Shape := ⟨2, ![8192, 2048]⟩
abbrev S2x2048x3072 : Shape := ⟨3, ![2, 2048, 3072]⟩
abbrev S1x2048 : Shape := ⟨2, ![1, 2048]⟩
abbrev S2048 : Shape := ⟨1, ![2048]⟩
abbrev S1x2048x32 : Shape := ⟨3, ![1, 2048, 32]⟩
abbrev S2048x32 : Shape := ⟨2, ![2048, 32]⟩
abbrev S32x2048 : Shape := ⟨2, ![32, 2048]⟩
abbrev S8192x7168 : Shape := ⟨2, ![8192, 7168]⟩
abbrev S32x8192 : Shape := ⟨2, ![32, 8192]⟩
abbrev S1024x2048 : Shape := ⟨2, ![1024, 2048]⟩
abbrev S1x2048x1024 : Shape := ⟨3, ![1, 2048, 1024]⟩
abbrev S1024x1024 : Shape := ⟨2, ![1024, 1024]⟩
abbrev S32x1024 : Shape := ⟨2, ![32, 1024]⟩
abbrev S256x2048 : Shape := ⟨2, ![256, 2048]⟩
abbrev S256 : Shape := ⟨1, ![256]⟩
abbrev S256x1 : Shape := ⟨2, ![256, 1]⟩
abbrev S32x256 : Shape := ⟨2, ![32, 256]⟩
abbrev S2048x1024 : Shape := ⟨2, ![2048, 1024]⟩
abbrev S256x1024 : Shape := ⟨2, ![256, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S2x2048x7200, .f32⟩
  | .hbm, ⟨3, _⟩ => ⟨S8192x2048, .f32⟩
  | .hbm, ⟨4, _⟩ => ⟨S2x2048x7200, .bf16⟩
  | .hbm, ⟨5, _⟩ => ⟨S2x2048x3072, .bf16⟩
  | .hbm, ⟨6, _⟩ => ⟨S1x2048, .f32⟩
  | .hbm, ⟨7, _⟩ => ⟨S2048, .f32⟩
  | .hbm, ⟨8, _⟩ => ⟨S1x2048x32, .f32⟩
  | .hbm, ⟨9, _⟩ => ⟨S2048x32, .f32⟩
  | .hbm, ⟨10, _⟩ => ⟨S32x2048, .f32⟩
  | .hbm, ⟨11, _⟩ => ⟨S1x2048, .f32⟩
  | .hbm, ⟨12, _⟩ => ⟨S8192x7168, .bf16⟩
  | .hbm, ⟨13, _⟩ => ⟨S32x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S32x2048, .f32⟩
  | .local _ .vmem, ⟨8, _⟩ => ⟨S1024x1024, .bf16⟩
  | .local _ .vmem, ⟨9, _⟩ => ⟨S1024x1024, .bf16⟩
  | .local _ .vmem, ⟨10, _⟩ => ⟨S32x1024, .f32⟩
  | .local _ .vmem, ⟨11, _⟩ => ⟨S32x1024, .f32⟩
  | .local _ .vmem, ⟨12, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== EvenInRefIdeal.lean ====
abbrev S4x2048x2048 : Shape := ⟨3, ![4, 2048, 2048]⟩
abbrev S4x2048 : Shape := ⟨2, ![4, 2048]⟩
abbrev S2x2048x7200 : Shape := ⟨3, ![2, 2048, 7200]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x7200 : Shape := ⟨3, ![1, 2048, 7200]⟩
abbrev S2048x7200 : Shape := ⟨2, ![2048, 7200]⟩
abbrev S4x2048x7200 : Shape := ⟨3, ![4, 2048, 7200]⟩
abbrev S8192x7200 : Shape := ⟨2, ![8192, 7200]⟩
abbrev S8192x4096 : Shape := ⟨2, ![8192, 4096]⟩
abbrev S8192x3072 : Shape := ⟨2, ![8192, 3072]⟩
abbrev S8192x7168 : Shape := ⟨2, ![8192, 7168]⟩
abbrev S8192x32 : Shape := ⟨2, ![8192, 32]⟩
abbrev S32x8192 : Shape := ⟨2, ![32, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S2x2048x7200, .f32⟩
  | .hbm, ⟨3, _⟩ => ⟨S1x2048, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S1x2048x7200, .f32⟩
  | .hbm, ⟨22, _⟩ => ⟨S2048x7200, .f32⟩
  | .hbm, ⟨23, _⟩ => ⟨S4x2048x7200, .f32⟩
  | .hbm, ⟨24, _⟩ => ⟨S8192x7200, .f32⟩
  | .hbm, ⟨25, _⟩ => ⟨S8192x4096, .f32⟩
  | .hbm, ⟨26, _⟩ => ⟨S8192x3072, .f32⟩
  | .hbm, ⟨27, _⟩ => ⟨S8192x7168, .f32⟩
  | .hbm, ⟨28, _⟩ => ⟨S8192x7168, .bf16⟩
  | .hbm, ⟨29, _⟩ => ⟨S8192x32, .f32⟩
  | .hbm, ⟨30, _⟩ => ⟨S32x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== OddIn.lean ====
abbrev S8192x2048 : Shape := ⟨2, ![8192, 2048]⟩
abbrev S4x2048 : Shape := ⟨2, ![4, 2048]⟩
abbrev S2x2048x6528 : Shape := ⟨3, ![2, 2048, 6528]⟩
abbrev S1x2048 : Shape := ⟨2, ![1, 2048]⟩
abbrev S2048 : Shape := ⟨1, ![2048]⟩
abbrev S1x2048x384 : Shape := ⟨3, ![1, 2048, 384]⟩
abbrev S2048x384 : Shape := ⟨2, ![2048, 384]⟩
abbrev S8192x6144 : Shape := ⟨2, ![8192, 6144]⟩
abbrev S8192x384 : Shape := ⟨2, ![8192, 384]⟩
abbrev S1024x2048 : Shape := ⟨2, ![1024, 2048]⟩
abbrev S1x2048x1024 : Shape := ⟨3, ![1, 2048, 1024]⟩
abbrev S1024x1024 : Shape := ⟨2, ![1024, 1024]⟩
abbrev S1024x384 : Shape := ⟨2, ![1024, 384]⟩
abbrev S256x2048 : Shape := ⟨2, ![256, 2048]⟩
abbrev S256 : Shape := ⟨1, ![256]⟩
abbrev S256x1 : Shape := ⟨2, ![256, 1]⟩
abbrev S256x384 : Shape := ⟨2, ![256, 384]⟩
abbrev S2048x1024 : Shape := ⟨2, ![2048, 1024]⟩
abbrev S256x1024 : Shape := ⟨2, ![256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x6528, .f32⟩
  | .hbm, ⟨3, _⟩ => ⟨S2x2048x6528, .bf16⟩
  | .hbm, ⟨4, _⟩ => ⟨S1x2048, .f32⟩
  | .hbm, ⟨5, _⟩ => ⟨S2048, .f32⟩
  | .hbm, ⟨6, _⟩ => ⟨S1x2048x384, .f32⟩
  | .hbm, ⟨7, _⟩ => ⟨S2048x384, .f32⟩
  | .hbm, ⟨8, _⟩ => ⟨S1x2048, .f32⟩
  | .hbm, ⟨9, _⟩ => ⟨S8192x6144, .bf16⟩
  | .hbm, ⟨10, _⟩ => ⟨S8192x384, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S2048x384, .f32⟩
  | .local _ .vmem, ⟨6, _⟩ => ⟨S1024x1024, .bf16⟩
  | .local _ .vmem, ⟨7, _⟩ => ⟨S1024x1024, .bf16⟩
  | .local _ .vmem, ⟨8, _⟩ => ⟨S1024x384, .f32⟩
  | .local _ .vmem, ⟨9, _⟩ => ⟨S1024x384, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OddInRefIdeal.lean ====
abbrev S8192x2048 : Shape := ⟨2, ![8192, 2048]⟩
abbrev S4x2048 : Shape := ⟨2, ![4, 2048]⟩
abbrev S2x2048x6528 : Shape := ⟨3, ![2, 2048, 6528]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x6528 : Shape := ⟨3, ![1, 2048, 6528]⟩
abbrev S2048x6528 : Shape := ⟨2, ![2048, 6528]⟩
abbrev S8192x6528 : Shape := ⟨2, ![8192, 6528]⟩
abbrev S8192x6144 : Shape := ⟨2, ![8192, 6144]⟩
abbrev S8192x384 : Shape := ⟨2, ![8192, 384]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x6528, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x6528, .f32⟩
  | .hbm, ⟨22, _⟩ => ⟨S2048x6528, .f32⟩
  | .hbm, ⟨23, _⟩ => ⟨S8192x6528, .f32⟩
  | .hbm, ⟨24, _⟩ => ⟨S8192x6144, .f32⟩
  | .hbm, ⟨25, _⟩ => ⟨S8192x6144, .bf16⟩
  | .hbm, ⟨26, _⟩ => ⟨S8192x384, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== EvenOut.lean ====
abbrev S8192x1024 : Shape := ⟨2, ![8192, 1024]⟩
abbrev S2x2048x2048 : Shape := ⟨3, ![2, 2048, 2048]⟩
abbrev S4x2048x2048 : Shape := ⟨3, ![4, 2048, 2048]⟩
abbrev S8192x2048 : Shape := ⟨2, ![8192, 2048]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x2048x2048, .f32⟩
  | .hbm, ⟨3, _⟩ => ⟨S4x2048x2048, .f32⟩
  | .hbm, ⟨4, _⟩ => ⟨S8192x2048, .f32⟩
  | .hbm, ⟨5, _⟩ => ⟨S2x2048x2048, .bf16⟩
  | .hbm, ⟨6, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c0_i32_2 : BitVec 32 := 0#32
  let v6 : BitVec 1 := Scalar.cmpi .eq arg2 c0_i32_2
  let v7 : BitVec 32 := Scalar.extui v6
  let c0_i32_3 : BitVec 32 := 0#32
  let v8 : BitVec 1 := Scalar.cmpi .ne v7 c0_i32_3
  v8

def k0_cond3 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def k0_cond4 (i : grid0.Coords) : BitVec 1 :=
  let arg2 : BitVec 32 := BitVec.ofNat 32 (i 2).val
  let c1_i32_0 : BitVec 32 := 1#32
  let v3 : BitVec 1 := Scalar.cmpi .sge arg2 c1_i32_0
  let v4 : BitVec 32 := Scalar.extui v3
  let c0_i32_1 : BitVec 32 := 0#32
  let v5 : BitVec 1 := Scalar.cmpi .ne v4 c0_i32_1
  v5

def k0_cond5 (i : grid0.Coords) : BitVec 1 :=
  let arg2 : BitVec 32 := BitVec.ofNat 32 (i 2).val
  let c0_i32_2 : BitVec 32 := 0#32
  let v6 : BitVec 1 := Scalar.cmpi .eq arg2 c0_i32_2
  let v7 : BitVec 32 := Scalar.extui v6
  let c0_i32_3 : BitVec 32 := 0#32
  let v8 : BitVec 1 := Scalar.cmpi .ne v7 c0_i32_3
  v8

def k0_cond6 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== EvenOutRefIdeal.lean ====
abbrev S8192x1024 : Shape := ⟨2, ![8192, 1024]⟩
abbrev S2x2048x2048 : Shape := ⟨3, ![2, 2048, 2048]⟩
abbrev S4x2048x2048 : Shape := ⟨3, ![4, 2048, 2048]⟩
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x2048x2048, .f32⟩
  | .hbm, ⟨3, _⟩ => ⟨S4x2048x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S8192x2048, .f32⟩
  | .hbm, ⟨11, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OddOut.lean ====
abbrev S8192x512 : Shape := ⟨2, ![8192, 512]⟩
abbrev S2x1024x2048 : Shape := ⟨3, ![2, 1024, 2048]⟩
abbrev S8192x2048 : Shape := ⟨2, ![8192, 2048]⟩
abbrev S1024x512 : Shape := ⟨2, ![1024, 512]⟩
abbrev S1x512x2048 : Shape := ⟨3, ![1, 512, 2048]⟩
abbrev S1024x2048 : Shape := ⟨2, ![1024, 2048]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S2x1024x2048, .f32⟩
  | .hbm, ⟨3, _⟩ => ⟨S8192x2048, .f32⟩
  | .hbm, ⟨4, _⟩ => ⟨S2x1024x2048, .bf16⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c0_i32_2 : BitVec 32 := 0#32
  let v6 : BitVec 1 := Scalar.cmpi .eq arg2 c0_i32_2
  let v7 : BitVec 32 := Scalar.extui v6
  let c0_i32_3 : BitVec 32 := 0#32
  let v8 : BitVec 1 := Scalar.cmpi .ne v7 c0_i32_3
  v8

def k0_cond3 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def k0_cond4 (i : grid0.Coords) : BitVec 1 :=
  let arg2 : BitVec 32 := BitVec.ofNat 32 (i 2).val
  let c1_i32_0 : BitVec 32 := 1#32
  let v3 : BitVec 1 := Scalar.cmpi .sge arg2 c1_i32_0
  let v4 : BitVec 32 := Scalar.extui v3
  let c0_i32_1 : BitVec 32 := 0#32
  let v5 : BitVec 1 := Scalar.cmpi .ne v4 c0_i32_1
  v5

def k0_cond5 (i : grid0.Coords) : BitVec 1 :=
  let arg2 : BitVec 32 := BitVec.ofNat 32 (i 2).val
  let c0_i32_2 : BitVec 32 := 0#32
  let v6 : BitVec 1 := Scalar.cmpi .eq arg2 c0_i32_2
  let v7 : BitVec 32 := Scalar.extui v6
  let c0_i32_3 : BitVec 32 := 0#32
  let v8 : BitVec 1 := Scalar.cmpi .ne v7 c0_i32_3
  v8

def k0_cond6 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OddOutRefIdeal.lean ====
abbrev S8192x512 : Shape := ⟨2, ![8192, 512]⟩
abbrev S2x1024x2048 : Shape := ⟨3, ![2, 1024, 2048]⟩
abbrev S8192x2048 : Shape := ⟨2, ![8192, 2048]⟩
abbrev S8192x1024 : Shape := ⟨2, ![8192, 1024]⟩
abbrev S1x1024x2048 : Shape := ⟨3, ![1, 1024, 2048]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S2x1024x2048, .f32⟩
  | .hbm, ⟨3, _⟩ => ⟨S8192x2048, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S1x1024x2048, .f32⟩
  | .hbm, ⟨8, _⟩ => ⟨S1024x2048, .f32⟩
  | .hbm, ⟨9, _⟩ => ⟨S8192x2048, .f32⟩
  | .hbm, ⟨10, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== RwPrep.lean ====
abbrev S8192x6144 : Shape := ⟨2, ![8192, 6144]⟩
abbrev S8192x384 : Shape := ⟨2, ![8192, 384]⟩
abbrev S2x1920 : Shape := ⟨2, ![2, 1920]⟩
abbrev S2x2x512 : Shape := ⟨3, ![2, 2, 512]⟩
abbrev S2x2x64x512 : Shape := ⟨4, ![2, 2, 64, 512]⟩
abbrev S2x128x512 : Shape := ⟨3, ![2, 128, 512]⟩
abbrev S2x512 : Shape := ⟨2, ![2, 512]⟩
abbrev S2x8x64 : Shape := ⟨3, ![2, 8, 64]⟩
abbrev S1x1920 : Shape := ⟨2, ![1, 1920]⟩
abbrev S1920 : Shape := ⟨1, ![1920]⟩
abbrev S1x2x512 : Shape := ⟨3, ![1, 2, 512]⟩
abbrev S1x2x64x512 : Shape := ⟨4, ![1, 2, 64, 512]⟩
abbrev S2x64x512 : Shape := ⟨3, ![2, 64, 512]⟩
abbrev S1x128x512 : Shape := ⟨3, ![1, 128, 512]⟩
abbrev S128x512 : Shape := ⟨2, ![128, 512]⟩
abbrev S1x512 : Shape := ⟨2, ![1, 512]⟩
abbrev S512 : Shape := ⟨1, ![512]⟩
abbrev S1x8x64 : Shape := ⟨3, ![1, 8, 64]⟩
abbrev S8x64 : Shape := ⟨2, ![8, 64]⟩
abbrev S1536 : Shape := ⟨1, ![1536]⟩
abbrev S1x1536 : Shape := ⟨2, ![1, 1536]⟩
abbrev S384 : Shape := ⟨1, ![384]⟩
abbrev S1x384 : Shape := ⟨2, ![1, 384]⟩
abbrev S8192x512 : Shape := ⟨2, ![8192, 512]⟩
abbrev S2048x128 : Shape := ⟨2, ![2048, 128]⟩
abbrev S2048x384 : Shape := ⟨2, ![2048, 384]⟩
abbrev S1x128 : Shape := ⟨2, ![1, 128]⟩
abbrev S2x128 : Shape := ⟨2, ![2, 128]⟩
abbrev S2x64x128 : Shape := ⟨3, ![2, 64, 128]⟩
abbrev S128x128 : Shape := ⟨2, ![128, 128]⟩
abbrev S2048x1 : Shape := ⟨2, ![2048, 1]⟩
abbrev S2048x64 : Shape := ⟨2, ![2048, 64]⟩
abbrev S1x64x128 : Shape := ⟨3, ![1, 64, 128]⟩
abbrev S64x128 : Shape := ⟨2, ![64, 128]⟩

abbrev nBuf : Space → Nat
  | .hbm => 47
  | .vmem => 53
  | .smem => 0
  | _ => 0

abbrev bufTy : (tb : Table) → Fin (tcTables nBuf tb) → BufTy
  | .hbm, ⟨0, _⟩ => ⟨S8192x6144, .bf16⟩
  | .hbm, ⟨1, _⟩ => ⟨S8192x384, .f32⟩
  | .hbm, ⟨2, _⟩ => ⟨S2x1920, .f32⟩
  | .hbm, ⟨3, _⟩ => ⟨S2x2x512, .f32⟩
  | .hbm, ⟨4, _⟩ => ⟨S2x2x64x512, .f32⟩
  | .hbm, ⟨5, _⟩ => ⟨S2x2x512, .f32⟩
  | .hbm, ⟨6, _⟩ => ⟨S2x2x64x512, .f32⟩
  | .hbm, ⟨7, _⟩ => ⟨S2x128x512, .f32⟩
  | .hbm, ⟨8, _⟩ => ⟨S2x512, .f32⟩
  | .hbm, ⟨9, _⟩ => ⟨S2x512, .f32⟩
  | .hbm, ⟨10, _⟩ => ⟨S2x8x64, .f32⟩
  | .hbm, ⟨11, _⟩ => ⟨S1x1920, .f32⟩
  | .hbm, ⟨12, _⟩ => ⟨S1920, .f32⟩
  | .hbm, ⟨13, _⟩ => ⟨S1x2x512, .f32⟩
  | .hbm, ⟨14, _⟩ => ⟨S2x512, .f32⟩
  | .hbm, ⟨15, _⟩ => ⟨S1x2x64x512, .f32⟩
  | .hbm, ⟨16, _⟩ => ⟨S2x64x512, .f32⟩
  | .hbm, ⟨17, _⟩ => ⟨S1x2x512, .f32⟩
  | .hbm, ⟨18, _⟩ => ⟨S2x512, .f32⟩
  | .hbm, ⟨19, _⟩ => ⟨S1x2x64x512, .f32⟩
  | .hbm, ⟨20, _⟩ => ⟨S2x64x512, .f32⟩
  | .hbm, ⟨21, _⟩ => ⟨S1x128x512, .f32⟩
  | .hbm, ⟨22, _⟩ => ⟨S128x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S512, .f32⟩
  | .hbm, ⟨27, _⟩ => ⟨S1x8x64, .f32⟩
  | .hbm, ⟨28, _⟩ => ⟨S8x64, .f32⟩
  | .hbm, ⟨29, _⟩ => ⟨S1536, .f32⟩
  | .hbm, ⟨30, _⟩ => ⟨S1x1536, .f32⟩
  | .hbm, ⟨31, _⟩ => ⟨S384, .f32⟩
  | .hbm, ⟨32, _⟩ => ⟨S1x384, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x384, .f32⟩
  | .local _ .vmem, ⟨7, _⟩ => ⟨S2048x384, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x384, .f32⟩
  | .local _ .vmem, ⟨15, _⟩ => ⟨S2x128, .f32⟩
  | .local _ .vmem, ⟨16, _⟩ => ⟨S2x128, .f32⟩
  | .local _ .vmem, ⟨17, _⟩ => ⟨S2x64x128, .f32⟩
  | .local _ .vmem, ⟨18, _⟩ => ⟨S2x64x128, .f32⟩
  | .local _ .vmem, ⟨19, _⟩ => ⟨S2x128, .f32⟩
  | .local _ .vmem, ⟨20, _⟩ => ⟨S2x128, .f32⟩
  | .local _ .vmem, ⟨21, _⟩ => ⟨S2x64x128, .f32⟩
  | .local _ .vmem, ⟨22, _⟩ => ⟨S2x64x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | .local _ .vmem, ⟨45, _⟩ => ⟨S2048x128, .f32⟩
  | .local _ .vmem, ⟨46, _⟩ => ⟨S2048x128, .f32⟩
  | .local _ .vmem, ⟨47, _⟩ => ⟨S2048x128, .f32⟩
  | .local _ .vmem, ⟨48, _⟩ => ⟨S2048x128, .f32⟩
  | .local _ .vmem, ⟨49, _⟩ => ⟨S2048x128, .f32⟩
  | .local _ .vmem, ⟨50, _⟩ => ⟨S2048x128, .f32⟩
  | .local _ .vmem, ⟨51, _⟩ => ⟨S2048x128, .f32⟩
  | .local _ .vmem, ⟨52, _⟩ => ⟨S2048x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev main_v25_6 : Ref sig .tc := ⟨.hbm, 42, rfl⟩
abbrev main_v25_7 : Ref sig .tc := ⟨.hbm, 43, rfl⟩
abbrev main_v25_8 : Ref sig .tc := ⟨.hbm, 44, rfl⟩
abbrev main_v25_9 : Ref sig .tc := ⟨.hbm, 45, rfl⟩
abbrev main_v25_10 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_stg24_0 : Ref sig .tc := ⟨.vmem, 47, rfl⟩
abbrev cc0_stg24_1 : Ref sig .tc := ⟨.vmem, 48, rfl⟩
abbrev cc0_stg25_0 : Ref sig .tc := ⟨.vmem, 49, rfl⟩
abbrev cc0_stg25_1 : Ref sig .tc := ⟨.vmem, 50, rfl⟩
abbrev cc0_stg26_0 : Ref sig .tc := ⟨.vmem, 51, rfl⟩
abbrev cc0_stg26_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48
abbrev cc0_sem25_0 : DmaSem sig := 49
abbrev cc0_sem25_1 : DmaSem sig := 50
abbrev cc0_sem26_0 : DmaSem sig := 51
abbrev cc0_sem26_1 : DmaSem sig := 52

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2048x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2048x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S2048x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S2048x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S2048x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S2048x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S2048x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S2048x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S2048x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S2048x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== RwPrepRefIdeal.lean ====
abbrev S8192x6144 : Shape := ⟨2, ![8192, 6144]⟩
abbrev S8192x384 : Shape := ⟨2, ![8192, 384]⟩
abbrev S2x1920 : Shape := ⟨2, ![2, 1920]⟩
abbrev S2x2x512 : Shape := ⟨3, ![2, 2, 512]⟩
abbrev S2x2x64x512 : Shape := ⟨4, ![2, 2, 64, 512]⟩
abbrev S2x128x512 : Shape := ⟨3, ![2, 128, 512]⟩
abbrev S2x512 : Shape := ⟨2, ![2, 512]⟩
abbrev S2x8x64 : Shape := ⟨3, ![2, 8, 64]⟩
abbrev S8192x1536 : Shape := ⟨2, ![8192, 1536]⟩
abbrev S8192x1920 : Shape := ⟨2, ![8192, 1920]⟩
abbrev S4x2048x1920 : Shape := ⟨3, ![4, 2048, 1920]⟩
abbrev S1x1920 : Shape := ⟨2, ![1, 1920]⟩
abbrev S1920 : Shape := ⟨1, ![1920]⟩
abbrev S_ : Shape := ⟨0, ![]⟩
abbrev S4x2050x1920 : Shape := ⟨3, ![4, 2050, 1920]⟩
abbrev S1x1x1920 : Shape := ⟨3, ![1, 1, 1920]⟩
abbrev S4x2048x512 : Shape := ⟨3, ![4, 2048, 512]⟩
abbrev S4x2048x64 : Shape := ⟨3, ![4, 2048, 64]⟩
abbrev S4x2048x128 : Shape := ⟨3, ![4, 2048, 128]⟩
abbrev S1x512 : Shape := ⟨2, ![1, 512]⟩
abbrev S512 : Shape := ⟨1, ![512]⟩
abbrev S1x1x512 : Shape := ⟨3, ![1, 1, 512]⟩
abbrev S4x2048x8x64 : Shape := ⟨4, ![4, 2048, 8, 64]⟩
abbrev S4x2048x8 : Shape := ⟨3, ![4, 2048, 8]⟩
abbrev S4x2048x8x1 : Shape := ⟨4, ![4, 2048, 8, 1]⟩
abbrev S1x128x512 : Shape := ⟨3, ![1, 128, 512]⟩
abbrev S128x512 : Shape := ⟨2, ![128, 512]⟩
abbrev S1x1x64x512 : Shape := ⟨4, ![1, 1, 64, 512]⟩
abbrev S64x512 : Shape := ⟨2, ![64, 512]⟩
abbrev S8192x512 : Shape := ⟨2, ![8192, 512]⟩
abbrev S1x8x64 : Shape := ⟨3, ![1, 8, 64]⟩
abbrev S8x64 : Shape := ⟨2, ![8, 64]⟩
abbrev S1x1x8x64 : Shape := ⟨4, ![1, 1, 8, 64]⟩

abbrev nBuf : Space → Nat
  | .hbm => 224
  | .vmem => 0
  | .smem => 0
  | _ => 0

abbrev hbmTy0_0 (i : Nat) : BufTy := match i % 128 with
  | 0 => ⟨S8192x6144, .bf16⟩
  | 1 => ⟨S8192x384, .f32⟩
  | 2 => ⟨S2x1920, .f32⟩
  | 3 => ⟨S2x2x512, .f32⟩
  | 4 => ⟨S2x2x64x512, .f32⟩
  | 5 => ⟨S2x2x512, .f32⟩
  | 6 => ⟨S2x2x64x512, .f32⟩
  | 7 => ⟨S2x128x512, .f32⟩
  | 8 => ⟨S2x512, .f32⟩
  | 9 => ⟨S2x512, .f32⟩
  | 10 => ⟨S2x8x64, .f32⟩
  | 11 => ⟨S8192x1536, .bf16⟩
  | 12 => ⟨S8192x1536, .f32⟩
  | 13 => ⟨S8192x1920, .f32⟩
  | 14 => ⟨S4x2048x1920, .f32⟩
  | 15 => ⟨S1x1920, .f32⟩
  | 16 => ⟨S1920, .f32⟩
  | 17 => ⟨S_, .i32⟩
  | 18 => ⟨S_, .f32⟩
  | 19 => ⟨S4x2050x1920, .f32⟩
  | 20 => ⟨S4x2048x1920, .f32⟩
  | 21 => ⟨S4x2048x1920, .f32⟩
  | 22 => ⟨S4x2048x1920, .f32⟩
  | 23 => ⟨S_, .f32⟩
  | 24 => ⟨S4x2048x1920, .f32⟩
  | 25 => ⟨S4x2048x1920, .f32⟩
  | 26 => ⟨S4x2048x1920, .f32⟩
  | 27 => ⟨S1x1x1920, .f32⟩
  | 28 => ⟨S4x2048x1920, .f32⟩
  | 29 => ⟨S4x2048x1920, .f32⟩
  | 30 => ⟨S4x2048x1920, .f32⟩
  | 31 => ⟨S4x2048x512, .f32⟩
  | 32 => ⟨S4x2048x512, .f32⟩
  | 33 => ⟨S4x2048x512, .f32⟩
  | 34 => ⟨S4x2048x64, .f32⟩
  | 35 => ⟨S4x2048x64, .f32⟩
  | 36 => ⟨S4x2048x64, .f32⟩
  | 37 => ⟨S4x2048x64, .f32⟩
  | 38 => ⟨S4x2048x128, .f32⟩
  | 39 => ⟨S1x512, .f32⟩
  | 40 => ⟨S512, .f32⟩
  | 41 => ⟨S1x1x512, .f32⟩
  | 42 => ⟨S4x2048x512, .f32⟩
  | 43 => ⟨S4x2048x512, .f32⟩
  | 44 => ⟨S4x2048x8x64, .f32⟩
  | 45 => ⟨S4x2048x8x64, .f32⟩
  | 46 => ⟨S_, .f32⟩
  | 47 => ⟨S4x2048x8, .f32⟩
  | 48 => ⟨S4x2048x8x1, .f32⟩
  | 49 => ⟨S_, .f32⟩
  | 50 => ⟨S4x2048x8x1, .f32⟩
  | 51 => ⟨S4x2048x8x1, .f32⟩
  | 52 => ⟨S4x2048x8x1, .f32⟩
  | 53 => ⟨S4x2048x8x64, .f32⟩
  | 54 => ⟨S4x2048x8x64, .f32⟩
  | 55 => ⟨S4x2048x128, .f32⟩
  | 56 => ⟨S4x2048x128, .f32⟩
  | 57 => ⟨S_, .f32⟩
  | 58 => ⟨S4x2048x128, .f32⟩
  | 59 => ⟨S4x2048x128, .f32⟩
  | 60 => ⟨S_, .f32⟩
  | 61 => ⟨S4x2048x128, .f32⟩
  | 62 => ⟨S4x2048x128, .f32⟩
  | 63 => ⟨S1x128x512, .f32⟩
  | 64 => ⟨S128x512, .f32⟩
  | 65 => ⟨S4x2048x512, .f32⟩
  | 66 => ⟨S4x2048x8x64, .f32⟩
  | 67 => ⟨S4x2048x8x64, .f32⟩
  | 68 => ⟨S1x1x512, .f32⟩
  | 69 => ⟨S512, .f32⟩
  | 70 => ⟨S4x2048x64, .f32⟩
  | 71 => ⟨S1x1x64x512, .f32⟩
  | 72 => ⟨S64x512, .f32⟩
  | 73 => ⟨S4x2048x512, .f32⟩
  | 74 => ⟨S1x1x512, .f32⟩
  | 75 => ⟨S4x2048x512, .f32⟩
  | 76 => ⟨S4x2048x512, .f32⟩
  | 77 => ⟨S4x2048x512, .f32⟩
  | 78 => ⟨S_, .f32⟩
  | 79 => ⟨S4x2048x512, .f32⟩
  | 80 => ⟨S4x2048x512, .f32⟩
  | 81 => ⟨S4x2048x512, .f32⟩
  | 82 => ⟨S4x2048x512, .f32⟩
  | 83 => ⟨S4x2048x512, .i1⟩
  | 84 => ⟨S4x2048x512, .f32⟩
  | 85 => ⟨S4x2048x512, .f32⟩
  | 86 => ⟨S4x2048x512, .f32⟩
  | 87 => ⟨S4x2048x512, .f32⟩
  | 88 => ⟨S4x2048x512, .f32⟩
  | 89 => ⟨S4x2048x512, .f32⟩
  | 90 => ⟨S4x2048x512, .f32⟩
  | 91 => ⟨S4x2048x512, .f32⟩
  | 92 => ⟨S4x2048x512, .f32⟩
  | 93 => ⟨S_, .f32⟩
  | 94 => ⟨S4x2048x512, .f32⟩
  | 95 => ⟨S4x2048x512, .f32⟩
  | 96 => ⟨S1x1x512, .f32⟩
  | 97 => ⟨S512, .f32⟩
  | 98 => ⟨S1x1x64x512, .f32⟩
  | 99 => ⟨S64x512, .f32⟩
  | 100 => ⟨S4x2048x512, .f32⟩
  | 101 => ⟨S1x1x512, .f32⟩
  | 102 => ⟨S4x2048x512, .f32⟩
  | 103 => ⟨S4x2048x512, .f32⟩
  | 104 => ⟨S4x2048x512, .f32⟩
  | 105 => ⟨S4x2048x512, .f32⟩
  | 106 => ⟨S_, .f32⟩
  | 107 => ⟨S4x2048x512, .f32⟩
  | 108 => ⟨S4x2048x512, .f32⟩
  | 109 => ⟨S_, .f32⟩
  | 110 => ⟨S4x2048x512, .f32⟩
  | 111 => ⟨S4x2048x512, .f32⟩
  | 112 => ⟨S_, .f32⟩
  | 113 => ⟨S4x2048x512, .f32⟩
  | 114 => ⟨S4x2048x512, .f32⟩
  | 115 => ⟨S1x512, .f32⟩
  | 116 => ⟨S512, .f32⟩
  | 117 => ⟨S1x1x512, .f32⟩
  | 118 => ⟨S4x2048x512, .f32⟩
  | 119 => ⟨S4x2048x512, .f32⟩
  | 120 => ⟨S_, .f32⟩
  | 121 => ⟨S4x2048x512, .f32⟩
  | 122 => ⟨S4x2048x512, .f32⟩
  | 123 => ⟨S4x2048x512, .f32⟩
  | 124 => ⟨S4x2048x8x64, .f32⟩
  | 125 => ⟨S4x2048x512, .f32⟩
  | 126 => ⟨S4x2048x512, .f32⟩
  | 127 => ⟨S8192x512, .f32⟩
  | _ => ⟨S8192x6144, .bf16⟩

abbrev hbmTy0_1 (i : Nat) : BufTy := match i % 128 with
  | 0 => ⟨S8192x512, .f32⟩
  | 1 => ⟨S4x2048x8x64, .f32⟩
  | 2 => ⟨S4x2048x8x64, .f32⟩
  | 3 => ⟨S8192x512, .f32⟩
  | 4 => ⟨S4x2048x8x64, .f32⟩
  | 5 => ⟨S1x8x64, .f32⟩
  | 6 => ⟨S8x64, .f32⟩
  | 7 => ⟨S1x1x8x64, .f32⟩
  | 8 => ⟨S4x2048x8x64, .f32⟩
  | 9 => ⟨S4x2048x8x64, .f32⟩
  | 10 => ⟨S_, .f32⟩
  | 11 => ⟨S4x2048x8, .f32⟩
  | 12 => ⟨S4x2048x8x1, .f32⟩
  | 13 => ⟨S4x2048x8x64, .f32⟩
  | 14 => ⟨S4x2048x8x64, .f32⟩
  | 15 => ⟨S1x1x512, .f32⟩
  | 16 => ⟨S512, .f32⟩
  | 17 => ⟨S4x2048x64, .f32⟩
  | 18 => ⟨S1x1x64x512, .f32⟩
  | 19 => ⟨S64x512, .f32⟩
  | 20 => ⟨S4x2048x512, .f32⟩
  | 21 => ⟨S1x1x512, .f32⟩
  | 22 => ⟨S4x2048x512, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S4x2048x512, .f32⟩
  | 29 => ⟨S4x2048x512, .f32⟩
  | 30 => ⟨S4x2048x512, .i1⟩
  | 31 => ⟨S4x2048x512, .f32⟩
  | 32 => ⟨S4x2048x512, .f32⟩
  | 33 => ⟨S4x2048x512, .f32⟩
  | 34 => ⟨S4x2048x512, .f32⟩
  | 35 => ⟨S4x2048x512, .f32⟩
  | 36 => ⟨S4x2048x512, .f32⟩
  | 37 => ⟨S4x2048x512, .f32⟩
  | 38 => ⟨S4x2048x512, .f32⟩
  | 39 => ⟨S4x2048x512, .f32⟩
  | 40 => ⟨S_, .f32⟩
  | 41 => ⟨S4x2048x512, .f32⟩
  | 42 => ⟨S4x2048x512, .f32⟩
  | 43 => ⟨S1x1x512, .f32⟩
  | 44 => ⟨S512, .f32⟩
  | 45 => ⟨S1x1x64x512, .f32⟩
  | 46 => ⟨S64x512, .f32⟩
  | 47 => ⟨S4x2048x512, .f32⟩
  | 48 => ⟨S1x1x512, .f32⟩
  | 49 => ⟨S4x2048x512, .f32⟩
  | 50 => ⟨S4x2048x512, .f32⟩
  | 51 => ⟨S4x2048x512, .f32⟩
  | 52 => ⟨S4x2048x512, .f32⟩
  | 53 => ⟨S_, .f32⟩
  | 54 => ⟨S4x2048x512, .f32⟩
  | 55 => ⟨S4x2048x512, .f32⟩
  | 56 => ⟨S_, .f32⟩
  | 57 => ⟨S4x2048x512, .f32⟩
  | 58 => ⟨S4x2048x512, .f32⟩
  | 59 => ⟨S_, .f32⟩
  | 60 => ⟨S4x2048x512, .f32⟩
  | 61 => ⟨S4x2048x512, .f32⟩
  | 62 => ⟨S1x512, .f32⟩
  | 63 => ⟨S512, .f32⟩
  | 64 => ⟨S1x1x512, .f32⟩
  | 65 => ⟨S4x2048x512, .f32⟩
  | 66 => ⟨S4x2048x512, .f32⟩
  | 67 => ⟨S_, .f32⟩
  | 68 => ⟨S4x2048x512, .f32⟩
  | 69 => ⟨S4x2048x512, .f32⟩
  | 70 => ⟨S4x2048x512, .f32⟩
  | 71 => ⟨S4x2048x8x64, .f32⟩
  | 72 => ⟨S4x2048x512, .f32⟩
  | 73 => ⟨S4x2048x512, .f32⟩
  | 74 => ⟨S8192x512, .f32⟩
  | 75 => ⟨S8192x512, .f32⟩
  | 76 => ⟨S4x2048x8x64, .f32⟩
  | 77 => ⟨S4x2048x8x64, .f32⟩
  | 78 => ⟨S8192x512, .f32⟩
  | 79 => ⟨S4x2048x8x64, .f32⟩
  | 80 => ⟨S1x8x64, .f32⟩
  | 81 => ⟨S8x64, .f32⟩
  | 82 => ⟨S1x1x8x64, .f32⟩
  | 83 => ⟨S4x2048x8x64, .f32⟩
  | 84 => ⟨S4x2048x8x64, .f32⟩
  | 85 => ⟨S_, .f32⟩
  | 86 => ⟨S4x2048x8, .f32⟩
  | 87 => ⟨S4x2048x8x1, .f32⟩
  | 88 => ⟨S4x2048x8x64, .f32⟩
  | 89 => ⟨S4x2048x8x64, .f32⟩
  | 90 => ⟨S8192x512, .f32⟩
  | 91 => ⟨S8192x512, .f32⟩
  | 92 => ⟨S8192x512, .f32⟩
  | 93 => ⟨S4x2048x8x64, .f32⟩
  | 94 => ⟨S8192x512, .f32⟩
  | 95 => ⟨S8192x512, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_0 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v60 : Ref sig .tc := ⟨.hbm, 91, rfl⟩
abbrev main_v61 : Ref sig .tc := ⟨.hbm, 92, rfl⟩
abbrev main_cst_4 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_5 : Ref sig .tc := ⟨.hbm, 106, rfl⟩
abbrev main_v74 : Ref sig .tc := ⟨.hbm, 107, rfl⟩
abbrev main_v75 : Ref sig .tc := ⟨.hbm, 108, rfl⟩
abbrev main_cst_6 : Ref sig .tc := ⟨.hbm, 109, rfl⟩
abbrev main_v76 : Ref sig .tc := ⟨.hbm, 110, rfl⟩
abbrev main_v77 : Ref sig .tc := ⟨.hbm, 111, rfl⟩
abbrev main_cst_7 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_8 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_9 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_call2_cst : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_v6 : Ref sig .tc := ⟨.hbm, 160, rfl⟩
abbrev main_call2_v7 : Ref sig .tc := ⟨.hbm, 161, rfl⟩
abbrev main_call2_v8 : Ref sig .tc := ⟨.hbm, 162, rfl⟩
abbrev main_call2_v9 : Ref sig .tc := ⟨.hbm, 163, rfl⟩
abbrev main_call2_v10 : Ref sig .tc := ⟨.hbm, 164, rfl⟩
abbrev main_call2_v11 : Ref sig .tc := ⟨.hbm, 165, rfl⟩
abbrev main_v116 : Ref sig .tc := ⟨.hbm, 166, rfl⟩
abbrev main_v117 : Ref sig .tc := ⟨.hbm, 167, rfl⟩
abbrev main_cst_10 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_11 : Ref sig .tc := ⟨.hbm, 181, rfl⟩
abbrev main_v130 : Ref sig .tc := ⟨.hbm, 182, rfl⟩
abbrev main_v131 : Ref sig .tc := ⟨.hbm, 183, rfl⟩
abbrev main_cst_12 : Ref sig .tc := ⟨.hbm, 184, rfl⟩
abbrev main_v132 : Ref sig .tc := ⟨.hbm, 185, rfl⟩
abbrev main_v133 : Ref sig .tc := ⟨.hbm, 186, rfl⟩
abbrev main_cst_13 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_14 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_15 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩

abbrev nD : Nat := 1
abbrev τ : Topo := Topo.v7x

variable {F : FTy → Type} [FloatOps F]
-- ==== Proof.Softmax.lean ====
module

public import Idealize.ShloMosaic.PureOps
public import Idealize.ShloMosaic.Lib.Pointwise

@[expose] public section

/-! Norms and softmax rows over the extended reals: an entry scaled by the root of its row's mean square is a real
    number whatever the row holds, and a sum weighted by a softmax is the weighted sum divided once when the logits are real. -/

noncomputable section

open Idealize Idealize.ShloMosaic
open scoped BigOperators

namespace Cert.Softmax

/-- The divisor of a mean over 128 numbers, over 2048, a norm's small summand, and the two infinities. -/
abbrev N128 : EReal := Ideal.ofBits .f32 1124073472#32
abbrev N2048 : EReal := Ideal.ofBits .f32 1157627904#32
abbrev EPS : EReal := Ideal.ofBits .f32 897988541#32
abbrev BOT : EReal := Ideal.ofBits .f32 4286578688#32
abbrev TOP : EReal := Ideal.ofBits .f32 2139095040#32

theorem N128_eq : N128 = ((128 : ℝ) : EReal) := by
  simp [N128, Ideal.ofBits, Ideal.ieee, -EReal.coe_mul]; norm_num

theorem EPS_eq : ∃ e : ℝ, 0 < e ∧ EPS = (e : EReal) :=
  ⟨8796093 / 8796093022208, by norm_num, by simp [EPS, Ideal.ofBits, Ideal.ieee, -EReal.coe_mul]; norm_num⟩

theorem BOT_eq : BOT = ⊥ := by simp [BOT, Ideal.ofBits, Ideal.ieee]

theorem TOP_eq : TOP = ⊤ := by simp [TOP, Ideal.ofBits, Ideal.ieee]

/-- An extended real that is a real number. -/
def IsReal (x : EReal) : Prop := ∃ r : ℝ, x = (r : EReal)

theorem isReal_iff (x : EReal) : IsReal x ↔ x ≠ ⊤ ∧ x ≠ ⊥ := by
  constructor
  · rintro ⟨r, rfl⟩; exact ⟨EReal.coe_ne_top r, EReal.coe_ne_bot r⟩
  · rintro ⟨h, h'⟩; exact ⟨x.toReal, (EReal.coe_toReal h h').symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem square_nonneg (x : EReal) : 0 ≤ x * x := by
  induction x using EReal.rec with
  | bot => simp
  | top => simp
  | coe r => rw [← EReal.coe_mul]; exact_mod_cast mul_self_nonneg r

/-- An entry of a row of any numbers, scaled by the root of the row's mean square, is real. -/
theorem scaled_isReal {k : ℕ} (f : Fin k → EReal) (x : Fin k) :
    IsReal (f x * Ideal.rsqrt (Ideal.div (∑ y, f y * f y) N128 + EPS)) := by
  obtain ⟨e, he, hE⟩ := EPS_eq
  have hn : N128 ≠ 0 := by rw [N128_eq]; exact_mod_cast (by norm_num : (128 : ℝ) ≠ 0)
  have h0 : 0 ≤ ∑ y, f y * f y := Finset.sum_nonneg fun y _ => square_nonneg (f y)
  have hle : f x * f x ≤ ∑ y, f y * f y :=
    Finset.single_le_sum (f := fun y => f y * f y) (fun y _ => square_nonneg (f y)) (Finset.mem_univ x)
  rw [Ideal.div, if_neg hn, hE, N128_eq]
  generalize (∑ y, f y * f y) = s at h0 hle
  rw [← EReal.coe_inv]
  induction s using EReal.rec with
  | bot => simp at h0
  | top =>
    rw [EReal.top_mul_coe_of_pos (by norm_num), EReal.top_add_coe]
    show IsReal (f x * 0)
    rw [mul_zero]; exact ⟨0, rfl⟩
  | coe s =>
    have hs : 0 ≤ s := by exact_mod_cast h0
    have hf : IsReal (f x) := by
      rw [isReal_iff]
      constructor
      · intro h; rw [h] at hle; simp at hle
      · intro h; rw [h] at hle; simp at hle
    refine hf.mul ?_
    rw [← EReal.coe_mul, ← EReal.coe_add]
    have hp : 0 < s * 128⁻¹ + e := by positivity
    show IsReal (if s * 128⁻¹ + e < 0 then ⊥ else if s * 128⁻¹ + e = 0 then ⊤ else ((Real.sqrt (s * 128⁻¹ + e))⁻¹ : ℝ))
    rw [if_neg hp.not_gt, if_neg hp.ne']
    exact ⟨_, rfl⟩

/-- The greatest of real logits is real. -/
theorem max_isReal (l : Fin 256 → EReal) (h : ∀ j, IsReal (l j)) : IsReal (Finset.univ.fold max BOT l) := by
  rw [isReal_iff, BOT_eq]
  constructor
  · apply ne_of_lt
    rw [Finset.fold_max_lt]
    exact ⟨bot_lt_top, fun j _ => lt_top_iff_ne_top.2 ((isReal_iff _).1 (h j)).1⟩
  · apply ne_of_gt
    rw [Finset.lt_fold_max]
    exact Or.inr ⟨0, Finset.mem_univ _, bot_lt_iff_ne_bot.2 ((isReal_iff _).1 (h 0)).2⟩

/-- A row's weights before they are divided by their sum. -/
def weight (l : Fin 256 → EReal) (j : Fin 256) : EReal := Ideal.exp (l j - Finset.univ.fold max BOT l)

theorem sum_mul_coe {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Dividing a row's weighted sum once, by the sum of the weights, is dividing each weight, when the logits are real. -/
theorem divide_once (l V : Fin 256 → EReal) (h : ∀ j, IsReal (l j)) :
    Ideal.div (∑ j, weight l j * V j) (∑ j, weight l j) = ∑ j, Ideal.div (weight l j) (∑ j, weight l j) * V j := by
  obtain ⟨M, hM⟩ := max_isReal l h
  choose f hf using h
  have hw : ∀ j, weight l j = ((Real.exp (f j - M) : ℝ) : EReal) := by
    intro j
    unfold weight
    rw [hM, hf j, ← EReal.coe_sub]
    rfl
  have hs : (∑ j, weight l j) = ((∑ j, Real.exp (f j - M) : ℝ) : EReal) := by
    rw [coe_sum]; exact Finset.sum_congr rfl fun j _ => hw j
  have hp : 0 < ∑ j : Fin 256, Real.exp (f j - M) := Finset.sum_pos (fun j _ => Real.exp_pos _) ⟨0, Finset.mem_univ _⟩
  rw [hs]
  generalize (∑ j : Fin 256, Real.exp (f j - M)) = s at hp
  have hne : (s : EReal) ≠ 0 := by exact_mod_cast hp.ne'
  simp only [Ideal.div, if_neg hne]
  rw [← EReal.coe_inv, sum_mul_coe _ _ _ (inv_nonneg.2 hp.le)]
  refine Finset.sum_congr rfl fun j _ => ?_
  rw [mul_right_comm]

end Cert.Softmax

end

end
-- ==== Proof.XAttn.lean ====
module

public import proofs.«01_k».proof.Defs
public import proofs.«01_k».proof.Proof.Gen.XAttnIdeal.Value
public import proofs.«01_k».proof.Proof.Gen.XAttnRefIdeal.Run
public import proofs.«01_k».proof.Proof.Gen.XAttnRefIdeal.Read
public import proofs.«01_k».proof.Proof.Softmax
public import Idealize.ShloMosaic.Lib.Pointwise
public import Idealize.ShloMosaic.Lib.StableHlo.RunRead

@[expose] public section

set_option maxRecDepth 16384

noncomputable section

open Idealize Idealize.ShloMosaic Idealize.SL
open scoped BigOperators

namespace Cert.XAttnIdeal.Heads

open Cert.XAttnIdeal Cert.XAttnIdeal.Gen

open Cert.Softmax

/-- The logits' scale. -/
abbrev SCALE : EReal := Ideal.ofBits .f32 1035273459#32

/-- One entry of a row scaled by the root of its mean square, and by a gain. -/
def normed {k : ℕ} (n : EReal) (f g : Fin k → EReal) (x : Fin k) : EReal :=
  f x * Ideal.rsqrt (Ideal.div (∑ y, f y * f y) n + EPS) * g x

/-- A query's logit against a key. -/
def logit (q k : Fin 128 → EReal) : EReal := (∑ e, q e * k e) * SCALE

/-- The kernel's head: the weighted sum, then one division. -/
def attend (l V : Fin 256 → EReal) : EReal := Ideal.div (∑ j, weight l j * V j) (∑ j, weight l j)

/-- The logits of head `h` of a row of queries. -/
def logits (Q : Fin 512 → EReal) (KV : Fin 256 → Fin 1024 → EReal) (qn kn : Fin 128 → EReal) (h : Fin 4) (j : Fin 256) : EReal :=
  logit (normed N128 (fun e => Q ⟨128 * h.val + e.val, by omega⟩) qn) (normed N128 (fun e => KV j ⟨128 * h.val + e.val, by omega⟩) kn)

/-- One entry of head `h`. -/
def head (Q : Fin 512 → EReal) (KV : Fin 256 → Fin 1024 → EReal) (qn kn : Fin 128 → EReal) (h : Fin 4) (e : Fin 128) : EReal :=
  attend (logits Q KV qn kn h) fun j => KV j ⟨512 + 128 * h.val + e.val, by omega⟩

theorem pay3_apply (v0 : Vec Ideal S1024x2048 .f32) (v12 : Vec Ideal S1x2048 .f32) (v17 : Vec Ideal S1x2048x512 .bf16) (r : Fin 1024) (q : Fin 512) :
    k0_pay3 (F := Ideal) v0 v12 v17 (ix2 r q) = ∑ x, normed N2048 (fun x => v0 (ix2 r x)) (fun x => v12 (ix2 0 x)) x * v17 (ix3 0 x q) := by
  pointwise [k0_pay3, k0_pay2]
  rfl

theorem head0_apply (v0 : Vec Ideal S1024x2048 .f32) (v12 : Vec Ideal S1x2048 .f32) (v17 : Vec Ideal S1x2048x512 .bf16)
    (v20 : Vec Ideal S1x256x1024 .f32) (v33 v48 : Vec Ideal S1x128 .f32) (r : Fin 1024) (q : Fin 128) :
    k0_pay8 (F := Ideal) (k0_pay4 v20) (k0_pay5 v0 v12 v17 v33) (k0_pay6 v20) (k0_pay7 v20) v48 (ix2 r q)
      = head (fun x => k0_pay3 (F := Ideal) v0 v12 v17 (ix2 r x)) (fun j x => v20 (ix3 0 j x)) (fun e => v33 (ix2 0 e)) (fun e => v48 (ix2 0 e)) 0 q := by
  generalize hh : head _ _ _ _ _ _ = y
  generalize hz : k0_pay3 (F := Ideal) v0 v12 v17 = z at hh
  pointwise [k0_pay8, k0_pay7, k0_pay6, k0_pay5, k0_pay4, hz]
  rw [← hh]
  unfold head attend logits weight normed logit
  simp only [Fin.val_zero, Nat.mul_zero, Nat.zero_add, Nat.add_zero]

theorem head1_apply (v19 : Vec Ideal S1024x512 .f32) (v20 : Vec Ideal S1x256x1024 .f32) (v81 v96 : Vec Ideal S1x128 .f32) (r : Fin 1024) (q : Fin 128) :
    k0_pay11 (F := Ideal) (k0_pay4 v20) (k0_pay9 v19) (k0_pay10 v81) v96 (ix2 r q)
      = head (fun x => v19 (ix2 r x)) (fun j x => v20 (ix3 0 j x)) (fun e => v81 (ix2 0 e)) (fun e => v96 (ix2 0 e)) 1 q := by
  pointwise [k0_pay11, k0_pay10, k0_pay9, k0_pay4]
  rfl

theorem head2_apply (v19 : Vec Ideal S1024x512 .f32) (v20 : Vec Ideal S1x256x1024 .f32) (v81 v96 : Vec Ideal S1x128 .f32) (r : Fin 1024) (q : Fin 128) :
    k0_pay13 (F := Ideal) (k0_pay4 v20) (k0_pay12 v19) v81 v96 (ix2 r q)
      = head (fun x => v19 (ix2 r x)) (fun j x => v20 (ix3 0 j x)) (fun e => v81 (ix2 0 e)) (fun e => v96 (ix2 0 e)) 2 q := by
  pointwise [k0_pay13, k0_pay12, k0_pay4]
  rfl

theorem pay16_apply (v1 : Vec Ideal S1024x2048 .f32) (v19 : Vec Ideal S1024x512 .f32) (v20 : Vec Ideal S1x256x1024 .f32) (v69 v117 v165 : Vec Ideal S1024x128 .f32)
    (v177 v192 : Vec Ideal S1x128 .f32) (v216 : Vec Ideal S1x512x2048 .bf16) (r : Fin 1024) (q : Fin 2048) :
    k0_pay16 (F := Ideal) v1 (k0_pay4 v20) v69 v117 v165 (k0_pay14 v19) (k0_pay15 v19) v177 v192 v216 (ix2 r q)
      = v1 (ix2 r q) + ∑ x : Fin 512,
        (if h : x.val < 128 then v69 (ix2 r ⟨x.val, h⟩)
          else if h : x.val - 128 < 128 then v117 (ix2 r ⟨x.val - 128, h⟩)
          else if h : x.val - 128 - 128 < 128 then v165 (ix2 r ⟨x.val - 128 - 128, h⟩)
          else head (fun x => v19 (ix2 r x)) (fun j x => v20 (ix3 0 j x)) (fun e => v177 (ix2 0 e)) (fun e => v192 (ix2 0 e)) 3
            ⟨x.val - 128 - 128 - 128, by omega⟩) * v216 (ix3 0 x q) := by
  pointwise [k0_pay16, k0_pay15, k0_pay14, k0_pay4]
  rfl

/-- A token's row after the attention: the heads side by side, through the output projection, added to the row. -/
def after (X G : Fin 2048 → EReal) (WQ : Fin 2048 → Fin 512 → EReal) (KV : Fin 256 → Fin 1024 → EReal) (qn kn : Fin 128 → EReal)
    (WO : Fin 512 → Fin 2048 → EReal) (q : Fin 2048) : EReal :=
  X q + ∑ x : Fin 512, head (fun z => ∑ y, normed N2048 X G y * WQ y z) KV qn kn ⟨x.val / 128, by omega⟩ ⟨x.val % 128, by omega⟩ * WO x q

theorem pay1_apply (v219 : Vec Ideal S1024x2048 .f32) (v231 : Vec Ideal S1x2048 .f32) (r : Fin 1024) (q : Fin 2048) :
    k0_pay1 (F := Ideal) v219 v231 (ix2 r q) = normed N2048 (fun x => v219 (ix2 r x)) (fun x => v231 (ix2 0 x)) q := by
  pointwise [k0_pay1]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- What the body's first store holds, read at one place. -/
theorem pay19_apply (x0 : Vec Ideal S1024x2048 .f32) (x1 : Vec Ideal S1x2048 .f32) (x2 : Vec Ideal S1x2048x512 .bf16) (x3 : Vec Ideal S1x256x1024 .f32)
    (x4 : Vec Ideal S1x512x2048 .bf16) (x5 x6 : Vec Ideal S1x128 .f32) (x7 : Vec Ideal S1x2048 .f32) (r : Fin 1024) (q : Fin 2048) :
    k0_pay19 (F := Ideal) x0 x1 x2 x3 x4 x5 x6 x7 (ix2 r q)
      = after (fun x => x0 (ix2 r x)) (fun x => x1 (ix2 0 x)) (fun y x => x2 (ix3 0 y x)) (fun j x => x3 (ix3 0 j x)) (fun e => x5 (ix2 0 e)) (fun e => x6 (ix2 0 e))
          (fun x n => x4 (ix3 0 x n)) q := by
  unfold k0_pay19 k0_pay18 k0_pay17
  simp only [View.ld_unit_zero (S := S1024x2048) hz2, View.ld_unit_zero (S := S1x2048) hz2, View.ld_unit_zero (S := S1x128) hz2,
    View.ld_unit_zero (S := S1x2048x512) hz3, View.ld_unit_zero (S := S1x256x1024) hz3, View.ld_unit_zero (S := S1x512x2048) hz3]
  rw [pay16_apply]
  unfold after
  have hx : k0_pay2 (F := Ideal) x0 (ix2 r q) = x0 (ix2 r q) := by pointwise [k0_pay2]
  rw [hx]
  congr 1
  refine Finset.sum_congr rfl fun x _ => ?_
  congr 1
  have hQ : (fun z => ∑ y, normed N2048 (fun x => x0 (ix2 r x)) (fun x => x1 (ix2 0 x)) y * x2 (ix3 0 y z)) = fun z => k0_pay3 (F := Ideal) x0 x1 x2 (ix2 r z) :=
    funext fun z => (pay3_apply x0 x1 x2 r z).symm
  rw [hQ]
  split_ifs with h1 h2 h3
  · rw [head0_apply]
    congr 1
    · apply Fin.ext; show 0 = x.val / 128; omega
    · apply Fin.ext; show x.val = x.val % 128; omega
  · rw [head1_apply]
    congr 1
    · apply Fin.ext; show 1 = x.val / 128; omega
    · apply Fin.ext; show x.val - 128 = x.val % 128; omega
  · rw [head2_apply]
    congr 1
    · apply Fin.ext; show 2 = x.val / 128; omega
    · apply Fin.ext; show x.val - 128 - 128 = x.val % 128; omega
  · congr 1
    · apply Fin.ext; show 3 = x.val / 128; omega
    · apply Fin.ext; show x.val - 128 - 128 - 128 = x.val % 128; omega

/-- The reference's head: each weight divided by their sum. -/
def headRef (Q : Fin 512 → EReal) (KV : Fin 256 → Fin 1024 → EReal) (qn kn : Fin 128 → EReal) (h : Fin 4) (e : Fin 128) : EReal :=
  ∑ j, Ideal.div (weight (logits Q KV qn kn h) j) (∑ j, weight (logits Q KV qn kn h) j) * KV j ⟨512 + 128 * h.val + e.val, by omega⟩

theorem normed_isReal (f g : Fin 128 → EReal) (h : ∀ x, IsReal (g x)) (x : Fin 128) : IsReal (normed N128 f g x) :=
  (scaled_isReal f x).mul (h x)

theorem SCALE_isReal : IsReal SCALE := by
  refine ⟨11863283 / 134217728, ?_⟩
  simp [SCALE, Ideal.ofBits, Ideal.ieee, -EReal.coe_mul]
  norm_num

theorem head_eq (Q : Fin 512 → EReal) (KV : Fin 256 → Fin 1024 → EReal) (qn kn : Fin 128 → EReal) (hq : ∀ e, IsReal (qn e)) (hk : ∀ e, IsReal (kn e))
    (h : Fin 4) (e : Fin 128) : head Q KV qn kn h e = headRef Q KV qn kn h e :=
  divide_once _ _ fun j => (IsReal.sum _ _ fun x => (normed_isReal _ _ hq x).mul (normed_isReal _ _ hk x)).mul SCALE_isReal

section Reference

open Cert.XAttnRefIdeal.Read

variable (x : Vec Ideal S4x2048x2048 .f32) (kv : Vec Ideal S4x256x1024 .f32) (g g2 : Vec Ideal S4x2048 .f32) (wq : Vec Ideal S4x2048x512 .f32)
  (wo : Vec Ideal S4x512x2048 .f32) (qn kn : Vec Ideal S4x128 .f32)

theorem ref_q (b : Fin 4) (r : Fin 2048) (z : Fin 512) :
    val_main_v17 (F := Ideal) x g wq (ix3 b r z) = ∑ y, normed N2048 (fun y => x (ix3 b r y)) (fun y => g (ix2 1 y)) y * wq (ix3 1 y z) := by
  have h14 : ∀ y, val_main_v14 (F := Ideal) x g (ix3 b r y) = normed N2048 (fun y => x (ix3 b r y)) (fun y => g (ix2 1 y)) y := by
    intro y
    pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
    rfl
  have h16 : ∀ y, val_main_v16 (F := Ideal) wq (ix2 y z) = wq (ix3 1 y z) := by
    intro y
    pointwise [val_main_v16, val_main_v15]
  pointwise [val_main_v17]
  simp only [h14, h16]

theorem ref_qn (b : Fin 4) (r : Fin 2048) (h : Fin 4) (e : Fin 128) :
    val_main_v33 (F := Ideal) x g wq qn (ix4 b r h e)
      = normed N128 (fun e => val_main_v17 (F := Ideal) x g wq (ix3 b r ⟨128 * h.val + e.val, by omega⟩)) (fun e => qn (ix2 1 e)) e := by
  generalize hy : normed N128 _ _ _ = y
  generalize hz : val_main_v17 (F := Ideal) x g wq = z at hy
  pointwise [val_main_v33, val_main_v32, val_main_v31, val_main_v30, val_main_v29, val_main_v28, val_main_v27, val_main_v26, val_main_v25, val_main_v24, val_main_v23, val_main_v22, val_main_v21, val_main_v20, val_main_v19, val_main_v18, val_main_cst_2, val_main_cst_3, val_main_cst_4]
  simp only [hz]
  rw [← hy]
  unfold normed
  simp only [Nat.mul_comm h.val 128]

theorem ref_kn (b : Fin 4) (j : Fin 256) (h : Fin 4) (e : Fin 128) :
    val_main_v50 (F := Ideal) kv kn (ix4 b j h e)
      = normed N128 (fun e => kv (ix3 b j ⟨128 * h.val + e.val, by omega⟩)) (fun e => kn (ix2 1 e)) e := by
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_5, val_main_cst_6, val_main_cst_7]
  unfold normed
  simp only [Nat.mul_comm h.val 128]

theorem ref_v (b : Fin 4) (j : Fin 256) (h : Fin 4) (e : Fin 128) :
    val_main_v52 (F := Ideal) kv (ix4 b j h e) = kv (ix3 b j ⟨512 + 128 * h.val + e.val, by omega⟩) := by
  pointwise [val_main_v52, val_main_v51]
  simp only [Nat.mul_comm h.val 128, Nat.add_assoc]

/-- A row's queries, and a sequence's keys and values. -/
abbrev qrow (b : Fin 4) (r : Fin 2048) (z : Fin 512) : EReal := ∑ y, normed N2048 (fun y => x (ix3 b r y)) (fun y => g (ix2 1 y)) y * wq (ix3 1 y z)

theorem ref_logit (b h : Fin 4) (r : Fin 2048) (j : Fin 256) :
    val_main_v55 (F := Ideal) x kv g wq qn kn (ix4 b h r j)
      = logits (qrow x g wq b r) (fun j z => kv (ix3 b j z)) (fun e => qn (ix2 1 e)) (fun e => kn (ix2 1 e)) h j := by
  pointwise [val_main_v55, val_main_v54, val_main_v53, val_main_cst_8]
  simp only [ref_qn, ref_kn, ref_q]
  rfl

theorem ref_max (b h : Fin 4) (r : Fin 2048) :
    val_main_v56 (F := Ideal) x kv g wq qn kn (ix3 b h r)
      = Finset.univ.fold max BOT (logits (qrow x g wq b r) (fun j z => kv (ix3 b j z)) (fun e => qn (ix2 1 e)) (fun e => kn (ix2 1 e)) h) := by
  have e : logits (qrow x g wq b r) (fun j z => kv (ix3 b j z)) (fun e => qn (ix2 1 e)) (fun e => kn (ix2 1 e)) h
      = fun j => val_main_v55 (F := Ideal) x kv g wq qn kn (ix4 b h r j) := funext fun j => (ref_logit x kv g wq qn kn b h r j).symm
  rw [e]
  unfold val_main_v56
  generalize val_main_v55 (F := Ideal) x kv g wq qn kn = y
  pointwise [val_main_cst_9]

/-- The logits of a row of sequence `b` against the memory. -/
abbrev rlog (b h : Fin 4) (r : Fin 2048) : Fin 256 → EReal :=
  logits (qrow x g wq b r) (fun j z => kv (ix3 b j z)) (fun e => qn (ix2 1 e)) (fun e => kn (ix2 1 e)) h

theorem ref_weight (b h : Fin 4) (r : Fin 2048) (j : Fin 256) :
    val_main_v62 (F := Ideal) x kv g wq qn kn (ix4 b h r j) = weight (rlog x kv g wq qn kn b h r) j := by
  have hm : val_main_v60 (F := Ideal) x kv g wq qn kn (ix4 b h r j) = Finset.univ.fold max BOT (rlog x kv g wq qn kn b h r) := by
    have h58 : val_main_v58 (F := Ideal) x kv g wq qn kn (ix3 b h r) = Finset.univ.fold max BOT (rlog x kv g wq qn kn b h r) := by
      rw [val_main_v58_apply, ref_max]
      pointwise [val_main_v57, val_main_cst_10]
      rw [BOT_eq]
      exact max_eq_right bot_le
    rw [← h58]
    unfold val_main_v60 val_main_v59
    generalize val_main_v58 (F := Ideal) x kv g wq qn kn = y
    pointwise
  rw [val_main_v62_apply, val_main_v61_apply, ref_logit, hm]
  rfl

theorem ref_head (b h : Fin 4) (r : Fin 2048) (e : Fin 128) :
    val_main_v67 (F := Ideal) x kv g wq qn kn (ix4 b h e r)
      = headRef (qrow x g wq b r) (fun j z => kv (ix3 b j z)) (fun e => qn (ix2 1 e)) (fun e => kn (ix2 1 e)) h e := by
  have h66 : ∀ j, val_main_v66 (F := Ideal) x kv g wq qn kn (ix4 b h r j)
      = Ideal.div (weight (rlog x kv g wq qn kn b h r) j) (∑ j, weight (rlog x kv g wq qn kn b h r) j) := by
    intro j
    have hs : val_main_v65 (F := Ideal) x kv g wq qn kn (ix4 b h r j) = ∑ j, weight (rlog x kv g wq qn kn b h r) j := by
      rw [show (∑ j, weight (rlog x kv g wq qn kn b h r) j) = ∑ j, val_main_v62 (F := Ideal) x kv g wq qn kn (ix4 b h r j) from
        Finset.sum_congr rfl fun j _ => (ref_weight x kv g wq qn kn b h r j).symm]
      unfold val_main_v65 val_main_v64 val_main_v63
      generalize val_main_v62 (F := Ideal) x kv g wq qn kn = y
      pointwise [val_main_cst_11]
    rw [← ref_weight, ← hs]
    unfold val_main_v66
    generalize val_main_v62 (F := Ideal) x kv g wq qn kn = y
    generalize val_main_v65 (F := Ideal) x kv g wq qn kn = y'
    pointwise
  unfold val_main_v67
  have hv := ref_v kv b
  generalize val_main_v66 (F := Ideal) x kv g wq qn kn = y at h66
  generalize val_main_v52 (F := Ideal) kv = v at hv
  pointwise
  simp only [h66, hv]
  unfold headRef
  exact Finset.sum_congr rfl fun j _ => mul_comm _ _

/-- A token's row after the attention, each weight divided by their sum. -/
def afterRef (X G : Fin 2048 → EReal) (WQ : Fin 2048 → Fin 512 → EReal) (KV : Fin 256 → Fin 1024 → EReal) (qn kn : Fin 128 → EReal)
    (WO : Fin 512 → Fin 2048 → EReal) (q : Fin 2048) : EReal :=
  X q + ∑ x : Fin 512, headRef (fun z => ∑ y, normed N2048 X G y * WQ y z) KV qn kn ⟨x.val / 128, by omega⟩ ⟨x.val % 128, by omega⟩ * WO x q

/-- The row of token `r` of sequence `b`. -/
abbrev rowRef (b : Fin 4) (r : Fin 2048) : Fin 2048 → EReal :=
  afterRef (fun y => x (ix3 b r y)) (fun y => g (ix2 1 y)) (fun y z => wq (ix3 1 y z)) (fun j z => kv (ix3 b j z)) (fun e => qn (ix2 1 e)) (fun e => kn (ix2 1 e))
    (fun z n => wo (ix3 1 z n))

theorem ref_row (b : Fin 4) (r n : Fin 2048) :
    val_main_v73 (F := Ideal) x kv g wq wo qn kn (ix3 b r n) = rowRef x kv g wq wo qn kn b r n := by
  have h69 : ∀ z : Fin 512, val_main_v69 (F := Ideal) x kv g wq qn kn (ix3 b r z)
      = headRef (qrow x g wq b r) (fun j z => kv (ix3 b j z)) (fun e => qn (ix2 1 e)) (fun e => kn (ix2 1 e)) ⟨z.val / 128, by omega⟩ ⟨z.val % 128, by omega⟩ := by
    intro z
    rw [← ref_head]
    unfold val_main_v69 val_main_v68
    generalize val_main_v67 (F := Ideal) x kv g wq qn kn = y
    pointwise
  have h71 : ∀ z : Fin 512, val_main_v71 (F := Ideal) wo (ix2 z n) = wo (ix3 1 z n) := by
    intro z
    pointwise [val_main_v71, val_main_v70]
  unfold val_main_v73 val_main_v72
  generalize val_main_v69 (F := Ideal) x kv g wq qn kn = y at h69
  generalize val_main_v71 (F := Ideal) wo = w at h71
  pointwise
  simp only [h69, h71]
  rfl

theorem ref_norm (b : Fin 4) (r n : Fin 2048) :
    val_main_v88 (F := Ideal) x kv g g2 wq wo qn kn (ix3 b r n)
      = normed N2048 (rowRef x kv g wq wo qn kn b r) (fun y => g2 (ix2 1 y)) n := by
  have hr := ref_row x kv g wq wo qn kn b r
  unfold val_main_v88 val_main_v87 val_main_v86 val_main_v85 val_main_v84 val_main_v83 val_main_v82 val_main_v80 val_main_v78 val_main_v77 val_main_v76
  generalize val_main_v73 (F := Ideal) x kv g wq wo qn kn = y at hr
  pointwise [val_main_v75, val_main_v74, val_main_v79, val_main_v81, val_main_cst_12, val_main_cst_13, val_main_cst_14]
  simp only [hr]
  rfl

/-- The reference's two results. -/
theorem ref_out : val_main_v89 (F := Ideal) x kv g wq wo qn kn
    = fun i => rowRef x kv g wq wo qn kn ⟨(i 0).val / 2048, by have : (i 0).val < 8192 := (i 0).isLt; omega⟩ ⟨(i 0).val % 2048, by omega⟩ (i 1) := by
  funext i
  idx_vars i
  have hr := ref_row x kv g wq wo qn kn
  show _ = rowRef x kv g wq wo qn kn ⟨i0.val / 2048, by omega⟩ ⟨i0.val % 2048, by omega⟩ i1
  rw [← hr]
  unfold val_main_v89
  generalize val_main_v73 (F := Ideal) x kv g wq wo qn kn = y
  pointwise

theorem ref_out' : val_main_v91 (F := Ideal) x kv g g2 wq wo qn kn
    = fun i => normed N2048 (rowRef x kv g wq wo qn kn ⟨(i 0).val / 2048, by have : (i 0).val < 8192 := (i 0).isLt; omega⟩ ⟨(i 0).val % 2048, by omega⟩)
        (fun y => g2 (ix2 1 y)) (i 1) := by
  funext i
  idx_vars i
  have hr := ref_norm x kv g g2 wq wo qn kn
  show _ = normed N2048 (rowRef x kv g wq wo qn kn ⟨i0.val / 2048, by omega⟩ ⟨i0.val % 2048, by omega⟩) (fun y => g2 (ix2 1 y)) i1
  rw [← hr]
  unfold val_main_v91 val_main_v90
  generalize val_main_v88 (F := Ideal) x kv g g2 wq wo qn kn = y
  pointwise

end Reference

/-- The shapes the precondition's text needs. -/
instance gainsFacts : Cert.Pre_finite_gains.Facts :=
  ⟨slices_S4x128_S1x128_1_0, shapeCasts_S1x128_S128, by decide +kernel⟩

variable (m : (ℓ : Loc nD τ sig) → Buf (Elt Ideal) ℓ) (ρ : Dev nD → PrngReg)

/-! The arrays the launch finds. -/

theorem V_v0' (c : Dev nD) : (V m c main_v0 : Vec Ideal S8192x2048 .f32) = shapeCast S8192x2048 (m ((c.tc : Thread nD τ).loc main_arg0)) shapeCasts_S4x2048x2048_S8192x2048 := by
  show StableHlo.after hostOps0 _ _ = _
  after_reads_simp
  rfl

theorem rows_apply (w : Vec Ideal S4x2048x2048 .f32) (R : Fin 8192) (q : Fin 2048) :
    shapeCast S8192x2048 w shapeCasts_S4x2048x2048_S8192x2048 (ix2 R q) = w (ix3 ⟨R.val / 2048, by omega⟩ ⟨R.val % 2048, by omega⟩ q) := by
  pointwise

theorem V_v0 (c : Dev nD) (R : Fin 8192) (q : Fin 2048) : (V m c main_v0 : Vec Ideal S8192x2048 .f32) (ix2 R q)
    = m ((c.tc : Thread nD τ).loc main_arg0) (ix3 ⟨R.val / 2048, by omega⟩ ⟨R.val % 2048, by omega⟩ q) := by
  rw [V_v0']
  exact rows_apply _ R q

theorem V_v11 (c : Dev nD) (q : Fin 2048) : (V m c main_v11 : Vec Ideal S1x2048 .f32) (ix2 0 q) = m ((c.tc : Thread nD τ).loc main_arg2) (ix2 1 q) := by
  rw [show (V m c main_v11 : Vec Ideal S1x2048 .f32) = shapeCast S1x2048 (shapeCast S2048 (extractStridedSlice S1x2048 ![1, 0] (m ((c.tc : Thread nD τ).loc main_arg2)) slices_S4x2048_S1x2048_1_0) shapeCasts_S1x2048_S2048) shapeCasts_S2048_S1x2048 from by
    show StableHlo.after hostOps0 _ _ = _
    after_reads_simp
    rfl]
  generalize m ((c.tc : Thread nD τ).loc main_arg2) = w
  pointwise

theorem V_v14 (c : Dev nD) (q : Fin 2048) : (V m c main_v14 : Vec Ideal S1x2048 .f32) (ix2 0 q) = m ((c.tc : Thread nD τ).loc main_arg3) (ix2 1 q) := by
  rw [show (V m c main_v14 : Vec Ideal S1x2048 .f32) = shapeCast S1x2048 (shapeCast S2048 (extractStridedSlice S1x2048 ![1, 0] (m ((c.tc : Thread nD τ).loc main_arg3)) slices_S4x2048_S1x2048_1_0) shapeCasts_S1x2048_S2048) shapeCasts_S2048_S1x2048 from by
    show StableHlo.after hostOps0 _ _ = _
    after_reads_simp
    rfl]
  generalize m ((c.tc : Thread nD τ).loc main_arg3) = w
  pointwise

theorem V_v12 (c : Dev nD) (q : Fin 128) : (V m c main_v12 : Vec Ideal S1x128 .f32) (ix2 0 q) = m ((c.tc : Thread nD τ).loc main_arg6) (ix2 1 q) := by
  rw [show (V m c main_v12 : Vec Ideal S1x128 .f32) = shapeCast S1x128 (shapeCast S128 (extractStridedSlice S1x128 ![1, 0] (m ((c.tc : Thread nD τ).loc main_arg6)) slices_S4x128_S1x128_1_0) shapeCasts_S1x128_S128) shapeCasts_S128_S1x128 from by
    show StableHlo.after hostOps0 _ _ = _
    after_reads_simp
    rfl]
  generalize m ((c.tc : Thread nD τ).loc main_arg6) = w
  pointwise

theorem V_v13 (c : Dev nD) (q : Fin 128) : (V m c main_v13 : Vec Ideal S1x128 .f32) (ix2 0 q) = m ((c.tc : Thread nD τ).loc main_arg7) (ix2 1 q) := by
  rw [show (V m c main_v13 : Vec Ideal S1x128 .f32) = shapeCast S1x128 (shapeCast S128 (extractStridedSlice S1x128 ![1, 0] (m ((c.tc : Thread nD τ).loc main_arg7)) slices_S4x128_S1x128_1_0) shapeCasts_S1x128_S128) shapeCasts_S128_S1x128 from by
    show StableHlo.after hostOps0 _ _ = _
    after_reads_simp
    rfl]
  generalize m ((c.tc : Thread nD τ).loc main_arg7) = w
  pointwise

theorem V_v1 (c : Dev nD) : (V m c main_v1 : Vec Ideal S4x2048x512 .bf16) = truncf (F := Ideal) .bf16 (m ((c.tc : Thread nD τ).loc main_arg4)) bitsLt_bf16_f32 := by
  show StableHlo.after hostOps0 _ _ = _
  after_reads_simp

theorem V_v2 (c : Dev nD) : (V m c main_v2 : Vec Ideal S4x512x2048 .bf16) = truncf (F := Ideal) .bf16 (m ((c.tc : Thread nD τ).loc main_arg5)) bitsLt_bf16_f32 := by
  show StableHlo.after hostOps0 _ _ = _
  after_reads_simp

/-! Which blocks the grid's points read, against the ones they write. -/

theorem maps0 : ∀ t : Fin grid0.N, win0_0.index t 0 = win0_8.index t 0 ∧ win0_0.index t 1 = 0 := by decide +kernel
theorem maps1 : ∀ t : Fin grid0.N, win0_1.index t 0 = 0 ∧ win0_1.index t 1 = 0 := by decide +kernel
theorem maps2 : ∀ t : Fin grid0.N, win0_2.index t 0 = 1 ∧ win0_2.index t 1 = 0 ∧ win0_2.index t 2 = 0 := by decide +kernel
theorem maps3 : ∀ t : Fin grid0.N, win0_3.index t 0 = win0_8.index t 0 / 2 ∧ win0_3.index t 1 = 0 ∧ win0_3.index t 2 = 0 := by decide +kernel
theorem maps4 : ∀ t : Fin grid0.N, win0_4.index t 0 = 1 ∧ win0_4.index t 1 = 0 ∧ win0_4.index t 2 = 0 := by decide +kernel
theorem maps5 : ∀ t : Fin grid0.N, win0_5.index t 0 = 0 ∧ win0_5.index t 1 = 0 := by decide +kernel
theorem maps6 : ∀ t : Fin grid0.N, win0_6.index t 0 = 0 ∧ win0_6.index t 1 = 0 := by decide +kernel
theorem maps7 : ∀ t : Fin grid0.N, win0_7.index t 0 = 0 ∧ win0_7.index t 1 = 0 := by decide +kernel
theorem maps8 : ∀ t : Fin grid0.N, win0_8.index t 0 < 8 ∧ win0_8.index t 1 = 0 ∧ win0_9.index t 0 = win0_8.index t 0 ∧ win0_9.index t 1 = 0 := by decide +kernel
theorem onto : ∀ a : Fin 8, ∃ t : Fin grid0.N, win0_8.flush t = true ∧ win0_9.flush t = true ∧ win0_8.index t 0 = a.1 := by decide +kernel

/-! The blocks of a point, and their places in the arguments. -/

abbrev blk0 (c : Dev nD) (t : Fin cfg0.N) : Vec Ideal S1024x2048 .f32 := iblk m c 0 t
abbrev blk1 (c : Dev nD) (t : Fin cfg0.N) : Vec Ideal S1x2048 .f32 := iblk m c 1 t
abbrev blk2 (c : Dev nD) (t : Fin cfg0.N) : Vec Ideal S1x2048x512 .bf16 := iblk m c 2 t
abbrev blk3 (c : Dev nD) (t : Fin cfg0.N) : Vec Ideal S1x256x1024 .f32 := iblk m c 3 t
abbrev blk4 (c : Dev nD) (t : Fin cfg0.N) : Vec Ideal S1x512x2048 .bf16 := iblk m c 4 t
abbrev blk5 (c : Dev nD) (t : Fin cfg0.N) : Vec Ideal S1x128 .f32 := iblk m c 5 t
abbrev blk6 (c : Dev nD) (t : Fin cfg0.N) : Vec Ideal S1x128 .f32 := iblk m c 6 t
abbrev blk7 (c : Dev nD) (t : Fin cfg0.N) : Vec Ideal S1x2048 .f32 := iblk m c 7 t

theorem blk0_apply (c : Dev nD) (t : Fin cfg0.N) (r : Fin 1024) (q : Fin 2048) (R : Fin 8192) (hR : R.val = win0_8.index t 0 * 1024 + r.val) :
    blk0 m c t (ix2 r q) = m ((c.tc : Thread nD τ).loc main_arg0) (ix3 ⟨R.val / 2048, by omega⟩ ⟨R.val % 2048, by omega⟩ q) := by
  obtain ⟨h0, h1⟩ := maps0 t
  rw [← V_v0 m c]
  show (V m c main_v0 : Vec Ideal S8192x2048 .f32) ((win0_0.rect t).emb (ix2 r q)) = _
  congr 1
  funext a; apply Fin.ext
  match a with
  | ⟨0, _⟩ => exact (win0_0.rect_emb_val t (ix2 r q) 0).trans (by rw [h0]; exact hR.symm)
  | ⟨1, _⟩ => exact (win0_0.rect_emb_val t (ix2 r q) 1).trans (by rw [h1]; exact Nat.zero_add _)

theorem blk3_apply (c : Dev nD) (t : Fin cfg0.N) (j : Fin 256) (q : Fin 1024) (b : Fin 4) (hb : b.val = win0_8.index t 0 / 2) :
    blk3 m c t (ix3 0 j q) = m ((c.tc : Thread nD τ).loc main_arg1) (ix3 b j q) := by
  obtain ⟨h0, h1, h2⟩ := maps3 t
  show V m c main_arg1 ((win0_3.rect t).emb (ix3 0 j q)) = _
  rw [V_main_arg1]
  congr 1
  funext a; apply Fin.ext
  match a with
  | ⟨0, _⟩ => exact (win0_3.rect_emb_val t (ix3 0 j q) 0).trans (by rw [h0]; show _ * 1 + 0 = b.val; omega)
  | ⟨1, _⟩ => exact (win0_3.rect_emb_val t (ix3 0 j q) 1).trans (by rw [h1]; exact Nat.zero_add _)
  | ⟨2, _⟩ => exact (win0_3.rect_emb_val t (ix3 0 j q) 2).trans (by rw [h2]; exact Nat.zero_add _)

theorem blk1_apply (c : Dev nD) (t : Fin cfg0.N) (q : Fin 2048) : blk1 m c t (ix2 0 q) = m ((c.tc : Thread nD τ).loc main_arg2) (ix2 1 q) := by
  obtain ⟨h0, h1⟩ := maps1 t
  rw [← V_v11 m c]
  show (V m c main_v11 : Vec Ideal S1x2048 .f32) ((win0_1.rect t).emb (ix2 0 q)) = _
  congr 1
  funext a; apply Fin.ext
  match a with
  | ⟨0, _⟩ => exact (win0_1.rect_emb_val t (ix2 0 q) 0).trans (by rw [h0]; rfl)
  | ⟨1, _⟩ => exact (win0_1.rect_emb_val t (ix2 0 q) 1).trans (by rw [h1]; exact Nat.zero_add _)

theorem blk7_apply (c : Dev nD) (t : Fin cfg0.N) (q : Fin 2048) : blk7 m c t (ix2 0 q) = m ((c.tc : Thread nD τ).loc main_arg3) (ix2 1 q) := by
  obtain ⟨h0, h1⟩ := maps7 t
  rw [← V_v14 m c]
  show (V m c main_v14 : Vec Ideal S1x2048 .f32) ((win0_7.rect t).emb (ix2 0 q)) = _
  congr 1
  funext a; apply Fin.ext
  match a with
  | ⟨0, _⟩ => exact (win0_7.rect_emb_val t (ix2 0 q) 0).trans (by rw [h0]; rfl)
  | ⟨1, _⟩ => exact (win0_7.rect_emb_val t (ix2 0 q) 1).trans (by rw [h1]; exact Nat.zero_add _)

theorem blk5_apply (c : Dev nD) (t : Fin cfg0.N) (q : Fin 128) : blk5 m c t (ix2 0 q) = m ((c.tc : Thread nD τ).loc main_arg6) (ix2 1 q) := by
  obtain ⟨h0, h1⟩ := maps5 t
  rw [← V_v12 m c]
  show (V m c main_v12 : Vec Ideal S1x128 .f32) ((win0_5.rect t).emb (ix2 0 q)) = _
  congr 1
  funext a; apply Fin.ext
  match a with
  | ⟨0, _⟩ => exact (win0_5.rect_emb_val t (ix2 0 q) 0).trans (by rw [h0]; rfl)
  | ⟨1, _⟩ => exact (win0_5.rect_emb_val t (ix2 0 q) 1).trans (by rw [h1]; exact Nat.zero_add _)

theorem blk6_apply (c : Dev nD) (t : Fin cfg0.N) (q : Fin 128) : blk6 m c t (ix2 0 q) = m ((c.tc : Thread nD τ).loc main_arg7) (ix2 1 q) := by
  obtain ⟨h0, h1⟩ := maps6 t
  rw [← V_v13 m c]
  show (V m c main_v13 : Vec Ideal S1x128 .f32) ((win0_6.rect t).emb (ix2 0 q)) = _
  congr 1
  funext a; apply Fin.ext
  match a with
  | ⟨0, _⟩ => exact (win0_6.rect_emb_val t (ix2 0 q) 0).trans (by rw [h0]; rfl)
  | ⟨1, _⟩ => exact (win0_6.rect_emb_val t (ix2 0 q) 1).trans (by rw [h1]; exact Nat.zero_add _)

theorem blk2_apply (c : Dev nD) (t : Fin cfg0.N) (y : Fin 2048) (q : Fin 512) : blk2 m c t (ix3 0 y q) = m ((c.tc : Thread nD τ).loc main_arg4) (ix3 1 y q) := by
  obtain ⟨h0, h1, h2⟩ := maps2 t
  show (V m c main_v1 : Vec Ideal S4x2048x512 .bf16) ((win0_2.rect t).emb (ix3 0 y q)) = _
  rw [V_v1]
  show m ((c.tc : Thread nD τ).loc main_arg4) ((win0_2.rect t).emb (ix3 0 y q)) = _
  congr 1
  funext a; apply Fin.ext
  match a with
  | ⟨0, _⟩ => exact (win0_2.rect_emb_val t (ix3 0 y q) 0).trans (by rw [h0]; rfl)
  | ⟨1, _⟩ => exact (win0_2.rect_emb_val t (ix3 0 y q) 1).trans (by rw [h1]; exact Nat.zero_add _)
  | ⟨2, _⟩ => exact (win0_2.rect_emb_val t (ix3 0 y q) 2).trans (by rw [h2]; exact Nat.zero_add _)

theorem blk4_apply (c : Dev nD) (t : Fin cfg0.N) (y : Fin 512) (q : Fin 2048) : blk4 m c t (ix3 0 y q) = m ((c.tc : Thread nD τ).loc main_arg5) (ix3 1 y q) := by
  obtain ⟨h0, h1, h2⟩ := maps4 t
  show (V m c main_v2 : Vec Ideal S4x512x2048 .bf16) ((win0_4.rect t).emb (ix3 0 y q)) = _
  rw [V_v2]
  show m ((c.tc : Thread nD τ).loc main_arg5) ((win0_4.rect t).emb (ix3 0 y q)) = _
  congr 1
  funext a; apply Fin.ext
  match a with
  | ⟨0, _⟩ => exact (win0_4.rect_emb_val t (ix3 0 y q) 0).trans (by rw [h0]; rfl)
  | ⟨1, _⟩ => exact (win0_4.rect_emb_val t (ix3 0 y q) 1).trans (by rw [h1]; exact Nat.zero_add _)
  | ⟨2, _⟩ => exact (win0_4.rect_emb_val t (ix3 0 y q) 2).trans (by rw [h2]; exact Nat.zero_add _)

/-- The row of token `R` after the attention, from what the launch finds in memory. -/
def row (c : Dev nD) (R : Fin 8192) : Fin 2048 → EReal :=
  after (fun y => m ((c.tc : Thread nD τ).loc main_arg0) (ix3 ⟨R.val / 2048, by omega⟩ ⟨R.val % 2048, by omega⟩ y))
    (fun y => m ((c.tc : Thread nD τ).loc main_arg2) (ix2 1 y)) (fun y z => m ((c.tc : Thread nD τ).loc main_arg4) (ix3 1 y z))
    (fun j z => m ((c.tc : Thread nD τ).loc main_arg1) (ix3 ⟨R.val / 2048, by omega⟩ j z)) (fun e => m ((c.tc : Thread nD τ).loc main_arg6) (ix2 1 e))
    (fun e => m ((c.tc : Thread nD τ).loc main_arg7) (ix2 1 e)) (fun z n => m ((c.tc : Thread nD τ).loc main_arg5) (ix3 1 z n))

/-- The two results. -/
def result (c : Dev nD) : Vec Ideal S8192x2048 .f32 := fun i => row m c (i 0) (i 1)
def result' (c : Dev nD) : Vec Ideal S8192x2048 .bf16 := fun i =>
  normed N2048 (row m c (i 0)) (fun y => m ((c.tc : Thread nD τ).loc main_arg3) (ix2 1 y)) (i 1)

/-- A row of what the body stores first is the row of its token. -/
theorem block_row (c : Dev nD) (t : Fin cfg0.N) (r : Fin 1024) (R : Fin 8192) (hR : R.val = win0_8.index t 0 * 1024 + r.val) (q : Fin 2048) :
    k0_pay19 (F := Ideal) (blk0 m c t) (blk1 m c t) (blk2 m c t) (blk3 m c t) (blk4 m c t) (blk5 m c t) (blk6 m c t) (blk7 m c t) (ix2 r q) = row m c R q := by
  rw [pay19_apply]
  have e0 := fun y => blk0_apply m c t r y R hR
  have e3 := fun j z => blk3_apply m c t j z ⟨R.val / 2048, by omega⟩ (by dsimp only; omega)
  simp only [e0, e3, blk1_apply, blk2_apply, blk4_apply, blk5_apply, blk6_apply]
  rfl

/-- What a point writes back is its block of the results. -/
theorem flushed_eq (c : Dev nD) (t : Fin cfg0.N) : (dats m 0 c).flushed 8 t = (win0_8.blk t).view.read (Elt Ideal) (result m c) := by
  rw [Value.flushed8]
  unfold out0_8
  rw [View.canon_unit_zero hz2]
  funext j
  show k0_pay19 (F := Ideal) (blk0 m c t) (blk1 m c t) (blk2 m c t) (blk3 m c t) (blk4 m c t) (blk5 m c t) (blk6 m c t) (blk7 m c t) j = result m c ((win0_8.rect t).emb j)
  idx_vars j
  have v0 : ((win0_8.rect t).emb (ix2 j0 j1) 0 : Fin 8192).val = win0_8.index t 0 * 1024 + j0.val := win0_8.rect_emb_val t (ix2 j0 j1) 0
  have v1 : ((win0_8.rect t).emb (ix2 j0 j1) 1 : Fin 2048) = j1 := Fin.ext ((win0_8.rect_emb_val t (ix2 j0 j1) 1).trans (by rw [(maps8 t).2.1]; exact Nat.zero_add _))
  rw [block_row m c t j0 _ v0]
  show _ = row m c ((win0_8.rect t).emb (ix2 j0 j1) 0 : Fin 8192) ((win0_8.rect t).emb (ix2 j0 j1) 1 : Fin 2048)
  rw [v1]

theorem flushed_eq' (c : Dev nD) (t : Fin cfg0.N) : (dats m 0 c).flushed 9 t = (win0_9.blk t).view.read (Elt Ideal) (result' m c) := by
  rw [Value.flushed9]
  unfold out0_9
  rw [View.canon_unit_zero hz2]
  simp only [View.ld_unit_zero (S := S1x2048) hz2]
  funext j
  show k0_pay1 (F := Ideal) (k0_pay19 (F := Ideal) (blk0 m c t) (blk1 m c t) (blk2 m c t) (blk3 m c t) (blk4 m c t) (blk5 m c t) (blk6 m c t) (blk7 m c t)) (blk7 m c t) j
    = result' m c ((win0_9.rect t).emb j)
  idx_vars j
  have v0 : ((win0_9.rect t).emb (ix2 j0 j1) 0 : Fin 8192).val = win0_8.index t 0 * 1024 + j0.val := (win0_9.rect_emb_val t (ix2 j0 j1) 0).trans (by rw [(maps8 t).2.2.1]; rfl)
  have v1 : ((win0_9.rect t).emb (ix2 j0 j1) 1 : Fin 2048) = j1 := Fin.ext ((win0_9.rect_emb_val t (ix2 j0 j1) 1).trans (by rw [(maps8 t).2.2.2]; exact Nat.zero_add _))
  rw [pay1_apply]
  simp only [block_row m c t j0 _ v0, blk7_apply]
  show _ = normed N2048 (row m c ((win0_9.rect t).emb (ix2 j0 j1) 0 : Fin 8192)) (fun y => m ((c.tc : Thread nD τ).loc main_arg3) (ix2 1 y)) ((win0_9.rect t).emb (ix2 j0 j1) 1 : Fin 2048)
  rw [v1]

/-- A place of a result is in a point's block when its coordinates are. -/
theorem mem_blk (t : Fin cfg0.N) (i : S8192x2048.Idx) :
    i ∈ ((cfg0.win 8).blk t).view.set ↔ ∀ a : Fin 2, win0_8.index t a * win0_8.size a ≤ (i a).val ∧ (i a).val < win0_8.index t a * win0_8.size a + win0_8.size a := by
  show i ∈ ((View.whole main_v15_0).slice (win0_8.rect t)).set ↔ _
  rw [View.set_slice_whole, Rect.mem_set_unit]
  rfl

theorem mem_blk' (t : Fin cfg0.N) (i : S8192x2048.Idx) :
    i ∈ ((cfg0.win 9).blk t).view.set ↔ ∀ a : Fin 2, win0_9.index t a * win0_9.size a ≤ (i a).val ∧ (i a).val < win0_9.index t a * win0_9.size a + win0_9.size a := by
  show i ∈ ((View.whole main_v15_1).slice (win0_9.rect t)).set ↔ _
  rw [View.set_slice_whole, Rect.mem_set_unit]
  rfl

/-- Every place of a result is in some point's block. -/
theorem cover (i : S8192x2048.Idx) : ∃ t : Fin cfg0.N, (cfg0.win 8).flush t = true ∧ i ∈ ((cfg0.win 8).blk t).view.set := by
  idx_vars i
  obtain ⟨t, hf, -, h0⟩ := onto ⟨i0.val / 1024, by omega⟩
  refine ⟨t, hf, (mem_blk t _).2 fun a => ?_⟩
  match a with
  | ⟨0, _⟩ => show win0_8.index t 0 * 1024 ≤ i0.val ∧ i0.val < win0_8.index t 0 * 1024 + 1024; rw [h0]; dsimp only; omega
  | ⟨1, _⟩ => show win0_8.index t 1 * 2048 ≤ i1.val ∧ i1.val < win0_8.index t 1 * 2048 + 2048; rw [(maps8 t).2.1]; omega

theorem cover' (i : S8192x2048.Idx) : ∃ t : Fin cfg0.N, (cfg0.win 9).flush t = true ∧ i ∈ ((cfg0.win 9).blk t).view.set := by
  idx_vars i
  obtain ⟨t, -, hf, h0⟩ := onto ⟨i0.val / 1024, by omega⟩
  refine ⟨t, hf, (mem_blk' t _).2 fun a => ?_⟩
  match a with
  | ⟨0, _⟩ => show win0_9.index t 0 * 1024 ≤ i0.val ∧ i0.val < win0_9.index t 0 * 1024 + 1024; rw [(maps8 t).2.2.1, h0]; dsimp only; omega
  | ⟨1, _⟩ => show win0_9.index t 1 * 2048 ≤ i1.val ∧ i1.val < win0_9.index t 1 * 2048 + 2048; rw [(maps8 t).2.2.2]; omega

/-- The arrays after the launch. -/
theorem final (c : Dev nD) : (dats m 0 c).arrAt 8 cfg0.N = result m c :=
  (dats m 0 c).arrAt_eq_of_cover 8 (result m c) (fun t _ => flushed_eq m c t) cover

theorem final' (c : Dev nD) : (dats m 0 c).arrAt 9 cfg0.N = result' m c :=
  (dats m 0 c).arrAt_eq_of_cover 9 (result' m c) (fun t _ => flushed_eq' m c t) cover'

/-- An extended real the two comparisons with the infinities both pass is a real number. -/
theorem isReal_of_cmp (x : EReal) (hl : FloatOps.cmpf (F := Ideal) (φ := .f32) .ogt x BOT = 1#1) (hu : FloatOps.cmpf (F := Ideal) (φ := .f32) .olt x TOP = 1#1) : IsReal x := by
  rw [BOT_eq] at hl
  rw [TOP_eq] at hu
  rw [Ideal.cmpf_def] at hl hu
  rw [isReal_iff]
  constructor
  · rintro rfl
    simp [Ideal.cmp] at hu
  · rintro rfl
    simp [Ideal.cmp] at hl

/-- What the precondition says of the gains. -/
theorem gains (h : Cert.Pre_XAttnIdeal_finite_gains m) (c : Dev nD) (e : Fin 128) :
    IsReal (m ((c.tc : Thread nD τ).loc main_arg6) (ix2 1 e)) ∧ IsReal (m ((c.tc : Thread nD τ).loc main_arg7) (ix2 1 e)) := by
  obtain ⟨h0, h1, h2, h3⟩ := h c
  have g0 := congrFun h0 (ix1 e)
  have g1 := congrFun h1 (ix1 e)
  have g2 := congrFun h2 (ix1 e)
  have g3 := congrFun h3 (ix1 e)
  unfold Cert.Pre_finite_gains.fn at g0 g1 g2 g3
  dsimp only at g0 g1 g2 g3
  have k (w : Vec Ideal S4x128 .f32) : shapeCast S128 (extractStridedSlice S1x128 ![1, 0] w slices_S4x128_S1x128_1_0) shapeCasts_S1x128_S128 (ix1 e) = w (ix2 1 e) := by pointwise
  constructor
  · refine isReal_of_cmp _ ?_ ?_
    · exact (congrArg (fun z => FloatOps.cmpf (F := Ideal) (φ := .f32) .ogt z BOT) (k _)).symm.trans g0
    · exact (congrArg (fun z => FloatOps.cmpf (F := Ideal) (φ := .f32) .olt z TOP) (k _)).symm.trans g1
  · refine isReal_of_cmp _ ?_ ?_
    · exact (congrArg (fun z => FloatOps.cmpf (F := Ideal) (φ := .f32) .ogt z BOT) (k _)).symm.trans g2
    · exact (congrArg (fun z => FloatOps.cmpf (F := Ideal) (φ := .f32) .olt z TOP) (k _)).symm.trans g3

/-- The kernel's results are the reference's. -/
theorem claim : Cert.algebraic_XAttnIdeal_XAttnRefIdeal_pre_finite_gains := by
  intro m ρ m' ρ' hpre hagree
  have hrow : ∀ c R, row m c R = afterRef (fun y => m ((c.tc : Thread nD τ).loc main_arg0) (ix3 ⟨R.val / 2048, by omega⟩ ⟨R.val % 2048, by omega⟩ y))
    (fun y => m ((c.tc : Thread nD τ).loc main_arg2) (ix2 1 y)) (fun y z => m ((c.tc : Thread nD τ).loc main_arg4) (ix3 1 y z))
    (fun j z => m ((c.tc : Thread nD τ).loc main_arg1) (ix3 ⟨R.val / 2048, by omega⟩ j z)) (fun e => m ((c.tc : Thread nD τ).loc main_arg6) (ix2 1 e))
    (fun e => m ((c.tc : Thread nD τ).loc main_arg7) (ix2 1 e)) (fun z n => m ((c.tc : Thread nD τ).loc main_arg5) (ix3 1 z n)) := by
    intro c R
    funext q
    unfold row after afterRef
    simp only [head_eq _ _ _ _ (fun e => (gains m hpre c e).1) (fun e => (gains m hpre c e).2)]
  refine ⟨fun c => result m c, fun c => result' m c,
    (θ_run defs _ _).mono (fun _ h c => ⟨(h c).1.trans (final m c), (h c).2.1.trans (final' m c), (h c).2.2⟩) (Value.run_blocks m ρ),
    (θ_run _ _ _).mono (fun _ h c => ⟨(h c).1.trans ?_, (h c).2.1.trans ?_, (h c).2.2⟩) (Cert.XAttnRefIdeal.Value.run (F := Ideal) m' ρ')⟩
  · obtain ⟨a0, a1, a2, a3, a4, a5, a6, a7⟩ := hagree c
    rw [Cert.XAttnRefIdeal.Read.val_main_v89_eq, ref_out, a0, a1, a2, a4, a5, a6, a7]
    funext i
    exact (congrFun (hrow c (i 0)) (i 1)).symm
  · obtain ⟨a0, a1, a2, a3, a4, a5, a6, a7⟩ := hagree c
    rw [Cert.XAttnRefIdeal.Read.val_main_v91_eq, ref_out', a0, a1, a2, a3, a4, a5, a6, a7]
    funext i
    exact (congrArg (fun f : Fin 2048 → EReal => normed N2048 f (fun y => m ((c.tc : Thread nD τ).loc main_arg3) (ix2 1 y)) (i 1)) (hrow c (i 0))).symm

end Cert.XAttnIdeal.Heads
end
end
-- ==== Proof.FfnUp.lean ====
module

public import proofs.«01_k».proof.Proof.Gen.FfnUpIdeal.Value
public import proofs.«01_k».proof.Proof.Gen.FfnUpRefIdeal.Run
public import proofs.«01_k».proof.Proof.Gen.FfnUpRefIdeal.Read
public import proofs.«01_k».proof.Defs
public import proofs.«01_k».proof.Proof.Gen.FfnUpIdeal.Launch
public import Idealize.ShloMosaic.Lib.Pointwise
public import Idealize.ShloMosaic.Lib.MatmulPlain

@[expose] public section

set_option maxRecDepth 16384

/-! The feed-forward network's first product: the kernel's 32 blocks of `relu(h W)²` together are the array
    `relu(h W)²` that the reference computes at once. -/

noncomputable section

open Idealize Idealize.ShloMosaic Idealize.SL
open scoped BigOperators

namespace Cert.FfnUpIdeal.Square

open Cert.FfnUpIdeal Cert.FfnUpIdeal.Gen
open Cert.FfnUpRefIdeal (Read.val_main_v6)

/-- The result at row `r` and column `q`: the row times the layer's weight column, cut off below zero and squared. -/
def cell (h : Vec Ideal S8192x2048 .bf16) (w : Vec Ideal S4x2048x8192 .f32) (r : Fin 8192) (q : Fin 8192) : EReal :=
  max (∑ k : Fin 2048, h (ix2 r k) * w (ix3 1 k q)) 0 * max (∑ k : Fin 2048, h (ix2 r k) * w (ix3 1 k q)) 0

/-- The whole result. -/
def whole (h : Vec Ideal S8192x2048 .bf16) (w : Vec Ideal S4x2048x8192 .f32) : Vec Ideal S8192x8192 .bf16 :=
  fun i => cell h w (i 0) (i 1)

/-- What the body stores, read at one place. -/
theorem pay_apply (a : Vec Ideal S2048x2048 .bf16) (b : Vec Ideal S1x2048x1024 .f32) (r : Fin 2048) (q : Fin 1024) :
    k0_pay1 (F := Ideal) a b (ix2 r q)
      = max (∑ k : Fin 2048, a (ix2 r k) * b (ix3 0 k q)) 0 * max (∑ k : Fin 2048, a (ix2 r k) * b (ix3 0 k q)) 0 := by
  pointwise [k0_pay1]

/-- The reference's term, read at one place. -/
theorem ref_eq (h : Vec Ideal S8192x2048 .bf16) (w : Vec Ideal S4x2048x8192 .f32) :
    Cert.FfnUpRefIdeal.Read.val_main_v6 (F := Ideal) h w = whole h w := by
  funext i
  idx_vars i
  pointwise [Cert.FfnUpRefIdeal.Read.val_main_v6, Cert.FfnUpRefIdeal.Read.val_main_v5, Cert.FfnUpRefIdeal.Read.val_main_v4, Cert.FfnUpRefIdeal.Read.val_main_v3, Cert.FfnUpRefIdeal.Read.val_main_v2, Cert.FfnUpRefIdeal.Read.val_main_v1, Cert.FfnUpRefIdeal.Read.val_main_v0, Cert.FfnUpRefIdeal.Read.val_main_call0_v0, Cert.FfnUpRefIdeal.Read.val_main_call0_cst, whole, cell]

variable (m : (ℓ : Loc nD τ sig) → Buf (Elt Ideal) ℓ) (ρ : Dev nD → PrngReg)

/-- The result as a function of what the launch finds in memory. -/
def result (c : Dev nD) : Vec Ideal S8192x8192 .bf16 :=
  whole (m ((c.tc : Thread nD τ).loc main_arg0)) (m ((c.tc : Thread nD τ).loc main_arg1))

theorem hz2 : (![0, 0] : Fin 2 → Nat) = fun _ => 0 := funext fun a => by fin_cases a <;> rfl
theorem hz3 : (![0, 0, 0] : Fin 3 → Nat) = fun _ => 0 := funext fun a => by fin_cases a <;> rfl

/-- Which blocks the grid's points read, against the one they write. -/
theorem maps : ∀ t : Fin grid0.N, win0_0.index t 0 = win0_2.index t 0 ∧ win0_0.index t 1 = 0
    ∧ win0_1.index t 0 = 1 ∧ win0_1.index t 1 = 0 ∧ win0_1.index t 2 = win0_2.index t 1 := by decide +kernel

/-- Every block of the result is written at some point. -/
theorem onto : ∀ a : Fin 4, ∀ b : Fin 8, ∃ t : Fin grid0.N, win0_2.index t 0 = a.1 ∧ win0_2.index t 1 = b.1 := by decide +kernel

set_option maxHeartbeats 1000000 in
/-- What a point writes back is its block of the result. -/
theorem flushed_eq (c : Dev nD) (t : Fin cfg0.N) :
    (dats m 0 c).flushed 2 t = (win0_2.blk t).view.read (Elt Ideal) (result m c) := by
  rw [Value.flushed2]
  unfold out0_2
  rw [View.canon_unit_zero hz2, View.ld_unit_zero hz2, View.ld_unit_zero hz3]
  funext j
  show k0_pay1 (F := Ideal) (iblk m c 0 t) (iblk m c 1 t) j = result m c ((win0_2.rect t).emb j)
  obtain ⟨h00, h01, h10, h11, h12⟩ := maps t
  idx_vars j
  rw [pay_apply]
  have e : (win0_2.rect t).emb (ix2 j0 j1) = ix2 (n0 := 8192) (n1 := 8192) ((win0_2.rect t).emb (ix2 j0 j1) 0) ((win0_2.rect t).emb (ix2 j0 j1) 1) := eq_ix2 _
  have v0 : (((win0_2.rect t).emb (ix2 j0 j1) 0 : Fin 8192) : Nat) = win0_2.index t 0 * 2048 + j0 := win0_2.rect_emb_val t (ix2 j0 j1) 0
  have v1 : (((win0_2.rect t).emb (ix2 j0 j1) 1 : Fin 8192) : Nat) = win0_2.index t 1 * 1024 + j1 := win0_2.rect_emb_val t (ix2 j0 j1) 1
  have ha : ∀ k : Fin 2048, iblk m c 0 t (ix2 j0 k)
      = m ((c.tc : Thread nD τ).loc main_arg0) (ix2 ((win0_2.rect t).emb (ix2 j0 j1) 0) k) := fun k => by
    show m ((c.tc : Thread nD τ).loc main_arg0) ((win0_0.rect t).emb (ix2 j0 k)) = _
    congr 1
    funext a; apply Fin.ext
    match a with
    | ⟨0, _⟩ => exact (win0_0.rect_emb_val t (ix2 j0 k) 0).trans (by rw [h00]; exact v0.symm)
    | ⟨1, _⟩ => exact (win0_0.rect_emb_val t (ix2 j0 k) 1).trans (by rw [h01]; exact Nat.zero_add _)
  have hb : ∀ k : Fin 2048, iblk m c 1 t (ix3 0 k j1)
      = m ((c.tc : Thread nD τ).loc main_arg1) (ix3 1 k ((win0_2.rect t).emb (ix2 j0 j1) 1)) := fun k => by
    show m ((c.tc : Thread nD τ).loc main_arg1) ((win0_1.rect t).emb (ix3 0 k j1)) = _
    congr 1
    funext a; apply Fin.ext
    match a with
    | ⟨0, _⟩ => exact (win0_1.rect_emb_val t (ix3 0 k j1) 0).trans (by rw [h10]; rfl)
    | ⟨1, _⟩ => exact (win0_1.rect_emb_val t (ix3 0 k j1) 1).trans (by rw [h11]; exact Nat.zero_add _)
    | ⟨2, _⟩ => exact (win0_1.rect_emb_val t (ix3 0 k j1) 2).trans (by rw [h12]; exact v1.symm)
  simp only [ha, hb]
  rfl

/-- A place of the result is in a point's block when its coordinates are. -/
theorem mem_blk (t : Fin cfg0.N) (i : S8192x8192.Idx) :
    i ∈ ((cfg0.win 2).blk t).view.set ↔ ∀ a : Fin 2, win0_2.index t a * win0_2.size a ≤ (i a).val ∧ (i a).val < win0_2.index t a * win0_2.size a + win0_2.size a := by
  show i ∈ ((View.whole main_v0).slice (win0_2.rect t)).set ↔ _
  rw [View.set_slice_whole, Rect.mem_set_unit]
  rfl

/-- Every place of the result is in some point's block. -/
theorem cover (i : S8192x8192.Idx) : ∃ t : Fin cfg0.N, (cfg0.win 2).flush t = true ∧ i ∈ ((cfg0.win 2).blk t).view.set := by
  idx_vars i
  obtain ⟨t, h0, h1⟩ := onto ⟨i0.val / 2048, by omega⟩ ⟨i1.val / 1024, by omega⟩
  refine ⟨t, (by decide +kernel : ∀ t : Fin grid0.N, win0_2.flush t = true) t, (mem_blk t _).2 fun a => ?_⟩
  match a with
  | ⟨0, _⟩ => show win0_2.index t 0 * 2048 ≤ i0.val ∧ i0.val < win0_2.index t 0 * 2048 + 2048; rw [h0]; dsimp only; omega
  | ⟨1, _⟩ => show win0_2.index t 1 * 1024 ≤ i1.val ∧ i1.val < win0_2.index t 1 * 1024 + 1024; rw [h1]; dsimp only; omega

/-- The array after the launch. -/
theorem final (c : Dev nD) : (dats m 0 c).arrAt 2 cfg0.N = result m c :=
  (dats m 0 c).arrAt_eq_of_cover 2 (result m c) (fun t _ => flushed_eq m c t) cover

/-- The kernel runs, leaves `result` and keeps its arguments. -/
theorem run : θ_run defs (onTc (τ := τ) (main (F := Ideal))) ⟨m, fun _ => 0, ρ⟩ fun r => ∀ c : Dev nD,
    r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

/-- The kernel's result is the reference's. -/
theorem claim : Cert.algebraic_FfnUpIdeal_FfnUpRefIdeal := by
  intro m ρ m' ρ' _ hagree
  refine ⟨fun c => result m c, run m ρ, (θ_run _ _ _).mono (fun _ h c => ⟨(h c).1.trans ?_, (h c).2⟩) (Cert.FfnUpRefIdeal.Value.run (F := Ideal) m' ρ')⟩
  rw [Cert.FfnUpRefIdeal.Read.val_main_v6_eq, ref_eq, (hagree c).1, (hagree c).2]
  rfl

end Cert.FfnUpIdeal.Square

end

end
-- ==== Proof.FfnDown.lean ====
module

public import proofs.«01_k».proof.Defs
public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pointwise
public import Idealize.ShloMosaic.Lib.MatmulPlain

@[expose] public section

set_option maxRecDepth 16384

/-! The feed-forward network's second product and the residual: four partial products per block, added to the residual
    one after another, are the residual plus the whole product. -/

noncomputable section

open Idealize Idealize.ShloMosaic Idealize.SL
open scoped BigOperators

namespace Cert.FfnDownIdeal.Sum

open Cert.FfnDownIdeal Cert.FfnDownIdeal.Gen

/-- The `k`th product of row `r` and the layer's weight column `q`, zero beyond the last. -/
def term (h : Vec Ideal S8192x8192 .bf16) (w : Vec Ideal S4x8192x2048 .f32) (r : Fin 8192) (q : Fin 2048) (k : ℕ) : EReal :=
  if hk : k < 8192 then h (ix2 r ⟨k, hk⟩) * w (ix3 1 ⟨k, hk⟩ q) else 0

/-- The residual plus the first `n` products. -/
def upto (h : Vec Ideal S8192x8192 .bf16) (w : Vec Ideal S4x8192x2048 .f32) (x : Vec Ideal S8192x2048 .f32) (r : Fin 8192) (q : Fin 2048) (n : ℕ) : EReal :=
  x (ix2 r q) + ∑ k ∈ Finset.range n, term h w r q k

/-- The whole result. -/
def whole (h : Vec Ideal S8192x8192 .bf16) (w : Vec Ideal S4x8192x2048 .f32) (x : Vec Ideal S8192x2048 .f32) : Vec Ideal S8192x2048 .f32 :=
  fun i => upto h w x (i 0) (i 1) 8192

/-- 2048 further products. -/
theorem upto_add (h : Vec Ideal S8192x8192 .bf16) (w : Vec Ideal S4x8192x2048 .f32) (x : Vec Ideal S8192x2048 .f32) (r : Fin 8192) (q : Fin 2048) (n : ℕ) :
    upto h w x r q (n + 2048) = upto h w x r q n + ∑ k : Fin 2048, term h w r q (n + k) := by
  unfold upto
  rw [Finset.sum_range_add, ← add_assoc, Finset.sum_range (n := 2048)]

/-- What the first point of a block stores, read at one place. -/
theorem pay1_apply (x : Vec Ideal S1024x1024 .f32) (a : Vec Ideal S1024x2048 .bf16) (b : Vec Ideal S1x2048x1024 .f32) (r q : Fin 1024) :
    k0_pay1 (F := Ideal) x a b (ix2 r q) = x (ix2 r q) + ∑ k : Fin 2048, a (ix2 r k) * b (ix3 0 k q) := by
  pointwise [k0_pay1]

/-- What a later point stores, read at one place. -/
theorem pay2_apply (x : Vec Ideal S1024x1024 .f32) (a : Vec Ideal S1024x2048 .bf16) (b : Vec Ideal S1x2048x1024 .f32) (r q : Fin 1024) :
    k0_pay2 (F := Ideal) x a b (ix2 r q) = x (ix2 r q) + ∑ k : Fin 2048, a (ix2 r k) * b (ix3 0 k q) := by
  pointwise [k0_pay2]

/-- The reference's term. -/
theorem ref_eq (h : Vec Ideal S8192x8192 .bf16) (w : Vec Ideal S4x8192x2048 .f32) (x : Vec Ideal S8192x2048 .f32) :
    Cert.FfnDownRefIdeal.Read.val_main_v4 (F := Ideal) h w x = whole h w x := by
  funext i
  idx_vars i
  have e : whole h w x (ix2 i0 i1) = x (ix2 i0 i1) + ∑ k : Fin 8192, h (ix2 i0 k) * w (ix3 1 k i1) := by
    show x (ix2 i0 i1) + ∑ k ∈ Finset.range 8192, term h w i0 i1 k = _
    rw [← Fin.sum_univ_eq_sum_range]
    refine congrArg _ (Finset.sum_congr rfl fun k _ => ?_)
    unfold term
    rw [dif_pos k.isLt]
  rw [e]
  pointwise [Cert.FfnDownRefIdeal.Read.val_main_v4, Cert.FfnDownRefIdeal.Read.val_main_v3, Cert.FfnDownRefIdeal.Read.val_main_v2, Cert.FfnDownRefIdeal.Read.val_main_v1, Cert.FfnDownRefIdeal.Read.val_main_v0]

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem out_A (c : Dev nD) (i : grid0.Coords) (a1 : Memref sig .tc .vmem S1024x2048 .bf16) (h1 : a1.IsWhole)
    (a2 : Memref sig .tc .vmem S1x2048x1024 .f32) (h2 : a2.IsWhole) (a3 : Memref sig .tc .vmem S1024x1024 .f32) (h3 : a3.IsWhole)
    (a4 : Memref sig .tc .vmem S1024x1024 .f32) (h4 : a4.IsWhole) (hc0 hc1) (x0 : Vec Ideal S1024x2048 .bf16) (x1 : Vec Ideal S1x2048x1024 .f32) (x2 : Vec Ideal S1024x1024 .f32) :
    out0_A_3 c i a1 h1 a2 h2 a3 h3 a4 h4 hc0 hc1 x0 x1 x2 = k0_pay1 x2 x0 x1 := by
  unfold out0_A_3
  rw [View.read_writes_eq_canon _ _ _ (cover0_A_3 c i a1 h1 a2 h2 a3 h3 a4 h4 hc0 hc1 x0 x1 x2)]
  unfold kernelRun0_A
  dsimp only
  rw [View.canon_unit_zero hz2]
  simp only [View.readAt_eq_ld, h1.read_unread, h2.read_unread, h3.read_unread, View.ld_unit_zero (S := S1024x1024) hz2, View.ld_unit_zero (S := S1024x2048) hz2, View.ld_unit_zero (S := S1x2048x1024) hz3]

theorem out_B (c : Dev nD) (i : grid0.Coords) (a1 : Memref sig .tc .vmem S1024x2048 .bf16) (h1 : a1.IsWhole)
    (a2 : Memref sig .tc .vmem S1x2048x1024 .f32) (h2 : a2.IsWhole) (a3 : Memref sig .tc .vmem S1024x1024 .f32) (h3 : a3.IsWhole)
    (a4 : Memref sig .tc .vmem S1024x1024 .f32) (h4 : a4.IsWhole) (hc0 hc1) (x0 : Vec Ideal S1024x2048 .bf16) (x1 : Vec Ideal S1x2048x1024 .f32) (x2 xo : Vec Ideal S1024x1024 .f32) :
    out0_B_3 c i a1 h1 a2 h2 a3 h3 a4 h4 hc0 hc1 x0 x1 x2 xo = k0_pay2 xo x0 x1 := by
  unfold out0_B_3
  rw [View.read_writes_eq_canon _ _ _ (cover0_B_3 c i a1 h1 a2 h2 a3 h3 a4 h4 hc0 hc1 x0 x1 x2 xo)]
  unfold kernelRun0_B
  dsimp only
  rw [View.canon_unit_zero hz2]
  simp only [View.readAt_eq_ld, h1.read_unread, h2.read_unread, h3.read_unread, h4.read_unread, View.ld_unit_zero (S := S1024x1024) hz2, View.ld_unit_zero (S := S1024x2048) hz2, View.ld_unit_zero (S := S1x2048x1024) hz3]

/-- Which blocks the grid's points read, against the one they write. -/
theorem maps : ∀ t : Fin grid0.N, win0_0.index t 0 = win0_3.index t 0 ∧ win0_0.index t 1 = t.val % 4
    ∧ win0_1.index t 0 = 1 ∧ win0_1.index t 1 = t.val % 4 ∧ win0_1.index t 2 = win0_3.index t 1
    ∧ win0_2.index t 0 = win0_3.index t 0 ∧ win0_2.index t 1 = win0_3.index t 1 := by decide +kernel

/-- Four points in a row write the same block. -/
theorem index_div : ∀ t : Fin grid0.N, win0_3.index t 0 = t.val / 4 / 2 ∧ win0_3.index t 1 = t.val / 4 % 2 := by decide +kernel

/-- Every block of the result is finished at some point. -/
theorem onto : ∀ a : Fin 8, ∀ b : Fin 2, ∃ t : Fin grid0.N, win0_3.flush t = true ∧ win0_3.index t 0 = a.1 ∧ win0_3.index t 1 = b.1 := by decide +kernel

/-- A block is written back at the last of its four points. -/
theorem flush_last : ∀ t : Fin grid0.N, win0_3.flush t = true → t.val % 4 = 3 := by decide +kernel

/-- The arguments, as the launch finds them. -/
abbrev hid (c : Dev nD) : Vec Ideal S8192x8192 .bf16 := m ((c.tc : Thread nD τ).loc main_arg0)
abbrev wts (c : Dev nD) : Vec Ideal S4x8192x2048 .f32 := m ((c.tc : Thread nD τ).loc main_arg1)
abbrev res (c : Dev nD) : Vec Ideal S8192x2048 .f32 := m ((c.tc : Thread nD τ).loc main_arg2)

/-- The row and the column of the result at a place of point `t`'s block. -/
abbrev rowOf (t : Fin cfg0.N) (j : S1024x1024.Idx) : Fin 8192 := (win0_3.rect t).emb j 0
abbrev colOf (t : Fin cfg0.N) (j : S1024x1024.Idx) : Fin 2048 := (win0_3.rect t).emb j 1

theorem row_val (t : Fin cfg0.N) (j0 j1 : Fin 1024) : (rowOf t (ix2 j0 j1)).val = win0_3.index t 0 * 1024 + j0.val := win0_3.rect_emb_val t (ix2 j0 j1) 0
theorem col_val (t : Fin cfg0.N) (j0 j1 : Fin 1024) : (colOf t (ix2 j0 j1)).val = win0_3.index t 1 * 1024 + j1.val := win0_3.rect_emb_val t (ix2 j0 j1) 1

/-- The blocks of a point. -/
abbrev hidBlk (c : Dev nD) (t : Fin cfg0.N) : Vec Ideal S1024x2048 .bf16 := iblk m c 0 t
abbrev wtsBlk (c : Dev nD) (t : Fin cfg0.N) : Vec Ideal S1x2048x1024 .f32 := iblk m c 1 t
abbrev resBlk (c : Dev nD) (t : Fin cfg0.N) : Vec Ideal S1024x1024 .f32 := iblk m c 2 t

/-- The hidden activations' block at a point, read at one place. -/
theorem blk0 (c : Dev nD) (t : Fin cfg0.N) (j0 j1 : Fin 1024) (k : Fin 2048) (hk : 2048 * (t.val % 4) + k.val < 8192) :
    hidBlk m c t (ix2 j0 k) = hid m c (ix2 (rowOf t (ix2 j0 j1)) ⟨2048 * (t.val % 4) + k.val, hk⟩) := by
  obtain ⟨h00, h01, -⟩ := maps t
  show hid m c ((win0_0.rect t).emb (ix2 j0 k)) = _
  congr 1
  funext a; apply Fin.ext
  match a with
  | ⟨0, _⟩ => exact (win0_0.rect_emb_val t (ix2 j0 k) 0).trans (by rw [h00]; exact (row_val t j0 j1).symm)
  | ⟨1, _⟩ => exact (win0_0.rect_emb_val t (ix2 j0 k) 1).trans (by rw [h01]; exact congrArg (· + k.val) (Nat.mul_comm _ 2048))

/-- The weights' block at a point, read at one place. -/
theorem blk1 (c : Dev nD) (t : Fin cfg0.N) (j0 j1 : Fin 1024) (k : Fin 2048) (hk : 2048 * (t.val % 4) + k.val < 8192) :
    wtsBlk m c t (ix3 0 k j1) = wts m c (ix3 1 ⟨2048 * (t.val % 4) + k.val, hk⟩ (colOf t (ix2 j0 j1))) := by
  obtain ⟨-, -, h10, h11, h12, -⟩ := maps t
  show wts m c ((win0_1.rect t).emb (ix3 0 k j1)) = _
  congr 1
  funext a; apply Fin.ext
  match a with
  | ⟨0, _⟩ => exact (win0_1.rect_emb_val t (ix3 0 k j1) 0).trans (by rw [h10]; rfl)
  | ⟨1, _⟩ => exact (win0_1.rect_emb_val t (ix3 0 k j1) 1).trans (by rw [h11]; exact congrArg (· + k.val) (Nat.mul_comm _ 2048))
  | ⟨2, _⟩ => exact (win0_1.rect_emb_val t (ix3 0 k j1) 2).trans (by rw [h12]; exact (col_val t j0 j1).symm)

/-- The residual's block at a point, read at one place. -/
theorem blk2 (c : Dev nD) (t : Fin cfg0.N) (j0 j1 : Fin 1024) :
    resBlk m c t (ix2 j0 j1) = res m c (ix2 (rowOf t (ix2 j0 j1)) (colOf t (ix2 j0 j1))) := by
  obtain ⟨-, -, -, -, -, h20, h21⟩ := maps t
  show res m c ((win0_2.rect t).emb (ix2 j0 j1)) = _
  congr 1
  funext a; apply Fin.ext
  match a with
  | ⟨0, _⟩ => exact (win0_2.rect_emb_val t (ix2 j0 j1) 0).trans (by rw [h20]; exact (row_val t j0 j1).symm)
  | ⟨1, _⟩ => exact (win0_2.rect_emb_val t (ix2 j0 j1) 1).trans (by rw [h21]; exact (col_val t j0 j1).symm)

/-- The partial product of a point is 2048 further products. -/
theorem part (c : Dev nD) (t : Fin cfg0.N) (j0 j1 : Fin 1024) (n : ℕ) (hn : n = t.val % 4) :
    ∑ k : Fin 2048, hidBlk m c t (ix2 j0 k) * wtsBlk m c t (ix3 0 k j1)
      = ∑ k : Fin 2048, term (hid m c) (wts m c) (rowOf t (ix2 j0 j1)) (colOf t (ix2 j0 j1)) (2048 * n + k) := by
  subst hn
  refine Finset.sum_congr rfl fun k _ => ?_
  have hk : 2048 * (t.val % 4) + k.val < 8192 := by have := k.isLt; omega
  rw [blk0 m c t j0 j1 k hk, blk1 m c t j0 j1 k hk, term, dif_pos hk]

/-- What the block holds after a point: the residual and all products so far. -/
theorem outs_eq (c : Dev nD) (j0 j1 : Fin 1024) : ∀ (n : ℕ) (hn : n < cfg0.N), outsAt0 m c n hn (ix2 j0 j1)
    = upto (hid m c) (wts m c) (res m c) (rowOf ⟨n, hn⟩ (ix2 j0 j1)) (colOf ⟨n, hn⟩ (ix2 j0 j1)) (2048 * (n % 4) + 2048)
  | n, hn => by
    by_cases h0 : n % 4 = 0
    · refine (congrFun ((outsAt0_A m c ⟨n, hn⟩ h0 (by dsimp only; omega)).trans (out_A ..)) _).trans ?_
      rw [pay1_apply, part m c ⟨n, hn⟩ j0 j1 0 h0.symm, show iblk m c 2 ⟨n, hn⟩ (ix2 j0 j1) = _ from blk2 m c ⟨n, hn⟩ j0 j1, h0, upto_add]
      congr 1
      show _ = _ + ∑ k ∈ Finset.range 0, _
      rw [Finset.sum_range_zero, add_zero]
    · obtain ⟨p, rfl⟩ : ∃ p, n = p + 1 := ⟨n - 1, by omega⟩
      have hp : p < cfg0.N := by omega
      refine (congrFun ((outsAt0_B m c ⟨p + 1, hn⟩ h0 (by dsimp only; omega)).trans (out_B ..)) _).trans ?_
      rw [pay2_apply, part m c ⟨p + 1, hn⟩ j0 j1 _ rfl, upto_add]
      congr 1
      refine (outs_eq c j0 j1 p hp).trans ?_
      have er : rowOf ⟨p, hp⟩ (ix2 j0 j1) = rowOf ⟨p + 1, hn⟩ (ix2 j0 j1) := by
        apply Fin.ext
        rw [row_val, row_val, (index_div ⟨p, hp⟩).1, (index_div ⟨p + 1, hn⟩).1]
        dsimp only; omega
      have ec : colOf ⟨p, hp⟩ (ix2 j0 j1) = colOf ⟨p + 1, hn⟩ (ix2 j0 j1) := by
        apply Fin.ext
        rw [col_val, col_val, (index_div ⟨p, hp⟩).2, (index_div ⟨p + 1, hn⟩).2]
        dsimp only; omega
      rw [er, ec]
      congr 1
      omega

/-- The result as a function of what the launch finds in memory. -/
def result (c : Dev nD) : Vec Ideal S8192x2048 .f32 := whole (hid m c) (wts m c) (res m c)

/-- What a block's last point writes back is its block of the result. -/
theorem flushed_eq (c : Dev nD) (t : Fin cfg0.N) (hf : (cfg0.win 3).flush t = true) :
    (dats m 0 c).flushed 3 t = (win0_3.blk t).view.read (Elt Ideal) (result m c) := by
  rw [Value.flushed3]
  funext j
  show outsAt0 m c t.val t.isLt j = result m c ((win0_3.rect t).emb j)
  idx_vars j
  rw [outs_eq, flush_last t hf]
  rfl

/-- A place of the result is in a point's block when its coordinates are. -/
theorem mem_blk (t : Fin cfg0.N) (i : S8192x2048.Idx) :
    i ∈ ((cfg0.win 3).blk t).view.set ↔ ∀ a : Fin 2, win0_3.index t a * win0_3.size a ≤ (i a).val ∧ (i a).val < win0_3.index t a * win0_3.size a + win0_3.size a := by
  show i ∈ ((View.whole main_v0).slice (win0_3.rect t)).set ↔ _
  rw [View.set_slice_whole, Rect.mem_set_unit]
  rfl

/-- Every place of the result is in some block written back. -/
theorem cover (i : S8192x2048.Idx) : ∃ t : Fin cfg0.N, (cfg0.win 3).flush t = true ∧ i ∈ ((cfg0.win 3).blk t).view.set := by
  idx_vars i
  obtain ⟨t, hf, h0, h1⟩ := onto ⟨i0.val / 1024, by omega⟩ ⟨i1.val / 1024, by omega⟩
  refine ⟨t, hf, (mem_blk t _).2 fun a => ?_⟩
  match a with
  | ⟨0, _⟩ => show win0_3.index t 0 * 1024 ≤ i0.val ∧ i0.val < win0_3.index t 0 * 1024 + 1024; rw [h0]; dsimp only; omega
  | ⟨1, _⟩ => show win0_3.index t 1 * 1024 ≤ i1.val ∧ i1.val < win0_3.index t 1 * 1024 + 1024; rw [h1]; dsimp only; omega

/-- The array after the launch. -/
theorem final (c : Dev nD) : (dats m 0 c).arrAt 3 cfg0.N = result m c :=
  (dats m 0 c).arrAt_eq_of_cover 3 (result m c) (fun t hf => flushed_eq m c t hf) cover

/-- The kernel runs, leaves `result` and keeps its arguments. -/
theorem run : θ_run defs (onTc (τ := τ) (main (F := Ideal))) ⟨m, fun _ => 0, ρ⟩ fun r => ∀ c : Dev nD,
    r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

/-- The kernel's result is the reference's. -/
theorem claim : Cert.algebraic_FfnDownIdeal_FfnDownRefIdeal := by
  intro m ρ m' ρ' _ hagree
  refine ⟨fun c => result m c, run m ρ, (θ_run _ _ _).mono (fun _ h c => ⟨(h c).1.trans ?_, (h c).2⟩) (Cert.FfnDownRefIdeal.Value.run (F := Ideal) m' ρ')⟩
  rw [Cert.FfnDownRefIdeal.Read.val_main_v4_eq, ref_eq, (hagree c).1, (hagree c).2.1, (hagree c).2.2]
  rfl

end Cert.FfnDownIdeal.Sum

end

end
-- ==== Proof.ShortConv.lean ====
module

public import proofs.«01_k».proof.Defs
public import proofs.«01_k».proof.Proof.Gen.ShortConvIdeal.Value
public import proofs.«01_k».proof.Proof.Gen.ShortConvRefIdeal.Run
public import proofs.«01_k».proof.Proof.Gen.ShortConvRefIdeal.Read
public import Idealize.ShloMosaic.Lib.Pointwise
public import Idealize.ShloMosaic.Lib.StableHlo.RunRead

@[expose] public section

set_option maxRecDepth 16384

/-! The gated convolution of three taps: the rows shifted down and up by a rotation under a mask are the padded
    rows' slices. -/

noncomputable section

open Idealize Idealize.ShloMosaic Idealize.SL
open scoped BigOperators

namespace Cert.ShortConvIdeal.Taps

open Cert.ShortConvIdeal Cert.ShortConvIdeal.Gen

/-- The two gates' product at a row and a channel. -/
def gate (p : Vec Ideal S8192x7168 .bf16) (R : Fin 8192) (q : Fin 1024) : EReal :=
  p (ix2 R ⟨5120 + q.val, by omega⟩) * p (ix2 R ⟨6144 + q.val, by omega⟩)

/-- The result at row `r` of sequence `b`: three taps of the gates' product, zero beyond the sequence's ends, times the
    third gate. -/
def cell (p : Vec Ideal S8192x7168 .bf16) (w : Vec Ideal S2x1024x3 .f32) (b : Fin 4) (r : Fin 2048) (q : Fin 1024) : EReal :=
  p (ix2 ⟨b.val * 2048 + r.val, by omega⟩ ⟨4096 + q.val, by omega⟩)
    * ((if 1 ≤ r.val then gate p ⟨b.val * 2048 + (r.val - 1), by omega⟩ q else 0) * w (ix3 0 q 0)
        + gate p ⟨b.val * 2048 + r.val, by omega⟩ q * w (ix3 0 q 1)
        + (if h : r.val + 1 < 2048 then gate p ⟨b.val * 2048 + (r.val + 1), by omega⟩ q else 0) * w (ix3 0 q 2))

/-- The whole result. -/
def whole (p : Vec Ideal S8192x7168 .bf16) (w : Vec Ideal S2x1024x3 .f32) : Vec Ideal S8192x1024 .bf16 :=
  fun i => cell p w ⟨(i 0).val / 2048, by have : (i 0).val < 8192 := (i 0).isLt; omega⟩ ⟨(i 0).val % 2048, by omega⟩ (i 1)

/-- A choice by a row's number against a constant. -/
theorem select_row (r : ℕ) (n : BitVec 32) (hr : r < 2048) (x y : EReal) :
    Scalar.select (IntOp.cmpi CmpIPredicate.eq (BitVec.ofNat 32 r) n) x y = if r = n.toNat then x else y := by
  have e : (BitVec.ofNat 32 r = n) ↔ r = n.toNat := by
    constructor
    · rintro rfl
      simp only [BitVec.toNat_ofNat]
      omega
    · rintro rfl; simp
  by_cases h : r = n.toNat
  · have h' := e.2 h
    simp [Scalar.select, IntOp.cmpi, h]
  · have h' : ¬ BitVec.ofNat 32 r = n := fun k => h (e.1 k)
    have h'' : (BitVec.ofNat 32 r == n) = false := beq_eq_false_iff_ne.2 h'
    simp [Scalar.select, IntOp.cmpi, h, h'']

/-- What the body stores, read at one place. -/
theorem pay_apply (a b g : Vec Ideal S2048x512 .bf16) (w : Vec Ideal S3x512 .f32) (r : Fin 2048) (q : Fin 512) :
    k0_pay1 (F := Ideal) a b w g (ix2 r q)
      = g (ix2 r q) * ((if 1 ≤ r.val then a (ix2 ⟨r.val - 1, by omega⟩ q) * b (ix2 ⟨r.val - 1, by omega⟩ q) else 0) * w (ix2 0 q)
          + a (ix2 r q) * b (ix2 r q) * w (ix2 1 q)
          + (if h : r.val + 1 < 2048 then a (ix2 ⟨r.val + 1, by omega⟩ q) * b (ix2 ⟨r.val + 1, by omega⟩ q) else 0) * w (ix2 2 q)) := by
  pointwise [k0_pay1]
  simp only [select_row r.val _ r.isLt]
  congr 2
  · congr 1
    by_cases h : 1 ≤ r.val
    · rw [if_neg (show ¬ r.val = (0#32 : BitVec 32).toNat from by simp; omega), if_pos h]
      have e : ∀ hh, (⟨(r.val + 2048 - 1) % 2048, hh⟩ : Fin 2048) = ⟨r.val - 1, by omega⟩ := fun _ => Fin.ext (by dsimp only; omega)
      rw [e]
    · rw [if_pos (show r.val = (0#32 : BitVec 32).toNat from by simp; omega), if_neg h, zero_mul]
  · by_cases h : r.val + 1 < 2048
    · rw [if_neg (show ¬ r.val = (2047#32 : BitVec 32).toNat from by simp; omega), dif_pos h]
      have e : ∀ hh, (⟨(r.val + 2048 - 2047) % 2048, hh⟩ : Fin 2048) = ⟨r.val + 1, by omega⟩ := fun _ => Fin.ext (by dsimp only; omega)
      rw [e]
    · rw [if_pos (show r.val = (2047#32 : BitVec 32).toNat from by simp; omega), dif_neg h, zero_mul]

open Cert.ShortConvRefIdeal.Read in
/-- The reference's padded product, read at one place. -/
theorem ref_pad (p : Vec Ideal S8192x7168 .bf16) (b : Fin 4) (s : Fin 2050) (q : Fin 1024) :
    val_main_v9 (F := Ideal) p (ix3 b s q) = if h : 1 ≤ s.val ∧ s.val - 1 < 2048 then gate p ⟨b.val * 2048 + (s.val - 1), by omega⟩ q else 0 := by
  pointwise [val_main_v9, val_main_v8, val_main_v7, val_main_v6, val_main_v4, val_main_v3, val_main_v2, val_main_call0_v0, val_main_c]
  by_cases h : 1 ≤ s.val ∧ s.val - 1 < 2048
  · rw [dif_pos h, dif_pos h]
    unfold gate
    congr 3
    · apply Fin.ext; dsimp only; omega
    · apply Fin.ext; dsimp only; omega
  · rw [dif_neg h, dif_neg h]
    simp [FloatOps.sitofp]

set_option maxHeartbeats 1000000 in
open Cert.ShortConvRefIdeal.Read in
/-- The reference's term before its last reshape, read at one place. -/
theorem ref_apply (p : Vec Ideal S8192x7168 .bf16) (w : Vec Ideal S2x1024x3 .f32) (b : Fin 4) (r : Fin 2048) (q : Fin 1024) :
    val_main_v30 (F := Ideal) p w (ix3 b r q) = cell p w b r q := by
  have h0 : val_main_v10 (F := Ideal) p (ix3 b r q) = if 1 ≤ r.val then gate p ⟨b.val * 2048 + (r.val - 1), by omega⟩ q else 0 := by
    pointwise [val_main_v10]
    rw [ref_pad]
    by_cases h : 1 ≤ r.val
    · rw [dif_pos ⟨by simpa using h, by dsimp only; omega⟩, if_pos h]
    · rw [dif_neg (by dsimp only; omega), if_neg h]
  have h1 : val_main_v16 (F := Ideal) p (ix3 b r q) = gate p ⟨b.val * 2048 + r.val, by omega⟩ q := by
    pointwise [val_main_v16]
    rw [ref_pad, dif_pos ⟨by dsimp only; omega, by dsimp only; omega⟩]
    congr 1
    apply Fin.ext; dsimp only; omega
  have h2 : val_main_v23 (F := Ideal) p (ix3 b r q) = if h : r.val + 1 < 2048 then gate p ⟨b.val * 2048 + (r.val + 1), by omega⟩ q else 0 := by
    pointwise [val_main_v23]
    rw [ref_pad]
    by_cases h : r.val + 1 < 2048
    · rw [dif_pos ⟨by dsimp only; omega, by dsimp only; omega⟩, dif_pos h]
      congr 1
      apply Fin.ext; dsimp only; omega
    · rw [dif_neg (by dsimp only; omega), dif_neg h]
  unfold val_main_v30 val_main_v29 val_main_v28 val_main_v22 val_main_v21 val_main_v15
  show val_main_v5 (F := Ideal) p (ix3 b r q) * (val_main_v10 (F := Ideal) p (ix3 b r q) * val_main_v14 (F := Ideal) w (ix3 b r q)
    + val_main_v16 (F := Ideal) p (ix3 b r q) * val_main_v20 (F := Ideal) w (ix3 b r q) + val_main_v23 (F := Ideal) p (ix3 b r q) * val_main_v27 (F := Ideal) w (ix3 b r q)) = _
  rw [h0, h1, h2]
  unfold cell
  have w0 : val_main_v14 (F := Ideal) w (ix3 b r q) = w (ix3 0 q 0) := by
    pointwise [val_main_v14, val_main_v13, val_main_v12, val_main_v11, val_main_v1, val_main_v0]
  have w1 : val_main_v20 (F := Ideal) w (ix3 b r q) = w (ix3 0 q 1) := by
    pointwise [val_main_v20, val_main_v19, val_main_v18, val_main_v17, val_main_v1, val_main_v0]
  have w2 : val_main_v27 (F := Ideal) w (ix3 b r q) = w (ix3 0 q 2) := by
    pointwise [val_main_v27, val_main_v26, val_main_v25, val_main_v24, val_main_v1, val_main_v0]
  have g : val_main_v5 (F := Ideal) p (ix3 b r q) = p (ix2 ⟨b.val * 2048 + r.val, by omega⟩ ⟨4096 + q.val, by omega⟩) := by
    pointwise [val_main_v5, val_main_v4, val_main_v3, val_main_v2]
  rw [w0, w1, w2, g]

/-- The reference's term. -/
theorem ref_eq (p : Vec Ideal S8192x7168 .bf16) (w : Vec Ideal S2x1024x3 .f32) :
    Cert.ShortConvRefIdeal.Read.val_main_v32 (F := Ideal) p w = whole p w := by
  funext i
  idx_vars i
  show _ = cell p w ⟨i0.val / 2048, by omega⟩ ⟨i0.val % 2048, by omega⟩ i1
  rw [← ref_apply]
  pointwise [Cert.ShortConvRefIdeal.Read.val_main_v32, Cert.ShortConvRefIdeal.Read.val_main_v31]

variable (m : (ℓ : Loc nD τ sig) → Buf (Elt Ideal) ℓ) (ρ : Dev nD → PrngReg)

/-- The taps' array as the kernel finds it. -/
theorem taps_eq (c : Dev nD) : (V m c main_v2 : Vec Ideal S3x1024 .f32)
    = transpose S3x1024 [1, 0] (shapeCast S1024x3 (extractStridedSlice S1x1024x3 ![0, 0, 0] (m ((c.tc : Thread nD τ).loc main_arg1)) slices_S2x1024x3_S1x1024x3_0_0_0) shapeCasts_S1x1024x3_S1024x3) transposes_S1024x3_S3x1024_1_0 := by
  show StableHlo.after hostOps0 _ _ = _
  after_reads_simp
  rfl

theorem taps_apply (c : Dev nD) (k : Fin 3) (q : Fin 1024) :
    (V m c main_v2 : Vec Ideal S3x1024 .f32) (ix2 k q) = m ((c.tc : Thread nD τ).loc main_arg1) (ix3 0 q k) := by
  rw [taps_eq]
  generalize m ((c.tc : Thread nD τ).loc main_arg1) = w
  pointwise

theorem hz2 : (![0, 0] : Fin 2 → Nat) = fun _ => 0 := funext fun a => by fin_cases a <;> rfl

/-- Which blocks the grid's points read, against the one they write. -/
theorem maps : ∀ t : Fin grid0.N, (win0_0.index t 0 = win0_4.index t 0 ∧ win0_0.index t 1 = 8 + win0_4.index t 1)
    ∧ (win0_1.index t 0 = win0_4.index t 0 ∧ win0_1.index t 1 = 10 + win0_4.index t 1)
    ∧ (win0_2.index t 0 = win0_4.index t 0 ∧ win0_2.index t 1 = 12 + win0_4.index t 1)
    ∧ (win0_3.index t 0 = 0 ∧ win0_3.index t 1 = win0_4.index t 1) ∧ win0_4.index t 0 < 4 ∧ win0_4.index t 1 < 2 := by decide +kernel

/-- Every block of the result is written at some point. -/
theorem onto : ∀ a : Fin 4, ∀ b : Fin 2, ∃ t : Fin grid0.N, win0_4.flush t = true ∧ win0_4.index t 0 = a.1 ∧ win0_4.index t 1 = b.1 := by decide +kernel

/-- The arguments, and the blocks of a point. -/
abbrev rows (c : Dev nD) : Vec Ideal S8192x7168 .bf16 := m ((c.tc : Thread nD τ).loc main_arg0)
abbrev blkG (c : Dev nD) (t : Fin cfg0.N) : Vec Ideal S2048x512 .bf16 := iblk m c 0 t
abbrev blkA (c : Dev nD) (t : Fin cfg0.N) : Vec Ideal S2048x512 .bf16 := iblk m c 1 t
abbrev blkB (c : Dev nD) (t : Fin cfg0.N) : Vec Ideal S2048x512 .bf16 := iblk m c 2 t
abbrev blkW (c : Dev nD) (t : Fin cfg0.N) : Vec Ideal S3x512 .f32 := iblk m c 3 t

/-- A place of a block of the rows, in the rows. -/
theorem blkG_apply (c : Dev nD) (t : Fin cfg0.N) (r : Fin 2048) (q : Fin 512) (R : Fin 8192) (Q : Fin 7168)
    (hR : R.val = win0_4.index t 0 * 2048 + r.val) (hQ : Q.val = (8 + win0_4.index t 1) * 512 + q.val) :
    blkG m c t (ix2 r q) = rows m c (ix2 R Q) := by
  obtain ⟨⟨h0, h1⟩, -⟩ := maps t
  show V m c main_arg0 ((win0_0.rect t).emb (ix2 r q)) = _
  rw [V_main_arg0]
  congr 1
  funext a; apply Fin.ext
  match a with
  | ⟨0, _⟩ => exact (win0_0.rect_emb_val t (ix2 r q) 0).trans (by rw [h0]; exact hR.symm)
  | ⟨1, _⟩ => exact (win0_0.rect_emb_val t (ix2 r q) 1).trans (by rw [h1]; exact hQ.symm)

theorem blkA_apply (c : Dev nD) (t : Fin cfg0.N) (r : Fin 2048) (q : Fin 512) (R : Fin 8192) (Q : Fin 7168)
    (hR : R.val = win0_4.index t 0 * 2048 + r.val) (hQ : Q.val = (10 + win0_4.index t 1) * 512 + q.val) :
    blkA m c t (ix2 r q) = rows m c (ix2 R Q) := by
  obtain ⟨-, ⟨h0, h1⟩, -⟩ := maps t
  show V m c main_arg0 ((win0_1.rect t).emb (ix2 r q)) = _
  rw [V_main_arg0]
  congr 1
  funext a; apply Fin.ext
  match a with
  | ⟨0, _⟩ => exact (win0_1.rect_emb_val t (ix2 r q) 0).trans (by rw [h0]; exact hR.symm)
  | ⟨1, _⟩ => exact (win0_1.rect_emb_val t (ix2 r q) 1).trans (by rw [h1]; exact hQ.symm)

theorem blkB_apply (c : Dev nD) (t : Fin cfg0.N) (r : Fin 2048) (q : Fin 512) (R : Fin 8192) (Q : Fin 7168)
    (hR : R.val = win0_4.index t 0 * 2048 + r.val) (hQ : Q.val = (12 + win0_4.index t 1) * 512 + q.val) :
    blkB m c t (ix2 r q) = rows m c (ix2 R Q) := by
  obtain ⟨-, -, ⟨h0, h1⟩, -⟩ := maps t
  show V m c main_arg0 ((win0_2.rect t).emb (ix2 r q)) = _
  rw [V_main_arg0]
  congr 1
  funext a; apply Fin.ext
  match a with
  | ⟨0, _⟩ => exact (win0_2.rect_emb_val t (ix2 r q) 0).trans (by rw [h0]; exact hR.symm)
  | ⟨1, _⟩ => exact (win0_2.rect_emb_val t (ix2 r q) 1).trans (by rw [h1]; exact hQ.symm)

theorem blkW_apply (c : Dev nD) (t : Fin cfg0.N) (k : Fin 3) (q : Fin 512) (Q : Fin 1024) (hQ : Q.val = win0_4.index t 1 * 512 + q.val) :
    blkW m c t (ix2 k q) = m ((c.tc : Thread nD τ).loc main_arg1) (ix3 0 Q k) := by
  obtain ⟨-, -, -, ⟨h0, h1⟩, -⟩ := maps t
  rw [← taps_apply m c k Q]
  show (V m c main_v2 : Vec Ideal S3x1024 .f32) ((win0_3.rect t).emb (ix2 k q)) = _
  congr 1
  funext a; apply Fin.ext
  match a with
  | ⟨0, _⟩ => exact (win0_3.rect_emb_val t (ix2 k q) 0).trans (by rw [h0]; exact Nat.zero_add _)
  | ⟨1, _⟩ => exact (win0_3.rect_emb_val t (ix2 k q) 1).trans (by rw [h1]; exact hQ.symm)

/-- The gates' product of a block, in the rows. -/
theorem gate_apply (c : Dev nD) (t : Fin cfg0.N) (r : Fin 2048) (q : Fin 512) (R : Fin 8192) (Q : Fin 1024)
    (hR : R.val = win0_4.index t 0 * 2048 + r.val) (hQ : Q.val = win0_4.index t 1 * 512 + q.val) :
    blkA m c t (ix2 r q) * blkB m c t (ix2 r q) = gate (rows m c) R Q := by
  unfold gate
  rw [blkA_apply m c t r q R ⟨5120 + Q.val, by omega⟩ hR (by dsimp only; omega),
    blkB_apply m c t r q R ⟨6144 + Q.val, by omega⟩ hR (by dsimp only; omega)]

/-- The result as a function of what the launch finds in memory. -/
def result (c : Dev nD) : Vec Ideal S8192x1024 .bf16 := whole (rows m c) (m ((c.tc : Thread nD τ).loc main_arg1))

/-- What a point writes back is its block of the result. -/
theorem flushed_eq (c : Dev nD) (t : Fin cfg0.N) :
    (dats m 0 c).flushed 4 t = (win0_4.blk t).view.read (Elt Ideal) (result m c) := by
  rw [Value.flushed4]
  unfold out0_4
  rw [View.canon_unit_zero hz2]
  simp only [View.ld_unit_zero (S := S2048x512) hz2, View.ld_unit_zero (S := S3x512) hz2]
  funext j
  show k0_pay1 (F := Ideal) (blkA m c t) (blkB m c t) (blkW m c t) (blkG m c t) j = result m c ((win0_4.rect t).emb j)
  obtain ⟨-, -, -, -, hb, hq⟩ := maps t
  idx_vars j
  generalize hR : ((win0_4.rect t).emb (ix2 j0 j1) 0 : Fin 8192) = R
  generalize hQ : ((win0_4.rect t).emb (ix2 j0 j1) 1 : Fin 1024) = Q
  have vR : R.val = win0_4.index t 0 * 2048 + j0.val := by rw [← hR]; exact win0_4.rect_emb_val t (ix2 j0 j1) 0
  have vQ : Q.val = win0_4.index t 1 * 512 + j1.val := by rw [← hQ]; exact win0_4.rect_emb_val t (ix2 j0 j1) 1
  have e : result m c ((win0_4.rect t).emb (ix2 j0 j1)) = cell (rows m c) (m ((c.tc : Thread nD τ).loc main_arg1)) ⟨win0_4.index t 0, hb⟩ j0 Q := by
    show cell (rows m c) (m ((c.tc : Thread nD τ).loc main_arg1)) ⟨((win0_4.rect t).emb (ix2 j0 j1) 0 : Fin 8192).val / 2048, _⟩ ⟨((win0_4.rect t).emb (ix2 j0 j1) 0 : Fin 8192).val % 2048, _⟩ ((win0_4.rect t).emb (ix2 j0 j1) 1 : Fin 1024) = _
    simp only [hR, hQ]
    congr 1
    · apply Fin.ext; dsimp only; omega
    · apply Fin.ext; dsimp only; omega
  rw [e, pay_apply]
  unfold cell
  have l0 := blkW_apply m c t 0 j1 Q vQ
  have l1 := blkW_apply m c t 1 j1 Q vQ
  have l2 := blkW_apply m c t 2 j1 Q vQ
  rw [l0, l1, l2, gate_apply m c t j0 j1 ⟨win0_4.index t 0 * 2048 + j0.val, by omega⟩ Q rfl vQ,
    blkG_apply m c t j0 j1 ⟨win0_4.index t 0 * 2048 + j0.val, by omega⟩ ⟨4096 + Q.val, by omega⟩ rfl (by dsimp only; omega)]
  congr 2
  · congr 2
    by_cases h : 1 ≤ j0.val
    · rw [if_pos h, if_pos h]; exact gate_apply m c t _ j1 _ Q rfl vQ
    · rw [if_neg h, if_neg h]
  · congr 1
    by_cases h : j0.val + 1 < 2048
    · rw [dif_pos h, dif_pos h]; exact gate_apply m c t _ j1 _ Q rfl vQ
    · rw [dif_neg h, dif_neg h]

/-- A place of the result is in a point's block when its coordinates are. -/
theorem mem_blk (t : Fin cfg0.N) (i : S8192x1024.Idx) :
    i ∈ ((cfg0.win 4).blk t).view.set ↔ ∀ a : Fin 2, win0_4.index t a * win0_4.size a ≤ (i a).val ∧ (i a).val < win0_4.index t a * win0_4.size a + win0_4.size a := by
  show i ∈ ((View.whole main_v3).slice (win0_4.rect t)).set ↔ _
  rw [View.set_slice_whole, Rect.mem_set_unit]
  rfl

/-- Every place of the result is in some point's block. -/
theorem cover (i : S8192x1024.Idx) : ∃ t : Fin cfg0.N, (cfg0.win 4).flush t = true ∧ i ∈ ((cfg0.win 4).blk t).view.set := by
  idx_vars i
  obtain ⟨t, hf, h0, h1⟩ := onto ⟨i0.val / 2048, by omega⟩ ⟨i1.val / 512, by omega⟩
  refine ⟨t, hf, (mem_blk t _).2 fun a => ?_⟩
  match a with
  | ⟨0, _⟩ => show win0_4.index t 0 * 2048 ≤ i0.val ∧ i0.val < win0_4.index t 0 * 2048 + 2048; rw [h0]; dsimp only; omega
  | ⟨1, _⟩ => show win0_4.index t 1 * 512 ≤ i1.val ∧ i1.val < win0_4.index t 1 * 512 + 512; rw [h1]; dsimp only; omega

/-- The array after the launch. -/
theorem final (c : Dev nD) : (dats m 0 c).arrAt 4 cfg0.N = result m c :=
  (dats m 0 c).arrAt_eq_of_cover 4 (result m c) (fun t _ => flushed_eq m c t) cover

/-- The kernel runs, leaves `result` and keeps its arguments. -/
theorem run : θ_run defs (onTc (τ := τ) (main (F := Ideal))) ⟨m, fun _ => 0, ρ⟩ fun r => ∀ c : Dev nD,
    r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

/-- The kernel's result is the reference's. -/
theorem claim : Cert.algebraic_ShortConvIdeal_ShortConvRefIdeal := by
  intro m ρ m' ρ' _ hagree
  refine ⟨fun c => result m c, run m ρ, (θ_run _ _ _).mono (fun _ h c => ⟨(h c).1.trans ?_, (h c).2⟩) (Cert.ShortConvRefIdeal.Value.run (F := Ideal) m' ρ')⟩
  rw [Cert.ShortConvRefIdeal.Read.val_main_v32_eq, ref_eq, (hagree c).1, (hagree c).2]
  rfl

end Cert.ShortConvIdeal.Taps

end

end
-- ==== Proof.MemKv.lean ====
module

public import proofs.«01_k».proof.Defs
public import proofs.«01_k».proof.Proof.Gen.MemKvIdeal.Value
public import proofs.«01_k».proof.Proof.Gen.MemKvRefIdeal.Run
public import proofs.«01_k».proof.Proof.Gen.MemKvRefIdeal.Read
public import Idealize.ShloMosaic.Lib.Pointwise
public import Idealize.ShloMosaic.Lib.StableHlo.RunRead
public import Idealize.ShloMosaic.Lib.Pipeline.ReadBack

@[expose] public section

set_option maxRecDepth 16384

/-! The memory's keys and values for the cross-attention: the memory's rows, normalised strip by strip into a scratch
    buffer and multiplied there by the keys' and the values' weights side by side, are the two products side by side. -/

noncomputable section

open Idealize Idealize.ShloMosaic Idealize.SL
open scoped BigOperators

namespace Cert.MemKvIdeal.Claims

open Cert.MemKvIdeal Cert.MemKvIdeal.Gen

/-- A row divided by its root mean square and multiplied by the gains. -/
def nrm (x g : Fin 2048 → EReal) (k : Fin 2048) : EReal :=
  x k * Ideal.rsqrt (Ideal.div (∑ l : Fin 2048, x l * x l) (Ideal.ofBits .f32 0x45000000#32) + Ideal.ofBits .f32 0x358637BD#32) * g k

/-- The normalising payloads, read at one place. -/
theorem pay5_apply (x : Vec Ideal S256x2048 .f32) (g : Vec Ideal S1x2048 .f32) (r : Fin 256) (q : Fin 2048) :
    k0_pay5 (F := Ideal) x g (ix2 r q) = nrm (fun k => x (ix2 r k)) (fun k => g (ix2 0 k)) q := by
  pointwise [k0_pay5, nrm]

theorem pay9_apply (x : Vec Ideal S256x2048 .f32) (g : Vec Ideal S1x2048 .f32) (r : Fin 256) (q : Fin 2048) :
    k0_pay9 (F := Ideal) (k0_pay7 x) (k0_pay8 x) g (ix2 r q) = nrm (fun k => x (ix2 r k)) (fun k => g (ix2 0 k)) q := by
  pointwise [k0_pay9, k0_pay7, k0_pay8, nrm]

theorem pay11_eq : k0_pay11 (F := Ideal) = k0_pay5 := rfl
theorem pay2_eq : k0_pay2 (F := Ideal) = k0_pay5 := rfl

/-- The product's payload, read at one place. -/
theorem pay6_apply (a : Vec Ideal S256x2048 .bf16) (b : Vec Ideal S1x2048x1024 .bf16) (r : Fin 256) (q : Fin 1024) :
    k0_pay6 (F := Ideal) a b (ix2 r q) = ∑ k : Fin 2048, a (ix2 r k) * b (ix3 0 k q) := by
  pointwise [k0_pay6]

theorem pay10_eq : k0_pay10 (F := Ideal) = k0_pay6 := rfl
theorem pay3_eq : k0_pay3 (F := Ideal) = k0_pay6 := rfl
theorem pay1_eq : k0_pay1 (F := Ideal) = k0_pay6 := rfl

/-- What a point stores, as a whole: the normalised rows times the weights. -/
def prod (x : Vec Ideal S1024x2048 .f32) (g : Vec Ideal S1x2048 .f32) (w : Vec Ideal S1x2048x1024 .bf16) : Vec Ideal S1024x1024 .f32 :=
  fun i => ∑ k : Fin 2048, nrm (fun k => x (ix2 (i 0) k)) (fun k => g (ix2 0 k)) k * w (ix3 0 k (i 1))

/-- Stores that are blocks of one array, and cover it, leave that array. -/
theorem canon_of_pieces {s : Shape} {e : EltTy} (G : s.Idx → Elt Ideal e) (L : List (View.Piece (Elt Ideal) s e)) (h : View.PiecesOf G L)
    (hc : ∀ y, ∃ p ∈ L, y ∈ p.1.set) : View.canon L = G := by
  funext y
  have e := View.canon_append_of_piecesOf G [] L h y (hc y)
  rwa [List.append_nil] at e

theorem hz2 : (![0, 0] : Fin 2 → Nat) = fun _ => 0 := funext fun a => by fin_cases a <;> rfl
theorem hz3 : (![0, 0, 0] : Fin 3 → Nat) = fun _ => 0 := funext fun a => by fin_cases a <;> rfl

/-- A strip of the product, from a strip of normalised rows. -/
theorem strip (o : ℕ) (inb : ∀ a : Fin 2, (![o, 0] : Fin 2 → ℕ) a + S256x2048.size a ≤ S1024x2048.size a)
    (inb' : ∀ a : Fin 2, (![o, 0] : Fin 2 → ℕ) a + S256x1024.size a ≤ S1024x1024.size a)
    (x : Vec Ideal S1024x2048 .f32) (g : Vec Ideal S1x2048 .f32) (w : Vec Ideal S1x2048x1024 .bf16)
    (a : Vec Ideal S256x2048 .bf16)
    (ha : ∀ r q, a (ix2 r q) = nrm (fun k => (View.ld x (Rect.unit (s := S1024x2048) ![o, 0] S256x2048.size inb) : Vec Ideal S256x2048 .f32) (ix2 r k)) (fun k => g (ix2 0 k)) q)
    (i : S256x1024.Idx) :
    k0_pay6 (F := Ideal) a w i = prod x g w ((Rect.unit (s := S1024x1024) ![o, 0] S256x1024.size inb').emb i) := by
  idx_vars i
  rw [pay6_apply]
  unfold prod
  have e1 : ((Rect.unit (s := S1024x1024) ![o, 0] S256x1024.size inb').emb (ix2 i0 i1) 1 : Fin 1024) = i1 :=
    Fin.ext (by rw [Rect.emb_apply]; show 0 + 1 * i1.val = i1.val; omega)
  have e0 : ∀ k : Fin 2048, (Rect.unit (s := S1024x2048) ![o, 0] S256x2048.size inb).emb (ix2 i0 k)
      = ix2 ((Rect.unit (s := S1024x1024) ![o, 0] S256x1024.size inb').emb (ix2 i0 i1) 0 : Fin 1024) k := fun k => by
    funext a; apply Fin.ext
    match a with
    | ⟨0, _⟩ => rfl
    | ⟨1, _⟩ => rw [Rect.emb_apply]; show 0 + 1 * k.val = k.val; omega
  refine Finset.sum_congr rfl fun k _ => ?_
  rw [ha, e1]
  congr 2
  funext l
  exact congrArg x (e0 l)

theorem out_A (c : Dev nD) (i : grid0.Coords) (a1 : Memref sig .tc .vmem S1024x2048 .f32) (h1 : a1.IsWhole)
    (a2 : Memref sig .tc .vmem S1x2048 .f32) (h2 : a2.IsWhole) (a3 : Memref sig .tc .vmem S1x2048x1024 .bf16) (h3 : a3.IsWhole)
    (a4 : Memref sig .tc .vmem S1024x1024 .f32) (h4 : a4.IsWhole) (a5 : Memref sig .tc .vmem S1024x2048 .bf16) (h5 : a5.IsWhole) (hc0 hc1)
    (x0 : Vec Ideal S1024x2048 .f32) (x1 : Vec Ideal S1x2048 .f32) (x2 : Vec Ideal S1x2048x1024 .bf16) :
    out0_A_3 c i a1 h1 a2 h2 a3 h3 a4 h4 a5 h5 hc0 hc1 x0 x1 x2 = prod x0 x1 x2 := by
  unfold out0_A_3
  rw [View.read_writes_eq_canon _ _ _ (cover0_A_3 c i a1 h1 a2 h2 a3 h3 a4 h4 a5 h5 hc0 hc1 x0 x1 x2)]
  refine canon_of_pieces _ _ ?_ (cover0_A_3 c i a1 h1 a2 h2 a3 h3 a4 h4 a5 h5 hc0 hc1 x0 x1 x2)
  unfold kernelRun0_A
  dsimp only
  sl_unfold_words
  simp only [View.readCov_cons_toLoadRect, View.readAt_eq_ld, h1.read_unread, h2.read_unread, h3.read_unread, View.ld_unit_zero (S := S1x2048) hz2, View.ld_unit_zero (S := S1x2048x1024) hz3]
  refine ⟨fun x => ?_, fun x => ?_, fun x => ?_, fun x => ?_, trivial⟩
  · exact strip 768 inb_S1024x2048_S256x2048_768_0 inb_S1024x1024_S256x1024_768_0 x0 x1 x2 _ (fun r q => pay5_apply _ _ r q) x
  · exact strip 512 inb_S1024x2048_S256x2048_512_0 inb_S1024x1024_S256x1024_512_0 x0 x1 x2 _ (fun r q => pay5_apply _ _ r q) x
  · exact strip 256 inb_S1024x2048_S256x2048_256_0 inb_S1024x1024_S256x1024_256_0 x0 x1 x2 _ (fun r q => pay9_apply _ _ r q) x
  · exact strip 0 inb_S1024x2048_S256x2048_0_0 inb_S1024x1024_S256x1024_0_0 x0 x1 x2 _ (fun r q => pay5_apply _ _ r q) x

/-- The result at row `R` and column `q`: the memory's normalised row times the keys' weights or the values'. -/
def cell (x : Vec Ideal S4x256x2048 .f32) (g : Vec Ideal S4x2048 .f32) (wk wv : Vec Ideal S4x2048x512 .f32) (R : Fin 1024) (q : Fin 1024) : EReal :=
  ∑ k : Fin 2048, nrm (fun k => x (ix3 ⟨R.val / 256, by have := R.isLt; omega⟩ ⟨R.val % 256, by omega⟩ k)) (fun k => g (ix2 1 k)) k
    * (if h : q.val < 512 then wk (ix3 1 k ⟨q.val, h⟩) else wv (ix3 1 k ⟨q.val - 512, by omega⟩))

/-- The whole result. -/
def whole (x : Vec Ideal S4x256x2048 .f32) (g : Vec Ideal S4x2048 .f32) (wk wv : Vec Ideal S4x2048x512 .f32) : Vec Ideal S1024x1024 .f32 :=
  fun i => cell x g wk wv (i 0) (i 1)

open Cert.MemKvRefIdeal.Read in
/-- The reference's normalised memory, read at one place. -/
theorem ref_nrm (x : Vec Ideal S4x256x2048 .f32) (g : Vec Ideal S4x2048 .f32) (b : Fin 4) (r : Fin 256) (q : Fin 2048) :
    val_main_v14 (F := Ideal) x g (ix3 b r q) = nrm (fun k => x (ix3 b r k)) (fun k => g (ix2 1 k)) q := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, nrm]

open Cert.MemKvRefIdeal.Read in
theorem ref_k (x : Vec Ideal S4x256x2048 .f32) (g : Vec Ideal S4x2048 .f32) (w : Vec Ideal S4x2048x512 .f32) (b : Fin 4) (r : Fin 256) (q : Fin 512) :
    val_main_v17 (F := Ideal) x g w (ix3 b r q) = ∑ k : Fin 2048, val_main_v14 (F := Ideal) x g (ix3 b r k) * w (ix3 1 k q) := by
  unfold val_main_v17
  generalize val_main_v14 (F := Ideal) x g = y
  pointwise [val_main_v16, val_main_v15]

open Cert.MemKvRefIdeal.Read in
theorem ref_v (x : Vec Ideal S4x256x2048 .f32) (g : Vec Ideal S4x2048 .f32) (w : Vec Ideal S4x2048x512 .f32) (b : Fin 4) (r : Fin 256) (q : Fin 512) :
    val_main_v20 (F := Ideal) x g w (ix3 b r q) = ∑ k : Fin 2048, val_main_v14 (F := Ideal) x g (ix3 b r k) * w (ix3 1 k q) := by
  unfold val_main_v20
  generalize val_main_v14 (F := Ideal) x g = y
  pointwise [val_main_v19, val_main_v18]

open Cert.MemKvRefIdeal.Read in
theorem ref_cat (x : Vec Ideal S4x256x2048 .f32) (g : Vec Ideal S4x2048 .f32) (wk wv : Vec Ideal S4x2048x512 .f32) (R q : Fin 1024) :
    val_main_v22 (F := Ideal) x g wk wv (ix2 R q) = if h : q.val < 512 then val_main_v17 (F := Ideal) x g wk (ix3 ⟨R.val / 256, by have := R.isLt; omega⟩ ⟨R.val % 256, by omega⟩ ⟨q.val, h⟩)
      else val_main_v20 (F := Ideal) x g wv (ix3 ⟨R.val / 256, by have := R.isLt; omega⟩ ⟨R.val % 256, by omega⟩ ⟨q.val - 512, by omega⟩) := by
  unfold val_main_v22 val_main_v21
  generalize val_main_v17 (F := Ideal) x g wk = y
  generalize val_main_v20 (F := Ideal) x g wv = z
  pointwise []

/-- The reference's term. -/
theorem ref_eq (x : Vec Ideal S4x256x2048 .f32) (g : Vec Ideal S4x2048 .f32) (wk wv : Vec Ideal S4x2048x512 .f32) :
    Cert.MemKvRefIdeal.Read.val_main_v22 (F := Ideal) x g wk wv = whole x g wk wv := by
  funext i
  idx_vars i
  rw [ref_cat]
  show _ = cell x g wk wv i0 i1
  unfold cell
  by_cases h : i1.val < 512
  · simp only [dif_pos h, ref_k, ref_nrm]
  · simp only [dif_neg h, ref_v, ref_nrm]

variable (m : (ℓ : Loc nD τ sig) → Buf (Elt Ideal) ℓ) (ρ : Dev nD → PrngReg)

/-- The arguments, as the launch finds them. -/
abbrev mem (c : Dev nD) : Vec Ideal S4x256x2048 .f32 := m ((c.tc : Thread nD τ).loc main_arg0)
abbrev gains (c : Dev nD) : Vec Ideal S4x2048 .f32 := m ((c.tc : Thread nD τ).loc main_arg1)
abbrev wk (c : Dev nD) : Vec Ideal S4x2048x512 .f32 := m ((c.tc : Thread nD τ).loc main_arg2)
abbrev wv (c : Dev nD) : Vec Ideal S4x2048x512 .f32 := m ((c.tc : Thread nD τ).loc main_arg3)

/-- What the host prepares. -/
theorem V_v0' (c : Dev nD) : (V m c main_v0 : Vec Ideal S1024x2048 .f32) = shapeCast S1024x2048 (mem m c) shapeCasts_S4x256x2048_S1024x2048 := by
  show StableHlo.after hostOps0 _ _ = _
  after_reads_simp
  rfl

theorem rows_apply (x : Vec Ideal S4x256x2048 .f32) (R : Fin 1024) (q : Fin 2048) :
    shapeCast S1024x2048 x shapeCasts_S4x256x2048_S1024x2048 (ix2 R q) = x (ix3 ⟨R.val / 256, by have := R.isLt; omega⟩ ⟨R.val % 256, by omega⟩ q) := by
  pointwise []

theorem V_v0 (c : Dev nD) (R : Fin 1024) (q : Fin 2048) :
    (V m c main_v0 : Vec Ideal S1024x2048 .f32) (ix2 R q) = mem m c (ix3 ⟨R.val / 256, by have := R.isLt; omega⟩ ⟨R.val % 256, by omega⟩ q) := by
  rw [V_v0', rows_apply]

theorem V_v5' (c : Dev nD) : (V m c main_v5 : Vec Ideal S1x2048 .f32)
    = shapeCast S1x2048 (shapeCast S2048 (extractStridedSlice S1x2048 ![1, 0] (gains m c) slices_S4x2048_S1x2048_1_0) shapeCasts_S1x2048_S2048) shapeCasts_S2048_S1x2048 := by
  show StableHlo.after hostOps0 _ _ = _
  after_reads_simp
  rfl

theorem gain_apply (g : Vec Ideal S4x2048 .f32) (q : Fin 2048) :
    (shapeCast S1x2048 (shapeCast S2048 (extractStridedSlice S1x2048 ![1, 0] g slices_S4x2048_S1x2048_1_0) shapeCasts_S1x2048_S2048) shapeCasts_S2048_S1x2048 : Vec Ideal S1x2048 .f32) (ix2 0 q) = g (ix2 1 q) := by
  pointwise []

theorem V_v5 (c : Dev nD) (q : Fin 2048) : (V m c main_v5 : Vec Ideal S1x2048 .f32) (ix2 0 q) = gains m c (ix2 1 q) := by
  rw [V_v5', gain_apply]

theorem V_v2' (c : Dev nD) : (V m c main_v2 : Vec Ideal S4x2048x1024 .bf16)
    = truncf (F := Ideal) .bf16 (concatenate S4x2048x1024 2 [⟨S4x2048x512, wk m c⟩, ⟨S4x2048x512, wv m c⟩] concatenates_S4x2048x512_S4x2048x512_S4x2048x1024_d2 : Vec Ideal S4x2048x1024 .f32) bitsLt_bf16_f32 := by
  show StableHlo.after hostOps0 _ _ = _
  after_reads_simp
  rfl

theorem wts_apply (a b : Vec Ideal S4x2048x512 .f32) (k : Fin 2048) (q : Fin 1024) :
    (truncf (F := Ideal) .bf16 (concatenate S4x2048x1024 2 [⟨S4x2048x512, a⟩, ⟨S4x2048x512, b⟩] concatenates_S4x2048x512_S4x2048x512_S4x2048x1024_d2 : Vec Ideal S4x2048x1024 .f32) bitsLt_bf16_f32) (ix3 1 k q)
      = if h : q.val < 512 then a (ix3 1 k ⟨q.val, h⟩) else b (ix3 1 k ⟨q.val - 512, by omega⟩) := by
  pointwise []

theorem V_v2 (c : Dev nD) (k : Fin 2048) (q : Fin 1024) : (V m c main_v2 : Vec Ideal S4x2048x1024 .bf16) (ix3 1 k q)
    = if h : q.val < 512 then wk m c (ix3 1 k ⟨q.val, h⟩) else wv m c (ix3 1 k ⟨q.val - 512, by omega⟩) := by
  rw [V_v2', wts_apply]

/-- Which blocks the grid's point reads and writes. -/
theorem maps : ∀ t : Fin grid0.N, win0_0.index t 0 = 0 ∧ win0_0.index t 1 = 0 ∧ win0_1.index t 0 = 0 ∧ win0_1.index t 1 = 0
    ∧ win0_2.index t 0 = 1 ∧ win0_2.index t 1 = 0 ∧ win0_2.index t 2 = 0 ∧ win0_3.index t 0 = 0 ∧ win0_3.index t 1 = 0 := by decide +kernel

theorem flushes : ∀ t : Fin grid0.N, win0_3.flush t = true := by decide +kernel

theorem blk0 (c : Dev nD) (t : Fin cfg0.N) (r : Fin 1024) (q : Fin 2048) :
    (iblk m c 0 t : Vec Ideal S1024x2048 .f32) (ix2 r q) = mem m c (ix3 ⟨r.val / 256, by have := r.isLt; omega⟩ ⟨r.val % 256, by omega⟩ q) := by
  obtain ⟨h0, h1, -⟩ := maps t
  rw [← V_v0 m c]
  show (V m c main_v0 : Vec Ideal S1024x2048 .f32) ((win0_0.rect t).emb (ix2 r q)) = _
  congr 1
  funext a; apply Fin.ext
  match a with
  | ⟨0, _⟩ => exact (win0_0.rect_emb_val t (ix2 r q) 0).trans (by rw [h0]; exact Nat.zero_add _)
  | ⟨1, _⟩ => exact (win0_0.rect_emb_val t (ix2 r q) 1).trans (by rw [h1]; exact Nat.zero_add _)

theorem blk1 (c : Dev nD) (t : Fin cfg0.N) (q : Fin 2048) : (iblk m c 1 t : Vec Ideal S1x2048 .f32) (ix2 0 q) = gains m c (ix2 1 q) := by
  obtain ⟨-, -, h0, h1, -⟩ := maps t
  rw [← V_v5 m c]
  show (V m c main_v5 : Vec Ideal S1x2048 .f32) ((win0_1.rect t).emb (ix2 0 q)) = _
  congr 1
  funext a; apply Fin.ext
  match a with
  | ⟨0, _⟩ => exact (win0_1.rect_emb_val t (ix2 0 q) 0).trans (by rw [h0]; rfl)
  | ⟨1, _⟩ => exact (win0_1.rect_emb_val t (ix2 0 q) 1).trans (by rw [h1]; exact Nat.zero_add _)

theorem blk2 (c : Dev nD) (t : Fin cfg0.N) (k : Fin 2048) (q : Fin 1024) : (iblk m c 2 t : Vec Ideal S1x2048x1024 .bf16) (ix3 0 k q)
    = if h : q.val < 512 then wk m c (ix3 1 k ⟨q.val, h⟩) else wv m c (ix3 1 k ⟨q.val - 512, by omega⟩) := by
  obtain ⟨-, -, -, -, h0, h1, h2, -⟩ := maps t
  rw [← V_v2 m c]
  show (V m c main_v2 : Vec Ideal S4x2048x1024 .bf16) ((win0_2.rect t).emb (ix3 0 k q)) = _
  congr 1
  funext a; apply Fin.ext
  match a with
  | ⟨0, _⟩ => exact (win0_2.rect_emb_val t (ix3 0 k q) 0).trans (by rw [h0]; rfl)
  | ⟨1, _⟩ => exact (win0_2.rect_emb_val t (ix3 0 k q) 1).trans (by rw [h1]; exact Nat.zero_add _)
  | ⟨2, _⟩ => exact (win0_2.rect_emb_val t (ix3 0 k q) 2).trans (by rw [h2]; exact Nat.zero_add _)

/-- The result as a function of what the launch finds in memory. -/
def result (c : Dev nD) : Vec Ideal S1024x1024 .f32 := whole (mem m c) (gains m c) (wk m c) (wv m c)

/-- The product of the point's blocks is the result. -/
theorem prod_eq (c : Dev nD) (t : Fin cfg0.N) (r q : Fin 1024) :
    prod (iblk m c 0 t) (iblk m c 1 t) (iblk m c 2 t) (ix2 r q) = cell (mem m c) (gains m c) (wk m c) (wv m c) r q := by
  show ∑ k : Fin 2048, nrm (fun k => (iblk m c 0 t : Vec Ideal S1024x2048 .f32) (ix2 r k)) (fun k => (iblk m c 1 t : Vec Ideal S1x2048 .f32) (ix2 0 k)) k
    * (iblk m c 2 t : Vec Ideal S1x2048x1024 .bf16) (ix3 0 k q) = _
  simp only [blk0 m c t, blk1 m c t, blk2 m c t]
  rfl

/-- What the point writes back is its block of the result. -/
theorem flushed_eq (c : Dev nD) (t : Fin cfg0.N) (hf : (cfg0.win 3).flush t = true) :
    (dats m 0 c).flushed 3 t = (win0_3.blk t).view.read (Elt Ideal) (result m c) := by
  obtain ⟨-, -, -, -, -, -, -, h0, h1⟩ := maps t
  rw [Value.flushed3_A, out_A]
  funext j
  show prod (iblk m c 0 t) (iblk m c 1 t) (iblk m c 2 t) j = result m c ((win0_3.rect t).emb j)
  idx_vars j
  rw [prod_eq]
  have e : (win0_3.rect t).emb (ix2 j0 j1) = ix2 j0 j1 := by
    funext a; apply Fin.ext
    match a with
    | ⟨0, _⟩ => exact (win0_3.rect_emb_val t (ix2 j0 j1) 0).trans (by rw [h0]; exact Nat.zero_add _)
    | ⟨1, _⟩ => exact (win0_3.rect_emb_val t (ix2 j0 j1) 1).trans (by rw [h1]; exact Nat.zero_add _)
  rw [e]
  rfl

/-- A place of the result is in a point's block when its coordinates are. -/
theorem mem_blk (t : Fin cfg0.N) (i : S1024x1024.Idx) :
    i ∈ ((cfg0.win 3).blk t).view.set ↔ ∀ a : Fin 2, win0_3.index t a * win0_3.size a ≤ (i a).val ∧ (i a).val < win0_3.index t a * win0_3.size a + win0_3.size a := by
  show i ∈ ((View.whole main_v6).slice (win0_3.rect t)).set ↔ _
  rw [View.set_slice_whole, Rect.mem_set_unit]
  rfl

/-- The one block is the whole result. -/
theorem cover (i : S1024x1024.Idx) : ∃ t : Fin cfg0.N, (cfg0.win 3).flush t = true ∧ i ∈ ((cfg0.win 3).blk t).view.set := by
  idx_vars i
  have t : Fin cfg0.N := ⟨0, by decide +kernel⟩
  obtain ⟨-, -, -, -, -, -, -, h0, h1⟩ := maps t
  refine ⟨t, flushes t, (mem_blk t _).2 fun a => ?_⟩
  match a with
  | ⟨0, _⟩ => show win0_3.index t 0 * 1024 ≤ i0.val ∧ i0.val < win0_3.index t 0 * 1024 + 1024; rw [h0]; omega
  | ⟨1, _⟩ => show win0_3.index t 1 * 1024 ≤ i1.val ∧ i1.val < win0_3.index t 1 * 1024 + 1024; rw [h1]; omega

/-- The array after the launch. -/
theorem final (c : Dev nD) : (dats m 0 c).arrAt 3 cfg0.N = result m c :=
  (dats m 0 c).arrAt_eq_of_cover 3 (result m c) (fun t hf => flushed_eq m c t hf) cover

/-- The kernel runs, leaves `result` and keeps its arguments. -/
theorem run : θ_run defs (onTc (τ := τ) (main (F := Ideal))) ⟨m, fun _ => 0, ρ⟩ fun r => ∀ c : Dev nD,
    r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m c), (h c).2⟩) (Value.run_blocks m ρ)

/-- The kernel's result is the reference's. -/
theorem claim : Cert.algebraic_MemKvIdeal_MemKvRefIdeal := by
  intro m ρ m' ρ' _ hagree
  refine ⟨fun c => result m c, run m ρ, (θ_run _ _ _).mono (fun _ h c => ⟨(h c).1.trans ?_, (h c).2⟩) (Cert.MemKvRefIdeal.Value.run (F := Ideal) m' ρ')⟩
  rw [Cert.MemKvRefIdeal.Read.val_main_v22_eq, ref_eq, (hagree c).1, (hagree c).2.1, (hagree c).2.2.1, (hagree c).2.2.2]
  rfl

end Cert.MemKvIdeal.Claims

end
-- ==== Proof.EvenInIdealFrame.lean ====
module

public import proofs.«01_k».proof.Proof.Gen.EvenInIdeal
public import proofs.«01_k».proof.Proof.Gen.EvenInIdeal.Frame
public import proofs.«01_k».proof.Proof.Gen.EvenInIdeal.Skeleton
public import proofs.«01_k».proof.Proof.Gen.EvenInIdeal.Points
public import proofs.«01_k».proof.Proof.Gen.EvenInIdeal.Launch
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.Claim

@[expose] public section

set_option maxRecDepth 16384

/-! The call runs, keeps its arguments, and leaves what its points name. Each row of the grid begins with a point that
    normalises the row's tokens into the scratch buffer; the other points of the row read them there. So the scratch
    buffer is followed from point to point: inside a row it holds the rows the row's first point wrote. -/

noncomputable section

namespace Cert.EvenInIdeal.Hand

open Cert.EvenInIdeal Cert.EvenInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, at any buffers -/

set_option maxHeartbeats 1000000 in
/-- A row's first point: the inputs are kept, and both outputs and the scratch buffer end with the stores the run finds. -/
noncomputable def startRun (c : Dev nD) (i : grid0.Coords) (a0 : Memref sig .tc .vmem S1024x2048 .f32) (h0 : a0.IsWhole) (a1 : Memref sig .tc .vmem S1x2048 .f32) (h1 : a1.IsWhole) (a2 : Memref sig .tc .vmem S1x2048x1024 .bf16) (h2 : a2.IsWhole) (a3 : Memref sig .tc .vmem S1x2048x1024 .bf16) (h3 : a3.IsWhole) (a4 : Memref sig .tc .vmem S32x2048 .f32) (h4 : a4.IsWhole) (a5 : Memref sig .tc .vmem S1024x1024 .bf16) (h5 : a5.IsWhole) (a6 : Memref sig .tc .vmem S32x1024 .f32) (h6 : a6.IsWhole) (a7 : Memref sig .tc .vmem S1024x2048 .bf16) (h7 : a7.IsWhole)
    (k0 : k0_cond1 i = 1#1) (k1 : ¬k0_cond2 i = 1#1) (k2 : ¬k0_cond3 i = 1#1) (x0 : Vec F S1024x2048 .f32) (x1 : Vec F S1x2048 .f32) (x2 : Vec F S1x2048x1024 .bf16) (x3 : Vec F S1x2048x1024 .bf16) (x4 : Vec F S32x2048 .f32) :
    Σ' (P : List (View.Piece (Elt F) S1024x1024 .bf16)) (Q : List (View.Piece (Elt F) S32x1024 .f32)), { R : List (View.Piece (Elt F) S1024x2048 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f P) ∗ (∃ f, a6.view.loc (c : Thread nD τ) ↦[a6.view.set]{fullShare} a6.view.writes (Elt F) f Q) ∗ (∃ f, a7.view.loc (c : Thread nD τ) ↦[a7.view.set]{fullShare} a7.view.writes (Elt F) f R)) -∗ K ⟨⟩))
          ⊢ wp frame (wpE (defs₀ (F := F)) Variants.none c none) E (cc0_norm_mm i a0 h0 a1 h1 a2 h2 a3 h3 a4 h4 a5 h5 a6 h6 a7 h7) K } := by
  refine ⟨?_, ?_, ?_, fun E K => ?run⟩
  case run =>
    simp only [cc0_norm_mm_eq_skeleton]; unfold cc0_norm_mm_skel
    simp only [k0_part1_eq_skeleton, k0_part2_eq_skeleton, k0_part3_eq_skeleton]
    unfold owns
    iintro ⟨⟨%f0, %g0, H0⟩, ⟨%f1, %g1, H1⟩, ⟨%f2, %g2, H2⟩, ⟨%f3, %g3, H3⟩, ⟨%f4, %g4, H4⟩, ⟨%d5, %f5, -, H5⟩, ⟨%d6, %f6, -, H6⟩, ⟨%d7, %f7, -, H7⟩, Hk⟩
    obtain rfl := h0.eq_unread g0; obtain rfl := h1.eq_unread g1; obtain rfl := h2.eq_unread g2; obtain rfl := h3.eq_unread g3; obtain rfl := h4.eq_unread g4
    sl_exec (disch := first | sl_exact k0 | sl_exact k1 | sl_exact k2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    isplitl [H6]; · iexists _; iexact H6
    iexists _; iexact H7

set_option maxHeartbeats 1000000 in
/-- A later point of a row, which reads the weights of window 2: the scratch buffer, holding `s`, and the weights are kept,
    and the wide output ends with the store the run finds. Nothing else is touched. -/
noncomputable def laterRunB (c : Dev nD) (i : grid0.Coords) (a0 : Memref sig .tc .vmem S1024x2048 .f32) (h0 : a0.IsWhole) (a1 : Memref sig .tc .vmem S1x2048 .f32) (h1 : a1.IsWhole) (a2 : Memref sig .tc .vmem S1x2048x1024 .bf16) (h2 : a2.IsWhole) (a3 : Memref sig .tc .vmem S1x2048x1024 .bf16) (h3 : a3.IsWhole) (a4 : Memref sig .tc .vmem S32x2048 .f32) (h4 : a4.IsWhole) (a5 : Memref sig .tc .vmem S1024x1024 .bf16) (h5 : a5.IsWhole) (a6 : Memref sig .tc .vmem S32x1024 .f32) (h6 : a6.IsWhole) (a7 : Memref sig .tc .vmem S1024x2048 .bf16) (h7 : a7.IsWhole)
    (k0 : ¬k0_cond1 i = 1#1) (k1 : k0_cond2 i = 1#1) (k2 : ¬k0_cond3 i = 1#1) (x : Vec F S1x2048x1024 .bf16) (s : Vec F S1024x2048 .bf16) :
    { P : List (View.Piece (Elt F) S1024x1024 .bf16) //
      ∀ (E : Set ℕ) (K : PUnit → sProp 𝕄),
        iprop(owns (c : Thread nD τ) a2 fullShare x ∗ (∃ d, owns (c : Thread nD τ) a5 fullShare d) ∗ owns (c : Thread nD τ) a7 fullShare s
            ∗ (iprop(owns (c : Thread nD τ) a2 fullShare x ∗ (∃ f, a5.view.loc (c : Thread nD τ) ↦[a5.view.set]{fullShare} a5.view.writes (Elt F) f P) ∗ owns (c : Thread nD τ) a7 fullShare s) -∗ K ⟨⟩))
          ⊢ wp frame (wpE (defs₀ (F := F)) Variants.none c none) E (cc0_norm_mm i a0 h0 a1 h1 a2 h2 a3 h3 a4 h4 a5 h5 a6 h6 a7 h7) K } := by
  refine ⟨?_, fun E K => ?run⟩
  case run =>
    simp only [cc0_norm_mm_eq_skeleton]; unfold cc0_norm_mm_skel
    unfold owns
    iintro ⟨⟨%f2, %g2, H2⟩, ⟨%d5, %f5, -, H5⟩, ⟨%f7, %g7, H7⟩, Hk⟩
    obtain rfl := h2.eq_unread g2; obtain rfl := h7.eq_unread g7
    sl_exec (disch := first | sl_exact k0 | sl_exact k1 | sl_exact k2)
    sl_step
    iapply Hk
    isplitl [H2]
    · iexists _; isplitr; · ipureintro; exact h2.read_unread _
      iexact H2
    isplitl [H5]; · iexists _; iexact H5
    iexists _; isplitr; · ipureintro; exact h7.read_unread _
    iexact H7

set_option maxHeartbeats 1000000 in
/-- A later point of a row, which reads the weights of window 3: the scratch buffer, holding `s`, and the weights are kept,
    and the wide output ends with the store the run finds. Nothing else is touched. -/
noncomputable def laterRunC (c : Dev nD) (i : grid0.Coords) (a0 : Memref sig .tc .vmem S1024x2048 .f32) (h0 : a0.IsWhole) (a1 : Memref sig .tc .vmem S1x2048 .f32) (h1 : a1.IsWhole) (a2 : Memref sig .tc .vmem S1x2048x1024 .bf16) (h2 : a2.IsWhole) (a3 : Memref sig .tc .vmem S1x2048x1024 .bf16) (h3 : a3.IsWhole) (a4 : Memref sig .tc .vmem S32x2048 .f32) (h4 : a4.IsWhole) (a5 : Memref sig .tc .vmem S1024x1024 .bf16) (h5 : a5.IsWhole) (a6 : Memref sig .tc .vmem S32x1024 .f32) (h6 : a6.IsWhole) (a7 : Memref sig .tc .vmem S1024x2048 .bf16) (h7 : a7.IsWhole)
    (k0 : ¬k0_cond1 i = 1#1) (k1 : ¬k0_cond2 i = 1#1) (k2 : k0_cond3 i = 1#1) (x : Vec F S1x2048x1024 .bf16) (s : Vec F S1024x2048 .bf16) :
    { P : List (View.Piece (Elt F) S1024x1024 .bf16) //
      ∀ (E : Set ℕ) (K : PUnit → sProp 𝕄),
        iprop(owns (c : Thread nD τ) a3 fullShare x ∗ (∃ d, owns (c : Thread nD τ) a5 fullShare d) ∗ owns (c : Thread nD τ) a7 fullShare s
            ∗ (iprop(owns (c : Thread nD τ) a3 fullShare x ∗ (∃ f, a5.view.loc (c : Thread nD τ) ↦[a5.view.set]{fullShare} a5.view.writes (Elt F) f P) ∗ owns (c : Thread nD τ) a7 fullShare s) -∗ K ⟨⟩))
          ⊢ wp frame (wpE (defs₀ (F := F)) Variants.none c none) E (cc0_norm_mm i a0 h0 a1 h1 a2 h2 a3 h3 a4 h4 a5 h5 a6 h6 a7 h7) K } := by
  refine ⟨?_, fun E K => ?run⟩
  case run =>
    simp only [cc0_norm_mm_eq_skeleton]; unfold cc0_norm_mm_skel
    unfold owns
    iintro ⟨⟨%f3, %g3, H3⟩, ⟨%d5, %f5, -, H5⟩, ⟨%f7, %g7, H7⟩, Hk⟩
    obtain rfl := h3.eq_unread g3; obtain rfl := h7.eq_unread g7
    sl_exec (disch := first | sl_exact k0 | sl_exact k1 | sl_exact k2)
    sl_step
    iapply Hk
    isplitl [H3]
    · iexists _; isplitr; · ipureintro; exact h3.read_unread _
      iexact H3
    isplitl [H5]; · iexists _; iexact H5
    iexists _; isplitr; · ipureintro; exact h7.read_unread _
    iexact H7

/-! ## The points of the grid -/

theorem cond0 : ∀ t : Fin cfg0.N, k0_cond1 (grid0.coords t) = 1#1 ↔ t.val % 7 = 0 :=
  (by decide +kernel : ∀ t : Fin grid0.N, k0_cond1 (grid0.coords t) = 1#1 ↔ t.val % 7 = 0)

theorem cond1 : ∀ t : Fin cfg0.N, k0_cond2 (grid0.coords t) = 1#1 ↔ 0 < t.val % 7 ∧ t.val % 7 < 4 :=
  (by decide +kernel : ∀ t : Fin grid0.N, k0_cond2 (grid0.coords t) = 1#1 ↔ 0 < t.val % 7 ∧ t.val % 7 < 4)

theorem cond2 : ∀ t : Fin cfg0.N, k0_cond3 (grid0.coords t) = 1#1 ↔ 4 ≤ t.val % 7 :=
  (by decide +kernel : ∀ t : Fin grid0.N, k0_cond3 (grid0.coords t) = 1#1 ↔ 4 ≤ t.val % 7)

theorem live5 : ∀ t : Fin cfg0.N, cfg0.idle 5 (grid0.coords t) = false :=
  (by decide +kernel : ∀ t : Fin grid0.N, idle0 5 (grid0.coords t) = false)
theorem idle6 : ∀ t : Fin cfg0.N, cfg0.idle 6 (grid0.coords t) = !decide (t.val % 7 = 0) :=
  (by decide +kernel : ∀ t : Fin grid0.N, idle0 6 (grid0.coords t) = !decide (t.val % 7 = 0))

/-- The narrow output's buffer holds nothing of the row at the row's first point only. -/
theorem fresh6 : ∀ n, n ≤ cfg0.N → cfg0.fresh 6 n = decide (n % 7 = 0) :=
  cfg0.fresh_tab 6 (fun n => decide (n % 7 = 0)) rfl fun t => by
    have hN : t.val < 56 := lt_of_lt_of_eq t.isLt (show cfg0.N = 56 from N_0)
    rw [idle6 t]
    cases hf : (cfg0.win 6).flush t with
    | true => have := (flush0_6 t).1 hf; simp; omega
    | false =>
      have : ¬t.val % 7 = 6 := fun e => by rw [(flush0_6 t).2 e] at hf; exact Bool.noConfusion hf
      by_cases h : t.val % 7 = 0 <;> simp [h] <;> omega

/-- The first point of a point's row. -/
def first (t : Fin cfg0.N) : Fin cfg0.N := ⟨t.val / 7 * 7, Nat.lt_of_le_of_lt (Nat.div_mul_le_self _ _) t.isLt⟩
theorem first_mod (t : Fin cfg0.N) : (first t).val % 7 = 0 := Nat.mul_mod_left _ _
theorem first_of (t : Fin cfg0.N) (h : t.val % 7 = 0) : first t = t := Fin.ext (by show t.val / 7 * 7 = t.val; omega)
theorem first_eq (s t : Fin cfg0.N) (h : s.val / 7 = t.val / 7) : first s = first t := Fin.ext (by show s.val / 7 * 7 = t.val / 7 * 7; rw [h])

abbrev st0 (t : Fin cfg0.N) : Memref sig .tc .vmem S1024x2048 .f32 := win0_0.stage (cfg0.slots t 0)
abbrev wst0 (t : Fin cfg0.N) : (st0 t).IsWhole := hstage0_0 ((cfg0.slots t 0).cast nbuf0_0)
abbrev st1 (t : Fin cfg0.N) : Memref sig .tc .vmem S1x2048 .f32 := win0_1.stage (cfg0.slots t 1)
abbrev wst1 (t : Fin cfg0.N) : (st1 t).IsWhole := hstage0_1 ((cfg0.slots t 1).cast nbuf0_1)
abbrev st2 (t : Fin cfg0.N) : Memref sig .tc .vmem S1x2048x1024 .bf16 := win0_2.stage (cfg0.slots t 2)
abbrev wst2 (t : Fin cfg0.N) : (st2 t).IsWhole := hstage0_2 ((cfg0.slots t 2).cast nbuf0_2)
abbrev st3 (t : Fin cfg0.N) : Memref sig .tc .vmem S1x2048x1024 .bf16 := win0_3.stage (cfg0.slots t 3)
abbrev wst3 (t : Fin cfg0.N) : (st3 t).IsWhole := hstage0_3 ((cfg0.slots t 3).cast nbuf0_3)
abbrev st4 (t : Fin cfg0.N) : Memref sig .tc .vmem S32x2048 .f32 := win0_4.stage (cfg0.slots t 4)
abbrev wst4 (t : Fin cfg0.N) : (st4 t).IsWhole := hstage0_4 ((cfg0.slots t 4).cast nbuf0_4)
abbrev st5 (t : Fin cfg0.N) : Memref sig .tc .vmem S1024x1024 .bf16 := win0_5.stage (cfg0.slots t 5)
abbrev wst5 (t : Fin cfg0.N) : (st5 t).IsWhole := hstage0_5 ((cfg0.slots t 5).cast nbuf0_5)
abbrev st6 (t : Fin cfg0.N) : Memref sig .tc .vmem S32x1024 .f32 := win0_6.stage (cfg0.slots t 6)
abbrev wst6 (t : Fin cfg0.N) : (st6 t).IsWhole := hstage0_6 ((cfg0.slots t 6).cast nbuf0_6)
abbrev scr : Memref sig .tc .vmem S1024x2048 .bf16 := Memref.whole cc0_scratch0

variable (m : (ℓ : Loc nD τ sig) → Buf (Elt F) ℓ) (ρ : Dev nD → PrngReg)

/-- The first point's run at the point's own buffers and blocks. -/
def startAt (c : Dev nD) (t : Fin cfg0.N) (h : t.val % 7 = 0) :=
  startRun (F := F) c (grid0.coords t) (st0 t) (wst0 t) (st1 t) (wst1 t) (st2 t) (wst2 t) (st3 t) (wst3 t) (st4 t) (wst4 t) (st5 t) (wst5 t) (st6 t) (wst6 t) scr (Memref.isWhole_whole _) ((cond0 t).2 h) (fun e => absurd ((cond1 t).1 e) (by omega)) (fun e => absurd ((cond2 t).1 e) (by omega)) (iblk m c 0 t) (iblk m c 1 t) (X0_2 m c t) (iblk m c 3 t) (iblk m c 4 t)

/-- What a row's first point leaves in the wide output, in the narrow one and in the scratch buffer. -/
def wide (c : Dev nD) (t : Fin cfg0.N) (h : t.val % 7 = 0) : Vec F S1024x1024 .bf16 := View.canon (startAt m c t h).1
def narrow (c : Dev nD) (t : Fin cfg0.N) (h : t.val % 7 = 0) : Vec F S32x1024 .f32 := View.canon (startAt m c t h).2.1
def normed (c : Dev nD) (t : Fin cfg0.N) (h : t.val % 7 = 0) : Vec F S1024x2048 .bf16 := View.canon (startAt m c t h).2.2.1

set_option maxHeartbeats 1000000 in
theorem wide_cover (c : Dev nD) (t : Fin cfg0.N) (h : t.val % 7 = 0) (y : S1024x1024.Idx) : ∃ p ∈ (startAt m c t h).1, y ∈ p.1.set :=
  View.cover_of_tiledL (startAt m c t h).1 S256x1024.size (by sl_kernel_rfl) y
set_option maxHeartbeats 1000000 in
theorem narrow_cover (c : Dev nD) (t : Fin cfg0.N) (h : t.val % 7 = 0) (y : S32x1024.Idx) : ∃ p ∈ (startAt m c t h).2.1, y ∈ p.1.set :=
  View.cover_of_tiledL (startAt m c t h).2.1 S32x256.size (by sl_kernel_rfl) y
set_option maxHeartbeats 1000000 in
theorem normed_cover (c : Dev nD) (t : Fin cfg0.N) (h : t.val % 7 = 0) (y : S1024x2048.Idx) : ∃ p ∈ (startAt m c t h).2.2.1, y ∈ p.1.set :=
  View.cover_of_tiledL (startAt m c t h).2.2.1 S256x2048.size (by sl_kernel_rfl) y

/-- The first point's triple, its three results named. -/
theorem start_body (c : Dev nD) (t : Fin cfg0.N) (h : t.val % 7 = 0) (K : PUnit → sProp 𝕄) :
    iprop(owns (c : Thread nD τ) (st0 t) fullShare (iblk m c 0 t) ∗ owns (c : Thread nD τ) (st1 t) fullShare (iblk m c 1 t) ∗ owns (c : Thread nD τ) (st2 t) fullShare (X0_2 m c t) ∗ owns (c : Thread nD τ) (st3 t) fullShare (iblk m c 3 t) ∗ owns (c : Thread nD τ) (st4 t) fullShare (iblk m c 4 t) ∗ (∃ d, owns (c : Thread nD τ) (st5 t) fullShare d) ∗ (∃ d, owns (c : Thread nD τ) (st6 t) fullShare d) ∗ (∃ d, owns (c : Thread nD τ) scr fullShare d)
        ∗ (iprop(owns (c : Thread nD τ) (st0 t) fullShare (iblk m c 0 t) ∗ owns (c : Thread nD τ) (st1 t) fullShare (iblk m c 1 t) ∗ owns (c : Thread nD τ) (st2 t) fullShare (X0_2 m c t) ∗ owns (c : Thread nD τ) (st3 t) fullShare (iblk m c 3 t) ∗ owns (c : Thread nD τ) (st4 t) fullShare (iblk m c 4 t) ∗ owns (c : Thread nD τ) (st5 t) fullShare (wide m c t h) ∗ owns (c : Thread nD τ) (st6 t) fullShare (narrow m c t h) ∗ owns (c : Thread nD τ) scr fullShare (normed m c t h)) -∗ K ⟨⟩))
      ⊢ wp frame (wpE (defs₀ (F := F)) Variants.none c none) Set.univ (bodyAt0 t) K := by
  unfold bodyAt0
  iintro ⟨H0, H1, H2, H3, H4, H5, H6, H7, Hk⟩
  iapply ((startAt m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, ⟨%e5, H5⟩, ⟨%e6, H6⟩, ⟨%e7, H7⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (wide_cover m c t h)
  isplitl [H6]
  · unfold owns; iexists _; isplitr
    swap; · iexact H6
    ipureintro; exact View.read_writes_eq_canon _ _ _ (narrow_cover m c t h)
  unfold owns; iexists _; isplitr
  swap; · iexact H7
  ipureintro; exact View.read_writes_eq_canon _ _ _ (normed_cover m c t h)

/-- A later point's run at the point's own buffers and weights, over scratch contents `s`, and what it leaves. -/
def laterAtB (c : Dev nD) (t : Fin cfg0.N) (h : 0 < t.val % 7 ∧ t.val % 7 < 4) (s : Vec F S1024x2048 .bf16) :=
  laterRunB (F := F) c (grid0.coords t) (st0 t) (wst0 t) (st1 t) (wst1 t) (st2 t) (wst2 t) (st3 t) (wst3 t) (st4 t) (wst4 t) (st5 t) (wst5 t) (st6 t) (wst6 t) scr (Memref.isWhole_whole _) (fun e => absurd ((cond0 t).1 e) (by omega)) ((cond1 t).2 h) (fun e => absurd ((cond2 t).1 e) (by omega)) (X0_2 m c t) s

def laterB (c : Dev nD) (t : Fin cfg0.N) (h : 0 < t.val % 7 ∧ t.val % 7 < 4) (s : Vec F S1024x2048 .bf16) : Vec F S1024x1024 .bf16 := View.canon (laterAtB m c t h s).1

set_option maxHeartbeats 1000000 in
theorem laterB_cover (c : Dev nD) (t : Fin cfg0.N) (h : 0 < t.val % 7 ∧ t.val % 7 < 4) (s : Vec F S1024x2048 .bf16) (y : S1024x1024.Idx) : ∃ p ∈ (laterAtB m c t h s).1, y ∈ p.1.set :=
  View.cover_of_tiledL (laterAtB m c t h s).1 S1024x1024.size (by sl_kernel_rfl) y

theorem laterB_body (c : Dev nD) (t : Fin cfg0.N) (h : 0 < t.val % 7 ∧ t.val % 7 < 4) (s : Vec F S1024x2048 .bf16) (K : PUnit → sProp 𝕄) :
    iprop(owns (c : Thread nD τ) (st2 t) fullShare (X0_2 m c t) ∗ (∃ d, owns (c : Thread nD τ) (st5 t) fullShare d) ∗ owns (c : Thread nD τ) scr fullShare s
        ∗ (iprop(owns (c : Thread nD τ) (st2 t) fullShare (X0_2 m c t) ∗ owns (c : Thread nD τ) (st5 t) fullShare (laterB m c t h s) ∗ owns (c : Thread nD τ) scr fullShare s) -∗ K ⟨⟩))
      ⊢ wp frame (wpE (defs₀ (F := F)) Variants.none c none) Set.univ (bodyAt0 t) K := by
  unfold bodyAt0
  iintro ⟨H0, H1, H2, Hk⟩
  iapply ((laterAtB m c t h s).2 Set.univ _)
  isplitl [H0]; · iexact H0
  isplitl [H1]; · iexact H1
  isplitl [H2]; · iexact H2
  iintro ⟨H0, ⟨%e1, H1⟩, H2⟩
  iapply Hk
  isplitl [H0]; · iexact H0
  isplitl [H1]
  · unfold owns; iexists _; isplitr
    swap; · iexact H1
    ipureintro; exact View.read_writes_eq_canon _ _ _ (laterB_cover m c t h s)
  iexact H2

/-- A later point's run at the point's own buffers and weights, over scratch contents `s`, and what it leaves. -/
def laterAtC (c : Dev nD) (t : Fin cfg0.N) (h : 4 ≤ t.val % 7) (s : Vec F S1024x2048 .bf16) :=
  laterRunC (F := F) c (grid0.coords t) (st0 t) (wst0 t) (st1 t) (wst1 t) (st2 t) (wst2 t) (st3 t) (wst3 t) (st4 t) (wst4 t) (st5 t) (wst5 t) (st6 t) (wst6 t) scr (Memref.isWhole_whole _) (fun e => absurd ((cond0 t).1 e) (by omega)) (fun e => absurd ((cond1 t).1 e) (by omega)) ((cond2 t).2 h) (iblk m c 3 t) s

def laterC (c : Dev nD) (t : Fin cfg0.N) (h : 4 ≤ t.val % 7) (s : Vec F S1024x2048 .bf16) : Vec F S1024x1024 .bf16 := View.canon (laterAtC m c t h s).1

set_option maxHeartbeats 1000000 in
theorem laterC_cover (c : Dev nD) (t : Fin cfg0.N) (h : 4 ≤ t.val % 7) (s : Vec F S1024x2048 .bf16) (y : S1024x1024.Idx) : ∃ p ∈ (laterAtC m c t h s).1, y ∈ p.1.set :=
  View.cover_of_tiledL (laterAtC m c t h s).1 S1024x1024.size (by sl_kernel_rfl) y

theorem laterC_body (c : Dev nD) (t : Fin cfg0.N) (h : 4 ≤ t.val % 7) (s : Vec F S1024x2048 .bf16) (K : PUnit → sProp 𝕄) :
    iprop(owns (c : Thread nD τ) (st3 t) fullShare (iblk m c 3 t) ∗ (∃ d, owns (c : Thread nD τ) (st5 t) fullShare d) ∗ owns (c : Thread nD τ) scr fullShare s
        ∗ (iprop(owns (c : Thread nD τ) (st3 t) fullShare (iblk m c 3 t) ∗ owns (c : Thread nD τ) (st5 t) fullShare (laterC m c t h s) ∗ owns (c : Thread nD τ) scr fullShare s) -∗ K ⟨⟩))
      ⊢ wp frame (wpE (defs₀ (F := F)) Variants.none c none) Set.univ (bodyAt0 t) K := by
  unfold bodyAt0
  iintro ⟨H0, H1, H2, Hk⟩
  iapply ((laterAtC m c t h s).2 Set.univ _)
  isplitl [H0]; · iexact H0
  isplitl [H1]; · iexact H1
  isplitl [H2]; · iexact H2
  iintro ⟨H0, ⟨%e1, H1⟩, H2⟩
  iapply Hk
  isplitl [H0]; · iexact H0
  isplitl [H1]
  · unfold owns; iexists _; isplitr
    swap; · iexact H1
    ipureintro; exact View.read_writes_eq_canon _ _ _ (laterC_cover m c t h s)
  iexact H2

/-! ## What every point leaves -/

theorem normed_congr (c : Dev nD) (s t : Fin cfg0.N) (e : s = t) (hs : s.val % 7 = 0) (ht : t.val % 7 = 0) : normed m c s hs = normed m c t ht := by
  subst e; rfl
theorem narrow_congr (c : Dev nD) (s t : Fin cfg0.N) (e : s = t) (hs : s.val % 7 = 0) (ht : t.val % 7 = 0) : narrow m c s hs = narrow m c t ht := by
  subst e; rfl

/-- The row's normalised tokens, and the row's block of the narrow output, as every point of the row has them. -/
def rows (c : Dev nD) (t : Fin cfg0.N) : Vec F S1024x2048 .bf16 := normed m c (first t) (first_mod t)
def side (c : Dev nD) (t : Fin cfg0.N) : Vec F S32x1024 .f32 := narrow m c (first t) (first_mod t)

theorem rows_first (c : Dev nD) (t : Fin cfg0.N) (h : t.val % 7 = 0) : rows m c t = normed m c t h := normed_congr m c _ _ (first_of t h) _ _
theorem side_first (c : Dev nD) (t : Fin cfg0.N) (h : t.val % 7 = 0) : side m c t = narrow m c t h := narrow_congr m c _ _ (first_of t h) _ _
theorem rows_eq (c : Dev nD) (s t : Fin cfg0.N) (h : s.val / 7 = t.val / 7) : rows m c s = rows m c t := normed_congr m c _ _ (first_eq s t h) _ _
theorem side_eq (c : Dev nD) (s t : Fin cfg0.N) (h : s.val / 7 = t.val / 7) : side m c s = side m c t := narrow_congr m c _ _ (first_eq s t h) _ _

/-- The point's block of the wide output. -/
def cols (c : Dev nD) (t : Fin cfg0.N) : Vec F S1024x1024 .bf16 :=
  if h : t.val % 7 = 0 then wide m c t h else if h' : t.val % 7 < 4 then laterB m c t ⟨by omega, h'⟩ (rows m c t) else laterC m c t (by omega) (rows m c t)

/-- What the scratch buffer holds before position `n`: inside a row the row's normalised tokens, at a row's start anything. -/
def held (c : Dev nD) (n : ℕ) : sProp 𝕄 :=
  if h : n < cfg0.N ∧ n % 7 ≠ 0 then owns (c : Thread nD τ) scr fullShare (rows m c ⟨n, h.1⟩) else iprop((∃ d, owns (c : Thread nD τ) scr fullShare d))

theorem held_start (c : Dev nD) (n : ℕ) (h : n % 7 = 0) : held m c n = iprop((∃ d, owns (c : Thread nD τ) scr fullShare d)) := dif_neg fun e => e.2 h
theorem held_inside (c : Dev nD) (t : Fin cfg0.N) (h : t.val % 7 ≠ 0) : held m c t.val = owns (c : Thread nD τ) scr fullShare (rows m c t) := dif_pos ⟨t.isLt, h⟩

theorem held_next (c : Dev nD) (t : Fin cfg0.N) : owns (c : Thread nD τ) scr fullShare (rows m c t) ⊢ held m c (t.val + 1) := by
  have hN : t.val < 56 := lt_of_lt_of_eq t.isLt (show cfg0.N = 56 from N_0)
  by_cases h : (t.val + 1) % 7 = 0
  · rw [held_start m c _ h]
    iintro H; iexists _; iexact H
  · have hlt : t.val + 1 < cfg0.N := Nat.lt_of_lt_of_eq (show t.val + 1 < 56 by omega) (show 56 = cfg0.N from N_0.symm)
    rw [held_inside m c ⟨t.val + 1, hlt⟩ h, rows_eq m c ⟨t.val + 1, hlt⟩ t (by show (t.val + 1) / 7 = t.val / 7; omega)]

/-- The proof data: the arrays as the launch finds them, the blocks kept, the outputs as named above, the scratch followed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => cols m c t
    | ⟨6, _⟩ => side m c t
  Φ n := iprop(held m c n.val ∗ (∃ r, prngReg c r))
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = cols m c t := by dsimp only [dats]
theorem after6 (c : Dev nD) (t : Fin cfg0.N) : (dats m 0 c).after 6 t = side m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = X0_2 m c t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- Inside a row the narrow output's buffer still holds the row's block. -/
theorem before6 (c : Dev nD) (t : Fin cfg0.N) (h : t.val % 7 ≠ 0) (d) : (dats m 0 c).before 6 t d = side m c t := by
  have hc : ∀ (t : Fin cfg0.N) (_ : t.val ≠ 0), cfg0.idle 6 (grid0.coords t) = true → cfg0.fresh 6 t.val = false →
      (dats m 0 c).after 6 t = (dats m 0 c).after 6 ⟨t.val - 1, by omega⟩ := by
    intro t h0 hi _
    rw [idle6 t] at hi
    have hm : ¬t.val % 7 = 0 := by simpa using hi
    rw [after6, after6]
    exact side_eq m c _ _ (by show t.val / 7 = (t.val - 1) / 7; omega)
  rw [Dat.before_out_traj _ 6 rfl (fun _ _ => rfl) hc t.val t rfl d,
    if_neg (by rw [fresh6 t.val (Nat.le_of_lt t.isLt)]; simpa using h), after6]
  exact side_eq m c _ _ (by show (t.val - 1) / 7 = t.val / 7; omega)

/-- Inside a row the narrow output's buffer, kept, is what the point must hand back. -/
theorem leave6 (c : Dev nD) (t : Fin cfg0.N) (h : t.val % 7 ≠ 0) :
    owns (c : Thread nD τ) (st6 t) fullShare (side m c t) ⊢ ((dats m 0 c).leavesExact 6 t : sProp 𝕄) := by
  have hi : cfg0.idle 6 (grid0.coords t) = true := by rw [idle6 t]; simpa using h
  unfold Dat.leavesExact
  rw [hi]
  cases hf : (cfg0.win 6).flush t with
  | true => rw [after6]
  | false =>
    simp only [before6 m c t h]
    iintro H; iexists (side m c t); iexact H

/-- What the body is given at a point, and what it must return. -/
def given (c : Dev nD) (t : Fin cfg0.N) : sProp 𝕄 :=
  iprop((dats m 0 c).Φ t.castSucc ∗ (dats m 0 c).owesAt () t.castSucc ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)))
def returned (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

theorem leave0 (c : Dev nD) (t : Fin cfg0.N) : ((dats m 0 c).leavesExact 0 t : sProp 𝕄) = owns (c : Thread nD τ) (st0 t) fullShare (iblk m c 0 t) := by
  unfold Dat.leavesExact; rw [show cfg0.idle 0 (grid0.coords t) = false from rfl, after0]
theorem leave1 (c : Dev nD) (t : Fin cfg0.N) : ((dats m 0 c).leavesExact 1 t : sProp 𝕄) = owns (c : Thread nD τ) (st1 t) fullShare (iblk m c 1 t) := by
  unfold Dat.leavesExact; rw [show cfg0.idle 1 (grid0.coords t) = false from rfl, after1]
theorem leave2 (c : Dev nD) (t : Fin cfg0.N) : ((dats m 0 c).leavesExact 2 t : sProp 𝕄) = owns (c : Thread nD τ) (st2 t) fullShare (X0_2 m c t) := by
  unfold Dat.leavesExact; rw [show cfg0.idle 2 (grid0.coords t) = false from rfl, after2]
theorem leave3 (c : Dev nD) (t : Fin cfg0.N) : ((dats m 0 c).leavesExact 3 t : sProp 𝕄) = owns (c : Thread nD τ) (st3 t) fullShare (iblk m c 3 t) := by
  unfold Dat.leavesExact; rw [show cfg0.idle 3 (grid0.coords t) = false from rfl, after3]
theorem leave4 (c : Dev nD) (t : Fin cfg0.N) : ((dats m 0 c).leavesExact 4 t : sProp 𝕄) = owns (c : Thread nD τ) (st4 t) fullShare (iblk m c 4 t) := by
  unfold Dat.leavesExact; rw [show cfg0.idle 4 (grid0.coords t) = false from rfl, after4]
theorem leave5 (c : Dev nD) (t : Fin cfg0.N) : ((dats m 0 c).leavesExact 5 t : sProp 𝕄) = owns (c : Thread nD τ) (st5 t) fullShare (cols m c t) := by
  unfold Dat.leavesExact; rw [live5 t, after5]
theorem leave6_first (c : Dev nD) (t : Fin cfg0.N) (h : t.val % 7 = 0) : ((dats m 0 c).leavesExact 6 t : sProp 𝕄) = owns (c : Thread nD τ) (st6 t) fullShare (side m c t) := by
  have hi : cfg0.idle 6 (grid0.coords t) = false := by rw [idle6 t]; simpa using h
  unfold Dat.leavesExact; rw [hi, after6]

set_option maxHeartbeats 800000 in
/-- The body at any point. -/
theorem sound (c : Dev nD) (t : Fin cfg0.N) :
    given m c t ⊢ wp frame (wpE (defs₀ (F := F)) Variants.none c none) Set.univ (bodyAt0 t) (fun _ => returned m c t) := by
  have hN : t.val < 56 := lt_of_lt_of_eq t.isLt (show cfg0.N = 56 from N_0)
  unfold given returned
  simp only [before0, before1, before2, before3, before4]
  rw [show (dats m 0 c).owesAt () t.succ = (dats m 0 c).owesAt () t.castSucc from rfl,
    show (dats m 0 c).Φ t.succ = iprop(held m c (t.val + 1) ∗ (∃ r, prngReg c r)) from rfl,
    show (dats m 0 c).Φ t.castSucc = iprop(held m c t.val ∗ (∃ r, prngReg c r)) from rfl,
    leave0 m c t, leave1 m c t, leave2 m c t, leave3 m c t, leave4 m c t, leave5 m c t]
  by_cases h : t.val % 7 = 0
  · rw [leave6_first m c t h, held_start m c t.val h, show cols m c t = wide m c t h from dif_pos h, side_first m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (start_body m c t h _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · rw [← rows_first m c t h]; iapply (held_next m c t); iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h' : t.val % 7 < 4
    · rw [held_inside m c t h, show cols m c t = laterB m c t ⟨by omega, h'⟩ (rows m c t) from (dif_neg h).trans (dif_pos h')]
      simp only [before6 m c t h]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (laterB_body m c t ⟨by omega, h'⟩ (rows m c t) _)
      isplitl [H2]; · iexact H2
      isplitl [H5]; · iexists _; iexact H5
      isplitl [HS]; · iexact HS
      iintro ⟨H2, H5, HS⟩
      isplitl [HS Hg]
      · isplitl [HS]
        · iapply (held_next m c t); iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leave6 m c t h); iexact H6
    · rw [held_inside m c t h, show cols m c t = laterC m c t (by omega) (rows m c t) from (dif_neg h).trans (dif_neg h')]
      simp only [before6 m c t h]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (laterC_body m c t (by omega) (rows m c t) _)
      isplitl [H3]; · iexact H3
      isplitl [H5]; · iexists _; iexact H5
      isplitl [HS]; · iexact HS
      iintro ⟨H3, H5, HS⟩
      isplitl [HS Hg]
      · isplitl [HS]
        · iapply (held_next m c t); iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leave6 m c t h); iexact H6

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-! ## The launch -/

theorem inv_eq (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem inv_in (c : Dev nD) : (Pipeline.ΦA spec0 c : sProp 𝕄) ⊢ (dats m 0 c).Φ 0 := by
  rw [inv_eq, show (dats m 0 c).Φ 0 = iprop(held m c 0 ∗ (∃ r, prngReg c r)) from rfl, held_start m c 0 rfl]

theorem inv_out (c : Dev nD) : (dats m 0 c).Φ (Fin.last cfg0.N) ⊢ (Pipeline.ΦA spec0 c : sProp 𝕄) := by
  rw [inv_eq, show (dats m 0 c).Φ (Fin.last cfg0.N) = iprop(held m c cfg0.N ∗ (∃ r, prngReg c r)) from rfl,
    held_start m c cfg0.N (by rw [show cfg0.N = 56 from N_0])]

set_option backward.isDefEq.respectTransparency.types false in
/-- The launch ends with every array as the proof data say and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

theorem run_post : θ_run defs (onTc (τ := τ) (main (F := F))) (s₀ m ρ) (Pipeline.FramePost cfgs (dats m) 0 (V m)) :=
  (θ_run defs _ _).mono (fun _ h => h.1) (run_quiet m ρ)

/-- The call's frame: its arguments end as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_quiet m ρ))

end Cert.EvenInIdeal.Hand

end
-- ==== Proof.EvenIn.lean ====
module

public import proofs.«01_k».proof.Defs
public import proofs.«01_k».proof.Proof.EvenInFrame
public import proofs.«01_k».proof.Proof.EvenInIdealFrame
public import proofs.«01_k».proof.Proof.Gen.EvenInRefIdeal.Run
public import proofs.«01_k».proof.Proof.Gen.EvenInRefIdeal.Read
public import Idealize.ShloMosaic.Lib.Pointwise
public import Idealize.ShloMosaic.Lib.StableHlo.RunRead
public import Idealize.ShloMosaic.Lib.Pipeline.ReadBack
public import Idealize.ShloMosaic.Lib.Pipeline.Value

@[expose] public section

set_option maxRecDepth 16384

/-! The projection into an even layer's mixers: every token's row, normalised once into a scratch buffer and read there by
    all the row's points, times the layer's weights. Thirty-two columns, the gates', are returned by themselves, transposed;
    the columns to either side of them are returned side by side. -/

noncomputable section

open Idealize Idealize.ShloMosaic Idealize.SL
open Idealize.ShloMosaic.TcCoe
open scoped BigOperators

namespace Cert.EvenInIdeal.Claims

open Cert.EvenInIdeal Cert.EvenInIdeal.Gen Cert.EvenInIdeal.Hand

/-- A row divided by its root mean square and multiplied by the gains. -/
def nrm (x g : Fin 2048 → EReal) (k : Fin 2048) : EReal :=
  x k * Ideal.rsqrt (Ideal.div (∑ l : Fin 2048, x l * x l) (Ideal.ofBits .f32 0x45000000#32) + Ideal.ofBits .f32 0x358637BD#32) * g k

/-! ## The payloads -/

/-- The normalised rows before they are stored, read at one place. -/
theorem pay7_apply (x : Vec Ideal S256x2048 .f32) (g : Vec Ideal S1x2048 .f32) (r : Fin 256) (q : Fin 2048) :
    k0_pay7 (F := Ideal) x g (ix2 r q) = nrm (fun k => x (ix2 r k)) (fun k => g (ix2 0 k)) q := by
  pointwise [k0_pay7, nrm]

theorem pay1_apply (x : Vec Ideal S256x2048 .f32) (g : Vec Ideal S1x2048 .f32) (r : Fin 256) (q : Fin 2048) :
    k0_pay1 (F := Ideal) (k0_pay21 x) (k0_pay22 x) (Scalar.ofBits .f32 0x45000000#32) g (ix2 r q) = nrm (fun k => x (ix2 r k)) (fun k => g (ix2 0 k)) q := by
  pointwise [k0_pay1, k0_pay21, k0_pay22, nrm]

theorem pay17_apply (x : Vec Ideal S256x2048 .f32) (g : Vec Ideal S1x2048 .f32) (r : Fin 256) (q : Fin 2048) :
    k0_pay17 (F := Ideal) (k0_pay15 x) (k0_pay16 x) g (ix2 r q) = nrm (fun k => x (ix2 r k)) (fun k => g (ix2 0 k)) q := by
  pointwise [k0_pay17, k0_pay15, k0_pay16, nrm]

theorem pay11_eq : k0_pay11 (F := Ideal) = k0_pay7 := rfl

theorem pay8_eq (x : Vec Ideal S256x2048 .f32) (g : Vec Ideal S1x2048 .f32) (r : Fin 256) (q : Fin 2048) :
    k0_pay8 (F := Ideal) x g (ix2 r q) = k0_pay7 (F := Ideal) x g (ix2 r q) := by
  unfold k0_pay8; generalize k0_pay7 (F := Ideal) x g = y; pointwise []
theorem pay18_eq (x y : FVec Ideal S256x2048 .f32) (g : Vec Ideal S1x2048 .f32) (r : Fin 256) (q : Fin 2048) :
    k0_pay18 (F := Ideal) x y g (ix2 r q) = k0_pay17 (F := Ideal) x y g (ix2 r q) := by
  unfold k0_pay18; generalize k0_pay17 (F := Ideal) x y g = z; pointwise []
theorem pay2_eq (x : FVec Ideal S256x2048 .f32) (y : FVec Ideal S256x1 .f32) (d : Ideal .f32) (g : Vec Ideal S1x2048 .f32) (r : Fin 256) (q : Fin 2048) :
    k0_pay2 (F := Ideal) x y d g (ix2 r q) = k0_pay1 (F := Ideal) x y d g (ix2 r q) := by
  unfold k0_pay2; generalize k0_pay1 (F := Ideal) x y d g = z; pointwise []

/-- The rows the four strips store. -/
theorem norm0 (x : Vec Ideal S256x2048 .f32) (g : Vec Ideal S1x2048 .f32) (r : Fin 256) (q : Fin 2048) :
    k0_pay8 (F := Ideal) x g (ix2 r q) = nrm (fun k => x (ix2 r k)) (fun k => g (ix2 0 k)) q := by rw [pay8_eq, pay7_apply]
theorem norm2 (x : Vec Ideal S256x2048 .f32) (g : Vec Ideal S1x2048 .f32) (r : Fin 256) (q : Fin 2048) :
    k0_pay18 (F := Ideal) (k0_pay15 x) (k0_pay16 x) g (ix2 r q) = nrm (fun k => x (ix2 r k)) (fun k => g (ix2 0 k)) q := by rw [pay18_eq, pay17_apply]
theorem norm3 (x : Vec Ideal S256x2048 .f32) (g : Vec Ideal S1x2048 .f32) (r : Fin 256) (q : Fin 2048) :
    k0_pay2 (F := Ideal) (k0_pay21 x) (k0_pay22 x) (Scalar.ofBits .f32 0x45000000#32) g (ix2 r q) = nrm (fun k => x (ix2 r k)) (fun k => g (ix2 0 k)) q := by rw [pay2_eq, pay1_apply]

/-- The narrow products the four strips store, a column for every row. -/
theorem pay9_eq (x : Vec Ideal S256x2048 .f32) (g : Vec Ideal S1x2048 .f32) (w : Vec Ideal S32x2048 .f32) (q : Fin 32) (r : Fin 256) :
    k0_pay9 (F := Ideal) x g w (ix2 q r) = ∑ k : Fin 2048, w (ix2 q k) * k0_pay7 (F := Ideal) x g (ix2 r k) := by
  unfold k0_pay9; generalize k0_pay7 (F := Ideal) x g = y; pointwise []
theorem pay19_eq (x y : FVec Ideal S256x2048 .f32) (g : Vec Ideal S1x2048 .f32) (w : Vec Ideal S32x2048 .f32) (q : Fin 32) (r : Fin 256) :
    k0_pay19 (F := Ideal) x y g w (ix2 q r) = ∑ k : Fin 2048, w (ix2 q k) * k0_pay17 (F := Ideal) x y g (ix2 r k) := by
  unfold k0_pay19; generalize k0_pay17 (F := Ideal) x y g = y; pointwise []
theorem pay3_eq (x : FVec Ideal S256x2048 .f32) (y : FVec Ideal S256x1 .f32) (d : Ideal .f32) (g : Vec Ideal S1x2048 .f32) (w : Vec Ideal S32x2048 .f32) (q : Fin 32) (r : Fin 256) :
    k0_pay3 (F := Ideal) x y d g w (ix2 q r) = ∑ k : Fin 2048, w (ix2 q k) * k0_pay1 (F := Ideal) x y d g (ix2 r k) := by
  unfold k0_pay3; generalize k0_pay1 (F := Ideal) x y d g = y; pointwise []

theorem nar0 (x : Vec Ideal S256x2048 .f32) (g : Vec Ideal S1x2048 .f32) (w : Vec Ideal S32x2048 .f32) (q : Fin 32) (r : Fin 256) :
    k0_pay9 (F := Ideal) x g w (ix2 q r) = ∑ k : Fin 2048, w (ix2 q k) * nrm (fun k => x (ix2 r k)) (fun k => g (ix2 0 k)) k := by
  rw [pay9_eq]; simp only [pay7_apply]
theorem nar2 (x : Vec Ideal S256x2048 .f32) (g : Vec Ideal S1x2048 .f32) (w : Vec Ideal S32x2048 .f32) (q : Fin 32) (r : Fin 256) :
    k0_pay19 (F := Ideal) (k0_pay15 x) (k0_pay16 x) g w (ix2 q r) = ∑ k : Fin 2048, w (ix2 q k) * nrm (fun k => x (ix2 r k)) (fun k => g (ix2 0 k)) k := by
  rw [pay19_eq]; simp only [pay17_apply]
theorem nar3 (x : Vec Ideal S256x2048 .f32) (g : Vec Ideal S1x2048 .f32) (w : Vec Ideal S32x2048 .f32) (q : Fin 32) (r : Fin 256) :
    k0_pay3 (F := Ideal) (k0_pay21 x) (k0_pay22 x) (Scalar.ofBits .f32 0x45000000#32) g w (ix2 q r) = ∑ k : Fin 2048, w (ix2 q k) * nrm (fun k => x (ix2 r k)) (fun k => g (ix2 0 k)) k := by
  rw [pay3_eq]; simp only [pay1_apply]

/-- The wide products, read at one place. -/
theorem pay10_apply (a : Vec Ideal S256x2048 .bf16) (b : Vec Ideal S1x2048x1024 .bf16) (r : Fin 256) (q : Fin 1024) :
    k0_pay10 (F := Ideal) a b (ix2 r q) = ∑ k : Fin 2048, a (ix2 r k) * b (ix3 0 k q) := by
  pointwise [k0_pay10]
theorem pay5_apply (a : Vec Ideal S1024x2048 .bf16) (b : Vec Ideal S1x2048x1024 .bf16) (r : Fin 1024) (q : Fin 1024) :
    k0_pay5 (F := Ideal) a b (ix2 r q) = ∑ k : Fin 2048, a (ix2 r k) * b (ix3 0 k q) := by
  pointwise [k0_pay5]

/-! ## What the points leave -/

/-- The normalised rows of a block. -/
def normRows (x : Vec Ideal S1024x2048 .f32) (g : Vec Ideal S1x2048 .f32) : Vec Ideal S1024x2048 .bf16 :=
  fun i => nrm (fun k => x (ix2 (i 0) k)) (fun k => g (ix2 0 k)) (i 1)
/-- A block's rows times a block of the weights. -/
def prodWide (s : Vec Ideal S1024x2048 .bf16) (w : Vec Ideal S1x2048x1024 .bf16) : Vec Ideal S1024x1024 .bf16 :=
  fun i => ∑ k : Fin 2048, s (ix2 (i 0) k) * w (ix3 0 k (i 1))
def prodNarrow (s : Vec Ideal S1024x2048 .bf16) (w : Vec Ideal S32x2048 .f32) : Vec Ideal S32x1024 .f32 :=
  fun i => ∑ k : Fin 2048, w (ix2 (i 0) k) * s (ix2 (i 1) k)

/-- Stores that are blocks of one array, and cover it, leave that array. -/
theorem canon_of_pieces {s : Shape} {e : EltTy} (G : s.Idx → Elt Ideal e) (L : List (View.Piece (Elt Ideal) s e)) (h : View.PiecesOf G L)
    (hc : ∀ y, ∃ p ∈ L, y ∈ p.1.set) : View.canon L = G := by
  funext y
  have e := View.canon_append_of_piecesOf G [] L h y (hc y)
  rwa [List.append_nil] at e

theorem hz2 : (![0, 0] : Fin 2 → Nat) = fun _ => 0 := funext fun a => by fin_cases a <;> rfl
theorem hz3 : (![0, 0, 0] : Fin 3 → Nat) = fun _ => 0 := funext fun a => by fin_cases a <;> rfl

section Strips

variable (o : ℕ) (inb : ∀ a : Fin 2, (![o, 0] : Fin 2 → ℕ) a + S256x2048.size a ≤ S1024x2048.size a)

/-- A strip's place is the block's place `o` rows on, or `o` columns. -/
theorem emb_row (N : ℕ) (inb' : ∀ a : Fin 2, (![o, 0] : Fin 2 → ℕ) a + (⟨2, ![256, N]⟩ : Shape).size a ≤ (⟨2, ![1024, N]⟩ : Shape).size a) (r : Fin 256) (q : Fin N) :
    (Rect.unit (s := ⟨2, ![1024, N]⟩) ![o, 0] (⟨2, ![256, N]⟩ : Shape).size inb').emb (ix2 r q) = ix2 ⟨o + r.val, by have := inb' 0; have h : o + 256 ≤ 1024 := this; omega⟩ q := by
  funext a; apply Fin.ext
  match a with
  | ⟨0, _⟩ => rw [Rect.emb_apply]; show o + 1 * r.val = o + r.val; omega
  | ⟨1, _⟩ => rw [Rect.emb_apply]; show 0 + 1 * q.val = q.val; omega

theorem emb_col (inb' : ∀ a : Fin 2, (![0, o] : Fin 2 → ℕ) a + S32x256.size a ≤ S32x1024.size a) (q : Fin 32) (r : Fin 256) :
    (Rect.unit (s := S32x1024) ![0, o] S32x256.size inb').emb (ix2 q r) = ix2 q ⟨o + r.val, by have := inb' 1; have h : o + 256 ≤ 1024 := this; omega⟩ := by
  funext a; apply Fin.ext
  match a with
  | ⟨0, _⟩ => rw [Rect.emb_apply]; show 0 + 1 * q.val = q.val; omega
  | ⟨1, _⟩ => rw [Rect.emb_apply]; show o + 1 * r.val = o + r.val; omega

theorem strip_norm (x : Vec Ideal S1024x2048 .f32) (g : Vec Ideal S1x2048 .f32) (a : Vec Ideal S256x2048 .bf16)
    (ha : ∀ r q, a (ix2 r q) = nrm (fun k => (View.ld x (Rect.unit (s := S1024x2048) ![o, 0] S256x2048.size inb) : Vec Ideal S256x2048 .f32) (ix2 r k)) (fun k => g (ix2 0 k)) q)
    (i : S256x2048.Idx) :
    a i = normRows x g ((Rect.unit (s := S1024x2048) ![o, 0] S256x2048.size inb).emb i) := by
  idx_vars i
  rw [ha, show (Rect.unit (s := S1024x2048) ![o, 0] S256x2048.size inb).emb (ix2 i0 i1) = _ from emb_row o 2048 inb i0 i1]
  show _ = nrm (fun k => x (ix2 _ k)) _ i1
  congr 1
  funext l
  exact congrArg x (emb_row o 2048 inb i0 l)

theorem strip_wide (inb' : ∀ a : Fin 2, (![o, 0] : Fin 2 → ℕ) a + S256x1024.size a ≤ S1024x1024.size a)
    (x : Vec Ideal S1024x2048 .f32) (g : Vec Ideal S1x2048 .f32) (w : Vec Ideal S1x2048x1024 .bf16) (a : Vec Ideal S256x2048 .bf16)
    (ha : ∀ r q, a (ix2 r q) = nrm (fun k => (View.ld x (Rect.unit (s := S1024x2048) ![o, 0] S256x2048.size inb) : Vec Ideal S256x2048 .f32) (ix2 r k)) (fun k => g (ix2 0 k)) q)
    (i : S256x1024.Idx) :
    k0_pay10 (F := Ideal) a w i = prodWide (normRows x g) w ((Rect.unit (s := S1024x1024) ![o, 0] S256x1024.size inb').emb i) := by
  idx_vars i
  rw [pay10_apply, show (Rect.unit (s := S1024x1024) ![o, 0] S256x1024.size inb').emb (ix2 i0 i1) = _ from emb_row o 1024 inb' i0 i1]
  refine Finset.sum_congr rfl fun k _ => congrArg (· * w (ix3 0 k i1)) ?_
  exact (strip_norm o inb x g a ha (ix2 i0 k)).trans (congrArg (normRows x g) (emb_row o 2048 inb i0 k))

theorem strip_narrow (inb' : ∀ a : Fin 2, (![0, o] : Fin 2 → ℕ) a + S32x256.size a ≤ S32x1024.size a)
    (x : Vec Ideal S1024x2048 .f32) (g : Vec Ideal S1x2048 .f32) (w : Vec Ideal S32x2048 .f32) (a : Vec Ideal S32x256 .f32)
    (ha : ∀ q r, a (ix2 q r) = ∑ k : Fin 2048, w (ix2 q k) * nrm (fun k => (View.ld x (Rect.unit (s := S1024x2048) ![o, 0] S256x2048.size inb) : Vec Ideal S256x2048 .f32) (ix2 r k)) (fun k => g (ix2 0 k)) k)
    (i : S32x256.Idx) :
    a i = prodNarrow (normRows x g) w ((Rect.unit (s := S32x1024) ![0, o] S32x256.size inb').emb i) := by
  idx_vars i
  rw [ha, show (Rect.unit (s := S32x1024) ![0, o] S32x256.size inb').emb (ix2 i0 i1) = _ from emb_col o inb' i0 i1]
  refine Finset.sum_congr rfl fun k _ => congrArg (w (ix2 i0 k) * ·) ?_
  refine congrArg (fun f => nrm f (fun k => g (ix2 0 k)) k) ?_
  funext l
  exact congrArg x (emb_row o 2048 inb i1 l)

end Strips

variable (m : (ℓ : Loc nD τ sig) → Buf (Elt Ideal) ℓ) (ρ : Dev nD → PrngReg)

/-- The blocks of a point. -/
abbrev xb (c : Dev nD) (t : Fin cfg0.N) : Vec Ideal S1024x2048 .f32 := iblk m c 0 t
abbrev gb (c : Dev nD) (t : Fin cfg0.N) : Vec Ideal S1x2048 .f32 := iblk m c 1 t
abbrev wb (c : Dev nD) (t : Fin cfg0.N) : Vec Ideal S1x2048x1024 .bf16 := X0_2 m c t
abbrev vb (c : Dev nD) (t : Fin cfg0.N) : Vec Ideal S1x2048x1024 .bf16 := iblk m c 3 t
abbrev nb (c : Dev nD) (t : Fin cfg0.N) : Vec Ideal S32x2048 .f32 := iblk m c 4 t

theorem normed_eq (c : Dev nD) (t : Fin cfg0.N) (h : t.val % 7 = 0) : normed m c t h = normRows (xb m c t) (gb m c t) := by
  refine canon_of_pieces _ _ ?_ (normed_cover m c t h)
  unfold startAt startRun
  dsimp only
  sl_unfold_words
  simp only [View.readCov_cons_toLoadRect, View.readAt_eq_ld, (wst0 t).read_unread, (wst1 t).read_unread, (wst2 t).read_unread, (wst4 t).read_unread, View.ld_unit_zero (S := S1x2048) hz2, View.ld_unit_zero (S := S32x2048) hz2, View.ld_unit_zero (S := S1x2048x1024) hz3]
  refine ⟨fun x => ?_, fun x => ?_, fun x => ?_, fun x => ?_, trivial⟩
  · exact strip_norm 768 inb_S1024x2048_S256x2048_768_0 (xb m c t) (gb m c t) _ (fun r q => norm3 _ _ r q) x
  · exact strip_norm 512 inb_S1024x2048_S256x2048_512_0 (xb m c t) (gb m c t) _ (fun r q => norm2 _ _ r q) x
  · exact strip_norm 256 inb_S1024x2048_S256x2048_256_0 (xb m c t) (gb m c t) _ (fun r q => norm0 _ _ r q) x
  · exact strip_norm 0 inb_S1024x2048_S256x2048_0_0 (xb m c t) (gb m c t) _ (fun r q => norm0 _ _ r q) x

theorem narrow_eq (c : Dev nD) (t : Fin cfg0.N) (h : t.val % 7 = 0) : narrow m c t h = prodNarrow (normRows (xb m c t) (gb m c t)) (nb m c t) := by
  refine canon_of_pieces _ _ ?_ (narrow_cover m c t h)
  unfold startAt startRun
  dsimp only
  sl_unfold_words
  simp only [View.readCov_cons_toLoadRect, View.readAt_eq_ld, (wst0 t).read_unread, (wst1 t).read_unread, (wst2 t).read_unread, (wst4 t).read_unread, View.ld_unit_zero (S := S1x2048) hz2, View.ld_unit_zero (S := S32x2048) hz2, View.ld_unit_zero (S := S1x2048x1024) hz3]
  refine ⟨fun x => ?_, fun x => ?_, fun x => ?_, fun x => ?_, trivial⟩
  · exact strip_narrow 768 inb_S1024x2048_S256x2048_768_0 inb_S32x1024_S32x256_0_768 (xb m c t) (gb m c t) (nb m c t) _ (fun q r => nar3 _ _ _ q r) x
  · exact strip_narrow 512 inb_S1024x2048_S256x2048_512_0 inb_S32x1024_S32x256_0_512 (xb m c t) (gb m c t) (nb m c t) _ (fun q r => nar2 _ _ _ q r) x
  · exact strip_narrow 256 inb_S1024x2048_S256x2048_256_0 inb_S32x1024_S32x256_0_256 (xb m c t) (gb m c t) (nb m c t) _ (fun q r => nar0 _ _ _ q r) x
  · exact strip_narrow 0 inb_S1024x2048_S256x2048_0_0 inb_S32x1024_S32x256_0_0 (xb m c t) (gb m c t) (nb m c t) _ (fun q r => nar0 _ _ _ q r) x

theorem wide_eq (c : Dev nD) (t : Fin cfg0.N) (h : t.val % 7 = 0) : wide m c t h = prodWide (normRows (xb m c t) (gb m c t)) (wb m c t) := by
  refine canon_of_pieces _ _ ?_ (wide_cover m c t h)
  unfold startAt startRun
  dsimp only
  sl_unfold_words
  simp only [View.readCov_cons_toLoadRect, View.readAt_eq_ld, (wst0 t).read_unread, (wst1 t).read_unread, (wst2 t).read_unread, (wst4 t).read_unread, View.ld_unit_zero (S := S1x2048) hz2, View.ld_unit_zero (S := S32x2048) hz2, View.ld_unit_zero (S := S1x2048x1024) hz3]
  refine ⟨fun x => ?_, fun x => ?_, fun x => ?_, fun x => ?_, trivial⟩
  · exact strip_wide 768 inb_S1024x2048_S256x2048_768_0 inb_S1024x1024_S256x1024_768_0 (xb m c t) (gb m c t) (wb m c t) _ (fun r q => norm3 _ _ r q) x
  · exact strip_wide 512 inb_S1024x2048_S256x2048_512_0 inb_S1024x1024_S256x1024_512_0 (xb m c t) (gb m c t) (wb m c t) _ (fun r q => norm2 _ _ r q) x
  · exact strip_wide 256 inb_S1024x2048_S256x2048_256_0 inb_S1024x1024_S256x1024_256_0 (xb m c t) (gb m c t) (wb m c t) _ (fun r q => norm0 _ _ r q) x
  · exact strip_wide 0 inb_S1024x2048_S256x2048_0_0 inb_S1024x1024_S256x1024_0_0 (xb m c t) (gb m c t) (wb m c t) _ (fun r q => norm0 _ _ r q) x

theorem emb_all (x : S1024x1024.Idx) : (Rect.unit (s := S1024x1024) ![0, 0] S1024x1024.size inb_S1024x1024_S1024x1024_0_0).emb x = x := by
  funext a; apply Fin.ext
  match a with
  | ⟨0, _⟩ => rw [Rect.emb_apply]; show 0 + 1 * (x 0).val = (x 0).val; omega
  | ⟨1, _⟩ => rw [Rect.emb_apply]; show 0 + 1 * (x 1).val = (x 1).val; omega

theorem laterB_eq (c : Dev nD) (t : Fin cfg0.N) (h : 0 < t.val % 7 ∧ t.val % 7 < 4) (s : Vec Ideal S1024x2048 .bf16) : laterB m c t h s = prodWide s (wb m c t) := by
  refine canon_of_pieces _ _ ?_ (laterB_cover m c t h s)
  unfold laterAtB laterRunB
  dsimp only
  sl_unfold_words
  simp only [View.readCov_cons_toLoadRect, View.readAt_eq_ld, (wst2 t).read_unread, (Memref.isWhole_whole _).read_unread, View.ld_unit_zero (S := S1024x2048) hz2, View.ld_unit_zero (S := S1x2048x1024) hz3]
  refine ⟨fun x => ?_, trivial⟩
  refine Eq.trans ?_ (congrArg (prodWide s (wb m c t)) (emb_all x)).symm
  idx_vars x
  exact pay5_apply _ _ x0 x1

theorem laterC_eq (c : Dev nD) (t : Fin cfg0.N) (h : 4 ≤ t.val % 7) (s : Vec Ideal S1024x2048 .bf16) : laterC m c t h s = prodWide s (vb m c t) := by
  refine canon_of_pieces _ _ ?_ (laterC_cover m c t h s)
  unfold laterAtC laterRunC
  dsimp only
  sl_unfold_words
  simp only [View.readCov_cons_toLoadRect, View.readAt_eq_ld, (wst3 t).read_unread, (Memref.isWhole_whole _).read_unread, View.ld_unit_zero (S := S1024x2048) hz2, View.ld_unit_zero (S := S1x2048x1024) hz3]
  refine ⟨fun x => ?_, trivial⟩
  refine Eq.trans ?_ (congrArg (prodWide s (vb m c t)) (emb_all x)).symm
  idx_vars x
  exact pay5_apply _ _ x0 x1

/-! ## The reference -/

/-- The batch and the position of a token. -/
abbrev bat (R : Fin 8192) : Fin 4 := ⟨R.val / 2048, by omega⟩
abbrev pos (R : Fin 8192) : Fin 2048 := ⟨R.val % 2048, by omega⟩

/-- The projection at token `R` and column `q` of the weights. -/
def cell (x : Vec Ideal S4x2048x2048 .f32) (g : Vec Ideal S4x2048 .f32) (w : Vec Ideal S2x2048x7200 .f32) (R : Fin 8192) (q : Fin 7200) : EReal :=
  ∑ k : Fin 2048, nrm (fun k => x (ix3 (bat R) (pos R) k)) (fun k => g (ix2 0 k)) k * w (ix3 0 k q)

/-- The column of the weights at a column of the wide result: the gates' columns are left out. -/
def colAt (q : Fin 7168) : Fin 7200 := if q.val < 4096 then ⟨q.val, by omega⟩ else ⟨q.val + 32, by omega⟩
def gateAt (q : Fin 32) : Fin 7200 := ⟨4096 + q.val, by omega⟩

/-- The two results. -/
def wideRes (x : Vec Ideal S4x2048x2048 .f32) (g : Vec Ideal S4x2048 .f32) (w : Vec Ideal S2x2048x7200 .f32) : Vec Ideal S8192x7168 .bf16 :=
  fun i => cell x g w (i 0) (colAt (i 1))
def narrowRes (x : Vec Ideal S4x2048x2048 .f32) (g : Vec Ideal S4x2048 .f32) (w : Vec Ideal S2x2048x7200 .f32) : Vec Ideal S32x8192 .f32 :=
  fun i => cell x g w (i 1) (gateAt (i 0))

open Cert.EvenInRefIdeal.Read in
/-- The reference's normalised rows, read at one place. -/
theorem ref_nrm (x : Vec Ideal S4x2048x2048 .f32) (g : Vec Ideal S4x2048 .f32) (b : Fin 4) (s : Fin 2048) (q : Fin 2048) :
    val_main_v14 (F := Ideal) x g (ix3 b s q) = nrm (fun k => x (ix3 b s k)) (fun k => g (ix2 0 k)) q := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, nrm]

open Cert.EvenInRefIdeal.Read in
theorem ref_prod (x : Vec Ideal S4x2048x2048 .f32) (g : Vec Ideal S4x2048 .f32) (w : Vec Ideal S2x2048x7200 .f32) (b : Fin 4) (s : Fin 2048) (q : Fin 7200) :
    val_main_v17 (F := Ideal) x g w (ix3 b s q) = ∑ k : Fin 2048, val_main_v14 (F := Ideal) x g (ix3 b s k) * w (ix3 0 k q) := by
  unfold val_main_v17
  generalize val_main_v14 (F := Ideal) x g = y
  pointwise [val_main_v16, val_main_v15]

open Cert.EvenInRefIdeal.Read in
theorem ref_cell (x : Vec Ideal S4x2048x2048 .f32) (g : Vec Ideal S4x2048 .f32) (w : Vec Ideal S2x2048x7200 .f32) (R : Fin 8192) (q : Fin 7200) :
    val_main_v18 (F := Ideal) x g w (ix2 R q) = cell x g w R q := by
  have e : val_main_v18 (F := Ideal) x g w (ix2 R q) = val_main_v17 (F := Ideal) x g w (ix3 (bat R) (pos R) q) := by
    unfold val_main_v18
    generalize val_main_v17 (F := Ideal) x g w = y
    pointwise []
  rw [e, ref_prod]
  simp only [ref_nrm]
  rfl

open Cert.EvenInRefIdeal.Read in
theorem ref_wide (x : Vec Ideal S4x2048x2048 .f32) (g : Vec Ideal S4x2048 .f32) (w : Vec Ideal S2x2048x7200 .f32) :
    val_main_v22 (F := Ideal) x g w = wideRes x g w := by
  funext i
  idx_vars i
  show _ = cell x g w i0 (colAt i1)
  have e : val_main_v22 (F := Ideal) x g w (ix2 i0 i1) = if h : i1.val < 4096 then val_main_v18 (F := Ideal) x g w (ix2 i0 ⟨i1.val, by omega⟩)
      else val_main_v18 (F := Ideal) x g w (ix2 i0 ⟨4128 + (i1.val - 4096), by omega⟩) := by
    unfold val_main_v22 val_main_v21 val_main_v20 val_main_v19
    generalize val_main_v18 (F := Ideal) x g w = y
    pointwise []
  rw [e]
  by_cases h : i1.val < 4096
  · rw [dif_pos h, ref_cell, colAt, if_pos h]
  · rw [dif_neg h, ref_cell, colAt, if_neg h]
    exact congrArg (cell x g w i0) (Fin.ext (by show 4128 + (i1.val - 4096) = i1.val + 32; omega))

open Cert.EvenInRefIdeal.Read in
theorem ref_narrow (x : Vec Ideal S4x2048x2048 .f32) (g : Vec Ideal S4x2048 .f32) (w : Vec Ideal S2x2048x7200 .f32) :
    val_main_v24 (F := Ideal) x g w = narrowRes x g w := by
  funext i
  idx_vars i
  refine Eq.trans ?_ (ref_cell x g w i1 (gateAt i0))
  unfold val_main_v24 val_main_v23 gateAt
  generalize val_main_v18 (F := Ideal) x g w = y
  pointwise []

/-! ## The arrays the launch finds -/

abbrev tok (c : Dev nD) : Vec Ideal S4x2048x2048 .f32 := m ((c.tc : Thread nD τ).loc main_arg0)
abbrev gains (c : Dev nD) : Vec Ideal S4x2048 .f32 := m ((c.tc : Thread nD τ).loc main_arg1)
abbrev wts (c : Dev nD) : Vec Ideal S2x2048x7200 .f32 := m ((c.tc : Thread nD τ).loc main_arg2)

theorem V_v0' (c : Dev nD) : (V m c main_v0 : Vec Ideal S8192x2048 .f32) = shapeCast S8192x2048 (tok m c) shapeCasts_S4x2048x2048_S8192x2048 := by
  show StableHlo.after hostOps0 _ _ = _
  after_reads_simp
  rfl

theorem tok_apply (x : Vec Ideal S4x2048x2048 .f32) (R : Fin 8192) (k : Fin 2048) :
    shapeCast S8192x2048 x shapeCasts_S4x2048x2048_S8192x2048 (ix2 R k) = x (ix3 (bat R) (pos R) k) := by
  pointwise []

theorem V_v0 (c : Dev nD) (R : Fin 8192) (k : Fin 2048) : (V m c main_v0 : Vec Ideal S8192x2048 .f32) (ix2 R k) = tok m c (ix3 (bat R) (pos R) k) := by
  rw [V_v0', tok_apply]

theorem V_v1' (c : Dev nD) : (V m c main_v1 : Vec Ideal S2x2048x7200 .bf16) = truncf (F := Ideal) .bf16 (wts m c) bitsLt_bf16_f32 := by
  show StableHlo.after hostOps0 _ _ = _
  after_reads_simp

theorem V_v1 (c : Dev nD) (l : Fin 2) (k : Fin 2048) (q : Fin 7200) : (V m c main_v1 : Vec Ideal S2x2048x7200 .bf16) (ix3 l k q) = wts m c (ix3 l k q) := by
  rw [V_v1']; rfl

theorem V_v2' (c : Dev nD) : (V m c main_v2 : Vec Ideal S2x2048x3072 .bf16)
    = extractStridedSlice S2x2048x3072 ![0, 0, 4128] (truncf (F := Ideal) .bf16 (wts m c) bitsLt_bf16_f32 : Vec Ideal S2x2048x7200 .bf16) slices_S2x2048x7200_S2x2048x3072_0_0_4128 := by
  show StableHlo.after hostOps0 _ _ = _
  after_reads_simp

theorem right_apply (w : Vec Ideal S2x2048x7200 .f32) (l : Fin 2) (k : Fin 2048) (q : Fin 3072) :
    (extractStridedSlice S2x2048x3072 ![0, 0, 4128] (truncf (F := Ideal) .bf16 w bitsLt_bf16_f32 : Vec Ideal S2x2048x7200 .bf16) slices_S2x2048x7200_S2x2048x3072_0_0_4128 : Vec Ideal S2x2048x3072 .bf16) (ix3 l k q)
      = w (ix3 l k ⟨4128 + q.val, by omega⟩) := by
  pointwise []

theorem V_v2 (c : Dev nD) (l : Fin 2) (k : Fin 2048) (q : Fin 3072) : (V m c main_v2 : Vec Ideal S2x2048x3072 .bf16) (ix3 l k q) = wts m c (ix3 l k ⟨4128 + q.val, by omega⟩) := by
  rw [V_v2', right_apply]

theorem V_v8' (c : Dev nD) : (V m c main_v8 : Vec Ideal S1x2048 .f32)
    = shapeCast S1x2048 (shapeCast S2048 (extractStridedSlice S1x2048 ![0, 0] (gains m c) slices_S4x2048_S1x2048_0_0) shapeCasts_S1x2048_S2048) shapeCasts_S2048_S1x2048 := by
  show StableHlo.after hostOps0 _ _ = _
  after_reads_simp
  rfl

theorem gain_apply (g : Vec Ideal S4x2048 .f32) (q : Fin 2048) :
    (shapeCast S1x2048 (shapeCast S2048 (extractStridedSlice S1x2048 ![0, 0] g slices_S4x2048_S1x2048_0_0) shapeCasts_S1x2048_S2048) shapeCasts_S2048_S1x2048 : Vec Ideal S1x2048 .f32) (ix2 0 q) = g (ix2 0 q) := by
  pointwise []

theorem V_v8 (c : Dev nD) (q : Fin 2048) : (V m c main_v8 : Vec Ideal S1x2048 .f32) (ix2 0 q) = gains m c (ix2 0 q) := by
  rw [V_v8', gain_apply]

theorem V_v7' (c : Dev nD) : (V m c main_v7 : Vec Ideal S32x2048 .f32)
    = transpose S32x2048 [1, 0] (shapeCast S2048x32 (extractStridedSlice S1x2048x32 ![0, 0, 4096] (wts m c) slices_S2x2048x7200_S1x2048x32_0_0_4096) shapeCasts_S1x2048x32_S2048x32) transposes_S2048x32_S32x2048_1_0 := by
  show StableHlo.after hostOps0 _ _ = _
  after_reads_simp
  rfl

theorem gate_apply (w : Vec Ideal S2x2048x7200 .f32) (q : Fin 32) (k : Fin 2048) :
    (transpose S32x2048 [1, 0] (shapeCast S2048x32 (extractStridedSlice S1x2048x32 ![0, 0, 4096] w slices_S2x2048x7200_S1x2048x32_0_0_4096) shapeCasts_S1x2048x32_S2048x32) transposes_S2048x32_S32x2048_1_0 : Vec Ideal S32x2048 .f32) (ix2 q k)
      = w (ix3 0 k (gateAt q)) := by
  unfold gateAt
  pointwise []

theorem V_v7 (c : Dev nD) (q : Fin 32) (k : Fin 2048) : (V m c main_v7 : Vec Ideal S32x2048 .f32) (ix2 q k) = wts m c (ix3 0 k (gateAt q)) := by
  rw [V_v7', gate_apply]

/-! ## The blocks -/

/-- Which blocks a point reads and writes. -/
theorem maps : ∀ t : Fin grid0.N, win0_0.index t 0 = t.val / 7 ∧ win0_0.index t 1 = 0 ∧ win0_1.index t 0 = 0 ∧ win0_1.index t 1 = 0
    ∧ win0_2.index t 0 = 0 ∧ win0_2.index t 1 = 0 ∧ (t.val % 7 < 4 → win0_2.index t 2 = t.val % 7)
    ∧ win0_3.index t 0 = 0 ∧ win0_3.index t 1 = 0 ∧ (4 ≤ t.val % 7 → win0_3.index t 2 = t.val % 7 - 4)
    ∧ win0_4.index t 0 = 0 ∧ win0_4.index t 1 = 0 := by decide +kernel
theorem maps' : ∀ t : Fin grid0.N, win0_5.index t 0 = t.val / 7 ∧ win0_5.index t 1 = t.val % 7 ∧ win0_6.index t 0 = 0 ∧ win0_6.index t 1 = t.val / 7 := by decide +kernel

theorem lt56 (t : Fin cfg0.N) : t.val < 56 := lt_of_lt_of_eq t.isLt (show cfg0.N = 56 from N_0)

/-- The row of the tokens at a row of a point's block, and the wide result's column at a column of it. -/
def rowOf (t : Fin cfg0.N) (r : Fin 1024) : Fin 8192 := ⟨t.val / 7 * 1024 + r.val, by have := lt56 t; omega⟩
def colOf (t : Fin cfg0.N) (q : Fin 1024) : Fin 7168 := ⟨t.val % 7 * 1024 + q.val, by omega⟩

theorem blk0 (c : Dev nD) (t : Fin cfg0.N) (r : Fin 1024) (k : Fin 2048) :
    xb m c t (ix2 r k) = tok m c (ix3 (bat (rowOf t r)) (pos (rowOf t r)) k) := by
  obtain ⟨h0, h1, -⟩ := maps t
  rw [← V_v0 m c]
  show (V m c main_v0 : Vec Ideal S8192x2048 .f32) ((win0_0.rect t).emb (ix2 r k)) = _
  congr 1
  funext a; apply Fin.ext
  match a with
  | ⟨0, _⟩ => exact (win0_0.rect_emb_val t (ix2 r k) 0).trans (by rw [h0]; rfl)
  | ⟨1, _⟩ => exact (win0_0.rect_emb_val t (ix2 r k) 1).trans (by rw [h1]; exact Nat.zero_add _)

theorem blk1 (c : Dev nD) (t : Fin cfg0.N) (q : Fin 2048) : gb m c t (ix2 0 q) = gains m c (ix2 0 q) := by
  obtain ⟨-, -, h0, h1, -⟩ := maps t
  rw [← V_v8 m c]
  show (V m c main_v8 : Vec Ideal S1x2048 .f32) ((win0_1.rect t).emb (ix2 0 q)) = _
  congr 1
  funext a; apply Fin.ext
  match a with
  | ⟨0, _⟩ => exact (win0_1.rect_emb_val t (ix2 0 q) 0).trans (by rw [h0]; rfl)
  | ⟨1, _⟩ => exact (win0_1.rect_emb_val t (ix2 0 q) 1).trans (by rw [h1]; exact Nat.zero_add _)

theorem blk2 (c : Dev nD) (t : Fin cfg0.N) (h : t.val % 7 < 4) (k : Fin 2048) (q : Fin 1024) :
    wb m c t (ix3 0 k q) = wts m c (ix3 0 k (colAt (colOf t q))) := by
  obtain ⟨-, -, -, -, h0, h1, h2, -⟩ := maps t
  rw [← V_v1 m c]
  unfold wb X0_2 Pipeline.Window.fill
  rw [dif_pos (moved0_2 t _)]
  show (V m c main_v1 : Vec Ideal S2x2048x7200 .bf16) ((win0_2.rect t).emb _) = _
  congr 1
  have e : (colAt (colOf t q)).val = t.val % 7 * 1024 + q.val := by
    unfold colAt
    rw [if_pos (by show t.val % 7 * 1024 + q.val < 4096; omega)]
    rfl
  funext a; apply Fin.ext
  match a with
  | ⟨0, _⟩ => exact (win0_2.rect_emb_val t _ 0).trans (by rw [h0]; rfl)
  | ⟨1, _⟩ => exact (win0_2.rect_emb_val t _ 1).trans (by rw [h1]; exact Nat.zero_add _)
  | ⟨2, _⟩ => exact (win0_2.rect_emb_val t _ 2).trans (by rw [h2 h]; exact e.symm)

theorem blk3 (c : Dev nD) (t : Fin cfg0.N) (h : 4 ≤ t.val % 7) (k : Fin 2048) (q : Fin 1024) :
    vb m c t (ix3 0 k q) = wts m c (ix3 0 k (colAt (colOf t q))) := by
  obtain ⟨-, -, -, -, -, -, -, h0, h1, h2, -⟩ := maps t
  have e : colAt (colOf t q) = ⟨4128 + ((t.val % 7 - 4) * 1024 + q.val), by omega⟩ := by
    apply Fin.ext
    unfold colAt
    rw [if_neg (by show ¬t.val % 7 * 1024 + q.val < 4096; omega)]
    show t.val % 7 * 1024 + q.val + 32 = 4128 + ((t.val % 7 - 4) * 1024 + q.val)
    omega
  rw [e]
  refine Eq.trans ?_ (V_v2 m c 0 k ⟨(t.val % 7 - 4) * 1024 + q.val, by omega⟩)
  show (V m c main_v2 : Vec Ideal S2x2048x3072 .bf16) ((win0_3.rect t).emb (ix3 0 k q)) = _
  congr 1
  funext a; apply Fin.ext
  match a with
  | ⟨0, _⟩ => exact (win0_3.rect_emb_val t (ix3 0 k q) 0).trans (by rw [h0]; rfl)
  | ⟨1, _⟩ => exact (win0_3.rect_emb_val t (ix3 0 k q) 1).trans (by rw [h1]; exact Nat.zero_add _)
  | ⟨2, _⟩ => exact (win0_3.rect_emb_val t (ix3 0 k q) 2).trans (by rw [h2 h]; rfl)

theorem blk4 (c : Dev nD) (t : Fin cfg0.N) (q : Fin 32) (k : Fin 2048) : nb m c t (ix2 q k) = wts m c (ix3 0 k (gateAt q)) := by
  obtain ⟨-, -, -, -, -, -, -, -, -, -, h0, h1⟩ := maps t
  rw [← V_v7 m c]
  show (V m c main_v7 : Vec Ideal S32x2048 .f32) ((win0_4.rect t).emb (ix2 q k)) = _
  congr 1
  funext a; apply Fin.ext
  match a with
  | ⟨0, _⟩ => exact (win0_4.rect_emb_val t (ix2 q k) 0).trans (by rw [h0]; exact Nat.zero_add _)
  | ⟨1, _⟩ => exact (win0_4.rect_emb_val t (ix2 q k) 1).trans (by rw [h1]; exact Nat.zero_add _)

/-- The rows every point of a grid row works on. -/
theorem rows_apply (c : Dev nD) (t : Fin cfg0.N) (r : Fin 1024) (k : Fin 2048) :
    rows m c t (ix2 r k) = nrm (fun k => tok m c (ix3 (bat (rowOf t r)) (pos (rowOf t r)) k)) (fun k => gains m c (ix2 0 k)) k := by
  unfold rows
  rw [normed_eq]
  show nrm (fun k => xb m c (first t) (ix2 r k)) (fun k => gb m c (first t) (ix2 0 k)) k = _
  simp only [blk0 m c, blk1 m c]
  have e : rowOf (first t) r = rowOf t r := Fin.ext (by show t.val / 7 * 7 / 7 * 1024 + r.val = t.val / 7 * 1024 + r.val; omega)
  rw [e]

theorem cols_apply (c : Dev nD) (t : Fin cfg0.N) (r q : Fin 1024) :
    cols m c t (ix2 r q) = cell (tok m c) (gains m c) (wts m c) (rowOf t r) (colAt (colOf t q)) := by
  have left (h : t.val % 7 < 4) : prodWide (rows m c t) (wb m c t) (ix2 r q) = cell (tok m c) (gains m c) (wts m c) (rowOf t r) (colAt (colOf t q)) := by
    show ∑ k : Fin 2048, rows m c t (ix2 r k) * wb m c t (ix3 0 k q) = _
    simp only [rows_apply m c, blk2 m c t h]
    rfl
  have right (h : 4 ≤ t.val % 7) : prodWide (rows m c t) (vb m c t) (ix2 r q) = cell (tok m c) (gains m c) (wts m c) (rowOf t r) (colAt (colOf t q)) := by
    show ∑ k : Fin 2048, rows m c t (ix2 r k) * vb m c t (ix3 0 k q) = _
    simp only [rows_apply m c, blk3 m c t h]
    rfl
  unfold cols
  split
  · next h => rw [wide_eq, ← normed_eq m c t h, ← rows_first m c t h]; exact left (by omega)
  · next h =>
    split
    · next h' => rw [laterB_eq]; exact left h'
    · next h' => rw [laterC_eq]; exact right (by omega)

theorem side_apply (c : Dev nD) (t : Fin cfg0.N) (q : Fin 32) (r : Fin 1024) :
    side m c t (ix2 q r) = cell (tok m c) (gains m c) (wts m c) (rowOf t r) (gateAt q) := by
  unfold side
  rw [narrow_eq, ← normed_eq m c (first t) (first_mod t)]
  show ∑ k : Fin 2048, nb m c (first t) (ix2 q k) * rows m c t (ix2 r k) = _
  simp only [rows_apply m c, blk4 m c]
  exact Finset.sum_congr rfl fun k _ => mul_comm _ _

/-! ## The launch's arrays -/

def result (c : Dev nD) : Vec Ideal S8192x7168 .bf16 := wideRes (tok m c) (gains m c) (wts m c)
def result' (c : Dev nD) : Vec Ideal S32x8192 .f32 := narrowRes (tok m c) (gains m c) (wts m c)

theorem flushed_eq (c : Dev nD) (t : Fin cfg0.N) : (dats m 0 c).flushed 5 t = (win0_5.blk t).view.read (Elt Ideal) (result m c) := by
  obtain ⟨h0, h1, -⟩ := maps' t
  show (cfg0.win 5).cut (grid0.coords t) ((dats m 0 c).after 5 t) = _
  rw [after5]
  funext j
  show cols m c t j = result m c ((win0_5.rect t).emb j)
  idx_vars j
  rw [cols_apply]
  have e : (win0_5.rect t).emb (ix2 j0 j1) = ix2 (rowOf t j0) (colOf t j1) := by
    funext a; apply Fin.ext
    match a with
    | ⟨0, _⟩ => exact (win0_5.rect_emb_val t (ix2 j0 j1) 0).trans (by rw [h0]; rfl)
    | ⟨1, _⟩ => exact (win0_5.rect_emb_val t (ix2 j0 j1) 1).trans (by rw [h1]; rfl)
  rw [e]
  rfl

theorem flushed_eq' (c : Dev nD) (t : Fin cfg0.N) : (dats m 0 c).flushed 6 t = (win0_6.blk t).view.read (Elt Ideal) (result' m c) := by
  obtain ⟨-, -, h0, h1⟩ := maps' t
  show (cfg0.win 6).cut (grid0.coords t) ((dats m 0 c).after 6 t) = _
  rw [after6]
  funext j
  show side m c t j = result' m c ((win0_6.rect t).emb j)
  idx_vars j
  rw [side_apply]
  have e : (win0_6.rect t).emb (ix2 j0 j1) = ix2 j0 (rowOf t j1) := by
    funext a; apply Fin.ext
    match a with
    | ⟨0, _⟩ => exact (win0_6.rect_emb_val t (ix2 j0 j1) 0).trans (by rw [h0]; exact Nat.zero_add _)
    | ⟨1, _⟩ => exact (win0_6.rect_emb_val t (ix2 j0 j1) 1).trans (by rw [h1]; rfl)
  rw [e]
  rfl

/-- A place of a result is in a point's block when its coordinates are. -/
theorem mem_blk (t : Fin cfg0.N) (i : S8192x7168.Idx) :
    i ∈ ((cfg0.win 5).blk t).view.set ↔ ∀ a : Fin 2, win0_5.index t a * win0_5.size a ≤ (i a).val ∧ (i a).val < win0_5.index t a * win0_5.size a + win0_5.size a := by
  show i ∈ ((View.whole main_v9_0).slice (win0_5.rect t)).set ↔ _
  rw [View.set_slice_whole, Rect.mem_set_unit]
  rfl

theorem mem_blk' (t : Fin cfg0.N) (i : S32x8192.Idx) :
    i ∈ ((cfg0.win 6).blk t).view.set ↔ ∀ a : Fin 2, win0_6.index t a * win0_6.size a ≤ (i a).val ∧ (i a).val < win0_6.index t a * win0_6.size a + win0_6.size a := by
  show i ∈ ((View.whole main_v9_1).slice (win0_6.rect t)).set ↔ _
  rw [View.set_slice_whole, Rect.mem_set_unit]
  rfl

/-- Every place of a result is in some point's block. -/
theorem cover (i : S8192x7168.Idx) : ∃ t : Fin cfg0.N, (cfg0.win 5).flush t = true ∧ i ∈ ((cfg0.win 5).blk t).view.set := by
  idx_vars i
  have ht : i0.val / 1024 * 7 + i1.val / 1024 < 56 := by omega
  obtain ⟨h0, h1, -⟩ := maps' ⟨i0.val / 1024 * 7 + i1.val / 1024, Nat.lt_of_lt_of_eq ht N_0.symm⟩
  refine ⟨⟨i0.val / 1024 * 7 + i1.val / 1024, Nat.lt_of_lt_of_eq ht N_0.symm⟩, flush0_5 _, (mem_blk _ _).2 fun a => ?_⟩
  match a with
  | ⟨0, _⟩ => show win0_5.index _ 0 * 1024 ≤ i0.val ∧ i0.val < win0_5.index _ 0 * 1024 + 1024; rw [h0]; dsimp only; omega
  | ⟨1, _⟩ => show win0_5.index _ 1 * 1024 ≤ i1.val ∧ i1.val < win0_5.index _ 1 * 1024 + 1024; rw [h1]; dsimp only; omega

theorem cover' (i : S32x8192.Idx) : ∃ t : Fin cfg0.N, (cfg0.win 6).flush t = true ∧ i ∈ ((cfg0.win 6).blk t).view.set := by
  idx_vars i
  have ht : i1.val / 1024 * 7 + 6 < 56 := by omega
  obtain ⟨-, -, h0, h1⟩ := maps' ⟨i1.val / 1024 * 7 + 6, Nat.lt_of_lt_of_eq ht N_0.symm⟩
  refine ⟨⟨i1.val / 1024 * 7 + 6, Nat.lt_of_lt_of_eq ht N_0.symm⟩, (flush0_6 _).2 (by dsimp only; omega), (mem_blk' _ _).2 fun a => ?_⟩
  match a with
  | ⟨0, _⟩ => show win0_6.index _ 0 * 32 ≤ i0.val ∧ i0.val < win0_6.index _ 0 * 32 + 32; rw [h0]; omega
  | ⟨1, _⟩ => show win0_6.index _ 1 * 1024 ≤ i1.val ∧ i1.val < win0_6.index _ 1 * 1024 + 1024; rw [h1]; dsimp only; omega

theorem final (c : Dev nD) : (dats m 0 c).arrAt 5 cfg0.N = result m c :=
  (dats m 0 c).arrAt_eq_of_cover 5 (result m c) (fun t _ => flushed_eq m c t) cover
theorem final' (c : Dev nD) : (dats m 0 c).arrAt 6 cfg0.N = result' m c :=
  (dats m 0 c).arrAt_eq_of_cover 6 (result' m c) (fun t _ => flushed_eq' m c t) cover'

/-- The kernel runs, leaves both results and keeps its arguments. -/
theorem run : θ_run defs (onTc (τ := τ) (main (F := Ideal))) ⟨m, fun _ => 0, ρ⟩ fun r => ∀ c : Dev nD,
    r.2.mem ((c.tc : Thread nD τ).loc main_v9_0) = result m c
      ∧ r.2.mem ((c.tc : Thread nD τ).loc main_v9_1) = result' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 5 : r.2.mem ((c.tc : Thread nD τ).loc main_v9_0) = (dats m 0 c).arrAt 5 cfg0.N).trans (final m c),
    ((h c).1 6 : r.2.mem ((c.tc : Thread nD τ).loc main_v9_1) = (dats m 0 c).arrAt 6 cfg0.N).trans (final' m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_post m ρ)

/-- The kernel's results are the reference's. -/
theorem claim : Cert.algebraic_EvenInIdeal_EvenInRefIdeal := by
  intro m ρ m' ρ' _ hagree
  refine ⟨fun c => result m c, fun c => result' m c, run m ρ,
    (θ_run _ _ _).mono (fun _ h c => ⟨(h c).1.trans ?_, (h c).2.1.trans ?_, (h c).2.2⟩) (Cert.EvenInRefIdeal.Value.run (F := Ideal) m' ρ')⟩
  · obtain ⟨a0, a1, a2⟩ := hagree c
    rw [Cert.EvenInRefIdeal.Read.val_main_v22_eq, ref_wide, a0, a1, a2]
    rfl
  · obtain ⟨a0, a1, a2⟩ := hagree c
    rw [Cert.EvenInRefIdeal.Read.val_main_v24_eq, ref_narrow, a0, a1, a2]
    rfl

end Cert.EvenInIdeal.Claims

end
-- ==== Proof.OddInIdealFrame.lean ====
module

public import proofs.«01_k».proof.Proof.Gen.OddInIdeal
public import proofs.«01_k».proof.Proof.Gen.OddInIdeal.Frame
public import proofs.«01_k».proof.Proof.Gen.OddInIdeal.Skeleton
public import proofs.«01_k».proof.Proof.Gen.OddInIdeal.Points
public import proofs.«01_k».proof.Proof.Gen.OddInIdeal.Launch
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.Claim

@[expose] public section

set_option maxRecDepth 16384

/-! The call runs, keeps its arguments, and leaves what its points name. Each row of the grid begins with a point that
    normalises the row's tokens into the scratch buffer; the other points of the row read them there. So the scratch
    buffer is followed from point to point: inside a row it holds the rows the row's first point wrote. -/

noncomputable section

namespace Cert.OddInIdeal.Hand

open Cert.OddInIdeal Cert.OddInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, at any buffers -/

set_option maxHeartbeats 1000000 in
/-- A row's first point: the inputs are kept, and both outputs and the scratch buffer end with the stores the run finds. -/
noncomputable def startRun (c : Dev nD) (i : grid0.Coords) (a0 : Memref sig .tc .vmem S1024x2048 .f32) (h0 : a0.IsWhole) (a1 : Memref sig .tc .vmem S1x2048 .f32) (h1 : a1.IsWhole) (a2 : Memref sig .tc .vmem S1x2048x1024 .bf16) (h2 : a2.IsWhole) (a3 : Memref sig .tc .vmem S2048x384 .f32) (h3 : a3.IsWhole) (a4 : Memref sig .tc .vmem S1024x1024 .bf16) (h4 : a4.IsWhole) (a5 : Memref sig .tc .vmem S1024x384 .f32) (h5 : a5.IsWhole) (a6 : Memref sig .tc .vmem S1024x2048 .bf16) (h6 : a6.IsWhole)
    (k0 : k0_cond1 i = 1#1) (k1 : ¬k0_cond2 i = 1#1) (x0 : Vec F S1024x2048 .f32) (x1 : Vec F S1x2048 .f32) (x2 : Vec F S1x2048x1024 .bf16) (x3 : Vec F S2048x384 .f32) :
    Σ' (P : List (View.Piece (Elt F) S1024x1024 .bf16)) (Q : List (View.Piece (Elt F) S1024x384 .f32)), { R : List (View.Piece (Elt F) S1024x2048 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ (∃ d, owns (c : Thread nD τ) a5 fullShare d) ∗ (∃ d, owns (c : Thread nD τ) a6 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f P) ∗ (∃ f, a5.view.loc (c : Thread nD τ) ↦[a5.view.set]{fullShare} a5.view.writes (Elt F) f Q) ∗ (∃ f, a6.view.loc (c : Thread nD τ) ↦[a6.view.set]{fullShare} a6.view.writes (Elt F) f R)) -∗ K ⟨⟩))
          ⊢ wp frame (wpE (defs₀ (F := F)) Variants.none c none) E (cc0_norm_mm i a0 h0 a1 h1 a2 h2 a3 h3 a4 h4 a5 h5 a6 h6) K } := by
  refine ⟨?_, ?_, ?_, fun E K => ?run⟩
  case run =>
    simp only [cc0_norm_mm_eq_skeleton]; unfold cc0_norm_mm_skel
    simp only [k0_part1_eq_skeleton, k0_part2_eq_skeleton, k0_part3_eq_skeleton]
    unfold owns
    iintro ⟨⟨%f0, %g0, H0⟩, ⟨%f1, %g1, H1⟩, ⟨%f2, %g2, H2⟩, ⟨%f3, %g3, H3⟩, ⟨%d4, %f4, -, H4⟩, ⟨%d5, %f5, -, H5⟩, ⟨%d6, %f6, -, H6⟩, Hk⟩
    obtain rfl := h0.eq_unread g0; obtain rfl := h1.eq_unread g1; obtain rfl := h2.eq_unread g2; obtain rfl := h3.eq_unread g3
    sl_exec (disch := first | sl_exact k0 | sl_exact k1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]; · iexists _; iexact H5
    iexists _; iexact H6

set_option maxHeartbeats 1000000 in
/-- A later point of a row, which reads the weights of window 2: the scratch buffer, holding `s`, and the weights are kept,
    and the wide output ends with the store the run finds. Nothing else is touched. -/
noncomputable def laterRunB (c : Dev nD) (i : grid0.Coords) (a0 : Memref sig .tc .vmem S1024x2048 .f32) (h0 : a0.IsWhole) (a1 : Memref sig .tc .vmem S1x2048 .f32) (h1 : a1.IsWhole) (a2 : Memref sig .tc .vmem S1x2048x1024 .bf16) (h2 : a2.IsWhole) (a3 : Memref sig .tc .vmem S2048x384 .f32) (h3 : a3.IsWhole) (a4 : Memref sig .tc .vmem S1024x1024 .bf16) (h4 : a4.IsWhole) (a5 : Memref sig .tc .vmem S1024x384 .f32) (h5 : a5.IsWhole) (a6 : Memref sig .tc .vmem S1024x2048 .bf16) (h6 : a6.IsWhole)
    (k0 : ¬k0_cond1 i = 1#1) (k1 : k0_cond2 i = 1#1) (x : Vec F S1x2048x1024 .bf16) (s : Vec F S1024x2048 .bf16) :
    { P : List (View.Piece (Elt F) S1024x1024 .bf16) //
      ∀ (E : Set ℕ) (K : PUnit → sProp 𝕄),
        iprop(owns (c : Thread nD τ) a2 fullShare x ∗ (∃ d, owns (c : Thread nD τ) a4 fullShare d) ∗ owns (c : Thread nD τ) a6 fullShare s
            ∗ (iprop(owns (c : Thread nD τ) a2 fullShare x ∗ (∃ f, a4.view.loc (c : Thread nD τ) ↦[a4.view.set]{fullShare} a4.view.writes (Elt F) f P) ∗ owns (c : Thread nD τ) a6 fullShare s) -∗ K ⟨⟩))
          ⊢ wp frame (wpE (defs₀ (F := F)) Variants.none c none) E (cc0_norm_mm i a0 h0 a1 h1 a2 h2 a3 h3 a4 h4 a5 h5 a6 h6) K } := by
  refine ⟨?_, fun E K => ?run⟩
  case run =>
    simp only [cc0_norm_mm_eq_skeleton]; unfold cc0_norm_mm_skel
    unfold owns
    iintro ⟨⟨%f2, %g2, H2⟩, ⟨%d4, %f4, -, H4⟩, ⟨%f6, %g6, H6⟩, Hk⟩
    obtain rfl := h2.eq_unread g2; obtain rfl := h6.eq_unread g6
    sl_exec (disch := first | sl_exact k0 | sl_exact k1)
    sl_step
    iapply Hk
    isplitl [H2]
    · iexists _; isplitr; · ipureintro; exact h2.read_unread _
      iexact H2
    isplitl [H4]; · iexists _; iexact H4
    iexists _; isplitr; · ipureintro; exact h6.read_unread _
    iexact H6

/-! ## The points of the grid -/

theorem cond0 : ∀ t : Fin cfg0.N, k0_cond1 (grid0.coords t) = 1#1 ↔ t.val % 6 = 0 :=
  (by decide +kernel : ∀ t : Fin grid0.N, k0_cond1 (grid0.coords t) = 1#1 ↔ t.val % 6 = 0)

theorem cond1 : ∀ t : Fin cfg0.N, k0_cond2 (grid0.coords t) = 1#1 ↔ t.val % 6 ≠ 0 :=
  (by decide +kernel : ∀ t : Fin grid0.N, k0_cond2 (grid0.coords t) = 1#1 ↔ t.val % 6 ≠ 0)

theorem live4 : ∀ t : Fin cfg0.N, cfg0.idle 4 (grid0.coords t) = false :=
  (by decide +kernel : ∀ t : Fin grid0.N, idle0 4 (grid0.coords t) = false)
theorem idle5 : ∀ t : Fin cfg0.N, cfg0.idle 5 (grid0.coords t) = !decide (t.val % 6 = 0) :=
  (by decide +kernel : ∀ t : Fin grid0.N, idle0 5 (grid0.coords t) = !decide (t.val % 6 = 0))

/-- The narrow output's buffer holds nothing of the row at the row's first point only. -/
theorem fresh5 : ∀ n, n ≤ cfg0.N → cfg0.fresh 5 n = decide (n % 6 = 0) :=
  cfg0.fresh_tab 5 (fun n => decide (n % 6 = 0)) rfl fun t => by
    have hN : t.val < 48 := lt_of_lt_of_eq t.isLt (show cfg0.N = 48 from N_0)
    rw [idle5 t]
    cases hf : (cfg0.win 5).flush t with
    | true => have := (flush0_5 t).1 hf; simp; omega
    | false =>
      have : ¬t.val % 6 = 5 := fun e => by rw [(flush0_5 t).2 e] at hf; exact Bool.noConfusion hf
      by_cases h : t.val % 6 = 0 <;> simp [h] <;> omega

/-- The first point of a point's row. -/
def first (t : Fin cfg0.N) : Fin cfg0.N := ⟨t.val / 6 * 6, Nat.lt_of_le_of_lt (Nat.div_mul_le_self _ _) t.isLt⟩
theorem first_mod (t : Fin cfg0.N) : (first t).val % 6 = 0 := Nat.mul_mod_left _ _
theorem first_of (t : Fin cfg0.N) (h : t.val % 6 = 0) : first t = t := Fin.ext (by show t.val / 6 * 6 = t.val; omega)
theorem first_eq (s t : Fin cfg0.N) (h : s.val / 6 = t.val / 6) : first s = first t := Fin.ext (by show s.val / 6 * 6 = t.val / 6 * 6; rw [h])

abbrev st0 (t : Fin cfg0.N) : Memref sig .tc .vmem S1024x2048 .f32 := win0_0.stage (cfg0.slots t 0)
abbrev wst0 (t : Fin cfg0.N) : (st0 t).IsWhole := hstage0_0 ((cfg0.slots t 0).cast nbuf0_0)
abbrev st1 (t : Fin cfg0.N) : Memref sig .tc .vmem S1x2048 .f32 := win0_1.stage (cfg0.slots t 1)
abbrev wst1 (t : Fin cfg0.N) : (st1 t).IsWhole := hstage0_1 ((cfg0.slots t 1).cast nbuf0_1)
abbrev st2 (t : Fin cfg0.N) : Memref sig .tc .vmem S1x2048x1024 .bf16 := win0_2.stage (cfg0.slots t 2)
abbrev wst2 (t : Fin cfg0.N) : (st2 t).IsWhole := hstage0_2 ((cfg0.slots t 2).cast nbuf0_2)
abbrev st3 (t : Fin cfg0.N) : Memref sig .tc .vmem S2048x384 .f32 := win0_3.stage (cfg0.slots t 3)
abbrev wst3 (t : Fin cfg0.N) : (st3 t).IsWhole := hstage0_3 ((cfg0.slots t 3).cast nbuf0_3)
abbrev st4 (t : Fin cfg0.N) : Memref sig .tc .vmem S1024x1024 .bf16 := win0_4.stage (cfg0.slots t 4)
abbrev wst4 (t : Fin cfg0.N) : (st4 t).IsWhole := hstage0_4 ((cfg0.slots t 4).cast nbuf0_4)
abbrev st5 (t : Fin cfg0.N) : Memref sig .tc .vmem S1024x384 .f32 := win0_5.stage (cfg0.slots t 5)
abbrev wst5 (t : Fin cfg0.N) : (st5 t).IsWhole := hstage0_5 ((cfg0.slots t 5).cast nbuf0_5)
abbrev scr : Memref sig .tc .vmem S1024x2048 .bf16 := Memref.whole cc0_scratch0

variable (m : (ℓ : Loc nD τ sig) → Buf (Elt F) ℓ) (ρ : Dev nD → PrngReg)

/-- The first point's run at the point's own buffers and blocks. -/
def startAt (c : Dev nD) (t : Fin cfg0.N) (h : t.val % 6 = 0) :=
  startRun (F := F) c (grid0.coords t) (st0 t) (wst0 t) (st1 t) (wst1 t) (st2 t) (wst2 t) (st3 t) (wst3 t) (st4 t) (wst4 t) (st5 t) (wst5 t) scr (Memref.isWhole_whole _) ((cond0 t).2 h) (fun e => absurd ((cond1 t).1 e) (by omega)) (iblk m c 0 t) (iblk m c 1 t) (X0_2 m c t) (iblk m c 3 t)

/-- What a row's first point leaves in the wide output, in the narrow one and in the scratch buffer. -/
def wide (c : Dev nD) (t : Fin cfg0.N) (h : t.val % 6 = 0) : Vec F S1024x1024 .bf16 := View.canon (startAt m c t h).1
def narrow (c : Dev nD) (t : Fin cfg0.N) (h : t.val % 6 = 0) : Vec F S1024x384 .f32 := View.canon (startAt m c t h).2.1
def normed (c : Dev nD) (t : Fin cfg0.N) (h : t.val % 6 = 0) : Vec F S1024x2048 .bf16 := View.canon (startAt m c t h).2.2.1

set_option maxHeartbeats 1000000 in
theorem wide_cover (c : Dev nD) (t : Fin cfg0.N) (h : t.val % 6 = 0) (y : S1024x1024.Idx) : ∃ p ∈ (startAt m c t h).1, y ∈ p.1.set :=
  View.cover_of_tiledL (startAt m c t h).1 S256x1024.size (by sl_kernel_rfl) y
set_option maxHeartbeats 1000000 in
theorem narrow_cover (c : Dev nD) (t : Fin cfg0.N) (h : t.val % 6 = 0) (y : S1024x384.Idx) : ∃ p ∈ (startAt m c t h).2.1, y ∈ p.1.set :=
  View.cover_of_tiledL (startAt m c t h).2.1 S256x384.size (by sl_kernel_rfl) y
set_option maxHeartbeats 1000000 in
theorem normed_cover (c : Dev nD) (t : Fin cfg0.N) (h : t.val % 6 = 0) (y : S1024x2048.Idx) : ∃ p ∈ (startAt m c t h).2.2.1, y ∈ p.1.set :=
  View.cover_of_tiledL (startAt m c t h).2.2.1 S256x2048.size (by sl_kernel_rfl) y

/-- The first point's triple, its three results named. -/
theorem start_body (c : Dev nD) (t : Fin cfg0.N) (h : t.val % 6 = 0) (K : PUnit → sProp 𝕄) :
    iprop(owns (c : Thread nD τ) (st0 t) fullShare (iblk m c 0 t) ∗ owns (c : Thread nD τ) (st1 t) fullShare (iblk m c 1 t) ∗ owns (c : Thread nD τ) (st2 t) fullShare (X0_2 m c t) ∗ owns (c : Thread nD τ) (st3 t) fullShare (iblk m c 3 t) ∗ (∃ d, owns (c : Thread nD τ) (st4 t) fullShare d) ∗ (∃ d, owns (c : Thread nD τ) (st5 t) fullShare d) ∗ (∃ d, owns (c : Thread nD τ) scr fullShare d)
        ∗ (iprop(owns (c : Thread nD τ) (st0 t) fullShare (iblk m c 0 t) ∗ owns (c : Thread nD τ) (st1 t) fullShare (iblk m c 1 t) ∗ owns (c : Thread nD τ) (st2 t) fullShare (X0_2 m c t) ∗ owns (c : Thread nD τ) (st3 t) fullShare (iblk m c 3 t) ∗ owns (c : Thread nD τ) (st4 t) fullShare (wide m c t h) ∗ owns (c : Thread nD τ) (st5 t) fullShare (narrow m c t h) ∗ owns (c : Thread nD τ) scr fullShare (normed m c t h)) -∗ K ⟨⟩))
      ⊢ wp frame (wpE (defs₀ (F := F)) Variants.none c none) Set.univ (bodyAt0 t) K := by
  unfold bodyAt0
  iintro ⟨H0, H1, H2, H3, H4, H5, H6, Hk⟩
  iapply ((startAt m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, ⟨%e4, H4⟩, ⟨%e5, H5⟩, ⟨%e6, H6⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (wide_cover m c t h)
  isplitl [H5]
  · unfold owns; iexists _; isplitr
    swap; · iexact H5
    ipureintro; exact View.read_writes_eq_canon _ _ _ (narrow_cover m c t h)
  unfold owns; iexists _; isplitr
  swap; · iexact H6
  ipureintro; exact View.read_writes_eq_canon _ _ _ (normed_cover m c t h)

/-- A later point's run at the point's own buffers and weights, over scratch contents `s`, and what it leaves. -/
def laterAtB (c : Dev nD) (t : Fin cfg0.N) (h : t.val % 6 ≠ 0) (s : Vec F S1024x2048 .bf16) :=
  laterRunB (F := F) c (grid0.coords t) (st0 t) (wst0 t) (st1 t) (wst1 t) (st2 t) (wst2 t) (st3 t) (wst3 t) (st4 t) (wst4 t) (st5 t) (wst5 t) scr (Memref.isWhole_whole _) (fun e => absurd ((cond0 t).1 e) (by omega)) ((cond1 t).2 h) (X0_2 m c t) s

def laterB (c : Dev nD) (t : Fin cfg0.N) (h : t.val % 6 ≠ 0) (s : Vec F S1024x2048 .bf16) : Vec F S1024x1024 .bf16 := View.canon (laterAtB m c t h s).1

set_option maxHeartbeats 1000000 in
theorem laterB_cover (c : Dev nD) (t : Fin cfg0.N) (h : t.val % 6 ≠ 0) (s : Vec F S1024x2048 .bf16) (y : S1024x1024.Idx) : ∃ p ∈ (laterAtB m c t h s).1, y ∈ p.1.set :=
  View.cover_of_tiledL (laterAtB m c t h s).1 S1024x1024.size (by sl_kernel_rfl) y

theorem laterB_body (c : Dev nD) (t : Fin cfg0.N) (h : t.val % 6 ≠ 0) (s : Vec F S1024x2048 .bf16) (K : PUnit → sProp 𝕄) :
    iprop(owns (c : Thread nD τ) (st2 t) fullShare (X0_2 m c t) ∗ (∃ d, owns (c : Thread nD τ) (st4 t) fullShare d) ∗ owns (c : Thread nD τ) scr fullShare s
        ∗ (iprop(owns (c : Thread nD τ) (st2 t) fullShare (X0_2 m c t) ∗ owns (c : Thread nD τ) (st4 t) fullShare (laterB m c t h s) ∗ owns (c : Thread nD τ) scr fullShare s) -∗ K ⟨⟩))
      ⊢ wp frame (wpE (defs₀ (F := F)) Variants.none c none) Set.univ (bodyAt0 t) K := by
  unfold bodyAt0
  iintro ⟨H0, H1, H2, Hk⟩
  iapply ((laterAtB m c t h s).2 Set.univ _)
  isplitl [H0]; · iexact H0
  isplitl [H1]; · iexact H1
  isplitl [H2]; · iexact H2
  iintro ⟨H0, ⟨%e1, H1⟩, H2⟩
  iapply Hk
  isplitl [H0]; · iexact H0
  isplitl [H1]
  · unfold owns; iexists _; isplitr
    swap; · iexact H1
    ipureintro; exact View.read_writes_eq_canon _ _ _ (laterB_cover m c t h s)
  iexact H2

/-! ## What every point leaves -/

theorem normed_congr (c : Dev nD) (s t : Fin cfg0.N) (e : s = t) (hs : s.val % 6 = 0) (ht : t.val % 6 = 0) : normed m c s hs = normed m c t ht := by
  subst e; rfl
theorem narrow_congr (c : Dev nD) (s t : Fin cfg0.N) (e : s = t) (hs : s.val % 6 = 0) (ht : t.val % 6 = 0) : narrow m c s hs = narrow m c t ht := by
  subst e; rfl

/-- The row's normalised tokens, and the row's block of the narrow output, as every point of the row has them. -/
def rows (c : Dev nD) (t : Fin cfg0.N) : Vec F S1024x2048 .bf16 := normed m c (first t) (first_mod t)
def side (c : Dev nD) (t : Fin cfg0.N) : Vec F S1024x384 .f32 := narrow m c (first t) (first_mod t)

theorem rows_first (c : Dev nD) (t : Fin cfg0.N) (h : t.val % 6 = 0) : rows m c t = normed m c t h := normed_congr m c _ _ (first_of t h) _ _
theorem side_first (c : Dev nD) (t : Fin cfg0.N) (h : t.val % 6 = 0) : side m c t = narrow m c t h := narrow_congr m c _ _ (first_of t h) _ _
theorem rows_eq (c : Dev nD) (s t : Fin cfg0.N) (h : s.val / 6 = t.val / 6) : rows m c s = rows m c t := normed_congr m c _ _ (first_eq s t h) _ _
theorem side_eq (c : Dev nD) (s t : Fin cfg0.N) (h : s.val / 6 = t.val / 6) : side m c s = side m c t := narrow_congr m c _ _ (first_eq s t h) _ _

/-- The point's block of the wide output. -/
def cols (c : Dev nD) (t : Fin cfg0.N) : Vec F S1024x1024 .bf16 :=
  if h : t.val % 6 = 0 then wide m c t h else laterB m c t h (rows m c t)

/-- What the scratch buffer holds before position `n`: inside a row the row's normalised tokens, at a row's start anything. -/
def held (c : Dev nD) (n : ℕ) : sProp 𝕄 :=
  if h : n < cfg0.N ∧ n % 6 ≠ 0 then owns (c : Thread nD τ) scr fullShare (rows m c ⟨n, h.1⟩) else iprop((∃ d, owns (c : Thread nD τ) scr fullShare d))

theorem held_start (c : Dev nD) (n : ℕ) (h : n % 6 = 0) : held m c n = iprop((∃ d, owns (c : Thread nD τ) scr fullShare d)) := dif_neg fun e => e.2 h
theorem held_inside (c : Dev nD) (t : Fin cfg0.N) (h : t.val % 6 ≠ 0) : held m c t.val = owns (c : Thread nD τ) scr fullShare (rows m c t) := dif_pos ⟨t.isLt, h⟩

theorem held_next (c : Dev nD) (t : Fin cfg0.N) : owns (c : Thread nD τ) scr fullShare (rows m c t) ⊢ held m c (t.val + 1) := by
  have hN : t.val < 48 := lt_of_lt_of_eq t.isLt (show cfg0.N = 48 from N_0)
  by_cases h : (t.val + 1) % 6 = 0
  · rw [held_start m c _ h]
    iintro H; iexists _; iexact H
  · have hlt : t.val + 1 < cfg0.N := Nat.lt_of_lt_of_eq (show t.val + 1 < 48 by omega) (show 48 = cfg0.N from N_0.symm)
    rw [held_inside m c ⟨t.val + 1, hlt⟩ h, rows_eq m c ⟨t.val + 1, hlt⟩ t (by show (t.val + 1) / 6 = t.val / 6; omega)]

/-- The proof data: the arrays as the launch finds them, the blocks kept, the outputs as named above, the scratch followed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => cols m c t
    | ⟨5, _⟩ => side m c t
  Φ n := iprop(held m c n.val ∗ (∃ r, prngReg c r))
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = cols m c t := by dsimp only [dats]
theorem after5 (c : Dev nD) (t : Fin cfg0.N) : (dats m 0 c).after 5 t = side m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = X0_2 m c t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- Inside a row the narrow output's buffer still holds the row's block. -/
theorem before5 (c : Dev nD) (t : Fin cfg0.N) (h : t.val % 6 ≠ 0) (d) : (dats m 0 c).before 5 t d = side m c t := by
  have hc : ∀ (t : Fin cfg0.N) (_ : t.val ≠ 0), cfg0.idle 5 (grid0.coords t) = true → cfg0.fresh 5 t.val = false →
      (dats m 0 c).after 5 t = (dats m 0 c).after 5 ⟨t.val - 1, by omega⟩ := by
    intro t h0 hi _
    rw [idle5 t] at hi
    have hm : ¬t.val % 6 = 0 := by simpa using hi
    rw [after5, after5]
    exact side_eq m c _ _ (by show t.val / 6 = (t.val - 1) / 6; omega)
  rw [Dat.before_out_traj _ 5 rfl (fun _ _ => rfl) hc t.val t rfl d,
    if_neg (by rw [fresh5 t.val (Nat.le_of_lt t.isLt)]; simpa using h), after5]
  exact side_eq m c _ _ (by show (t.val - 1) / 6 = t.val / 6; omega)

/-- Inside a row the narrow output's buffer, kept, is what the point must hand back. -/
theorem leave5 (c : Dev nD) (t : Fin cfg0.N) (h : t.val % 6 ≠ 0) :
    owns (c : Thread nD τ) (st5 t) fullShare (side m c t) ⊢ ((dats m 0 c).leavesExact 5 t : sProp 𝕄) := by
  have hi : cfg0.idle 5 (grid0.coords t) = true := by rw [idle5 t]; simpa using h
  unfold Dat.leavesExact
  rw [hi]
  cases hf : (cfg0.win 5).flush t with
  | true => rw [after5]
  | false =>
    simp only [before5 m c t h]
    iintro H; iexists (side m c t); iexact H

/-- What the body is given at a point, and what it must return. -/
def given (c : Dev nD) (t : Fin cfg0.N) : sProp 𝕄 :=
  iprop((dats m 0 c).Φ t.castSucc ∗ (dats m 0 c).owesAt () t.castSucc ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)))
def returned (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

theorem leave0 (c : Dev nD) (t : Fin cfg0.N) : ((dats m 0 c).leavesExact 0 t : sProp 𝕄) = owns (c : Thread nD τ) (st0 t) fullShare (iblk m c 0 t) := by
  unfold Dat.leavesExact; rw [show cfg0.idle 0 (grid0.coords t) = false from rfl, after0]
theorem leave1 (c : Dev nD) (t : Fin cfg0.N) : ((dats m 0 c).leavesExact 1 t : sProp 𝕄) = owns (c : Thread nD τ) (st1 t) fullShare (iblk m c 1 t) := by
  unfold Dat.leavesExact; rw [show cfg0.idle 1 (grid0.coords t) = false from rfl, after1]
theorem leave2 (c : Dev nD) (t : Fin cfg0.N) : ((dats m 0 c).leavesExact 2 t : sProp 𝕄) = owns (c : Thread nD τ) (st2 t) fullShare (X0_2 m c t) := by
  unfold Dat.leavesExact; rw [show cfg0.idle 2 (grid0.coords t) = false from rfl, after2]
theorem leave3 (c : Dev nD) (t : Fin cfg0.N) : ((dats m 0 c).leavesExact 3 t : sProp 𝕄) = owns (c : Thread nD τ) (st3 t) fullShare (iblk m c 3 t) := by
  unfold Dat.leavesExact; rw [show cfg0.idle 3 (grid0.coords t) = false from rfl, after3]
theorem leave4 (c : Dev nD) (t : Fin cfg0.N) : ((dats m 0 c).leavesExact 4 t : sProp 𝕄) = owns (c : Thread nD τ) (st4 t) fullShare (cols m c t) := by
  unfold Dat.leavesExact; rw [live4 t, after4]
theorem leave5_first (c : Dev nD) (t : Fin cfg0.N) (h : t.val % 6 = 0) : ((dats m 0 c).leavesExact 5 t : sProp 𝕄) = owns (c : Thread nD τ) (st5 t) fullShare (side m c t) := by
  have hi : cfg0.idle 5 (grid0.coords t) = false := by rw [idle5 t]; simpa using h
  unfold Dat.leavesExact; rw [hi, after5]

set_option maxHeartbeats 800000 in
/-- The body at any point. -/
theorem sound (c : Dev nD) (t : Fin cfg0.N) :
    given m c t ⊢ wp frame (wpE (defs₀ (F := F)) Variants.none c none) Set.univ (bodyAt0 t) (fun _ => returned m c t) := by
  have hN : t.val < 48 := lt_of_lt_of_eq t.isLt (show cfg0.N = 48 from N_0)
  unfold given returned
  simp only [before0, before1, before2, before3]
  rw [show (dats m 0 c).owesAt () t.succ = (dats m 0 c).owesAt () t.castSucc from rfl,
    show (dats m 0 c).Φ t.succ = iprop(held m c (t.val + 1) ∗ (∃ r, prngReg c r)) from rfl,
    show (dats m 0 c).Φ t.castSucc = iprop(held m c t.val ∗ (∃ r, prngReg c r)) from rfl,
    leave0 m c t, leave1 m c t, leave2 m c t, leave3 m c t, leave4 m c t]
  by_cases h : t.val % 6 = 0
  · rw [leave5_first m c t h, held_start m c t.val h, show cols m c t = wide m c t h from dif_pos h, side_first m c t h]
    iintro ⟨⟨HS, Hg⟩, Ho, ⟨%d0, H0⟩, ⟨%d1, H1⟩, ⟨%d2, H2⟩, ⟨%d3, H3⟩, ⟨%d4, H4⟩, ⟨%d5, H5⟩⟩
    iapply (start_body m c t h _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · rw [← rows_first m c t h]; iapply (held_next m c t); iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [held_inside m c t h, show cols m c t = laterB m c t h (rows m c t) from dif_neg h]
    simp only [before5 m c t h]
    iintro ⟨⟨HS, Hg⟩, Ho, ⟨%d0, H0⟩, ⟨%d1, H1⟩, ⟨%d2, H2⟩, ⟨%d3, H3⟩, ⟨%d4, H4⟩, ⟨%d5, H5⟩⟩
    iapply (laterB_body m c t h (rows m c t) _)
    isplitl [H2]; · iexact H2
    isplitl [H4]; · iexists _; iexact H4
    isplitl [HS]; · iexact HS
    iintro ⟨H2, H4, HS⟩
    isplitl [HS Hg]
    · isplitl [HS]
      · iapply (held_next m c t); iexact HS
      iexact Hg
    isplitl [Ho]; · iexact Ho
    isplitl [H0]; · iexact H0
    isplitl [H1]; · iexact H1
    isplitl [H2]; · iexact H2
    isplitl [H3]; · iexact H3
    isplitl [H4]; · iexact H4
    iapply (leave5 m c t h); iexact H5

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-! ## The launch -/

theorem inv_eq (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem inv_in (c : Dev nD) : (Pipeline.ΦA spec0 c : sProp 𝕄) ⊢ (dats m 0 c).Φ 0 := by
  rw [inv_eq, show (dats m 0 c).Φ 0 = iprop(held m c 0 ∗ (∃ r, prngReg c r)) from rfl, held_start m c 0 rfl]

theorem inv_out (c : Dev nD) : (dats m 0 c).Φ (Fin.last cfg0.N) ⊢ (Pipeline.ΦA spec0 c : sProp 𝕄) := by
  rw [inv_eq, show (dats m 0 c).Φ (Fin.last cfg0.N) = iprop(held m c cfg0.N ∗ (∃ r, prngReg c r)) from rfl,
    held_start m c cfg0.N (by rw [show cfg0.N = 48 from N_0])]

set_option backward.isDefEq.respectTransparency.types false in
/-- The launch ends with every array as the proof data say and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

theorem run_post : θ_run defs (onTc (τ := τ) (main (F := F))) (s₀ m ρ) (Pipeline.FramePost cfgs (dats m) 0 (V m)) :=
  (θ_run defs _ _).mono (fun _ h => h.1) (run_quiet m ρ)

/-- The call's frame: its arguments end as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_quiet m ρ))

end Cert.OddInIdeal.Hand

end
-- ==== Proof.OddIn.lean ====
module

public import proofs.«01_k».proof.Defs
public import proofs.«01_k».proof.Proof.OddInFrame
public import proofs.«01_k».proof.Proof.OddInIdealFrame
public import proofs.«01_k».proof.Proof.Gen.OddInRefIdeal.Run
public import proofs.«01_k».proof.Proof.Gen.OddInRefIdeal.Read
public import Idealize.ShloMosaic.Lib.Pointwise
public import Idealize.ShloMosaic.Lib.StableHlo.RunRead
public import Idealize.ShloMosaic.Lib.Pipeline.ReadBack
public import Idealize.ShloMosaic.Lib.Pipeline.Value

@[expose] public section

set_option maxRecDepth 16384

/-! The projection into an odd layer's mixers: every token's row, normalised once into a scratch buffer and read there by
    all the row's points, times the layer's weights. The last columns, the low-rank factors', are returned by themselves. -/

noncomputable section

open Idealize Idealize.ShloMosaic Idealize.SL
open Idealize.ShloMosaic.TcCoe
open scoped BigOperators

namespace Cert.OddInIdeal.Claims

open Cert.OddInIdeal Cert.OddInIdeal.Gen Cert.OddInIdeal.Hand

/-- A row divided by its root mean square and multiplied by the gains. -/
def nrm (x g : Fin 2048 → EReal) (k : Fin 2048) : EReal :=
  x k * Ideal.rsqrt (Ideal.div (∑ l : Fin 2048, x l * x l) (Ideal.ofBits .f32 0x45000000#32) + Ideal.ofBits .f32 0x358637BD#32) * g k

/-! ## The payloads -/

/-- The normalised rows before they are stored, read at one place. -/
theorem pay6_apply (x : Vec Ideal S256x2048 .f32) (g : Vec Ideal S1x2048 .f32) (r : Fin 256) (q : Fin 2048) :
    k0_pay6 (F := Ideal) x g (ix2 r q) = nrm (fun k => x (ix2 r k)) (fun k => g (ix2 0 k)) q := by
  pointwise [k0_pay6, nrm]

theorem pay11_eq (x : Vec Ideal S256x2048 .f32) (g : Vec Ideal S1x2048 .f32) : k0_pay11 (F := Ideal) x (k0_pay10 x) g = k0_pay6 x g := rfl
theorem pay16_eq (x : Vec Ideal S256x2048 .f32) (g : Vec Ideal S1x2048 .f32) :
    k0_pay16 (F := Ideal) x (k0_pay15 x) (Scalar.ofBits .f32 0x45000000#32) g = k0_pay6 x g := rfl
theorem pay1_eq (x : Vec Ideal S256x2048 .f32) (g : Vec Ideal S1x2048 .f32) :
    k0_pay1 (F := Ideal) x (k0_pay20 x) k0_pay21 g = k0_pay6 x g := rfl

theorem pay7_eq (x : Vec Ideal S256x2048 .f32) (g : Vec Ideal S1x2048 .f32) (r : Fin 256) (q : Fin 2048) :
    k0_pay7 (F := Ideal) x g (ix2 r q) = k0_pay6 (F := Ideal) x g (ix2 r q) := by
  unfold k0_pay7; generalize k0_pay6 (F := Ideal) x g = y; pointwise []

/-- The rows the four strips store. -/
theorem norm0 (x : Vec Ideal S256x2048 .f32) (g : Vec Ideal S1x2048 .f32) (r : Fin 256) (q : Fin 2048) :
    k0_pay7 (F := Ideal) x g (ix2 r q) = nrm (fun k => x (ix2 r k)) (fun k => g (ix2 0 k)) q := by rw [pay7_eq, pay6_apply]
theorem norm1 (x : Vec Ideal S256x2048 .f32) (g : Vec Ideal S1x2048 .f32) : k0_pay12 (F := Ideal) x (k0_pay10 x) g = k0_pay7 x g := rfl
theorem norm2 (x : Vec Ideal S256x2048 .f32) (g : Vec Ideal S1x2048 .f32) :
    k0_pay17 (F := Ideal) x (k0_pay15 x) (Scalar.ofBits .f32 0x45000000#32) g = k0_pay7 x g := rfl
theorem norm3 (x : Vec Ideal S256x2048 .f32) (g : Vec Ideal S1x2048 .f32) : k0_pay2 (F := Ideal) x (k0_pay20 x) k0_pay21 g = k0_pay7 x g := rfl

theorem pay8_eq (x : Vec Ideal S256x2048 .f32) (g : Vec Ideal S1x2048 .f32) (w : Vec Ideal S2048x384 .f32) (r : Fin 256) (q : Fin 384) :
    k0_pay8 (F := Ideal) x g w (ix2 r q) = ∑ k : Fin 2048, k0_pay6 (F := Ideal) x g (ix2 r k) * w (ix2 k q) := by
  unfold k0_pay8; generalize k0_pay6 (F := Ideal) x g = y; pointwise []

/-- The narrow products the four strips store. -/
theorem nar0 (x : Vec Ideal S256x2048 .f32) (g : Vec Ideal S1x2048 .f32) (w : Vec Ideal S2048x384 .f32) (r : Fin 256) (q : Fin 384) :
    k0_pay8 (F := Ideal) x g w (ix2 r q) = ∑ k : Fin 2048, nrm (fun k => x (ix2 r k)) (fun k => g (ix2 0 k)) k * w (ix2 k q) := by
  rw [pay8_eq]; simp only [pay6_apply]
theorem nar1 (x : Vec Ideal S256x2048 .f32) (g : Vec Ideal S1x2048 .f32) (w : Vec Ideal S2048x384 .f32) : k0_pay13 (F := Ideal) x (k0_pay10 x) g w = k0_pay8 x g w := rfl
theorem nar2 (x : Vec Ideal S256x2048 .f32) (g : Vec Ideal S1x2048 .f32) (w : Vec Ideal S2048x384 .f32) :
    k0_pay18 (F := Ideal) x (k0_pay15 x) (Scalar.ofBits .f32 0x45000000#32) g w = k0_pay8 x g w := rfl
theorem nar3 (x : Vec Ideal S256x2048 .f32) (g : Vec Ideal S1x2048 .f32) (w : Vec Ideal S2048x384 .f32) : k0_pay3 (F := Ideal) x (k0_pay20 x) k0_pay21 g w = k0_pay8 x g w := rfl

/-- The wide products, read at one place. -/
theorem pay9_apply (a : Vec Ideal S256x2048 .bf16) (b : Vec Ideal S1x2048x1024 .bf16) (r : Fin 256) (q : Fin 1024) :
    k0_pay9 (F := Ideal) a b (ix2 r q) = ∑ k : Fin 2048, a (ix2 r k) * b (ix3 0 k q) := by
  pointwise [k0_pay9]
theorem pay14_eq : k0_pay14 (F := Ideal) = k0_pay9 := rfl
theorem pay19_eq : k0_pay19 (F := Ideal) = k0_pay9 := rfl
theorem pay4_eq : k0_pay4 (F := Ideal) = k0_pay9 := rfl
theorem pay5_apply (a : Vec Ideal S1024x2048 .bf16) (b : Vec Ideal S1x2048x1024 .bf16) (r : Fin 1024) (q : Fin 1024) :
    k0_pay5 (F := Ideal) a b (ix2 r q) = ∑ k : Fin 2048, a (ix2 r k) * b (ix3 0 k q) := by
  pointwise [k0_pay5]

/-! ## What the points leave -/

/-- The normalised rows of a block. -/
def normRows (x : Vec Ideal S1024x2048 .f32) (g : Vec Ideal S1x2048 .f32) : Vec Ideal S1024x2048 .bf16 :=
  fun i => nrm (fun k => x (ix2 (i 0) k)) (fun k => g (ix2 0 k)) (i 1)
/-- A block's rows times a block of the weights. -/
def prodWide (s : Vec Ideal S1024x2048 .bf16) (w : Vec Ideal S1x2048x1024 .bf16) : Vec Ideal S1024x1024 .bf16 :=
  fun i => ∑ k : Fin 2048, s (ix2 (i 0) k) * w (ix3 0 k (i 1))
def prodNarrow (s : Vec Ideal S1024x2048 .bf16) (w : Vec Ideal S2048x384 .f32) : Vec Ideal S1024x384 .f32 :=
  fun i => ∑ k : Fin 2048, s (ix2 (i 0) k) * w (ix2 k (i 1))

/-- Stores that are blocks of one array, and cover it, leave that array. -/
theorem canon_of_pieces {s : Shape} {e : EltTy} (G : s.Idx → Elt Ideal e) (L : List (View.Piece (Elt Ideal) s e)) (h : View.PiecesOf G L)
    (hc : ∀ y, ∃ p ∈ L, y ∈ p.1.set) : View.canon L = G := by
  funext y
  have e := View.canon_append_of_piecesOf G [] L h y (hc y)
  rwa [List.append_nil] at e

theorem hz2 : (![0, 0] : Fin 2 → Nat) = fun _ => 0 := funext fun a => by fin_cases a <;> rfl
theorem hz3 : (![0, 0, 0] : Fin 3 → Nat) = fun _ => 0 := funext fun a => by fin_cases a <;> rfl

section Strips

variable (o : ℕ) (inb : ∀ a : Fin 2, (![o, 0] : Fin 2 → ℕ) a + S256x2048.size a ≤ S1024x2048.size a)

/-- A strip's place is the block's place `o` rows on. -/
theorem emb_row (N : ℕ) (inb' : ∀ a : Fin 2, (![o, 0] : Fin 2 → ℕ) a + (⟨2, ![256, N]⟩ : Shape).size a ≤ (⟨2, ![1024, N]⟩ : Shape).size a) (r : Fin 256) (q q' : Fin N) :
    (Rect.unit (s := ⟨2, ![1024, N]⟩) ![o, 0] (⟨2, ![256, N]⟩ : Shape).size inb').emb (ix2 r q) = ix2 ⟨o + r.val, by have := inb' 0; have h : o + 256 ≤ 1024 := this; omega⟩ q := by
  funext a; apply Fin.ext
  match a with
  | ⟨0, _⟩ => rw [Rect.emb_apply]; show o + 1 * r.val = o + r.val; omega
  | ⟨1, _⟩ => rw [Rect.emb_apply]; show 0 + 1 * q.val = q.val; omega

theorem strip_norm (x : Vec Ideal S1024x2048 .f32) (g : Vec Ideal S1x2048 .f32) (a : Vec Ideal S256x2048 .bf16)
    (ha : ∀ r q, a (ix2 r q) = nrm (fun k => (View.ld x (Rect.unit (s := S1024x2048) ![o, 0] S256x2048.size inb) : Vec Ideal S256x2048 .f32) (ix2 r k)) (fun k => g (ix2 0 k)) q)
    (i : S256x2048.Idx) :
    a i = normRows x g ((Rect.unit (s := S1024x2048) ![o, 0] S256x2048.size inb).emb i) := by
  idx_vars i
  rw [ha, show (Rect.unit (s := S1024x2048) ![o, 0] S256x2048.size inb).emb (ix2 i0 i1) = _ from emb_row o 2048 inb i0 i1 i1]
  show _ = nrm (fun k => x (ix2 _ k)) _ i1
  congr 1
  funext l
  exact congrArg x (emb_row o 2048 inb i0 l l)

theorem strip_wide (inb' : ∀ a : Fin 2, (![o, 0] : Fin 2 → ℕ) a + S256x1024.size a ≤ S1024x1024.size a)
    (x : Vec Ideal S1024x2048 .f32) (g : Vec Ideal S1x2048 .f32) (w : Vec Ideal S1x2048x1024 .bf16) (a : Vec Ideal S256x2048 .bf16)
    (ha : ∀ r q, a (ix2 r q) = nrm (fun k => (View.ld x (Rect.unit (s := S1024x2048) ![o, 0] S256x2048.size inb) : Vec Ideal S256x2048 .f32) (ix2 r k)) (fun k => g (ix2 0 k)) q)
    (i : S256x1024.Idx) :
    k0_pay9 (F := Ideal) a w i = prodWide (normRows x g) w ((Rect.unit (s := S1024x1024) ![o, 0] S256x1024.size inb').emb i) := by
  idx_vars i
  rw [pay9_apply, show (Rect.unit (s := S1024x1024) ![o, 0] S256x1024.size inb').emb (ix2 i0 i1) = _ from emb_row o 1024 inb' i0 i1 i1]
  refine Finset.sum_congr rfl fun k _ => congrArg (· * w (ix3 0 k i1)) ?_
  exact (strip_norm o inb x g a ha (ix2 i0 k)).trans (congrArg (normRows x g) (emb_row o 2048 inb i0 k k))

theorem strip_narrow (inb' : ∀ a : Fin 2, (![o, 0] : Fin 2 → ℕ) a + S256x384.size a ≤ S1024x384.size a)
    (x : Vec Ideal S1024x2048 .f32) (g : Vec Ideal S1x2048 .f32) (w : Vec Ideal S2048x384 .f32) (i : S256x384.Idx) :
    k0_pay8 (F := Ideal) (View.ld x (Rect.unit (s := S1024x2048) ![o, 0] S256x2048.size inb)) g w i
      = prodNarrow (normRows x g) w ((Rect.unit (s := S1024x384) ![o, 0] S256x384.size inb').emb i) := by
  idx_vars i
  rw [nar0, show (Rect.unit (s := S1024x384) ![o, 0] S256x384.size inb').emb (ix2 i0 i1) = _ from emb_row o 384 inb' i0 i1 i1]
  refine Finset.sum_congr rfl fun k _ => congrArg (· * w (ix2 k i1)) ?_
  refine congrArg (fun f => nrm f (fun k => g (ix2 0 k)) k) ?_
  funext l
  exact congrArg x (emb_row o 2048 inb i0 l l)

end Strips

variable (m : (ℓ : Loc nD τ sig) → Buf (Elt Ideal) ℓ) (ρ : Dev nD → PrngReg)

/-- The blocks of a point. -/
abbrev xb (c : Dev nD) (t : Fin cfg0.N) : Vec Ideal S1024x2048 .f32 := iblk m c 0 t
abbrev gb (c : Dev nD) (t : Fin cfg0.N) : Vec Ideal S1x2048 .f32 := iblk m c 1 t
abbrev wb (c : Dev nD) (t : Fin cfg0.N) : Vec Ideal S1x2048x1024 .bf16 := X0_2 m c t
abbrev nb (c : Dev nD) (t : Fin cfg0.N) : Vec Ideal S2048x384 .f32 := iblk m c 3 t

theorem normed_eq (c : Dev nD) (t : Fin cfg0.N) (h : t.val % 6 = 0) : normed m c t h = normRows (xb m c t) (gb m c t) := by
  refine canon_of_pieces _ _ ?_ (normed_cover m c t h)
  unfold startAt startRun
  dsimp only
  sl_unfold_words
  simp only [View.readCov_cons_toLoadRect, View.readAt_eq_ld, (wst0 t).read_unread, (wst1 t).read_unread, (wst2 t).read_unread, (wst3 t).read_unread, View.ld_unit_zero (S := S1x2048) hz2, View.ld_unit_zero (S := S2048x384) hz2, View.ld_unit_zero (S := S1x2048x1024) hz3]
  refine ⟨fun x => ?_, fun x => ?_, fun x => ?_, fun x => ?_, trivial⟩
  · exact strip_norm 768 inb_S1024x2048_S256x2048_768_0 (xb m c t) (gb m c t) _ (fun r q => norm0 _ _ r q) x
  · exact strip_norm 512 inb_S1024x2048_S256x2048_512_0 (xb m c t) (gb m c t) _ (fun r q => norm0 _ _ r q) x
  · exact strip_norm 256 inb_S1024x2048_S256x2048_256_0 (xb m c t) (gb m c t) _ (fun r q => norm0 _ _ r q) x
  · exact strip_norm 0 inb_S1024x2048_S256x2048_0_0 (xb m c t) (gb m c t) _ (fun r q => norm0 _ _ r q) x

theorem narrow_eq (c : Dev nD) (t : Fin cfg0.N) (h : t.val % 6 = 0) : narrow m c t h = prodNarrow (normRows (xb m c t) (gb m c t)) (nb m c t) := by
  refine canon_of_pieces _ _ ?_ (narrow_cover m c t h)
  unfold startAt startRun
  dsimp only
  sl_unfold_words
  simp only [View.readCov_cons_toLoadRect, View.readAt_eq_ld, (wst0 t).read_unread, (wst1 t).read_unread, (wst2 t).read_unread, (wst3 t).read_unread, View.ld_unit_zero (S := S1x2048) hz2, View.ld_unit_zero (S := S2048x384) hz2, View.ld_unit_zero (S := S1x2048x1024) hz3]
  refine ⟨fun x => ?_, fun x => ?_, fun x => ?_, fun x => ?_, trivial⟩
  · exact strip_narrow 768 inb_S1024x2048_S256x2048_768_0 inb_S1024x384_S256x384_768_0 (xb m c t) (gb m c t) (nb m c t) x
  · exact strip_narrow 512 inb_S1024x2048_S256x2048_512_0 inb_S1024x384_S256x384_512_0 (xb m c t) (gb m c t) (nb m c t) x
  · exact strip_narrow 256 inb_S1024x2048_S256x2048_256_0 inb_S1024x384_S256x384_256_0 (xb m c t) (gb m c t) (nb m c t) x
  · exact strip_narrow 0 inb_S1024x2048_S256x2048_0_0 inb_S1024x384_S256x384_0_0 (xb m c t) (gb m c t) (nb m c t) x

theorem wide_eq (c : Dev nD) (t : Fin cfg0.N) (h : t.val % 6 = 0) : wide m c t h = prodWide (normRows (xb m c t) (gb m c t)) (wb m c t) := by
  refine canon_of_pieces _ _ ?_ (wide_cover m c t h)
  unfold startAt startRun
  dsimp only
  sl_unfold_words
  simp only [View.readCov_cons_toLoadRect, View.readAt_eq_ld, (wst0 t).read_unread, (wst1 t).read_unread, (wst2 t).read_unread, (wst3 t).read_unread, View.ld_unit_zero (S := S1x2048) hz2, View.ld_unit_zero (S := S2048x384) hz2, View.ld_unit_zero (S := S1x2048x1024) hz3]
  refine ⟨fun x => ?_, fun x => ?_, fun x => ?_, fun x => ?_, trivial⟩
  · exact strip_wide 768 inb_S1024x2048_S256x2048_768_0 inb_S1024x1024_S256x1024_768_0 (xb m c t) (gb m c t) (wb m c t) _ (fun r q => norm0 _ _ r q) x
  · exact strip_wide 512 inb_S1024x2048_S256x2048_512_0 inb_S1024x1024_S256x1024_512_0 (xb m c t) (gb m c t) (wb m c t) _ (fun r q => norm0 _ _ r q) x
  · exact strip_wide 256 inb_S1024x2048_S256x2048_256_0 inb_S1024x1024_S256x1024_256_0 (xb m c t) (gb m c t) (wb m c t) _ (fun r q => norm0 _ _ r q) x
  · exact strip_wide 0 inb_S1024x2048_S256x2048_0_0 inb_S1024x1024_S256x1024_0_0 (xb m c t) (gb m c t) (wb m c t) _ (fun r q => norm0 _ _ r q) x

theorem laterB_eq (c : Dev nD) (t : Fin cfg0.N) (h : t.val % 6 ≠ 0) (s : Vec Ideal S1024x2048 .bf16) : laterB m c t h s = prodWide s (wb m c t) := by
  refine canon_of_pieces _ _ ?_ (laterB_cover m c t h s)
  unfold laterAtB laterRunB
  dsimp only
  sl_unfold_words
  simp only [View.readCov_cons_toLoadRect, View.readAt_eq_ld, (wst2 t).read_unread, (Memref.isWhole_whole _).read_unread, View.ld_unit_zero (S := S1024x2048) hz2, View.ld_unit_zero (S := S1x2048x1024) hz3]
  refine ⟨fun x => ?_, trivial⟩
  have e : (Rect.unit (s := S1024x1024) ![0, 0] S1024x1024.size inb_S1024x1024_S1024x1024_0_0).emb x = x := by
    funext a; apply Fin.ext
    match a with
    | ⟨0, _⟩ => rw [Rect.emb_apply]; show 0 + 1 * (x 0).val = (x 0).val; omega
    | ⟨1, _⟩ => rw [Rect.emb_apply]; show 0 + 1 * (x 1).val = (x 1).val; omega
  refine Eq.trans ?_ (congrArg (prodWide s (wb m c t)) e).symm
  idx_vars x
  exact pay5_apply _ _ x0 x1

/-! ## The reference -/

/-- The projection at row `R` and column `q` of the weights. -/
def cell (x : Vec Ideal S8192x2048 .f32) (g : Vec Ideal S4x2048 .f32) (w : Vec Ideal S2x2048x6528 .f32) (R : Fin 8192) (q : Fin 6528) : EReal :=
  ∑ k : Fin 2048, nrm (fun k => x (ix2 R k)) (fun k => g (ix2 1 k)) k * w (ix3 0 k q)

/-- The two results. -/
def wideRes (x : Vec Ideal S8192x2048 .f32) (g : Vec Ideal S4x2048 .f32) (w : Vec Ideal S2x2048x6528 .f32) : Vec Ideal S8192x6144 .bf16 :=
  fun i => cell x g w (i 0) ⟨(i 1).val, lt_trans (show (i 1).val < 6144 from (i 1).isLt) (by decide)⟩
def narrowRes (x : Vec Ideal S8192x2048 .f32) (g : Vec Ideal S4x2048 .f32) (w : Vec Ideal S2x2048x6528 .f32) : Vec Ideal S8192x384 .f32 :=
  fun i => cell x g w (i 0) ⟨6144 + (i 1).val, by have h : (i 1).val < 384 := (i 1).isLt; omega⟩

open Cert.OddInRefIdeal.Read in
/-- The reference's normalised rows, read at one place. -/
theorem ref_nrm (x : Vec Ideal S8192x2048 .f32) (g : Vec Ideal S4x2048 .f32) (R : Fin 8192) (q : Fin 2048) :
    val_main_v14 (F := Ideal) x g (ix2 R q) = nrm (fun k => x (ix2 R k)) (fun k => g (ix2 1 k)) q := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, nrm]

open Cert.OddInRefIdeal.Read in
theorem ref_cell (x : Vec Ideal S8192x2048 .f32) (g : Vec Ideal S4x2048 .f32) (w : Vec Ideal S2x2048x6528 .f32) (R : Fin 8192) (q : Fin 6528) :
    val_main_v17 (F := Ideal) x g w (ix2 R q) = cell x g w R q := by
  unfold cell
  simp only [← ref_nrm]
  unfold val_main_v17
  generalize val_main_v14 (F := Ideal) x g = y
  pointwise [val_main_v16, val_main_v15]

open Cert.OddInRefIdeal.Read in
theorem ref_wide (x : Vec Ideal S8192x2048 .f32) (g : Vec Ideal S4x2048 .f32) (w : Vec Ideal S2x2048x6528 .f32) :
    val_main_v19 (F := Ideal) x g w = wideRes x g w := by
  funext i
  idx_vars i
  refine Eq.trans ?_ (ref_cell x g w i0 ⟨i1.val, lt_trans i1.isLt (by decide)⟩)
  unfold val_main_v19 val_main_v18
  generalize val_main_v17 (F := Ideal) x g w = y
  pointwise []

open Cert.OddInRefIdeal.Read in
theorem ref_narrow (x : Vec Ideal S8192x2048 .f32) (g : Vec Ideal S4x2048 .f32) (w : Vec Ideal S2x2048x6528 .f32) :
    val_main_v20 (F := Ideal) x g w = narrowRes x g w := by
  funext i
  idx_vars i
  refine Eq.trans ?_ (ref_cell x g w i0 ⟨6144 + i1.val, by omega⟩)
  unfold val_main_v20
  generalize val_main_v17 (F := Ideal) x g w = y
  pointwise []

/-! ## The arrays the launch finds -/

abbrev tok (c : Dev nD) : Vec Ideal S8192x2048 .f32 := m ((c.tc : Thread nD τ).loc main_arg0)
abbrev gains (c : Dev nD) : Vec Ideal S4x2048 .f32 := m ((c.tc : Thread nD τ).loc main_arg1)
abbrev wts (c : Dev nD) : Vec Ideal S2x2048x6528 .f32 := m ((c.tc : Thread nD τ).loc main_arg2)

theorem V_v0' (c : Dev nD) : (V m c main_v0 : Vec Ideal S2x2048x6528 .bf16) = truncf (F := Ideal) .bf16 (wts m c) bitsLt_bf16_f32 := by
  show StableHlo.after hostOps0 _ _ = _
  after_reads_simp

theorem V_v0 (c : Dev nD) (l : Fin 2) (k : Fin 2048) (q : Fin 6528) : (V m c main_v0 : Vec Ideal S2x2048x6528 .bf16) (ix3 l k q) = wts m c (ix3 l k q) := by
  rw [V_v0']; rfl

theorem V_v5' (c : Dev nD) : (V m c main_v5 : Vec Ideal S1x2048 .f32)
    = shapeCast S1x2048 (shapeCast S2048 (extractStridedSlice S1x2048 ![1, 0] (gains m c) slices_S4x2048_S1x2048_1_0) shapeCasts_S1x2048_S2048) shapeCasts_S2048_S1x2048 := by
  show StableHlo.after hostOps0 _ _ = _
  after_reads_simp
  rfl

theorem gain_apply (g : Vec Ideal S4x2048 .f32) (q : Fin 2048) :
    (shapeCast S1x2048 (shapeCast S2048 (extractStridedSlice S1x2048 ![1, 0] g slices_S4x2048_S1x2048_1_0) shapeCasts_S1x2048_S2048) shapeCasts_S2048_S1x2048 : Vec Ideal S1x2048 .f32) (ix2 0 q) = g (ix2 1 q) := by
  pointwise []

theorem V_v5 (c : Dev nD) (q : Fin 2048) : (V m c main_v5 : Vec Ideal S1x2048 .f32) (ix2 0 q) = gains m c (ix2 1 q) := by
  rw [V_v5', gain_apply]

theorem V_v4' (c : Dev nD) : (V m c main_v4 : Vec Ideal S2048x384 .f32)
    = shapeCast S2048x384 (extractStridedSlice S1x2048x384 ![0, 0, 6144] (wts m c) slices_S2x2048x6528_S1x2048x384_0_0_6144) shapeCasts_S1x2048x384_S2048x384 := by
  show StableHlo.after hostOps0 _ _ = _
  after_reads_simp
  rfl

theorem low_apply (w : Vec Ideal S2x2048x6528 .f32) (k : Fin 2048) (q : Fin 384) :
    (shapeCast S2048x384 (extractStridedSlice S1x2048x384 ![0, 0, 6144] w slices_S2x2048x6528_S1x2048x384_0_0_6144) shapeCasts_S1x2048x384_S2048x384 : Vec Ideal S2048x384 .f32) (ix2 k q)
      = w (ix3 0 k ⟨6144 + q.val, by omega⟩) := by
  pointwise []

theorem V_v4 (c : Dev nD) (k : Fin 2048) (q : Fin 384) : (V m c main_v4 : Vec Ideal S2048x384 .f32) (ix2 k q) = wts m c (ix3 0 k ⟨6144 + q.val, by omega⟩) := by
  rw [V_v4', low_apply]

/-! ## The blocks -/

/-- Which blocks a point reads and writes. -/
theorem maps : ∀ t : Fin grid0.N, win0_0.index t 0 = t.val / 6 ∧ win0_0.index t 1 = 0 ∧ win0_1.index t 0 = 0 ∧ win0_1.index t 1 = 0
    ∧ win0_2.index t 0 = 0 ∧ win0_2.index t 1 = 0 ∧ win0_2.index t 2 = t.val % 6 ∧ win0_3.index t 0 = 0 ∧ win0_3.index t 1 = 0 := by decide +kernel
theorem maps' : ∀ t : Fin grid0.N, win0_4.index t 0 = t.val / 6 ∧ win0_4.index t 1 = t.val % 6 ∧ win0_5.index t 0 = t.val / 6 ∧ win0_5.index t 1 = 0 := by decide +kernel

theorem lt48 (t : Fin cfg0.N) : t.val < 48 := lt_of_lt_of_eq t.isLt (show cfg0.N = 48 from N_0)

/-- The row of the tokens at a row of a point's block. -/
def rowOf (t : Fin cfg0.N) (r : Fin 1024) : Fin 8192 := ⟨t.val / 6 * 1024 + r.val, by have := lt48 t; omega⟩
def colOf (t : Fin cfg0.N) (q : Fin 1024) : Fin 6144 := ⟨t.val % 6 * 1024 + q.val, by omega⟩

theorem blk0 (c : Dev nD) (t : Fin cfg0.N) (r : Fin 1024) (k : Fin 2048) : xb m c t (ix2 r k) = tok m c (ix2 (rowOf t r) k) := by
  obtain ⟨h0, h1, -⟩ := maps t
  show V m c main_arg0 ((win0_0.rect t).emb (ix2 r k)) = _
  rw [V_main_arg0 m c]
  congr 1
  funext a; apply Fin.ext
  match a with
  | ⟨0, _⟩ => exact (win0_0.rect_emb_val t (ix2 r k) 0).trans (by rw [h0]; rfl)
  | ⟨1, _⟩ => exact (win0_0.rect_emb_val t (ix2 r k) 1).trans (by rw [h1]; exact Nat.zero_add _)

theorem blk1 (c : Dev nD) (t : Fin cfg0.N) (q : Fin 2048) : gb m c t (ix2 0 q) = gains m c (ix2 1 q) := by
  obtain ⟨-, -, h0, h1, -⟩ := maps t
  rw [← V_v5 m c]
  show (V m c main_v5 : Vec Ideal S1x2048 .f32) ((win0_1.rect t).emb (ix2 0 q)) = _
  congr 1
  funext a; apply Fin.ext
  match a with
  | ⟨0, _⟩ => exact (win0_1.rect_emb_val t (ix2 0 q) 0).trans (by rw [h0]; rfl)
  | ⟨1, _⟩ => exact (win0_1.rect_emb_val t (ix2 0 q) 1).trans (by rw [h1]; exact Nat.zero_add _)

theorem blk2 (c : Dev nD) (t : Fin cfg0.N) (k : Fin 2048) (q : Fin 1024) :
    wb m c t (ix3 0 k q) = wts m c (ix3 0 k ⟨(colOf t q).val, lt_trans (colOf t q).isLt (by decide)⟩) := by
  obtain ⟨-, -, -, -, h0, h1, h2, -⟩ := maps t
  rw [← V_v0 m c]
  unfold wb X0_2 Pipeline.Window.fill
  rw [dif_pos (moved0_2 t _)]
  show (V m c main_v0 : Vec Ideal S2x2048x6528 .bf16) ((win0_2.rect t).emb _) = _
  congr 1
  funext a; apply Fin.ext
  match a with
  | ⟨0, _⟩ => exact (win0_2.rect_emb_val t _ 0).trans (by rw [h0]; rfl)
  | ⟨1, _⟩ => exact (win0_2.rect_emb_val t _ 1).trans (by rw [h1]; exact Nat.zero_add _)
  | ⟨2, _⟩ => exact (win0_2.rect_emb_val t _ 2).trans (by rw [h2]; rfl)

theorem blk3 (c : Dev nD) (t : Fin cfg0.N) (k : Fin 2048) (q : Fin 384) : nb m c t (ix2 k q) = wts m c (ix3 0 k ⟨6144 + q.val, by omega⟩) := by
  obtain ⟨-, -, -, -, -, -, -, h0, h1⟩ := maps t
  rw [← V_v4 m c]
  show (V m c main_v4 : Vec Ideal S2048x384 .f32) ((win0_3.rect t).emb (ix2 k q)) = _
  congr 1
  funext a; apply Fin.ext
  match a with
  | ⟨0, _⟩ => exact (win0_3.rect_emb_val t (ix2 k q) 0).trans (by rw [h0]; exact Nat.zero_add _)
  | ⟨1, _⟩ => exact (win0_3.rect_emb_val t (ix2 k q) 1).trans (by rw [h1]; exact Nat.zero_add _)

/-- The rows every point of a grid row works on. -/
theorem rows_apply (c : Dev nD) (t : Fin cfg0.N) (r : Fin 1024) (k : Fin 2048) :
    rows m c t (ix2 r k) = nrm (fun k => tok m c (ix2 (rowOf t r) k)) (fun k => gains m c (ix2 1 k)) k := by
  unfold rows
  rw [normed_eq]
  show nrm (fun k => xb m c (first t) (ix2 r k)) (fun k => gb m c (first t) (ix2 0 k)) k = _
  simp only [blk0 m c, blk1 m c]
  have e : rowOf (first t) r = rowOf t r := Fin.ext (by show t.val / 6 * 6 / 6 * 1024 + r.val = t.val / 6 * 1024 + r.val; omega)
  rw [e]

/-- A point's block of the wide result. -/
theorem cols_eq (c : Dev nD) (t : Fin cfg0.N) : cols m c t = prodWide (rows m c t) (wb m c t) := by
  unfold cols
  split
  · next h => rw [wide_eq, rows_first m c t h, normed_eq]
  · next h => rw [laterB_eq]

theorem cols_apply (c : Dev nD) (t : Fin cfg0.N) (r q : Fin 1024) :
    cols m c t (ix2 r q) = cell (tok m c) (gains m c) (wts m c) (rowOf t r) ⟨(colOf t q).val, lt_trans (colOf t q).isLt (by decide)⟩ := by
  rw [cols_eq]
  show ∑ k : Fin 2048, rows m c t (ix2 r k) * wb m c t (ix3 0 k q) = _
  simp only [rows_apply m c, blk2 m c]
  rfl

theorem side_apply (c : Dev nD) (t : Fin cfg0.N) (r : Fin 1024) (q : Fin 384) :
    side m c t (ix2 r q) = cell (tok m c) (gains m c) (wts m c) (rowOf t r) ⟨6144 + q.val, by omega⟩ := by
  unfold side
  rw [narrow_eq, ← normed_eq m c (first t) (first_mod t)]
  show ∑ k : Fin 2048, rows m c t (ix2 r k) * nb m c (first t) (ix2 k q) = _
  simp only [rows_apply m c, blk3 m c]
  rfl

/-! ## The launch's arrays -/

def result (c : Dev nD) : Vec Ideal S8192x6144 .bf16 := wideRes (tok m c) (gains m c) (wts m c)
def result' (c : Dev nD) : Vec Ideal S8192x384 .f32 := narrowRes (tok m c) (gains m c) (wts m c)

theorem flushed_eq (c : Dev nD) (t : Fin cfg0.N) : (dats m 0 c).flushed 4 t = (win0_4.blk t).view.read (Elt Ideal) (result m c) := by
  obtain ⟨h0, h1, -⟩ := maps' t
  show (cfg0.win 4).cut (grid0.coords t) ((dats m 0 c).after 4 t) = _
  rw [after4]
  funext j
  show cols m c t j = result m c ((win0_4.rect t).emb j)
  idx_vars j
  rw [cols_apply]
  have e : (win0_4.rect t).emb (ix2 j0 j1) = ix2 (rowOf t j0) (colOf t j1) := by
    funext a; apply Fin.ext
    match a with
    | ⟨0, _⟩ => exact (win0_4.rect_emb_val t (ix2 j0 j1) 0).trans (by rw [h0]; rfl)
    | ⟨1, _⟩ => exact (win0_4.rect_emb_val t (ix2 j0 j1) 1).trans (by rw [h1]; rfl)
  rw [e]
  rfl

theorem flushed_eq' (c : Dev nD) (t : Fin cfg0.N) : (dats m 0 c).flushed 5 t = (win0_5.blk t).view.read (Elt Ideal) (result' m c) := by
  obtain ⟨-, -, h0, h1⟩ := maps' t
  show (cfg0.win 5).cut (grid0.coords t) ((dats m 0 c).after 5 t) = _
  rw [after5]
  funext j
  show side m c t j = result' m c ((win0_5.rect t).emb j)
  idx_vars j
  rw [side_apply]
  have e : (win0_5.rect t).emb (ix2 j0 j1) = ix2 (rowOf t j0) j1 := by
    funext a; apply Fin.ext
    match a with
    | ⟨0, _⟩ => exact (win0_5.rect_emb_val t (ix2 j0 j1) 0).trans (by rw [h0]; rfl)
    | ⟨1, _⟩ => exact (win0_5.rect_emb_val t (ix2 j0 j1) 1).trans (by rw [h1]; exact Nat.zero_add _)
  rw [e]
  rfl

/-- A place of a result is in a point's block when its coordinates are. -/
theorem mem_blk (t : Fin cfg0.N) (i : S8192x6144.Idx) :
    i ∈ ((cfg0.win 4).blk t).view.set ↔ ∀ a : Fin 2, win0_4.index t a * win0_4.size a ≤ (i a).val ∧ (i a).val < win0_4.index t a * win0_4.size a + win0_4.size a := by
  show i ∈ ((View.whole main_v6_0).slice (win0_4.rect t)).set ↔ _
  rw [View.set_slice_whole, Rect.mem_set_unit]
  rfl

theorem mem_blk' (t : Fin cfg0.N) (i : S8192x384.Idx) :
    i ∈ ((cfg0.win 5).blk t).view.set ↔ ∀ a : Fin 2, win0_5.index t a * win0_5.size a ≤ (i a).val ∧ (i a).val < win0_5.index t a * win0_5.size a + win0_5.size a := by
  show i ∈ ((View.whole main_v6_1).slice (win0_5.rect t)).set ↔ _
  rw [View.set_slice_whole, Rect.mem_set_unit]
  rfl

/-- Every place of a result is in some point's block. -/
theorem cover (i : S8192x6144.Idx) : ∃ t : Fin cfg0.N, (cfg0.win 4).flush t = true ∧ i ∈ ((cfg0.win 4).blk t).view.set := by
  idx_vars i
  have ht : i0.val / 1024 * 6 + i1.val / 1024 < 48 := by omega
  obtain ⟨h0, h1, -⟩ := maps' ⟨i0.val / 1024 * 6 + i1.val / 1024, Nat.lt_of_lt_of_eq ht N_0.symm⟩
  refine ⟨⟨i0.val / 1024 * 6 + i1.val / 1024, Nat.lt_of_lt_of_eq ht N_0.symm⟩, flush0_4 _, (mem_blk _ _).2 fun a => ?_⟩
  match a with
  | ⟨0, _⟩ => show win0_4.index _ 0 * 1024 ≤ i0.val ∧ i0.val < win0_4.index _ 0 * 1024 + 1024; rw [h0]; dsimp only; omega
  | ⟨1, _⟩ => show win0_4.index _ 1 * 1024 ≤ i1.val ∧ i1.val < win0_4.index _ 1 * 1024 + 1024; rw [h1]; dsimp only; omega

theorem cover' (i : S8192x384.Idx) : ∃ t : Fin cfg0.N, (cfg0.win 5).flush t = true ∧ i ∈ ((cfg0.win 5).blk t).view.set := by
  idx_vars i
  have ht : i0.val / 1024 * 6 + 5 < 48 := by omega
  obtain ⟨-, -, h0, h1⟩ := maps' ⟨i0.val / 1024 * 6 + 5, Nat.lt_of_lt_of_eq ht N_0.symm⟩
  refine ⟨⟨i0.val / 1024 * 6 + 5, Nat.lt_of_lt_of_eq ht N_0.symm⟩, (flush0_5 _).2 (by dsimp only; omega), (mem_blk' _ _).2 fun a => ?_⟩
  match a with
  | ⟨0, _⟩ => show win0_5.index _ 0 * 1024 ≤ i0.val ∧ i0.val < win0_5.index _ 0 * 1024 + 1024; rw [h0]; dsimp only; omega
  | ⟨1, _⟩ => show win0_5.index _ 1 * 384 ≤ i1.val ∧ i1.val < win0_5.index _ 1 * 384 + 384; rw [h1]; omega

theorem final (c : Dev nD) : (dats m 0 c).arrAt 4 cfg0.N = result m c :=
  (dats m 0 c).arrAt_eq_of_cover 4 (result m c) (fun t _ => flushed_eq m c t) cover
theorem final' (c : Dev nD) : (dats m 0 c).arrAt 5 cfg0.N = result' m c :=
  (dats m 0 c).arrAt_eq_of_cover 5 (result' m c) (fun t _ => flushed_eq' m c t) cover'

/-- The kernel runs, leaves both results and keeps its arguments. -/
theorem run : θ_run defs (onTc (τ := τ) (main (F := Ideal))) ⟨m, fun _ => 0, ρ⟩ fun r => ∀ c : Dev nD,
    r.2.mem ((c.tc : Thread nD τ).loc main_v6_0) = result m c
      ∧ r.2.mem ((c.tc : Thread nD τ).loc main_v6_1) = result' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 4 : r.2.mem ((c.tc : Thread nD τ).loc main_v6_0) = (dats m 0 c).arrAt 4 cfg0.N).trans (final m c),
    ((h c).1 5 : r.2.mem ((c.tc : Thread nD τ).loc main_v6_1) = (dats m 0 c).arrAt 5 cfg0.N).trans (final' m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_post m ρ)

/-- The kernel's results are the reference's. -/
theorem claim : Cert.algebraic_OddInIdeal_OddInRefIdeal := by
  intro m ρ m' ρ' _ hagree
  refine ⟨fun c => result m c, fun c => result' m c, run m ρ,
    (θ_run _ _ _).mono (fun _ h c => ⟨(h c).1.trans ?_, (h c).2.1.trans ?_, (h c).2.2⟩) (Cert.OddInRefIdeal.Value.run (F := Ideal) m' ρ')⟩
  · obtain ⟨a0, a1, a2⟩ := hagree c
    rw [Cert.OddInRefIdeal.Read.val_main_v19_eq, ref_wide, a0, a1, a2]
    rfl
  · obtain ⟨a0, a1, a2⟩ := hagree c
    rw [Cert.OddInRefIdeal.Read.val_main_v20_eq, ref_narrow, a0, a1, a2]
    rfl

end Cert.OddInIdeal.Claims

end
-- ==== Proof.EvenOut.lean ====
module

public import proofs.«01_k».proof.Defs
public import proofs.«01_k».proof.Proof.Gen.EvenOutIdeal.Value
public import proofs.«01_k».proof.Proof.Gen.EvenOutRefIdeal.Run
public import proofs.«01_k».proof.Proof.Gen.EvenOutRefIdeal.Read
public import Idealize.ShloMosaic.Lib.Pointwise
public import Idealize.ShloMosaic.Lib.StableHlo.RunRead

@[expose] public section

set_option maxRecDepth 16384

/-! The output projection of an even layer and the residual: the two halves' products, added to the residual one after the
    other, are the residual plus the product of the two halves side by side. -/

noncomputable section

open Idealize Idealize.ShloMosaic Idealize.SL
open scoped BigOperators

namespace Cert.EvenOutIdeal.Halves

open Cert.EvenOutIdeal Cert.EvenOutIdeal.Gen

/-- The result at row `r` and column `q`: the residual, the first half's product and the second half's. -/
def cell (a b : Vec Ideal S8192x1024 .bf16) (w : Vec Ideal S2x2048x2048 .f32) (x : Vec Ideal S4x2048x2048 .f32) (r : Fin 8192) (q : Fin 2048) : EReal :=
  x (ix3 ⟨r.val / 2048, by have := r.isLt; omega⟩ ⟨r.val % 2048, by omega⟩ q)
    + ∑ k : Fin 1024, a (ix2 r k) * w (ix3 0 ⟨k.val, by omega⟩ q)
    + ∑ k : Fin 1024, b (ix2 r k) * w (ix3 0 ⟨1024 + k.val, by omega⟩ q)

/-- The whole result. -/
def whole (a b : Vec Ideal S8192x1024 .bf16) (w : Vec Ideal S2x2048x2048 .f32) (x : Vec Ideal S4x2048x2048 .f32) : Vec Ideal S8192x2048 .f32 :=
  fun i => cell a b w x (i 0) (i 1)

/-- What the first point of a block stores, read at one place. -/
theorem pay1_apply (x : Vec Ideal S1024x2048 .f32) (a : Vec Ideal S1024x1024 .bf16) (b : Vec Ideal S1x1024x2048 .bf16) (r : Fin 1024) (q : Fin 2048) :
    k0_pay1 (F := Ideal) x a b (ix2 r q) = x (ix2 r q) + ∑ k : Fin 1024, a (ix2 r k) * b (ix3 0 k q) := by
  pointwise [k0_pay1]

/-- What the second point stores, read at one place. -/
theorem pay4_apply (x : Vec Ideal S1024x2048 .f32) (a : Vec Ideal S1024x1024 .bf16) (b : Vec Ideal S1x1024x2048 .bf16) (r : Fin 1024) (q : Fin 2048) :
    k0_pay4 (F := Ideal) x a b (ix2 r q) = x (ix2 r q) + ∑ k : Fin 1024, a (ix2 r k) * b (ix3 0 k q) := by
  pointwise [k0_pay4]

open Cert.EvenOutRefIdeal.Read in
/-- The two halves side by side, read at one place. -/
theorem cat_apply (a b : Vec Ideal S8192x1024 .bf16) (r : Fin 8192) (k : Fin 2048) :
    val_main_v2 (F := Ideal) a b (ix2 r k) = if h : k.val < 1024 then a (ix2 r ⟨k.val, h⟩) else b (ix2 r ⟨k.val - 1024, by omega⟩) := by
  pointwise [val_main_v2, val_main_v0, val_main_v1]

open Cert.EvenOutRefIdeal.Read in
/-- The reference's term, read at one place: the product not yet split. -/
theorem ref_apply (a b : Vec Ideal S8192x1024 .bf16) (w : Vec Ideal S2x2048x2048 .f32) (x : Vec Ideal S4x2048x2048 .f32) (r : Fin 8192) (q : Fin 2048) :
    val_main_v7 (F := Ideal) a b w x (ix2 r q)
      = x (ix3 ⟨r.val / 2048, by have := r.isLt; omega⟩ ⟨r.val % 2048, by omega⟩ q) + ∑ k : Fin 2048, val_main_v2 (F := Ideal) a b (ix2 r k) * w (ix3 0 k q) := by
  unfold val_main_v7 val_main_v6
  generalize val_main_v2 (F := Ideal) a b = y
  pointwise [val_main_v5, val_main_v4, val_main_v3]

/-- The reference's term. -/
theorem ref_eq (a b : Vec Ideal S8192x1024 .bf16) (w : Vec Ideal S2x2048x2048 .f32) (x : Vec Ideal S4x2048x2048 .f32) :
    Cert.EvenOutRefIdeal.Read.val_main_v7 (F := Ideal) a b w x = whole a b w x := by
  funext i
  idx_vars i
  rw [ref_apply]
  show _ = cell a b w x i0 i1
  unfold cell
  rw [add_assoc]
  congr 1
  refine (Fin.sum_univ_add (a := 1024) (b := 1024) (fun k : Fin (1024 + 1024) => Cert.EvenOutRefIdeal.Read.val_main_v2 (F := Ideal) a b (ix2 i0 k) * w (ix3 0 k i1))).trans ?_
  refine congrArg₂ (· + ·) (Finset.sum_congr rfl fun k _ => ?_) (Finset.sum_congr rfl fun k _ => ?_)
  · rw [cat_apply, dif_pos (show (Fin.castAdd 1024 k : Fin (1024 + 1024)).val < 1024 from k.isLt)]
    rfl
  · rw [cat_apply, dif_neg (show ¬ (Fin.natAdd 1024 k : Fin (1024 + 1024)).val < 1024 from by simp)]
    have e : (⟨(Fin.natAdd 1024 k : Fin (1024 + 1024)).val - 1024, by simp⟩ : Fin 1024) = k := Fin.ext (by simp)
    exact congrArg (fun z => b (ix2 i0 z) * w (ix3 0 ⟨1024 + k.val, by omega⟩ i1)) e

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem out_A (c : Dev nD) (i : grid0.Coords) (a1 : Memref sig .tc .vmem S1024x1024 .bf16) (h1 : a1.IsWhole)
    (a2 : Memref sig .tc .vmem S1024x1024 .bf16) (h2 : a2.IsWhole) (a3 : Memref sig .tc .vmem S1x1024x2048 .bf16) (h3 : a3.IsWhole)
    (a4 : Memref sig .tc .vmem S1024x2048 .f32) (h4 : a4.IsWhole) (a5 : Memref sig .tc .vmem S1024x2048 .f32) (h5 : a5.IsWhole) (hc0 hc1 hc2 hc3)
    (x0 x1 : Vec Ideal S1024x1024 .bf16) (x2 : Vec Ideal S1x1024x2048 .bf16) (x3 : Vec Ideal S1024x2048 .f32) :
    out0_A_4 c i a1 h1 a2 h2 a3 h3 a4 h4 a5 h5 hc0 hc1 hc2 hc3 x0 x1 x2 x3 = k0_pay1 x3 x0 x2 := by
  unfold out0_A_4
  rw [View.read_writes_eq_canon _ _ _ (cover0_A_4 c i a1 h1 a2 h2 a3 h3 a4 h4 a5 h5 hc0 hc1 hc2 hc3 x0 x1 x2 x3)]
  unfold kernelRun0_A
  dsimp only
  rw [View.canon_unit_zero hz2]
  simp only [View.readAt_eq_ld, h1.read_unread, h2.read_unread, h3.read_unread, h4.read_unread, View.ld_unit_zero (S := S1024x2048) hz2, View.ld_unit_zero (S := S1024x1024) hz2, View.ld_unit_zero (S := S1x1024x2048) hz3]

theorem out_B (c : Dev nD) (i : grid0.Coords) (a1 : Memref sig .tc .vmem S1024x1024 .bf16) (h1 : a1.IsWhole)
    (a2 : Memref sig .tc .vmem S1024x1024 .bf16) (h2 : a2.IsWhole) (a3 : Memref sig .tc .vmem S1x1024x2048 .bf16) (h3 : a3.IsWhole)
    (a4 : Memref sig .tc .vmem S1024x2048 .f32) (h4 : a4.IsWhole) (a5 : Memref sig .tc .vmem S1024x2048 .f32) (h5 : a5.IsWhole) (hc0 hc1 hc2 hc3)
    (x0 x1 : Vec Ideal S1024x1024 .bf16) (x2 : Vec Ideal S1x1024x2048 .bf16) (x3 xo : Vec Ideal S1024x2048 .f32) :
    out0_B_4 c i a1 h1 a2 h2 a3 h3 a4 h4 a5 h5 hc0 hc1 hc2 hc3 x0 x1 x2 x3 xo = k0_pay4 xo x1 x2 := by
  unfold out0_B_4
  rw [View.read_writes_eq_canon _ _ _ (cover0_B_4 c i a1 h1 a2 h2 a3 h3 a4 h4 a5 h5 hc0 hc1 hc2 hc3 x0 x1 x2 x3 xo)]
  unfold kernelRun0_B
  dsimp only
  rw [View.canon_unit_zero hz2]
  simp only [View.readAt_eq_ld, h1.read_unread, h2.read_unread, h3.read_unread, h4.read_unread, h5.read_unread, View.ld_unit_zero (S := S1024x2048) hz2, View.ld_unit_zero (S := S1024x1024) hz2, View.ld_unit_zero (S := S1x1024x2048) hz3]

/-- Which blocks the grid's points read and write. -/
theorem maps : ∀ t : Fin grid0.N, win0_0.index t 0 = t.val / 2 ∧ win0_0.index t 1 = 0
    ∧ win0_1.index t 0 = t.val / 2 ∧ win0_1.index t 1 = 0
    ∧ win0_2.index t 0 = 0 ∧ win0_2.index t 1 = t.val % 2 ∧ win0_2.index t 2 = 0
    ∧ win0_3.index t 0 = t.val / 2 ∧ win0_3.index t 1 = 0
    ∧ win0_4.index t 0 = t.val / 2 ∧ win0_4.index t 1 = 0 := by decide +kernel

/-- A block is written back at the second of its two points. -/
theorem flush_odd : ∀ t : Fin grid0.N, win0_4.flush t = true → t.val % 2 = 1 := by decide +kernel
theorem odd_flush : ∀ a : Fin 8, ∃ t : Fin grid0.N, win0_4.flush t = true ∧ t.val / 2 = a.1 := by decide +kernel

/-- The arguments, as the launch finds them. -/
abbrev fst (c : Dev nD) : Vec Ideal S8192x1024 .bf16 := m ((c.tc : Thread nD τ).loc main_arg0)
abbrev snd (c : Dev nD) : Vec Ideal S8192x1024 .bf16 := m ((c.tc : Thread nD τ).loc main_arg1)
abbrev wts (c : Dev nD) : Vec Ideal S2x2048x2048 .f32 := m ((c.tc : Thread nD τ).loc main_arg2)
abbrev res (c : Dev nD) : Vec Ideal S4x2048x2048 .f32 := m ((c.tc : Thread nD τ).loc main_arg3)

/-- The weights as prepared for the launch. -/
theorem V_w (c : Dev nD) : (V m c main_v1 : Vec Ideal S2x2048x2048 .bf16) = truncf (F := Ideal) .bf16 (wts m c) bitsLt_bf16_f32 := by
  show StableHlo.after hostOps0 _ _ = _
  after_reads_simp

/-- The residual as prepared for the launch. -/
theorem V_x' (c : Dev nD) : (V m c main_v0 : Vec Ideal S8192x2048 .f32) = shapeCast S8192x2048 (res m c) shapeCasts_S4x2048x2048_S8192x2048 := by
  show StableHlo.after hostOps0 _ _ = _
  after_reads_simp
  rfl

theorem cast_apply (x : Vec Ideal S4x2048x2048 .f32) (r : Fin 8192) (q : Fin 2048) :
    shapeCast S8192x2048 x shapeCasts_S4x2048x2048_S8192x2048 (ix2 r q) = x (ix3 ⟨r.val / 2048, by have := r.isLt; omega⟩ ⟨r.val % 2048, by omega⟩ q) := by
  pointwise []

theorem V_x (c : Dev nD) (r : Fin 8192) (q : Fin 2048) :
    (V m c main_v0 : Vec Ideal S8192x2048 .f32) (ix2 r q) = res m c (ix3 ⟨r.val / 2048, by have := r.isLt; omega⟩ ⟨r.val % 2048, by omega⟩ q) := by
  rw [V_x', cast_apply]

/-- The row of the result at a place of point `t`'s block. -/
abbrev rowOf (t : Fin cfg0.N) (j : Fin 1024) : Fin 8192 := ⟨t.val / 2 * 1024 + j.val, by have h : t.val < 16 := t.isLt; omega⟩

/-- The blocks of a point, read at one place. -/
theorem blk0 (c : Dev nD) (t : Fin cfg0.N) (r : Fin 1024) (k : Fin 1024) : (iblk m c 0 t : Vec Ideal S1024x1024 .bf16) (ix2 r k) = fst m c (ix2 (rowOf t r) k) := by
  obtain ⟨h0, h1, -⟩ := maps t
  show fst m c ((win0_0.rect t).emb (ix2 r k)) = _
  congr 1
  funext a; apply Fin.ext
  match a with
  | ⟨0, _⟩ => exact (win0_0.rect_emb_val t (ix2 r k) 0).trans (by rw [h0]; rfl)
  | ⟨1, _⟩ => exact (win0_0.rect_emb_val t (ix2 r k) 1).trans (by rw [h1]; exact Nat.zero_add _)

theorem blk1 (c : Dev nD) (t : Fin cfg0.N) (r : Fin 1024) (k : Fin 1024) : (iblk m c 1 t : Vec Ideal S1024x1024 .bf16) (ix2 r k) = snd m c (ix2 (rowOf t r) k) := by
  obtain ⟨-, -, h0, h1, -⟩ := maps t
  show snd m c ((win0_1.rect t).emb (ix2 r k)) = _
  congr 1
  funext a; apply Fin.ext
  match a with
  | ⟨0, _⟩ => exact (win0_1.rect_emb_val t (ix2 r k) 0).trans (by rw [h0]; rfl)
  | ⟨1, _⟩ => exact (win0_1.rect_emb_val t (ix2 r k) 1).trans (by rw [h1]; exact Nat.zero_add _)

theorem blk2 (c : Dev nD) (t : Fin cfg0.N) (k : Fin 1024) (q : Fin 2048) :
    (iblk m c 2 t : Vec Ideal S1x1024x2048 .bf16) (ix3 0 k q) = wts m c (ix3 0 ⟨t.val % 2 * 1024 + k.val, by omega⟩ q) := by
  obtain ⟨-, -, -, -, h0, h1, h2, -⟩ := maps t
  show (V m c main_v1 : Vec Ideal S2x2048x2048 .bf16) ((win0_2.rect t).emb (ix3 0 k q)) = _
  rw [V_w]
  show wts m c ((win0_2.rect t).emb (ix3 0 k q)) = _
  congr 1
  funext a; apply Fin.ext
  match a with
  | ⟨0, _⟩ => exact (win0_2.rect_emb_val t (ix3 0 k q) 0).trans (by rw [h0]; rfl)
  | ⟨1, _⟩ => exact (win0_2.rect_emb_val t (ix3 0 k q) 1).trans (by rw [h1]; rfl)
  | ⟨2, _⟩ => exact (win0_2.rect_emb_val t (ix3 0 k q) 2).trans (by rw [h2]; exact Nat.zero_add _)

theorem blk3 (c : Dev nD) (t : Fin cfg0.N) (r : Fin 1024) (q : Fin 2048) :
    (iblk m c 3 t : Vec Ideal S1024x2048 .f32) (ix2 r q) = res m c (ix3 ⟨(rowOf t r).val / 2048, by have := (rowOf t r).isLt; omega⟩ ⟨(rowOf t r).val % 2048, by omega⟩ q) := by
  obtain ⟨-, -, -, -, -, -, -, h0, h1, -⟩ := maps t
  rw [← V_x m c]
  show (V m c main_v0 : Vec Ideal S8192x2048 .f32) ((win0_3.rect t).emb (ix2 r q)) = _
  congr 1
  funext a; apply Fin.ext
  match a with
  | ⟨0, _⟩ => exact (win0_3.rect_emb_val t (ix2 r q) 0).trans (by rw [h0]; rfl)
  | ⟨1, _⟩ => exact (win0_3.rect_emb_val t (ix2 r q) 1).trans (by rw [h1]; exact Nat.zero_add _)

/-- What a block holds after the first of its points. -/
theorem outs_first (c : Dev nD) (t : Fin cfg0.N) (h : t.val % 2 = 0) (r : Fin 1024) (q : Fin 2048) :
    outsAt0 m c t.val t.isLt (ix2 r q) = res m c (ix3 ⟨(rowOf t r).val / 2048, by have := (rowOf t r).isLt; omega⟩ ⟨(rowOf t r).val % 2048, by omega⟩ q)
      + ∑ k : Fin 1024, fst m c (ix2 (rowOf t r) k) * wts m c (ix3 0 ⟨k.val, by omega⟩ q) := by
  refine (congrFun ((outsAt0_A m c t h h (by omega) (by omega)).trans (out_A ..)) _).trans ?_
  rw [pay1_apply, blk3 m c t r q]
  congr 1
  refine Finset.sum_congr rfl fun k _ => ?_
  rw [blk0 m c t r k, blk2 m c t k q]
  simp only [h, Nat.zero_mul, Nat.zero_add]

/-- What a block holds after the second. -/
theorem outs_second (c : Dev nD) (t : Fin cfg0.N) (h : t.val % 2 = 1) (r : Fin 1024) (q : Fin 2048) :
    outsAt0 m c t.val t.isLt (ix2 r q) = cell (fst m c) (snd m c) (wts m c) (res m c) (rowOf t r) q := by
  refine (congrFun ((outsAt0_B m c t (by omega) h (by omega) h).trans (out_B ..)) _).trans ?_
  rw [pay4_apply]
  unfold cell
  refine congrArg₂ (· + ·) ?_ (Finset.sum_congr rfl fun k _ => ?_)
  · have hl : t.val - 1 < cfg0.N := Nat.lt_of_le_of_lt (Nat.sub_le _ _) t.isLt
    refine (outs_first m c ⟨t.val - 1, hl⟩ (by dsimp only; omega) r q).trans ?_
    have e : rowOf ⟨t.val - 1, hl⟩ r = rowOf t r := Fin.ext (by dsimp only; omega)
    exact congrArg (fun R : Fin 8192 => res m c (ix3 ⟨R.val / 2048, by have := R.isLt; omega⟩ ⟨R.val % 2048, by omega⟩ q) + ∑ k : Fin 1024, fst m c (ix2 R k) * wts m c (ix3 0 ⟨k.val, by omega⟩ q)) e
  · rw [blk1 m c t r k, blk2 m c t k q]
    simp only [h, Nat.one_mul]

/-- The result as a function of what the launch finds in memory. -/
def result (c : Dev nD) : Vec Ideal S8192x2048 .f32 := whole (fst m c) (snd m c) (wts m c) (res m c)

/-- What a block's second point writes back is its block of the result. -/
theorem flushed_eq (c : Dev nD) (t : Fin cfg0.N) (hf : (cfg0.win 4).flush t = true) :
    (dats m 0 c).flushed 4 t = (win0_4.blk t).view.read (Elt Ideal) (result m c) := by
  obtain ⟨-, -, -, -, -, -, -, -, -, h0, h1⟩ := maps t
  rw [Value.flushed4]
  funext j
  show outsAt0 m c t.val t.isLt j = result m c ((win0_4.rect t).emb j)
  idx_vars j
  rw [outs_second m c t (flush_odd t hf)]
  have e : (win0_4.rect t).emb (ix2 j0 j1) = ix2 (rowOf t j0) j1 := by
    funext a; apply Fin.ext
    match a with
    | ⟨0, _⟩ => exact (win0_4.rect_emb_val t (ix2 j0 j1) 0).trans (by rw [h0]; rfl)
    | ⟨1, _⟩ => exact (win0_4.rect_emb_val t (ix2 j0 j1) 1).trans (by rw [h1]; exact Nat.zero_add _)
  rw [e]
  rfl

/-- A place of the result is in a point's block when its coordinates are. -/
theorem mem_blk (t : Fin cfg0.N) (i : S8192x2048.Idx) :
    i ∈ ((cfg0.win 4).blk t).view.set ↔ ∀ a : Fin 2, win0_4.index t a * win0_4.size a ≤ (i a).val ∧ (i a).val < win0_4.index t a * win0_4.size a + win0_4.size a := by
  show i ∈ ((View.whole main_v2).slice (win0_4.rect t)).set ↔ _
  rw [View.set_slice_whole, Rect.mem_set_unit]
  rfl

/-- Every place of the result is in some block written back. -/
theorem cover (i : S8192x2048.Idx) : ∃ t : Fin cfg0.N, (cfg0.win 4).flush t = true ∧ i ∈ ((cfg0.win 4).blk t).view.set := by
  idx_vars i
  obtain ⟨t, hf, ht⟩ := odd_flush ⟨i0.val / 1024, by omega⟩
  obtain ⟨-, -, -, -, -, -, -, -, -, h0, h1⟩ := maps t
  refine ⟨t, hf, (mem_blk t _).2 fun a => ?_⟩
  match a with
  | ⟨0, _⟩ => show win0_4.index t 0 * 1024 ≤ i0.val ∧ i0.val < win0_4.index t 0 * 1024 + 1024; rw [h0, ht]; dsimp only; omega
  | ⟨1, _⟩ => show win0_4.index t 1 * 2048 ≤ i1.val ∧ i1.val < win0_4.index t 1 * 2048 + 2048; rw [h1]; omega

/-- The array after the launch. -/
theorem final (c : Dev nD) : (dats m 0 c).arrAt 4 cfg0.N = result m c :=
  (dats m 0 c).arrAt_eq_of_cover 4 (result m c) (fun t hf => flushed_eq m c t hf) cover

/-- The kernel runs, leaves `result` and keeps its arguments. -/
theorem run : θ_run defs (onTc (τ := τ) (main (F := Ideal))) ⟨m, fun _ => 0, ρ⟩ fun r => ∀ c : Dev nD,
    r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m c), (h c).2⟩) (Value.run_blocks m ρ)

end Cert.EvenOutIdeal.Halves

namespace Cert.EvenOutIdeal.Claims

open Cert.EvenOutIdeal.Halves

/-- The kernel's result is the reference's. -/
theorem claim : Cert.algebraic_EvenOutIdeal_EvenOutRefIdeal := by
  intro m ρ m' ρ' _ hagree
  refine ⟨fun c => result m c, run m ρ, (θ_run _ _ _).mono (fun _ h c => ⟨(h c).1.trans ?_, (h c).2⟩) (Cert.EvenOutRefIdeal.Value.run (F := Ideal) m' ρ')⟩
  rw [Cert.EvenOutRefIdeal.Read.val_main_v7_eq, ref_eq, (hagree c).1, (hagree c).2.1, (hagree c).2.2.1, (hagree c).2.2.2]
  rfl

end Cert.EvenOutIdeal.Claims

end
-- ==== Proof.OddOut.lean ====
module

public import proofs.«01_k».proof.Defs
public import proofs.«01_k».proof.Proof.Gen.OddOutIdeal.Value
public import proofs.«01_k».proof.Proof.Gen.OddOutRefIdeal.Run
public import proofs.«01_k».proof.Proof.Gen.OddOutRefIdeal.Read
public import Idealize.ShloMosaic.Lib.Pointwise
public import Idealize.ShloMosaic.Lib.StableHlo.RunRead

@[expose] public section

set_option maxRecDepth 16384

/-! The output projection of an odd layer and the residual: the two halves' products, added to the residual one after the
    other, are the residual plus the product of the two halves side by side. -/

noncomputable section

open Idealize Idealize.ShloMosaic Idealize.SL
open scoped BigOperators

namespace Cert.OddOutIdeal.Halves

open Cert.OddOutIdeal Cert.OddOutIdeal.Gen

/-- The result at row `r` and column `q`: the residual, the first half's product and the second half's. -/
def cell (a b : Vec Ideal S8192x512 .bf16) (w : Vec Ideal S2x1024x2048 .f32) (x : Vec Ideal S8192x2048 .f32) (r : Fin 8192) (q : Fin 2048) : EReal :=
  x (ix2 r q)
    + ∑ k : Fin 512, a (ix2 r k) * w (ix3 0 ⟨k.val, by omega⟩ q)
    + ∑ k : Fin 512, b (ix2 r k) * w (ix3 0 ⟨512 + k.val, by omega⟩ q)

/-- The whole result. -/
def whole (a b : Vec Ideal S8192x512 .bf16) (w : Vec Ideal S2x1024x2048 .f32) (x : Vec Ideal S8192x2048 .f32) : Vec Ideal S8192x2048 .f32 :=
  fun i => cell a b w x (i 0) (i 1)

/-- What the first point of a block stores, read at one place. -/
theorem pay1_apply (x : Vec Ideal S1024x2048 .f32) (a : Vec Ideal S1024x512 .bf16) (b : Vec Ideal S1x512x2048 .bf16) (r : Fin 1024) (q : Fin 2048) :
    k0_pay1 (F := Ideal) x a b (ix2 r q) = x (ix2 r q) + ∑ k : Fin 512, a (ix2 r k) * b (ix3 0 k q) := by
  pointwise [k0_pay1]

/-- What the second point stores, read at one place. -/
theorem pay4_apply (x : Vec Ideal S1024x2048 .f32) (a : Vec Ideal S1024x512 .bf16) (b : Vec Ideal S1x512x2048 .bf16) (r : Fin 1024) (q : Fin 2048) :
    k0_pay4 (F := Ideal) x a b (ix2 r q) = x (ix2 r q) + ∑ k : Fin 512, a (ix2 r k) * b (ix3 0 k q) := by
  pointwise [k0_pay4]

open Cert.OddOutRefIdeal.Read in
/-- The two halves side by side, read at one place. -/
theorem cat_apply (a b : Vec Ideal S8192x512 .bf16) (r : Fin 8192) (k : Fin 1024) :
    val_main_v2 (F := Ideal) a b (ix2 r k) = if h : k.val < 512 then a (ix2 r ⟨k.val, h⟩) else b (ix2 r ⟨k.val - 512, by omega⟩) := by
  pointwise [val_main_v2, val_main_v0, val_main_v1]

open Cert.OddOutRefIdeal.Read in
/-- The reference's term, read at one place: the product not yet split. -/
theorem ref_apply (a b : Vec Ideal S8192x512 .bf16) (w : Vec Ideal S2x1024x2048 .f32) (x : Vec Ideal S8192x2048 .f32) (r : Fin 8192) (q : Fin 2048) :
    val_main_v6 (F := Ideal) a b w x (ix2 r q)
      = x (ix2 r q) + ∑ k : Fin 1024, val_main_v2 (F := Ideal) a b (ix2 r k) * w (ix3 0 k q) := by
  unfold val_main_v6 val_main_v5
  generalize val_main_v2 (F := Ideal) a b = y
  pointwise [val_main_v4, val_main_v3]

/-- The reference's term. -/
theorem ref_eq (a b : Vec Ideal S8192x512 .bf16) (w : Vec Ideal S2x1024x2048 .f32) (x : Vec Ideal S8192x2048 .f32) :
    Cert.OddOutRefIdeal.Read.val_main_v6 (F := Ideal) a b w x = whole a b w x := by
  funext i
  idx_vars i
  rw [ref_apply]
  show _ = cell a b w x i0 i1
  unfold cell
  rw [add_assoc]
  congr 1
  refine (Fin.sum_univ_add (a := 512) (b := 512) (fun k : Fin (512 + 512) => Cert.OddOutRefIdeal.Read.val_main_v2 (F := Ideal) a b (ix2 i0 k) * w (ix3 0 k i1))).trans ?_
  refine congrArg₂ (· + ·) (Finset.sum_congr rfl fun k _ => ?_) (Finset.sum_congr rfl fun k _ => ?_)
  · rw [cat_apply, dif_pos (show (Fin.castAdd 512 k : Fin (512 + 512)).val < 512 from k.isLt)]
    rfl
  · rw [cat_apply, dif_neg (show ¬ (Fin.natAdd 512 k : Fin (512 + 512)).val < 512 from by simp)]
    have e : (⟨(Fin.natAdd 512 k : Fin (512 + 512)).val - 512, by simp⟩ : Fin 512) = k := Fin.ext (by simp)
    exact congrArg (fun z => b (ix2 i0 z) * w (ix3 0 ⟨512 + k.val, by omega⟩ i1)) e

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem out_A (c : Dev nD) (i : grid0.Coords) (a1 : Memref sig .tc .vmem S1024x512 .bf16) (h1 : a1.IsWhole)
    (a2 : Memref sig .tc .vmem S1024x512 .bf16) (h2 : a2.IsWhole) (a3 : Memref sig .tc .vmem S1x512x2048 .bf16) (h3 : a3.IsWhole)
    (a4 : Memref sig .tc .vmem S1024x2048 .f32) (h4 : a4.IsWhole) (a5 : Memref sig .tc .vmem S1024x2048 .f32) (h5 : a5.IsWhole) (hc0 hc1 hc2 hc3)
    (x0 x1 : Vec Ideal S1024x512 .bf16) (x2 : Vec Ideal S1x512x2048 .bf16) (x3 : Vec Ideal S1024x2048 .f32) :
    out0_A_4 c i a1 h1 a2 h2 a3 h3 a4 h4 a5 h5 hc0 hc1 hc2 hc3 x0 x1 x2 x3 = k0_pay1 x3 x0 x2 := by
  unfold out0_A_4
  rw [View.read_writes_eq_canon _ _ _ (cover0_A_4 c i a1 h1 a2 h2 a3 h3 a4 h4 a5 h5 hc0 hc1 hc2 hc3 x0 x1 x2 x3)]
  unfold kernelRun0_A
  dsimp only
  rw [View.canon_unit_zero hz2]
  simp only [View.readAt_eq_ld, h1.read_unread, h2.read_unread, h3.read_unread, h4.read_unread, View.ld_unit_zero (S := S1024x2048) hz2, View.ld_unit_zero (S := S1024x512) hz2, View.ld_unit_zero (S := S1x512x2048) hz3]

theorem out_B (c : Dev nD) (i : grid0.Coords) (a1 : Memref sig .tc .vmem S1024x512 .bf16) (h1 : a1.IsWhole)
    (a2 : Memref sig .tc .vmem S1024x512 .bf16) (h2 : a2.IsWhole) (a3 : Memref sig .tc .vmem S1x512x2048 .bf16) (h3 : a3.IsWhole)
    (a4 : Memref sig .tc .vmem S1024x2048 .f32) (h4 : a4.IsWhole) (a5 : Memref sig .tc .vmem S1024x2048 .f32) (h5 : a5.IsWhole) (hc0 hc1 hc2 hc3)
    (x0 x1 : Vec Ideal S1024x512 .bf16) (x2 : Vec Ideal S1x512x2048 .bf16) (x3 xo : Vec Ideal S1024x2048 .f32) :
    out0_B_4 c i a1 h1 a2 h2 a3 h3 a4 h4 a5 h5 hc0 hc1 hc2 hc3 x0 x1 x2 x3 xo = k0_pay4 xo x1 x2 := by
  unfold out0_B_4
  rw [View.read_writes_eq_canon _ _ _ (cover0_B_4 c i a1 h1 a2 h2 a3 h3 a4 h4 a5 h5 hc0 hc1 hc2 hc3 x0 x1 x2 x3 xo)]
  unfold kernelRun0_B
  dsimp only
  rw [View.canon_unit_zero hz2]
  simp only [View.readAt_eq_ld, h1.read_unread, h2.read_unread, h3.read_unread, h4.read_unread, h5.read_unread, View.ld_unit_zero (S := S1024x2048) hz2, View.ld_unit_zero (S := S1024x512) hz2, View.ld_unit_zero (S := S1x512x2048) hz3]

/-- Which blocks the grid's points read and write. -/
theorem maps : ∀ t : Fin grid0.N, win0_0.index t 0 = t.val / 2 ∧ win0_0.index t 1 = 0
    ∧ win0_1.index t 0 = t.val / 2 ∧ win0_1.index t 1 = 0
    ∧ win0_2.index t 0 = 0 ∧ win0_2.index t 1 = t.val % 2 ∧ win0_2.index t 2 = 0
    ∧ win0_3.index t 0 = t.val / 2 ∧ win0_3.index t 1 = 0
    ∧ win0_4.index t 0 = t.val / 2 ∧ win0_4.index t 1 = 0 := by decide +kernel

/-- A block is written back at the second of its two points. -/
theorem flush_odd : ∀ t : Fin grid0.N, win0_4.flush t = true → t.val % 2 = 1 := by decide +kernel
theorem odd_flush : ∀ a : Fin 8, ∃ t : Fin grid0.N, win0_4.flush t = true ∧ t.val / 2 = a.1 := by decide +kernel

/-- The arguments, as the launch finds them. -/
abbrev fst (c : Dev nD) : Vec Ideal S8192x512 .bf16 := m ((c.tc : Thread nD τ).loc main_arg0)
abbrev snd (c : Dev nD) : Vec Ideal S8192x512 .bf16 := m ((c.tc : Thread nD τ).loc main_arg1)
abbrev wts (c : Dev nD) : Vec Ideal S2x1024x2048 .f32 := m ((c.tc : Thread nD τ).loc main_arg2)
abbrev res (c : Dev nD) : Vec Ideal S8192x2048 .f32 := m ((c.tc : Thread nD τ).loc main_arg3)

/-- The weights as prepared for the launch. -/
theorem V_w (c : Dev nD) : (V m c main_v0 : Vec Ideal S2x1024x2048 .bf16) = truncf (F := Ideal) .bf16 (wts m c) bitsLt_bf16_f32 := by
  show StableHlo.after hostOps0 _ _ = _
  after_reads_simp

/-- The row of the result at a place of point `t`'s block. -/
abbrev rowOf (t : Fin cfg0.N) (j : Fin 1024) : Fin 8192 := ⟨t.val / 2 * 1024 + j.val, by have h : t.val < 16 := t.isLt; omega⟩

/-- The blocks of a point, read at one place. -/
theorem blk0 (c : Dev nD) (t : Fin cfg0.N) (r : Fin 1024) (k : Fin 512) : (iblk m c 0 t : Vec Ideal S1024x512 .bf16) (ix2 r k) = fst m c (ix2 (rowOf t r) k) := by
  obtain ⟨h0, h1, -⟩ := maps t
  show fst m c ((win0_0.rect t).emb (ix2 r k)) = _
  congr 1
  funext a; apply Fin.ext
  match a with
  | ⟨0, _⟩ => exact (win0_0.rect_emb_val t (ix2 r k) 0).trans (by rw [h0]; rfl)
  | ⟨1, _⟩ => exact (win0_0.rect_emb_val t (ix2 r k) 1).trans (by rw [h1]; exact Nat.zero_add _)

theorem blk1 (c : Dev nD) (t : Fin cfg0.N) (r : Fin 1024) (k : Fin 512) : (iblk m c 1 t : Vec Ideal S1024x512 .bf16) (ix2 r k) = snd m c (ix2 (rowOf t r) k) := by
  obtain ⟨-, -, h0, h1, -⟩ := maps t
  show snd m c ((win0_1.rect t).emb (ix2 r k)) = _
  congr 1
  funext a; apply Fin.ext
  match a with
  | ⟨0, _⟩ => exact (win0_1.rect_emb_val t (ix2 r k) 0).trans (by rw [h0]; rfl)
  | ⟨1, _⟩ => exact (win0_1.rect_emb_val t (ix2 r k) 1).trans (by rw [h1]; exact Nat.zero_add _)

theorem blk2 (c : Dev nD) (t : Fin cfg0.N) (k : Fin 512) (q : Fin 2048) :
    (iblk m c 2 t : Vec Ideal S1x512x2048 .bf16) (ix3 0 k q) = wts m c (ix3 0 ⟨t.val % 2 * 512 + k.val, by omega⟩ q) := by
  obtain ⟨-, -, -, -, h0, h1, h2, -⟩ := maps t
  show (V m c main_v0 : Vec Ideal S2x1024x2048 .bf16) ((win0_2.rect t).emb (ix3 0 k q)) = _
  rw [V_w]
  show wts m c ((win0_2.rect t).emb (ix3 0 k q)) = _
  congr 1
  funext a; apply Fin.ext
  match a with
  | ⟨0, _⟩ => exact (win0_2.rect_emb_val t (ix3 0 k q) 0).trans (by rw [h0]; rfl)
  | ⟨1, _⟩ => exact (win0_2.rect_emb_val t (ix3 0 k q) 1).trans (by rw [h1]; rfl)
  | ⟨2, _⟩ => exact (win0_2.rect_emb_val t (ix3 0 k q) 2).trans (by rw [h2]; exact Nat.zero_add _)

theorem blk3 (c : Dev nD) (t : Fin cfg0.N) (r : Fin 1024) (q : Fin 2048) :
    (iblk m c 3 t : Vec Ideal S1024x2048 .f32) (ix2 r q) = res m c (ix2 (rowOf t r) q) := by
  obtain ⟨-, -, -, -, -, -, -, h0, h1, -⟩ := maps t
  show res m c ((win0_3.rect t).emb (ix2 r q)) = _
  congr 1
  funext a; apply Fin.ext
  match a with
  | ⟨0, _⟩ => exact (win0_3.rect_emb_val t (ix2 r q) 0).trans (by rw [h0]; rfl)
  | ⟨1, _⟩ => exact (win0_3.rect_emb_val t (ix2 r q) 1).trans (by rw [h1]; exact Nat.zero_add _)

/-- What a block holds after the first of its points. -/
theorem outs_first (c : Dev nD) (t : Fin cfg0.N) (h : t.val % 2 = 0) (r : Fin 1024) (q : Fin 2048) :
    outsAt0 m c t.val t.isLt (ix2 r q) = res m c (ix2 (rowOf t r) q)
      + ∑ k : Fin 512, fst m c (ix2 (rowOf t r) k) * wts m c (ix3 0 ⟨k.val, by omega⟩ q) := by
  refine (congrFun ((outsAt0_A m c t h h (by omega) (by omega)).trans (out_A ..)) _).trans ?_
  rw [pay1_apply, blk3 m c t r q]
  congr 1
  refine Finset.sum_congr rfl fun k _ => ?_
  rw [blk0 m c t r k, blk2 m c t k q]
  simp only [h, Nat.zero_mul, Nat.zero_add]

/-- What a block holds after the second. -/
theorem outs_second (c : Dev nD) (t : Fin cfg0.N) (h : t.val % 2 = 1) (r : Fin 1024) (q : Fin 2048) :
    outsAt0 m c t.val t.isLt (ix2 r q) = cell (fst m c) (snd m c) (wts m c) (res m c) (rowOf t r) q := by
  refine (congrFun ((outsAt0_B m c t (by omega) h (by omega) h).trans (out_B ..)) _).trans ?_
  rw [pay4_apply]
  unfold cell
  refine congrArg₂ (· + ·) ?_ (Finset.sum_congr rfl fun k _ => ?_)
  · have hl : t.val - 1 < cfg0.N := Nat.lt_of_le_of_lt (Nat.sub_le _ _) t.isLt
    refine (outs_first m c ⟨t.val - 1, hl⟩ (by dsimp only; omega) r q).trans ?_
    have e : rowOf ⟨t.val - 1, hl⟩ r = rowOf t r := Fin.ext (by dsimp only; omega)
    exact congrArg (fun R : Fin 8192 => res m c (ix2 R q) + ∑ k : Fin 512, fst m c (ix2 R k) * wts m c (ix3 0 ⟨k.val, by omega⟩ q)) e
  · rw [blk1 m c t r k, blk2 m c t k q]
    simp only [h, Nat.one_mul]

/-- The result as a function of what the launch finds in memory. -/
def result (c : Dev nD) : Vec Ideal S8192x2048 .f32 := whole (fst m c) (snd m c) (wts m c) (res m c)

/-- What a block's second point writes back is its block of the result. -/
theorem flushed_eq (c : Dev nD) (t : Fin cfg0.N) (hf : (cfg0.win 4).flush t = true) :
    (dats m 0 c).flushed 4 t = (win0_4.blk t).view.read (Elt Ideal) (result m c) := by
  obtain ⟨-, -, -, -, -, -, -, -, -, h0, h1⟩ := maps t
  rw [Value.flushed4]
  funext j
  show outsAt0 m c t.val t.isLt j = result m c ((win0_4.rect t).emb j)
  idx_vars j
  rw [outs_second m c t (flush_odd t hf)]
  have e : (win0_4.rect t).emb (ix2 j0 j1) = ix2 (rowOf t j0) j1 := by
    funext a; apply Fin.ext
    match a with
    | ⟨0, _⟩ => exact (win0_4.rect_emb_val t (ix2 j0 j1) 0).trans (by rw [h0]; rfl)
    | ⟨1, _⟩ => exact (win0_4.rect_emb_val t (ix2 j0 j1) 1).trans (by rw [h1]; exact Nat.zero_add _)
  rw [e]
  rfl

/-- A place of the result is in a point's block when its coordinates are. -/
theorem mem_blk (t : Fin cfg0.N) (i : S8192x2048.Idx) :
    i ∈ ((cfg0.win 4).blk t).view.set ↔ ∀ a : Fin 2, win0_4.index t a * win0_4.size a ≤ (i a).val ∧ (i a).val < win0_4.index t a * win0_4.size a + win0_4.size a := by
  show i ∈ ((View.whole main_v1).slice (win0_4.rect t)).set ↔ _
  rw [View.set_slice_whole, Rect.mem_set_unit]
  rfl

/-- Every place of the result is in some block written back. -/
theorem cover (i : S8192x2048.Idx) : ∃ t : Fin cfg0.N, (cfg0.win 4).flush t = true ∧ i ∈ ((cfg0.win 4).blk t).view.set := by
  idx_vars i
  obtain ⟨t, hf, ht⟩ := odd_flush ⟨i0.val / 1024, by omega⟩
  obtain ⟨-, -, -, -, -, -, -, -, -, h0, h1⟩ := maps t
  refine ⟨t, hf, (mem_blk t _).2 fun a => ?_⟩
  match a with
  | ⟨0, _⟩ => show win0_4.index t 0 * 1024 ≤ i0.val ∧ i0.val < win0_4.index t 0 * 1024 + 1024; rw [h0, ht]; dsimp only; omega
  | ⟨1, _⟩ => show win0_4.index t 1 * 2048 ≤ i1.val ∧ i1.val < win0_4.index t 1 * 2048 + 2048; rw [h1]; omega

/-- The array after the launch. -/
theorem final (c : Dev nD) : (dats m 0 c).arrAt 4 cfg0.N = result m c :=
  (dats m 0 c).arrAt_eq_of_cover 4 (result m c) (fun t hf => flushed_eq m c t hf) cover

/-- The kernel runs, leaves `result` and keeps its arguments. -/
theorem run : θ_run defs (onTc (τ := τ) (main (F := Ideal))) ⟨m, fun _ => 0, ρ⟩ fun r => ∀ c : Dev nD,
    r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m c), (h c).2⟩) (Value.run_blocks m ρ)

end Cert.OddOutIdeal.Halves

namespace Cert.OddOutIdeal.Claims

open Cert.OddOutIdeal.Halves

/-- The kernel's result is the reference's. -/
theorem claim : Cert.algebraic_OddOutIdeal_OddOutRefIdeal := by
  intro m ρ m' ρ' _ hagree
  refine ⟨fun c => result m c, run m ρ, (θ_run _ _ _).mono (fun _ h c => ⟨(h c).1.trans ?_, (h c).2⟩) (Cert.OddOutRefIdeal.Value.run (F := Ideal) m' ρ')⟩
  rw [Cert.OddOutRefIdeal.Read.val_main_v6_eq, ref_eq, (hagree c).1, (hagree c).2.1, (hagree c).2.2.1, (hagree c).2.2.2]
  rfl

end Cert.OddOutIdeal.Claims

end
-- ==== Proof.RwPrepBlocks.lean ====
module

public import proofs.«01_k».proof.Proof.Gen.RwPrepIdeal.Launch
public import proofs.«01_k».proof.Proof.Gen.RwPrepIdeal.Skeleton
public import proofs.«01_k».proof.Proof.Gen.RwPrepIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

/-! What the region finds, the blocks of a point, and the arguments after the run. -/

noncomputable section

namespace Cert.RwPrepIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RwPrepIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument: the region finds each as launched. -/
theorem V_arg (c : Dev nD) (b : Ref sig .tc)
    (hb : b ∈ [main_arg0, main_arg1, main_arg2, main_arg3, main_arg4, main_arg5, main_arg6, main_arg7, main_arg8, main_arg9, main_arg10]) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => absurd (h ▸ hb) (by decide))))
theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)
theorem V_main_arg3 (c : Dev nD) : V m c main_arg3 = m ((c : Thread nD τ).loc main_arg3) := V_arg m c _ (by decide)
theorem V_main_arg4 (c : Dev nD) : V m c main_arg4 = m ((c : Thread nD τ).loc main_arg4) := V_arg m c _ (by decide)
theorem V_main_arg5 (c : Dev nD) : V m c main_arg5 = m ((c : Thread nD τ).loc main_arg5) := V_arg m c _ (by decide)
theorem V_main_arg6 (c : Dev nD) : V m c main_arg6 = m ((c : Thread nD τ).loc main_arg6) := V_arg m c _ (by decide)
theorem V_main_arg7 (c : Dev nD) : V m c main_arg7 = m ((c : Thread nD τ).loc main_arg7) := V_arg m c _ (by decide)
theorem V_main_arg8 (c : Dev nD) : V m c main_arg8 = m ((c : Thread nD τ).loc main_arg8) := V_arg m c _ (by decide)
theorem V_main_arg9 (c : Dev nD) : V m c main_arg9 = m ((c : Thread nD τ).loc main_arg9) := V_arg m c _ (by decide)
theorem V_main_arg10 (c : Dev nD) : V m c main_arg10 = m ((c : Thread nD τ).loc main_arg10) := V_arg m c _ (by decide)

/-- The arguments of core `c` in a final state are as launched. -/
abbrev Kept (c : Dev nD) (r : PUnit × MemSt nD τ sig (Elt F)) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1620000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_RwPrepIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD, Kept m c r) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

end Cert.RwPrepIdeal.Run

end

end
-- ==== Proof.RwPrepOuts.lean ====
module

public import proofs.«01_k».proof.Proof.Gen.RwPrepIdeal.Launch
public import proofs.«01_k».proof.Proof.Gen.RwPrepIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

/-! What the body leaves in each result's buffer, from the blocks it is given. -/

noncomputable section

namespace Cert.RwPrepIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RwPrepIdeal.Gen

variable {F : FTy → Type} [FloatOps F]

/-! ## The body's accesses -/

abbrev r0_0 : Rect S2048x128 := Rect.unit (s := S2048x128) ![0, 0] S2048x128.size inb_S2048x128_S2048x128_0_0
abbrev r0_1 : Rect S1x128 := Rect.unit (s := S1x128) ![0, 0] S1x128.size inb_S1x128_S1x128_0_0
abbrev r0_2 : Rect S2048x384 := Rect.unit (s := S2048x384) ![0, 0] S2048x384.size inb_S2048x384_S2048x384_0_0
abbrev r0_3 : Rect S1x384 := Rect.unit (s := S1x384) ![0, 0] S1x384.size inb_S1x384_S1x384_0_0
abbrev r0_4 : Rect S128x128 := Rect.unit (s := S128x128) ![0, 0] S128x128.size inb_S128x128_S128x128_0_0
abbrev r0_5 : Rect S2x128 := Rect.unit (s := S2x128) ![0, 0] S1x128.size inb_S2x128_S1x128_0_0
abbrev r0_6 : Rect S2x64x128 := Rect.unit (s := S2x64x128) ![0, 0, 0] S1x64x128.size inb_S2x64x128_S1x64x128_0_0_0
abbrev r0_7 : Rect S2x128 := Rect.unit (s := S2x128) ![1, 0] S1x128.size inb_S2x128_S1x128_1_0
abbrev r0_8 : Rect S2x64x128 := Rect.unit (s := S2x64x128) ![1, 0, 0] S1x64x128.size inb_S2x64x128_S1x64x128_1_0_0

/-! ## What the body leaves in each output window's buffer -/

/-! ### Values of the body that the results share, numbered on from the skeleton's payloads -/

def k0_pay34 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : IVec S2048x1 32 :=
  iota .tc S2048x1 32 [0] iota_S2048x1_d0_w32 -- `v0`
def k0_pay35 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : FVec F S2048x128 .f32 :=
  k0_pay2 (View.ld x0 r0_0) (View.ld x4 r0_1) -- `v25`
def k0_pay36 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : FVec F S2048x128 .f32 :=
  k0_pay7 (k0_pay3 (View.ld x1 r0_0)) (k0_pay4 (View.ld x5 r0_1)) (k0_pay5 (View.ld x1 r0_0)) k0_pay6 -- `v50`
def k0_pay37 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : FVec F S2048x128 .f32 :=
  k0_pay8 (k0_pay34 x0 x1 x2 x3 x4 x5 x6 x7 x8 x9 x10 x11 x12 x13 x14 x15) (View.ld x2 r0_0) (View.ld x6 r0_1) -- `v75`
def k0_pay38 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : IVec S128x128 32 :=
  iota .tc S128x128 32 [1] iota_S128x128_d1_w32 -- `v101`
def k0_pay39 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : FVec F S2048x384 .f32 :=
  k0_pay11 (k0_pay34 x0 x1 x2 x3 x4 x5 x6 x7 x8 x9 x10 x11 x12 x13 x14 x15) (View.ld x3 r0_2) (k0_pay9 (View.ld x7 r0_3)) k0_pay10 -- `v99`
def k0_pay40 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : IVec S128x128 32 :=
  k0_pay12 -- `v125`
def k0_pay41 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : FVec F S128x128 .f32 :=
  k0_pay13 (F := F) (k0_pay38 x0 x1 x2 x3 x4 x5 x6 x7 x8 x9 x10 x11 x12 x13 x14 x15) (k0_pay40 x0 x1 x2 x3 x4 x5 x6 x7 x8 x9 x10 x11 x12 x13 x14 x15) 64#32 -- `v153`
def k0_pay42 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : FVec F S2048x128 .f32 :=
  k0_pay14 (k0_pay36 x0 x1 x2 x3 x4 x5 x6 x7 x8 x9 x10 x11 x12 x13 x14 x15) (k0_pay38 x0 x1 x2 x3 x4 x5 x6 x7 x8 x9 x10 x11 x12 x13 x14 x15) (k0_pay40 x0 x1 x2 x3 x4 x5 x6 x7 x8 x9 x10 x11 x12 x13 x14 x15) 64#32 (View.ld x13 r0_1) -- `v170`
def k0_pay43 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : FVec F S2048x64 .f32 :=
  k0_pay18 (k0_pay39 x0 x1 x2 x3 x4 x5 x6 x7 x8 x9 x10 x11 x12 x13 x14 x15) -- `v190`
def k0_pay44 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : FVec F S2048x128 .f32 :=
  k0_pay23 (k0_pay36 x0 x1 x2 x3 x4 x5 x6 x7 x8 x9 x10 x11 x12 x13 x14 x15) (k0_pay43 x0 x1 x2 x3 x4 x5 x6 x7 x8 x9 x10 x11 x12 x13 x14 x15) (View.ld x10 r0_5) (View.ld x11 r0_6) (View.ld x14 r0_1) -- `v239`
def k0_pay45 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : FVec F S2048x64 .f32 :=
  k0_pay27 (k0_pay39 x0 x1 x2 x3 x4 x5 x6 x7 x8 x9 x10 x11 x12 x13 x14 x15) -- `v263`

/-- Window 16's staging buffer after the body, from the input windows' blocks: its 1 store as pieces, LAST
    FIRST (Lib/Pipeline/FrameBody.lean `View.canon`; the payloads are the skeleton's and the values stated above). -/
def out0_16 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay35 x0 x1 x2 x3 x4 x5 x6 x7 x8 x9 x10 x11 x12 x13 x14 x15⟩]

/-- Its stores tile the buffer (checked by evaluation), so they cover it; every other result is stored the same way. -/
theorem cover0 (p0 : Vec F S2048x128 .f32) (y : S2048x128.Idx) :
    ∃ pc ∈ ([⟨r0_0, p0⟩] : List (View.Piece (Elt F) S2048x128 .f32)), y ∈ pc.1.set :=
  View.cover_of_tiled [⟨r0_0, p0⟩] S2048x128.size (by rfl) y

def out0_17 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay37 x0 x1 x2 x3 x4 x5 x6 x7 x8 x9 x10 x11 x12 x13 x14 x15⟩]

def out0_18 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay42 x0 x1 x2 x3 x4 x5 x6 x7 x8 x9 x10 x11 x12 x13 x14 x15⟩]

def out0_19 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay1 (k0_pay37 x0 x1 x2 x3 x4 x5 x6 x7 x8 x9 x10 x11 x12 x13 x14 x15) (k0_pay41 x0 x1 x2 x3 x4 x5 x6 x7 x8 x9 x10 x11 x12 x13 x14 x15) (k0_pay26 (k0_pay35 x0 x1 x2 x3 x4 x5 x6 x7 x8 x9 x10 x11 x12 x13 x14 x15) (k0_pay37 x0 x1 x2 x3 x4 x5 x6 x7 x8 x9 x10 x11 x12 x13 x14 x15) (k0_pay41 x0 x1 x2 x3 x4 x5 x6 x7 x8 x9 x10 x11 x12 x13 x14 x15) (k0_pay17 (F := F)) (k0_pay44 x0 x1 x2 x3 x4 x5 x6 x7 x8 x9 x10 x11 x12 x13 x14 x15) (View.ld x15 r0_1)) (k0_pay33 (k0_pay35 x0 x1 x2 x3 x4 x5 x6 x7 x8 x9 x10 x11 x12 x13 x14 x15) (k0_pay36 x0 x1 x2 x3 x4 x5 x6 x7 x8 x9 x10 x11 x12 x13 x14 x15) (k0_pay45 x0 x1 x2 x3 x4 x5 x6 x7 x8 x9 x10 x11 x12 x13 x14 x15) (View.ld x10 r0_7) (View.ld x11 r0_8) (View.ld x14 r0_1)) (View.ld x15 r0_1)⟩]

def out0_20 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay16 (k0_pay15 (k0_pay39 x0 x1 x2 x3 x4 x5 x6 x7 x8 x9 x10 x11 x12 x13 x14 x15)) (Scalar.ofBits .f32 0x00000000#32) (View.ld x12 r0_4)⟩]

def out0_21 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay24 (k0_pay20 (k0_pay39 x0 x1 x2 x3 x4 x5 x6 x7 x8 x9 x10 x11 x12 x13 x14 x15) (View.ld x8 r0_5) (View.ld x9 r0_6)) (k0_pay21 (k0_pay39 x0 x1 x2 x3 x4 x5 x6 x7 x8 x9 x10 x11 x12 x13 x14 x15) (View.ld x8 r0_5) (View.ld x9 r0_6))⟩]

def out0_22 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay31 (k0_pay28 (k0_pay39 x0 x1 x2 x3 x4 x5 x6 x7 x8 x9 x10 x11 x12 x13 x14 x15) (View.ld x8 r0_7) (View.ld x9 r0_8))⟩]

def out0_23 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay44 x0 x1 x2 x3 x4 x5 x6 x7 x8 x9 x10 x11 x12 x13 x14 x15⟩]

def out0_24 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay30 (k0_pay36 x0 x1 x2 x3 x4 x5 x6 x7 x8 x9 x10 x11 x12 x13 x14 x15) (k0_pay45 x0 x1 x2 x3 x4 x5 x6 x7 x8 x9 x10 x11 x12 x13 x14 x15) (View.ld x10 r0_7) (View.ld x11 r0_8) (View.ld x14 r0_1)⟩]

def out0_25 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay25 (k0_pay42 x0 x1 x2 x3 x4 x5 x6 x7 x8 x9 x10 x11 x12 x13 x14 x15) (k0_pay22 (k0_pay43 x0 x1 x2 x3 x4 x5 x6 x7 x8 x9 x10 x11 x12 x13 x14 x15) (View.ld x10 r0_5) (View.ld x11 r0_6))⟩]

def out0_26 (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) : Vec F S2048x128 .f32 :=
  View.canon [⟨r0_0, k0_pay32 (k0_pay42 x0 x1 x2 x3 x4 x5 x6 x7 x8 x9 x10 x11 x12 x13 x14 x15) (k0_pay45 x0 x1 x2 x3 x4 x5 x6 x7 x8 x9 x10 x11 x12 x13 x14 x15) (View.ld x10 r0_7) (View.ld x11 r0_8)⟩]

end Cert.RwPrepIdeal.Run

end

end
-- ==== Proof.RwPrepTriple.lean ====
module

public import proofs.«01_k».proof.Proof.RwPrepOuts

@[expose] public section

set_option maxRecDepth 16384

/-! The body runs on whole buffers and leaves its results. -/

noncomputable section

namespace Cert.RwPrepIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RwPrepIdeal.Gen

variable {F : FTy → Type} [FloatOps F]

local notation "𝕄" => MT nD τ sig Unit (Elt F) ℕ (UR sig nD τ) ℕ

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x384 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S2x128 .f32) (harg10 : arg10.IsWhole) (arg11 : Memref sig .tc .vmem S2x64x128 .f32) (harg11 : arg11.IsWhole) (arg12 : Memref sig .tc .vmem S2x128 .f32) (harg12 : arg12.IsWhole) (arg13 : Memref sig .tc .vmem S2x64x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x128 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S2048x128 .f32) (harg27 : arg27.IsWhole) (arg28 : Memref sig .tc .vmem S2048x128 .f32) (harg28 : arg28.IsWhole)
    (x0 x1 x2 : Vec F S2048x128 .bf16) (x3 : Vec F S2048x384 .f32) (x4 x5 x6 : Vec F S1x128 .f32) (x7 : Vec F S1x384 .f32) (x8 : Vec F S2x128 .f32) (x9 : Vec F S2x64x128 .f32) (x10 : Vec F S2x128 .f32) (x11 : Vec F S2x64x128 .f32) (x12 : Vec F S128x128 .f32) (x13 x14 x15 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (out0_16 x0 x1 x2 x3 x4 x5 x6 x7 x8 x9 x10 x11 x12 x13 x14 x15) ∗ owns (c : Thread nD τ) arg19 fullShare (out0_17 x0 x1 x2 x3 x4 x5 x6 x7 x8 x9 x10 x11 x12 x13 x14 x15) ∗ owns (c : Thread nD τ) arg20 fullShare (out0_18 x0 x1 x2 x3 x4 x5 x6 x7 x8 x9 x10 x11 x12 x13 x14 x15) ∗ owns (c : Thread nD τ) arg21 fullShare (out0_19 x0 x1 x2 x3 x4 x5 x6 x7 x8 x9 x10 x11 x12 x13 x14 x15) ∗ owns (c : Thread nD τ) arg22 fullShare (out0_20 x0 x1 x2 x3 x4 x5 x6 x7 x8 x9 x10 x11 x12 x13 x14 x15) ∗ owns (c : Thread nD τ) arg23 fullShare (out0_21 x0 x1 x2 x3 x4 x5 x6 x7 x8 x9 x10 x11 x12 x13 x14 x15) ∗ owns (c : Thread nD τ) arg24 fullShare (out0_22 x0 x1 x2 x3 x4 x5 x6 x7 x8 x9 x10 x11 x12 x13 x14 x15) ∗ owns (c : Thread nD τ) arg25 fullShare (out0_23 x0 x1 x2 x3 x4 x5 x6 x7 x8 x9 x10 x11 x12 x13 x14 x15) ∗ owns (c : Thread nD τ) arg26 fullShare (out0_24 x0 x1 x2 x3 x4 x5 x6 x7 x8 x9 x10 x11 x12 x13 x14 x15) ∗ owns (c : Thread nD τ) arg27 fullShare (out0_25 x0 x1 x2 x3 x4 x5 x6 x7 x8 x9 x10 x11 x12 x13 x14 x15) ∗ owns (c : Thread nD τ) arg28 fullShare (out0_26 x0 x1 x2 x3 x4 x5 x6 x7 x8 x9 x10 x11 x12 x13 x14 x15)) -∗ K ⟨⟩))
      ⊢ wp frame (wpE (defs₀ (F := F)) Variants.none c none) E (cc0_rwkv_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_rwkv_prep_eq_skeleton]; unfold cc0_rwkv_prep_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0 _)).trans ?_
    rfl
  isplitl [H17]
  · iexists _; isplitr
    swap; · iexact H17
    ipureintro
    refine (View.read_writes_eq_canon _ _ _ (cover0 _)).trans ?_
    rfl
  isplitl [H18]
  · iexists _; isplitr
    swap; · iexact H18
    ipureintro
    refine (View.read_writes_eq_canon _ _ _ (cover0 _)).trans ?_
    rfl
  isplitl [H19]
  · iexists _; isplitr
    swap; · iexact H19
    ipureintro
    refine (View.read_writes_eq_canon _ _ _ (cover0 _)).trans ?_
    rfl
  isplitl [H20]
  · iexists _; isplitr
    swap; · iexact H20
    ipureintro
    refine (View.read_writes_eq_canon _ _ _ (cover0 _)).trans ?_
    rfl
  isplitl [H21]
  · iexists _; isplitr
    swap; · iexact H21
    ipureintro
    refine (View.read_writes_eq_canon _ _ _ (cover0 _)).trans ?_
    rfl
  isplitl [H22]
  · iexists _; isplitr
    swap; · iexact H22
    ipureintro
    refine (View.read_writes_eq_canon _ _ _ (cover0 _)).trans ?_
    rfl
  isplitl [H23]
  · iexists _; isplitr
    swap; · iexact H23
    ipureintro
    refine (View.read_writes_eq_canon _ _ _ (cover0 _)).trans ?_
    rfl
  isplitl [H24]
  · iexists _; isplitr
    swap; · iexact H24
    ipureintro
    refine (View.read_writes_eq_canon _ _ _ (cover0 _)).trans ?_
    rfl
  isplitl [H25]
  · iexists _; isplitr
    swap; · iexact H25
    ipureintro
    refine (View.read_writes_eq_canon _ _ _ (cover0 _)).trans ?_
    rfl
  iexists _; isplitr
  swap; · iexact H26
  ipureintro
  refine (View.read_writes_eq_canon _ _ _ (cover0 _)).trans ?_
  rfl

end Cert.RwPrepIdeal.Run

end

end
-- ==== Proof.RwPrepRun.lean ====
module

public import proofs.«01_k».proof.Proof.RwPrepBlocks
public import proofs.«01_k».proof.Proof.RwPrepTriple

@[expose] public section

set_option maxRecDepth 16384

/-! The launch: the body at every point, the run, and what it leaves unchanged. -/

noncomputable section

namespace Cert.RwPrepIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RwPrepIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- A value of the sixteen inputs' buffers, at the inputs' blocks of point `t`. -/
abbrev ofBlocks {α : Type} (c : Dev nD) (t : Fin cfg0.N)
    (f : Vec F S2048x128 .bf16 → Vec F S2048x128 .bf16 → Vec F S2048x128 .bf16 → Vec F S2048x384 .f32 → Vec F S1x128 .f32 → Vec F S1x128 .f32 → Vec F S1x128 .f32 → Vec F S1x384 .f32 → Vec F S2x128 .f32 → Vec F S2x64x128 .f32 → Vec F S2x128 .f32 → Vec F S2x64x128 .f32 → Vec F S128x128 .f32 → Vec F S1x128 .f32 → Vec F S1x128 .f32 → Vec F S1x128 .f32 → α) : α :=
  f (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => ofBlocks m c t out0_16
    | ⟨17, _⟩ => ofBlocks m c t out0_17
    | ⟨18, _⟩ => ofBlocks m c t out0_18
    | ⟨19, _⟩ => ofBlocks m c t out0_19
    | ⟨20, _⟩ => ofBlocks m c t out0_20
    | ⟨21, _⟩ => ofBlocks m c t out0_21
    | ⟨22, _⟩ => ofBlocks m c t out0_22
    | ⟨23, _⟩ => ofBlocks m c t out0_23
    | ⟨24, _⟩ => ofBlocks m c t out0_24
    | ⟨25, _⟩ => ofBlocks m c t out0_25
    | ⟨26, _⟩ => ofBlocks m c t out0_26
    | ⟨_ + 27, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = ofBlocks m c t out0_16 := by dsimp only [dats]
theorem after0_17 (c : Dev nD) (t : Fin cfg0.N) : (dats m 0 c).after 17 t = ofBlocks m c t out0_17 := by dsimp only [dats]
theorem after0_18 (c : Dev nD) (t : Fin cfg0.N) : (dats m 0 c).after 18 t = ofBlocks m c t out0_18 := by dsimp only [dats]
theorem after0_19 (c : Dev nD) (t : Fin cfg0.N) : (dats m 0 c).after 19 t = ofBlocks m c t out0_19 := by dsimp only [dats]
theorem after0_20 (c : Dev nD) (t : Fin cfg0.N) : (dats m 0 c).after 20 t = ofBlocks m c t out0_20 := by dsimp only [dats]
theorem after0_21 (c : Dev nD) (t : Fin cfg0.N) : (dats m 0 c).after 21 t = ofBlocks m c t out0_21 := by dsimp only [dats]
theorem after0_22 (c : Dev nD) (t : Fin cfg0.N) : (dats m 0 c).after 22 t = ofBlocks m c t out0_22 := by dsimp only [dats]
theorem after0_23 (c : Dev nD) (t : Fin cfg0.N) : (dats m 0 c).after 23 t = ofBlocks m c t out0_23 := by dsimp only [dats]
theorem after0_24 (c : Dev nD) (t : Fin cfg0.N) : (dats m 0 c).after 24 t = ofBlocks m c t out0_24 := by dsimp only [dats]
theorem after0_25 (c : Dev nD) (t : Fin cfg0.N) : (dats m 0 c).after 25 t = ofBlocks m c t out0_25 := by dsimp only [dats]
theorem after0_26 (c : Dev nD) (t : Fin cfg0.N) : (dats m 0 c).after 26 t = ofBlocks m c t out0_26 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame at any `F`: the arguments end as launched, and the counters at zero. -/
theorem frame : θ_run defs (onTc (τ := τ) (main (F := F))) ⟨m, fun _ => 0, ρ⟩ (fun r => (∀ c : Dev nD, Kept m c r)
      ∧ r.2.sem = fun _ => 0) :=
  θ_run_and (unchanged m ρ) ((θ_run defs _ _).mono (fun _ h => h.2) (run_main_quiescent m ρ))
/-- The run with each result named by what the library computes, the arguments unchanged. -/
theorem run_blocks : θ_run defs (onTc (τ := τ) (main (F := F))) ⟨m, fun _ => 0, ρ⟩ fun r => ∀ c : Dev nD,
      r.2.mem ((c.tc : Thread nD τ).loc main_v25_0) = (dats m 0 c).arrAt 16 cfg0.N
      ∧ r.2.mem ((c.tc : Thread nD τ).loc main_v25_1) = (dats m 0 c).arrAt 17 cfg0.N
      ∧ r.2.mem ((c.tc : Thread nD τ).loc main_v25_2) = (dats m 0 c).arrAt 18 cfg0.N
      ∧ r.2.mem ((c.tc : Thread nD τ).loc main_v25_3) = (dats m 0 c).arrAt 19 cfg0.N
      ∧ r.2.mem ((c.tc : Thread nD τ).loc main_v25_4) = (dats m 0 c).arrAt 20 cfg0.N
      ∧ r.2.mem ((c.tc : Thread nD τ).loc main_v25_5) = (dats m 0 c).arrAt 21 cfg0.N
      ∧ r.2.mem ((c.tc : Thread nD τ).loc main_v25_6) = (dats m 0 c).arrAt 22 cfg0.N
      ∧ r.2.mem ((c.tc : Thread nD τ).loc main_v25_7) = (dats m 0 c).arrAt 23 cfg0.N
      ∧ r.2.mem ((c.tc : Thread nD τ).loc main_v25_8) = (dats m 0 c).arrAt 24 cfg0.N
      ∧ r.2.mem ((c.tc : Thread nD τ).loc main_v25_9) = (dats m 0 c).arrAt 25 cfg0.N
      ∧ r.2.mem ((c.tc : Thread nD τ).loc main_v25_10) = (dats m 0 c).arrAt 26 cfg0.N
      ∧ Kept m c r :=
  (θ_run defs _ _).mono (fun _ h c => ⟨(h.2 c).1 16, (h.2 c).1 17, (h.2 c).1 18, (h.2 c).1 19, (h.2 c).1 20, (h.2 c).1 21, (h.2 c).1 22, (h.2 c).1 23, (h.2 c).1 24, (h.2 c).1 25, (h.2 c).1 26, h.1 c⟩) (θ_run_and (unchanged m ρ) (run_main m ρ))

end Cert.RwPrepIdeal.Run

end

end
-- ==== Proof.RwPrepSpec.lean ====
module

public import Idealize.ShloMosaic.PureOps
public import Idealize.ShloMosaic.Lib.Pointwise
public import proofs.«01_k».proof.Proof.Softmax

@[expose] public section

/-! What the recurrence's scan takes, read at one token and one channel, over the extended reals: the mix of a channel
    with its two neighbouring tokens, the low-rank terms, and the sum over a head's 64 channels, which a product with
    a matrix of zeros and ones gives when what is summed is real. -/

noncomputable section

open Idealize Idealize.ShloMosaic
open scoped BigOperators

namespace Cert.RwPrepSpec

open Cert.Softmax

abbrev ONE : EReal := Ideal.ofBits .f32 1065353216#32
abbrev HALF : EReal := Ideal.ofBits .f32 1056964608#32

theorem ONE_eq : ONE = 1 := by
  simp [ONE, Ideal.ofBits, Ideal.ieee, -EReal.coe_mul]
  norm_num

theorem HALF_isReal : IsReal HALF := ⟨1 / 2, by simp [HALF, Ideal.ofBits, Ideal.ieee, -EReal.coe_mul]; norm_num⟩

/-- A channel at token `r`, moved by `mu` towards the mean of its neighbours, zero beyond the sequence's ends. -/
def mixed (f : Fin 2048 → EReal) (mu : EReal) (r : Fin 2048) : EReal :=
  f r + mu * (HALF * ((if 1 ≤ r.val then f ⟨r.val - 1, by omega⟩ else 0) + (if h : r.val + 1 < 2048 then f ⟨r.val + 1, h⟩ else 0)) - f r)

/-- The logistic function. -/
def squash (z : EReal) : EReal := Ideal.div ONE (ONE + Ideal.exp (-z))

/-- The logarithm of a decay, from the low-rank term `z`. -/
def rate (z : EReal) : EReal := -Ideal.exp (-(max (-z) 0 + Ideal.log1p (Ideal.exp (-max (-z) (- -z)))) - HALF)

/-- A low-rank term: a bias and a product over the rank. -/
def low {k : ℕ} (b : EReal) (u w : Fin k → EReal) : EReal := b + ∑ e, u e * w e

/-- The sum over the head of 64 channels that channel `C` is in. -/
def headSum {n : ℕ} (a : Fin n → EReal) (C : Fin n) : EReal :=
  ∑ e : Fin 64, if h : C.val / 64 * 64 + e.val < n then a ⟨C.val / 64 * 64 + e.val, h⟩ else 0

/-- A channel scaled to its head's unit length. -/
def unit {n : ℕ} (K : Fin n → EReal) (C : Fin n) : EReal :=
  K C * Ideal.rsqrt (headSum (fun c => K c * K c) C + EPS)

/-- A key's channel, from the rate `a`. -/
def key (K a ka : EReal) : EReal := K * (ONE + (a - ONE) * ka)

/-- A direction's bonus. -/
def bonus {n : ℕ} (R K V rk : Fin n → EReal) (C : Fin n) : EReal := headSum (fun c => R c * K c * rk c) C * V C

theorem headSum_block {ct : ℕ} (hct : ct < 4) (a : Fin 512 → EReal) (q : Fin 128) :
    headSum (fun q : Fin 128 => a ⟨ct * 128 + q.val, by omega⟩) q = headSum a ⟨ct * 128 + q.val, by omega⟩ := by
  unfold headSum
  refine Finset.sum_congr rfl fun e _ => ?_
  rw [dif_pos (by omega), dif_pos (by dsimp only; omega)]
  exact congrArg a (Fin.ext (by dsimp only; omega))

theorem unit_block {ct : ℕ} (hct : ct < 4) (K : Fin 512 → EReal) (q : Fin 128) :
    unit (fun q : Fin 128 => K ⟨ct * 128 + q.val, by omega⟩) q = unit K ⟨ct * 128 + q.val, by omega⟩ := by
  unfold unit
  rw [← headSum_block hct (fun c => K c * K c) q]

theorem bonus_block {ct : ℕ} (hct : ct < 4) (R K V rk : Fin 512 → EReal) (q : Fin 128) :
    bonus (fun q : Fin 128 => R ⟨ct * 128 + q.val, by omega⟩) (fun q : Fin 128 => K ⟨ct * 128 + q.val, by omega⟩)
      (fun q : Fin 128 => V ⟨ct * 128 + q.val, by omega⟩) (fun q : Fin 128 => rk ⟨ct * 128 + q.val, by omega⟩) q
      = bonus R K V rk ⟨ct * 128 + q.val, by omega⟩ := by
  unfold bonus
  rw [← headSum_block hct (fun c => R c * K c * rk c) q]

/-- A sum over two heads against the mask of the head that `q` is in. -/
theorem mask_sum (a : Fin 128 → EReal) (q : Fin 128) :
    ∑ j : Fin 128, a j * (if j.val / 64 = q.val / 64 then ONE else 0) = headSum a q := by
  rw [ONE_eq]
  unfold headSum
  have s : ∀ g : Fin 128 → EReal, ∑ j, g j = (∑ e : Fin 64, g ⟨e.val, by omega⟩) + ∑ e : Fin 64, g ⟨64 + e.val, by omega⟩ :=
    fun g => Fin.sum_univ_add (a := 64) (b := 64) g
  rw [s]
  by_cases h : q.val < 64
  · have h0 : q.val / 64 = 0 := by omega
    rw [Finset.sum_eq_zero (s := Finset.univ) (f := fun e : Fin 64 => a ⟨64 + e.val, _⟩ * _)
      (fun e _ => by rw [if_neg (by dsimp only; omega), mul_zero]), add_zero]
    refine Finset.sum_congr rfl fun e _ => ?_
    rw [if_pos (by dsimp only; omega), mul_one, dif_pos (by omega)]
    congr 1
    apply Fin.ext
    dsimp only
    omega
  · have h0 : q.val / 64 = 1 := by omega
    rw [Finset.sum_eq_zero (s := Finset.univ) (f := fun e : Fin 64 => a ⟨e.val, _⟩ * _)
      (fun e _ => by rw [if_neg (by dsimp only; omega), mul_zero]), zero_add]
    refine Finset.sum_congr rfl fun e _ => ?_
    rw [if_pos (by dsimp only; omega), mul_one, dif_pos (by omega)]
    congr 1
    apply Fin.ext
    dsimp only
    omega

theorem IsReal.sub_self {x : EReal} (h : IsReal x) : x - x = 0 := by
  obtain ⟨r, rfl⟩ := h
  rw [← EReal.coe_sub, _root_.sub_self, EReal.coe_zero]

/-- The kernel's sum over a head: the numbers and their roundings' remainders against the mask. -/
theorem split_sum (a : Fin 128 → EReal) (h : ∀ j, IsReal (a j)) (q : Fin 128) :
    ∑ j : Fin 128, a j * (if j.val / 64 = q.val / 64 then ONE else 0)
      + ∑ j : Fin 128, (a j - a j) * (if j.val / 64 = q.val / 64 then ONE else 0) = headSum a q := by
  rw [mask_sum, Finset.sum_eq_zero (s := Finset.univ) (f := fun j : Fin 128 => (a j - a j) * _)
    (fun j _ => by rw [IsReal.sub_self (h j), zero_mul]), add_zero]

theorem IsReal.neg {x : EReal} (h : IsReal x) : IsReal (-x) := by
  obtain ⟨r, rfl⟩ := h
  exact ⟨-r, rfl⟩

theorem IsReal.sub {x y : EReal} (hx : IsReal x) (hy : IsReal y) : IsReal (x - y) := by
  rw [sub_eq_add_neg]
  exact hx.add (IsReal.neg hy)

theorem isReal_zero : IsReal 0 := ⟨0, rfl⟩

theorem isReal_one : IsReal ONE := ⟨1, by rw [ONE_eq]; rfl⟩

theorem mixed_isReal (f : Fin 2048 → EReal) (mu : EReal) (r : Fin 2048) (hf : ∀ s, IsReal (f s)) (hm : IsReal mu) : IsReal (mixed f mu r) := by
  unfold mixed
  have h1 : IsReal (if 1 ≤ r.val then f ⟨r.val - 1, by omega⟩ else 0) := by
    split
    · exact hf _
    · exact isReal_zero
  have h2 : IsReal (if h : r.val + 1 < 2048 then f ⟨r.val + 1, h⟩ else 0) := by
    split
    · exact hf _
    · exact isReal_zero
  exact (hf r).add (hm.mul (IsReal.sub (HALF_isReal.mul (h1.add h2)) (hf r)))

theorem squash_isReal (z : EReal) : IsReal (squash z) := by
  have e : squash z = Ideal.logistic z := by unfold squash Ideal.logistic; rw [ONE_eq]
  rw [e]
  induction z using EReal.rec with
  | bot => rw [Ideal.logistic_bot]; exact isReal_zero
  | top => rw [Ideal.logistic_top]; exact ⟨1, rfl⟩
  | coe r => rw [Ideal.logistic_coe]; exact ⟨_, rfl⟩

theorem key_isReal {K a ka : EReal} (hK : IsReal K) (ha : IsReal a) (hka : IsReal ka) : IsReal (key K a ka) :=
  hK.mul (isReal_one.add ((IsReal.sub ha isReal_one).mul hka))

end Cert.RwPrepSpec

end

end
-- ==== Proof.RwPrepBody.lean ====
module

public import proofs.«01_k».proof.Proof.Gen.RwPrepIdeal.Skeleton
public import proofs.«01_k».proof.Proof.RwPrepSpec
public import Idealize.ShloMosaic.Lib.Pointwise

@[expose] public section

set_option maxRecDepth 16384

/-! What the kernel's body stores, read at one token and one channel of its block. -/

noncomputable section

open Idealize Idealize.ShloMosaic Idealize.SL
open scoped BigOperators

namespace Cert.RwPrepIdeal.Body

open Cert.RwPrepIdeal Cert.RwPrepIdeal.Gen Cert.RwPrepSpec Cert.Softmax

/-- A choice by a row's number against a constant. -/
theorem select_row (r : ℕ) (n : BitVec 32) (hr : r < 2048) (x y : EReal) :
    Scalar.select (IntOp.cmpi CmpIPredicate.eq (BitVec.ofNat 32 r) n) x y = if r = n.toNat then x else y := by
  unfold Scalar.select IntOp.cmpi
  by_cases h : r = n.toNat
  · subst h
    simp
  · have k : ¬ BitVec.ofNat 32 r = n := by
      rintro rfl
      apply h
      simp only [BitVec.toNat_ofNat]
      omega
    simp [h, beq_eq_false_iff_ne.2 k]

/-- A block's two rotations under their masks are the neighbouring tokens, zero beyond the ends. -/
theorem neighbours (f : Fin 2048 → EReal) (r : Fin 2048) (h0 h1) :
    (Scalar.select (IntOp.cmpi CmpIPredicate.eq (BitVec.ofNat 32 r.val) 0#32) 0 (f ⟨(r.val + 2048 - 1) % 2048, h0⟩)
      + Scalar.select (IntOp.cmpi CmpIPredicate.eq (BitVec.ofNat 32 r.val) 2047#32) 0 (f ⟨(r.val + 2048 - 2047) % 2048, h1⟩) : EReal)
      = (if 1 ≤ r.val then f ⟨r.val - 1, by omega⟩ else 0) + (if h : r.val + 1 < 2048 then f ⟨r.val + 1, h⟩ else 0) := by
  rw [select_row r.val _ r.isLt, select_row r.val _ r.isLt]
  congr 1
  · by_cases h : 1 ≤ r.val
    · rw [if_neg (show ¬ r.val = (0#32 : BitVec 32).toNat from by simp; omega), if_pos h]
      exact congrArg f (Fin.ext (by dsimp only; omega))
    · rw [if_pos (show r.val = (0#32 : BitVec 32).toNat from by simp; omega), if_neg h]
  · by_cases h : r.val + 1 < 2048
    · rw [if_neg (show ¬ r.val = (2047#32 : BitVec 32).toNat from by simp; omega), dif_pos h]
      exact congrArg f (Fin.ext (by dsimp only; omega))
    · rw [if_pos (show r.val = (2047#32 : BitVec 32).toNat from by simp; omega), dif_neg h]

theorem pay2_apply (a : Vec Ideal S2048x128 .bf16) (u : Vec Ideal S1x128 .f32) (r : Fin 2048) (q : Fin 128) :
    k0_pay2 (F := Ideal) a u (ix2 r q) = mixed (fun s => a (ix2 s q)) (u (ix2 0 q)) r := by
  unfold mixed
  rw [← neighbours (fun s => a (ix2 s q)) r (by omega) (by omega)]
  pointwise [k0_pay2]

theorem pay7_apply (a : Vec Ideal S2048x128 .bf16) (u : Vec Ideal S1x128 .f32) (r : Fin 2048) (q : Fin 128) :
    k0_pay7 (F := Ideal) (k0_pay3 a) (k0_pay4 u) (k0_pay5 a) k0_pay6 (ix2 r q) = mixed (fun s => a (ix2 s q)) (u (ix2 0 q)) r := by
  unfold mixed
  rw [← neighbours (fun s => a (ix2 s q)) r (by omega) (by omega)]
  pointwise [k0_pay7, k0_pay3, k0_pay4, k0_pay5, k0_pay6]

theorem pay8_apply (a : Vec Ideal S2048x128 .bf16) (u : Vec Ideal S1x128 .f32) (r : Fin 2048) (q : Fin 128) :
    k0_pay8 (F := Ideal) (iota .tc S2048x1 32 [0] iota_S2048x1_d0_w32) a u (ix2 r q) = mixed (fun s => a (ix2 s q)) (u (ix2 0 q)) r := by
  unfold mixed
  rw [← neighbours (fun s => a (ix2 s q)) r (by omega) (by omega)]
  pointwise [k0_pay8]

theorem pay11_apply (a : Vec Ideal S2048x384 .f32) (u : Vec Ideal S1x384 .f32) (r : Fin 2048) (q : Fin 384) :
    k0_pay11 (F := Ideal) (iota .tc S2048x1 32 [0] iota_S2048x1_d0_w32) a (k0_pay9 u) k0_pay10 (ix2 r q) = mixed (fun s => a (ix2 s q)) (u (ix2 0 q)) r := by
  unfold mixed
  rw [← neighbours (fun s => a (ix2 s q)) r (by omega) (by omega)]
  pointwise [k0_pay11, k0_pay9, k0_pay10]

/-- A channel's head, as the body computes it. -/
theorem head_of : ∀ j : Fin 128, k0_pay12 (ix2 j (0 : Fin 128)) = BitVec.ofNat 32 (j.val / 64) := by
  intro j
  pointwise [k0_pay12]
  revert j
  decide +kernel

/-- The mask of a head: one where the two channels' heads are the same, zero elsewhere. -/
theorem mask_apply (j q : Fin 128) :
    k0_pay13 (F := Ideal) (iota .tc S128x128 32 [1] iota_S128x128_d1_w32) k0_pay12 64#32 (ix2 j q) = if j.val / 64 = q.val / 64 then ONE else 0 := by
  have h : k0_pay13 (F := Ideal) (iota .tc S128x128 32 [1] iota_S128x128_d1_w32) k0_pay12 64#32 (ix2 j q)
      = Scalar.select (IntOp.cmpi CmpIPredicate.eq (k0_pay12 (ix2 j (0 : Fin 128))) (k0_pay12 (ix2 q (0 : Fin 128)))) ONE 0 := by
    pointwise [k0_pay13, k0_pay12]
  rw [h, head_of, head_of]
  unfold Scalar.select IntOp.cmpi
  have hj : j.val / 64 < 2 := by omega
  have hq : q.val / 64 < 2 := by omega
  generalize j.val / 64 = a at hj ⊢
  generalize q.val / 64 = b at hq ⊢
  interval_cases a <;> interval_cases b <;> simp

/-- A head's sum as the body computes it: what is real leaves no remainder. -/
theorem headSum_eq (a : Fin 128 → EReal) (h : ∀ j, IsReal (a j)) (q : Fin 128) :
    ∑ j : Fin 128, a j * k0_pay13 (F := Ideal) (iota .tc S128x128 32 [1] iota_S128x128_d1_w32) k0_pay12 64#32 (ix2 j q)
      + ∑ j : Fin 128, (a j - a j) * k0_pay13 (F := Ideal) (iota .tc S128x128 32 [1] iota_S128x128_d1_w32) k0_pay12 64#32 (ix2 j q)
      = headSum a q := by
  have e := fun j => mask_apply j q
  simp only [e]
  exact split_sum a h q

theorem pay14_apply (K : Vec Ideal S2048x128 .f32) (u : Vec Ideal S1x128 .f32) (r : Fin 2048) (q : Fin 128)
    (hK : ∀ j, IsReal (K (ix2 r j))) (hu : ∀ j, IsReal (u (ix2 0 j))) :
    k0_pay14 (F := Ideal) K (iota .tc S128x128 32 [1] iota_S128x128_d1_w32) k0_pay12 64#32 u (ix2 r q) = unit (fun j => K (ix2 r j) * u (ix2 0 j)) q := by
  unfold unit
  rw [← headSum_eq (fun j => K (ix2 r j) * u (ix2 0 j) * (K (ix2 r j) * u (ix2 0 j))) (fun j => ((hK j).mul (hu j)).mul ((hK j).mul (hu j))) q]
  unfold k0_pay14
  generalize k0_pay13 (F := Ideal) (iota .tc S128x128 32 [1] iota_S128x128_d1_w32) k0_pay12 64#32 = M
  pointwise []

/-- A direction's bonus in the body. -/
theorem pay26_apply (R V K : Vec Ideal S2048x128 .f32) (u : Vec Ideal S1x128 .f32) (r : Fin 2048) (q : Fin 128)
    (hR : ∀ j, IsReal (R (ix2 r j))) (hK : ∀ j, IsReal (K (ix2 r j))) (hu : ∀ j, IsReal (u (ix2 0 j))) :
    k0_pay26 (F := Ideal) R V (k0_pay13 (iota .tc S128x128 32 [1] iota_S128x128_d1_w32) k0_pay12 64#32) k0_pay17 K u (ix2 r q)
      = bonus (fun j => R (ix2 r j)) (fun j => K (ix2 r j)) (fun j => V (ix2 r j)) (fun j => u (ix2 0 j)) q := by
  unfold bonus
  rw [← headSum_eq (fun j => R (ix2 r j) * K (ix2 r j) * u (ix2 0 j)) (fun j => ((hR j).mul (hK j)).mul (hu j)) q]
  generalize k0_pay13 (F := Ideal) (iota .tc S128x128 32 [1] iota_S128x128_d1_w32) k0_pay12 64#32 = M
  pointwise [k0_pay26, k0_pay17]

theorem pay1_apply (R V K A : Vec Ideal S2048x128 .f32) (u : Vec Ideal S1x128 .f32) (r : Fin 2048) (q : Fin 128)
    (hR : ∀ j, IsReal (R (ix2 r j))) (hK : ∀ j, IsReal (K (ix2 r j))) (hu : ∀ j, IsReal (u (ix2 0 j))) :
    k0_pay1 (F := Ideal) V (k0_pay13 (iota .tc S128x128 32 [1] iota_S128x128_d1_w32) k0_pay12 64#32) A (mulf R K) u (ix2 r q)
      = A (ix2 r q) + bonus (fun j => R (ix2 r j)) (fun j => K (ix2 r j)) (fun j => V (ix2 r j)) (fun j => u (ix2 0 j)) q := by
  unfold bonus
  rw [← headSum_eq (fun j => R (ix2 r j) * K (ix2 r j) * u (ix2 0 j)) (fun j => ((hR j).mul (hK j)).mul (hu j)) q]
  generalize k0_pay13 (F := Ideal) (iota .tc S128x128 32 [1] iota_S128x128_d1_w32) k0_pay12 64#32 = M
  pointwise [k0_pay1]

theorem pay16_apply (L : Vec Ideal S2048x384 .f32) (g : Vec Ideal S128x128 .f32) (r : Fin 2048) (q : Fin 128) :
    k0_pay16 (F := Ideal) (k0_pay15 L) (Scalar.ofBits .f32 0x00000000#32) g (ix2 r q)
      = ∑ e : Fin 128, squash (L (ix2 r ⟨256 + e.val, by omega⟩)) * g (ix2 e q) := by
  unfold squash
  pointwise [k0_pay16, k0_pay15]
  simp only [zero_sub]

theorem pay22_apply (L : Vec Ideal S2048x384 .f32) (b : Vec Ideal S1x128 .f32) (w : Vec Ideal S1x64x128 .f32) (r : Fin 2048) (q : Fin 128) :
    k0_pay22 (F := Ideal) (k0_pay18 L) b w (ix2 r q)
      = squash (low (b (ix2 0 q)) (fun e : Fin 64 => L (ix2 r ⟨128 + e.val, by omega⟩)) (fun e => w (ix3 0 e q))) := by
  unfold squash low
  pointwise [k0_pay22, k0_pay18]
  simp only [zero_sub]

theorem pay29_apply (L : Vec Ideal S2048x384 .f32) (b : Vec Ideal S1x128 .f32) (w : Vec Ideal S1x64x128 .f32) (r : Fin 2048) (q : Fin 128) :
    k0_pay29 (F := Ideal) (k0_pay27 L) b w (ix2 r q)
      = squash (low (b (ix2 0 q)) (fun e : Fin 64 => L (ix2 r ⟨192 + e.val, by omega⟩)) (fun e => w (ix3 0 e q))) := by
  unfold squash low
  pointwise [k0_pay29, k0_pay27]
  simp only [zero_sub]

theorem pay23_apply (K : Vec Ideal S2048x128 .f32) (L : Vec Ideal S2048x384 .f32) (b : Vec Ideal S1x128 .f32) (w : Vec Ideal S1x64x128 .f32)
    (u : Vec Ideal S1x128 .f32) (r : Fin 2048) (q : Fin 128) :
    k0_pay23 (F := Ideal) K (k0_pay18 L) b w u (ix2 r q)
      = key (K (ix2 r q)) (squash (low (b (ix2 0 q)) (fun e : Fin 64 => L (ix2 r ⟨128 + e.val, by omega⟩)) (fun e => w (ix3 0 e q)))) (u (ix2 0 q)) := by
  rw [← pay22_apply]
  unfold key k0_pay23
  generalize k0_pay22 (F := Ideal) (k0_pay18 L) b w = A
  pointwise []

theorem pay30_apply (K : Vec Ideal S2048x128 .f32) (L : Vec Ideal S2048x384 .f32) (b : Vec Ideal S1x128 .f32) (w : Vec Ideal S1x64x128 .f32)
    (u : Vec Ideal S1x128 .f32) (r : Fin 2048) (q : Fin 128) :
    k0_pay30 (F := Ideal) K (k0_pay27 L) b w u (ix2 r q)
      = key (K (ix2 r q)) (squash (low (b (ix2 0 q)) (fun e : Fin 64 => L (ix2 r ⟨192 + e.val, by omega⟩)) (fun e => w (ix3 0 e q)))) (u (ix2 0 q)) := by
  rw [← pay29_apply]
  unfold key k0_pay30
  generalize k0_pay29 (F := Ideal) (k0_pay27 L) b w = A
  pointwise []

theorem pay24_apply (L : Vec Ideal S2048x384 .f32) (b : Vec Ideal S1x128 .f32) (w : Vec Ideal S1x64x128 .f32) (r : Fin 2048) (q : Fin 128) :
    k0_pay24 (F := Ideal) (k0_pay20 L b w) (k0_pay21 L b w) (ix2 r q)
      = rate (low (b (ix2 0 q)) (fun e : Fin 64 => Ideal.tanh (L (ix2 r ⟨e.val, by omega⟩))) (fun e => w (ix3 0 e q))) := by
  have h : k0_pay19 (F := Ideal) L b w (ix2 r q) = -low (b (ix2 0 q)) (fun e : Fin 64 => Ideal.tanh (L (ix2 r ⟨e.val, by omega⟩))) (fun e => w (ix3 0 e q)) := by
    unfold low
    pointwise [k0_pay19]
    rw [zero_sub]
  unfold rate
  rw [← h]
  unfold k0_pay20 k0_pay21
  generalize k0_pay19 (F := Ideal) L b w = A
  pointwise [k0_pay24]
  simp only [zero_sub]
  rfl

theorem pay31_apply (L : Vec Ideal S2048x384 .f32) (b : Vec Ideal S1x128 .f32) (w : Vec Ideal S1x64x128 .f32) (r : Fin 2048) (q : Fin 128) :
    k0_pay31 (F := Ideal) (k0_pay28 L b w) (ix2 r q)
      = rate (low (b (ix2 0 q)) (fun e : Fin 64 => Ideal.tanh (L (ix2 r ⟨64 + e.val, by omega⟩))) (fun e => w (ix3 0 e q))) := by
  unfold rate low
  pointwise [k0_pay31, k0_pay28]
  simp only [zero_sub]
  rfl

end Cert.RwPrepIdeal.Body

end

end
-- ==== Proof.RwPrepRef.lean ====
module

public import proofs.«01_k».proof.Proof.Gen.RwPrepRefIdeal.Read
public import proofs.«01_k».proof.Proof.RwPrepSpec
public import Idealize.ShloMosaic.Lib.Pointwise

@[expose] public section

set_option maxRecDepth 16384

/-! What the recurrence's scan takes, over the whole arrays, and the reference's terms read against it. -/

noncomputable section

open Idealize Idealize.ShloMosaic
open scoped BigOperators

namespace Cert.RwPrepRefIdeal.Whole

open Cert.RwPrepRefIdeal Cert.RwPrepRefIdeal.Gen Cert.RwPrepSpec Cert.Softmax

section

variable (p : Vec Ideal S8192x6144 .bf16) (lo : Vec Ideal S8192x384 .f32) (mu : Vec Ideal S2x1920 .f32)

/-- The projections of token `s` of sequence `b`, side by side. -/
def wide (b : Fin 4) (s : Fin 2048) (j : Fin 1920) : EReal :=
  if h : j.val < 1536 then p (ix2 ⟨b.val * 2048 + s.val, by omega⟩ ⟨4608 + j.val, by omega⟩)
  else lo (ix2 ⟨b.val * 2048 + s.val, by omega⟩ ⟨j.val - 1536, by omega⟩)

/-- A projection mixed with its neighbours. -/
def chan (b : Fin 4) (r : Fin 2048) (j : Fin 1920) : EReal := mixed (fun s => wide p lo b s j) (mu (ix2 0 j)) r

def recept (b : Fin 4) (r : Fin 2048) (C : Fin 512) : EReal := chan p lo mu b r ⟨C.val, by omega⟩
def keyRaw (b : Fin 4) (r : Fin 2048) (C : Fin 512) : EReal := chan p lo mu b r ⟨512 + C.val, by omega⟩
def value (b : Fin 4) (r : Fin 2048) (C : Fin 512) : EReal := chan p lo mu b r ⟨1024 + C.val, by omega⟩
def rank (b : Fin 4) (r : Fin 2048) (l : Fin 384) : EReal := chan p lo mu b r ⟨1536 + l.val, by omega⟩

/-- The removal key: the keys times their gains at each head's unit length. -/
def removal (kk : Vec Ideal S2x512 .f32) (b : Fin 4) (r : Fin 2048) (C : Fin 512) : EReal :=
  unit (fun c => keyRaw p lo mu b r c * kk (ix2 0 c)) C

/-- The output's gate. -/
def gate (g2 : Vec Ideal S2x128x512 .f32) (b : Fin 4) (r : Fin 2048) (C : Fin 512) : EReal :=
  ∑ e : Fin 128, squash (rank p lo mu b r ⟨256 + e.val, by omega⟩) * g2 (ix3 0 e C)

/-- Direction `d`'s decays, from the low-rank columns from `o` on. -/
def logDecay (w0 : Vec Ideal S2x2x512 .f32) (w2 : Vec Ideal S2x2x64x512 .f32) (d : Fin 2) (o : ℕ) (ho : o ≤ 320) (b : Fin 4) (r : Fin 2048) (C : Fin 512) : EReal :=
  rate (low (w0 (ix3 0 d C)) (fun e : Fin 64 => Ideal.tanh (rank p lo mu b r ⟨o + e.val, by omega⟩)) (fun e => w2 (ix4 0 d e C)))

/-- Direction `d`'s rates. -/
def pace (a0 : Vec Ideal S2x2x512 .f32) (a2 : Vec Ideal S2x2x64x512 .f32) (d : Fin 2) (o : ℕ) (ho : o ≤ 320) (b : Fin 4) (r : Fin 2048) (C : Fin 512) : EReal :=
  squash (low (a0 (ix3 0 d C)) (fun e : Fin 64 => rank p lo mu b r ⟨o + e.val, by omega⟩) (fun e => a2 (ix4 0 d e C)))

/-- Direction `d`'s keys. -/
def keyOf (a0 : Vec Ideal S2x2x512 .f32) (a2 : Vec Ideal S2x2x64x512 .f32) (ka : Vec Ideal S2x512 .f32) (d : Fin 2) (o : ℕ) (ho : o ≤ 320)
    (b : Fin 4) (r : Fin 2048) (C : Fin 512) : EReal :=
  key (keyRaw p lo mu b r C) (pace p lo mu a0 a2 d o ho b r C) (ka (ix2 0 C))

/-- Direction `d`'s bonus. -/
def bonusOf (a0 : Vec Ideal S2x2x512 .f32) (a2 : Vec Ideal S2x2x64x512 .f32) (ka : Vec Ideal S2x512 .f32) (rk : Vec Ideal S2x8x64 .f32) (d : Fin 2) (o : ℕ) (ho : o ≤ 320) (b : Fin 4) (r : Fin 2048) (C : Fin 512) : EReal :=
  bonus (recept p lo mu b r) (keyOf p lo mu a0 a2 ka d o ho b r) (value p lo mu b r)
    (fun c => rk (ix3 0 ⟨c.val / 64, by omega⟩ ⟨c.val % 64, by omega⟩)) C

end

/-- A function of sequence, token and channel, as the array of all tokens. -/
def flat (f : Fin 4 → Fin 2048 → Fin 512 → EReal) : Vec Ideal S8192x512 .f32 :=
  fun i => f ⟨(i 0).val / 2048, by have : (i 0).val < 8192 := (i 0).isLt; omega⟩ ⟨(i 0).val % 2048, by omega⟩ (i 1)

open Cert.RwPrepRefIdeal.Read

variable (p : Vec Ideal S8192x6144 .bf16) (lo : Vec Ideal S8192x384 .f32) (mu : Vec Ideal S2x1920 .f32)

theorem ref_wide (b : Fin 4) (s : Fin 2048) (j : Fin 1920) : val_main_v3 (F := Ideal) p lo (ix3 b s j) = wide p lo b s j := by
  unfold wide
  pointwise [val_main_v3, val_main_v2, val_main_v1, val_main_v0]

theorem ref_pad (b : Fin 4) (s : Fin 2050) (j : Fin 1920) :
    val_main_v6 (F := Ideal) p lo (ix3 b s j) = if h : 1 ≤ s.val ∧ s.val - 1 < 2048 then wide p lo b ⟨s.val - 1, h.2⟩ j else 0 := by
  have e := fun s => ref_wide p lo b s j
  unfold val_main_v6
  generalize val_main_v3 (F := Ideal) p lo = W at e
  pointwise [val_main_call0_v0, val_main_c]
  simp only [e]
  by_cases h : 1 ≤ s.val ∧ s.val - 1 < 2048
  · rw [dif_pos h, dif_pos h]
  · rw [dif_neg h, dif_neg h]
    simp [FloatOps.sitofp]

theorem ref_before (b : Fin 4) (r : Fin 2048) (j : Fin 1920) :
    val_main_v7 (F := Ideal) p lo (ix3 b r j) = if 1 ≤ r.val then wide p lo b ⟨r.val - 1, by omega⟩ j else 0 := by
  pointwise [val_main_v7]
  rw [ref_pad]
  by_cases h : 1 ≤ r.val
  · rw [dif_pos ⟨by simpa using h, by dsimp only; omega⟩, if_pos h]
  · rw [dif_neg (by dsimp only; omega), if_neg h]

theorem ref_behind (b : Fin 4) (r : Fin 2048) (j : Fin 1920) :
    val_main_v8 (F := Ideal) p lo (ix3 b r j) = if h : r.val + 1 < 2048 then wide p lo b ⟨r.val + 1, h⟩ j else 0 := by
  pointwise [val_main_v8]
  rw [ref_pad]
  by_cases h : r.val + 1 < 2048
  · rw [dif_pos ⟨by dsimp only; omega, by dsimp only; omega⟩, dif_pos h]
    exact congrArg (fun s => wide p lo b s j) (Fin.ext (by dsimp only; omega))
  · rw [dif_neg (by dsimp only; omega), dif_neg h]

theorem ref_mu (b : Fin 4) (r : Fin 2048) (j : Fin 1920) : val_main_v14 (F := Ideal) mu (ix3 b r j) = mu (ix2 0 j) := by
  pointwise [val_main_v14, val_main_v13, val_main_v5, val_main_v4]

theorem ref_half (b : Fin 4) (r : Fin 2048) (j : Fin 1920) : val_main_v10 (F := Ideal) (ix3 b r j) = HALF := by
  pointwise [val_main_v10, val_main_cst]

theorem ref_chan (b : Fin 4) (r : Fin 2048) (j : Fin 1920) : val_main_v16 (F := Ideal) p lo mu (ix3 b r j) = chan p lo mu b r j := by
  rw [val_main_v16_apply, val_main_v15_apply, val_main_v12_apply, val_main_v11_apply, val_main_v9_apply, ref_before, ref_behind, ref_wide, ref_mu, ref_half]
  unfold chan mixed
  dsimp only
  generalize HALF = c
  generalize mu (ix2 0 j) = y
  generalize wide p lo b r j = x
  generalize (if 1 ≤ r.val then _ else (0 : EReal)) = z
  generalize (if h : r.val + 1 < 2048 then _ else (0 : EReal)) = w
  rfl

theorem ref_recept (b : Fin 4) (r : Fin 2048) (C : Fin 512) : val_main_v17 (F := Ideal) p lo mu (ix3 b r C) = recept p lo mu b r C := by
  pointwise [val_main_v17]
  exact ref_chan p lo mu b r _

theorem ref_keyRaw (b : Fin 4) (r : Fin 2048) (C : Fin 512) : val_main_v18 (F := Ideal) p lo mu (ix3 b r C) = keyRaw p lo mu b r C := by
  pointwise [val_main_v18]
  exact ref_chan p lo mu b r _

theorem ref_value (b : Fin 4) (r : Fin 2048) (C : Fin 512) : val_main_v19 (F := Ideal) p lo mu (ix3 b r C) = value p lo mu b r C := by
  pointwise [val_main_v19]
  exact ref_chan p lo mu b r _

theorem ref_rank0 (b : Fin 4) (r : Fin 2048) (e : Fin 64) : val_main_v20 (F := Ideal) p lo mu (ix3 b r e) = rank p lo mu b r ⟨0 + e.val, by omega⟩ := by
  pointwise [val_main_v20]
  exact (ref_chan p lo mu b r _).trans (congrArg (chan p lo mu b r) (Fin.ext (by dsimp only)))

theorem ref_rank1 (b : Fin 4) (r : Fin 2048) (e : Fin 64) : val_main_v21 (F := Ideal) p lo mu (ix3 b r e) = rank p lo mu b r ⟨64 + e.val, by omega⟩ := by
  pointwise [val_main_v21]
  exact (ref_chan p lo mu b r _).trans (congrArg (chan p lo mu b r) (Fin.ext (by dsimp only; omega)))

theorem ref_rank2 (b : Fin 4) (r : Fin 2048) (e : Fin 64) : val_main_v22 (F := Ideal) p lo mu (ix3 b r e) = rank p lo mu b r ⟨128 + e.val, by omega⟩ := by
  pointwise [val_main_v22]
  exact (ref_chan p lo mu b r _).trans (congrArg (chan p lo mu b r) (Fin.ext (by dsimp only; omega)))

theorem ref_rank3 (b : Fin 4) (r : Fin 2048) (e : Fin 64) : val_main_v23 (F := Ideal) p lo mu (ix3 b r e) = rank p lo mu b r ⟨192 + e.val, by omega⟩ := by
  pointwise [val_main_v23]
  exact (ref_chan p lo mu b r _).trans (congrArg (chan p lo mu b r) (Fin.ext (by dsimp only; omega)))

theorem ref_rank4 (b : Fin 4) (r : Fin 2048) (e : Fin 128) : val_main_v24 (F := Ideal) p lo mu (ix3 b r e) = rank p lo mu b r ⟨256 + e.val, by omega⟩ := by
  pointwise [val_main_v24]
  exact (ref_chan p lo mu b r _).trans (congrArg (chan p lo mu b r) (Fin.ext (by dsimp only; omega)))

/-- A sum over a head's channels, given the head and the place in it. -/
theorem headSum_at (a : Fin 512 → EReal) (C : Fin 512) (h : Fin 8) (hh : h.val = C.val / 64) :
    ∑ e : Fin 64, a ⟨h.val * 64 + e.val, by omega⟩ = headSum a C := by
  unfold headSum
  refine Finset.sum_congr rfl fun e _ => ?_
  rw [dif_pos (by omega)]
  exact congrArg a (Fin.ext (by dsimp only; omega))

theorem ref_open (b : Fin 4) (r : Fin 2048) (e : Fin 128) :
    val_main_v44 (F := Ideal) p lo mu (ix3 b r e) = squash (rank p lo mu b r ⟨256 + e.val, by omega⟩) := by
  have h1 : val_main_v43 (F := Ideal) (ix3 b r e) = ONE := by pointwise [val_main_v43, val_main_cst_3]
  have h2 : val_main_v41 (F := Ideal) (ix3 b r e) = ONE := by pointwise [val_main_v41, val_main_cst_2]
  rw [val_main_v44_apply, val_main_v42_apply, val_main_v40_apply, val_main_v39_apply, ref_rank4, h1, h2]
  unfold squash
  generalize ONE = o
  generalize rank p lo mu b r _ = x
  rfl

theorem ref_gate (g2 : Vec Ideal S2x128x512 .f32) (b : Fin 4) (r : Fin 2048) (C : Fin 512) :
    val_main_v47 (F := Ideal) p lo mu g2 (ix3 b r C) = gate p lo mu g2 b r C := by
  have e := fun x => ref_open p lo mu b r x
  unfold gate val_main_v47
  simp only [← e]
  generalize val_main_v44 (F := Ideal) p lo mu = W
  pointwise [val_main_v46, val_main_v45]

theorem ref_pace0 (a0 : Vec Ideal S2x2x512 .f32) (a2 : Vec Ideal S2x2x64x512 .f32) (b : Fin 4) (r : Fin 2048) (C : Fin 512) :
    val_main_v77 (F := Ideal) p lo mu a0 a2 (ix3 b r C) = pace p lo mu a0 a2 0 128 (by omega) b r C := by
  have e := fun x => ref_rank2 p lo mu b r x
  unfold pace squash low val_main_v77 val_main_v75 val_main_v73 val_main_v72 val_main_v71 val_main_v68
  show _ = Ideal.div ONE (ONE + Ideal.exp (-(a0 (ix3 0 0 C) + ∑ x : Fin 64, rank p lo mu b r ⟨128 + x.val, _⟩ * a2 (ix4 0 0 x C))))
  simp only [← e]
  generalize val_main_v22 (F := Ideal) p lo mu = W
  pointwise [val_main_v76, val_main_cst_6, val_main_v74, val_main_cst_5, val_main_v70, val_main_v69, val_main_v65, val_main_v64, val_main_v67, val_main_v66]

theorem ref_pace1 (a0 : Vec Ideal S2x2x512 .f32) (a2 : Vec Ideal S2x2x64x512 .f32) (b : Fin 4) (r : Fin 2048) (C : Fin 512) :
    val_main_v133 (F := Ideal) p lo mu a0 a2 (ix3 b r C) = pace p lo mu a0 a2 1 192 (by omega) b r C := by
  have e := fun x => ref_rank3 p lo mu b r x
  unfold pace squash low val_main_v133 val_main_v131 val_main_v129 val_main_v128 val_main_v127 val_main_v124
  show _ = Ideal.div ONE (ONE + Ideal.exp (-(a0 (ix3 0 1 C) + ∑ x : Fin 64, rank p lo mu b r ⟨192 + x.val, _⟩ * a2 (ix4 0 1 x C))))
  simp only [← e]
  generalize val_main_v23 (F := Ideal) p lo mu = W
  pointwise [val_main_v132, val_main_cst_12, val_main_v130, val_main_cst_11, val_main_v126, val_main_v125, val_main_v121, val_main_v120, val_main_v123, val_main_v122]

/-- No extended real differs from itself. -/
theorem select_self (z x y : EReal) : Scalar.select (FloatOps.cmpf (F := Ideal) (φ := .f32) .une z z) x y = y := by
  rw [Ideal.cmpf_def]
  simp [Ideal.cmp, Scalar.select]

theorem ref_low0 (w0 : Vec Ideal S2x2x512 .f32) (w2 : Vec Ideal S2x2x64x512 .f32) (b : Fin 4) (r : Fin 2048) (C : Fin 512) :
    val_main_v58 (F := Ideal) p lo mu w0 w2 (ix3 b r C)
      = low (w0 (ix3 0 0 C)) (fun e : Fin 64 => Ideal.tanh (rank p lo mu b r ⟨0 + e.val, by omega⟩)) (fun e => w2 (ix4 0 0 e C)) := by
  have e : ∀ x, val_main_v52 (F := Ideal) p lo mu (ix3 b r x) = Ideal.tanh (rank p lo mu b r ⟨0 + x.val, by omega⟩) := by
    intro x
    rw [val_main_v52_apply, ref_rank0]
    generalize rank p lo mu b r _ = x
    rfl
  unfold low val_main_v58 val_main_v55
  simp only [← e]
  generalize val_main_v52 (F := Ideal) p lo mu = W
  pointwise [val_main_v57, val_main_v56, val_main_v51, val_main_v50, val_main_v54, val_main_v53]

theorem ref_log0 (w0 : Vec Ideal S2x2x512 .f32) (w2 : Vec Ideal S2x2x64x512 .f32) (b : Fin 4) (r : Fin 2048) (C : Fin 512) :
    val_main_v90 (F := Ideal) p lo mu w0 w2 (ix3 b r C) = logDecay p lo mu w0 w2 0 0 (by omega) b r C := by
  have h1 : val_main_v62 (F := Ideal) (ix3 b r C) = HALF := by pointwise [val_main_v62, val_main_cst_4]
  have h2 : val_main_call1_v0 (F := Ideal) (ix3 b r C) = 0 := by pointwise [val_main_call1_v0, val_main_call1_cst]
  have h3 : val_main_call1_v2 (F := Ideal) (ix3 b r C) = 0 := by pointwise [val_main_call1_v2, val_main_call1_cst]
  rw [val_main_v90_apply, val_main_v89_apply, val_main_v63_apply, val_main_v61_apply, val_main_v60_apply, val_main_call1_v4_apply, val_main_call1_v11_apply,
    val_main_call1_v10_apply, val_main_call1_v9_apply, val_main_call1_v8_apply, val_main_call1_v7_apply, val_main_call1_v3_apply, val_main_call1_v1_apply,
    val_main_v59_apply, ref_low0, h1, h2, h3, select_self]
  unfold logDecay rate
  generalize HALF = c
  generalize low _ _ _ = x
  simp only [Ideal.subf_def, sub_zero]
  rfl

theorem ref_low1 (w0 : Vec Ideal S2x2x512 .f32) (w2 : Vec Ideal S2x2x64x512 .f32) (b : Fin 4) (r : Fin 2048) (C : Fin 512) :
    val_main_v114 (F := Ideal) p lo mu w0 w2 (ix3 b r C)
      = low (w0 (ix3 0 1 C)) (fun e : Fin 64 => Ideal.tanh (rank p lo mu b r ⟨64 + e.val, by omega⟩)) (fun e => w2 (ix4 0 1 e C)) := by
  have e : ∀ x, val_main_v108 (F := Ideal) p lo mu (ix3 b r x) = Ideal.tanh (rank p lo mu b r ⟨64 + x.val, by omega⟩) := by
    intro x
    rw [val_main_v108_apply, ref_rank1]
    generalize rank p lo mu b r _ = x
    rfl
  unfold low val_main_v114 val_main_v111
  simp only [← e]
  generalize val_main_v108 (F := Ideal) p lo mu = W
  pointwise [val_main_v113, val_main_v112, val_main_v107, val_main_v106, val_main_v110, val_main_v109]

theorem ref_log1 (w0 : Vec Ideal S2x2x512 .f32) (w2 : Vec Ideal S2x2x64x512 .f32) (b : Fin 4) (r : Fin 2048) (C : Fin 512) :
    val_main_v146 (F := Ideal) p lo mu w0 w2 (ix3 b r C) = logDecay p lo mu w0 w2 1 64 (by omega) b r C := by
  have h1 : val_main_v118 (F := Ideal) (ix3 b r C) = HALF := by pointwise [val_main_v118, val_main_cst_10]
  have h2 : val_main_call2_v0 (F := Ideal) (ix3 b r C) = 0 := by pointwise [val_main_call2_v0, val_main_call2_cst]
  have h3 : val_main_call2_v2 (F := Ideal) (ix3 b r C) = 0 := by pointwise [val_main_call2_v2, val_main_call2_cst]
  rw [val_main_v146_apply, val_main_v145_apply, val_main_v119_apply, val_main_v117_apply, val_main_v116_apply, val_main_call2_v4_apply, val_main_call2_v11_apply,
    val_main_call2_v10_apply, val_main_call2_v9_apply, val_main_call2_v8_apply, val_main_call2_v7_apply, val_main_call2_v3_apply, val_main_call2_v1_apply,
    val_main_v115_apply, ref_low1, h1, h2, h3, select_self]
  unfold logDecay rate
  generalize HALF = c
  generalize low _ _ _ = x
  simp only [Ideal.subf_def, sub_zero]
  rfl

theorem ref_key0 (a0 : Vec Ideal S2x2x512 .f32) (a2 : Vec Ideal S2x2x64x512 .f32) (ka : Vec Ideal S2x512 .f32) (b : Fin 4) (r : Fin 2048) (C : Fin 512) :
    val_main_v87 (F := Ideal) p lo mu a0 a2 ka (ix3 b r C) = keyOf p lo mu a0 a2 ka 0 128 (by omega) b r C := by
  have h1 : val_main_v85 (F := Ideal) (ix3 b r C) = ONE := by pointwise [val_main_v85, val_main_cst_8]
  have h2 : val_main_v78 (F := Ideal) (ix3 b r C) = ONE := by pointwise [val_main_v78, val_main_cst_7]
  have h3 : val_main_v83 (F := Ideal) ka (ix3 b r C) = ka (ix2 0 C) := by pointwise [val_main_v83, val_main_v82, val_main_v81, val_main_v80]
  rw [val_main_v87_apply, val_main_v86_apply, val_main_v84_apply, val_main_v79_apply, ref_pace0, ref_keyRaw, h1, h2, h3]
  unfold keyOf key
  generalize ONE = o
  generalize keyRaw p lo mu b r C = x
  generalize pace p lo mu a0 a2 0 128 _ b r C = y
  rfl

theorem ref_key1 (a0 : Vec Ideal S2x2x512 .f32) (a2 : Vec Ideal S2x2x64x512 .f32) (ka : Vec Ideal S2x512 .f32) (b : Fin 4) (r : Fin 2048) (C : Fin 512) :
    val_main_v143 (F := Ideal) p lo mu a0 a2 ka (ix3 b r C) = keyOf p lo mu a0 a2 ka 1 192 (by omega) b r C := by
  have h1 : val_main_v141 (F := Ideal) (ix3 b r C) = ONE := by pointwise [val_main_v141, val_main_cst_14]
  have h2 : val_main_v134 (F := Ideal) (ix3 b r C) = ONE := by pointwise [val_main_v134, val_main_cst_13]
  have h3 : val_main_v139 (F := Ideal) ka (ix3 b r C) = ka (ix2 0 C) := by pointwise [val_main_v139, val_main_v138, val_main_v137, val_main_v136]
  rw [val_main_v143_apply, val_main_v142_apply, val_main_v140_apply, val_main_v135_apply, ref_pace1, ref_keyRaw, h1, h2, h3]
  unfold keyOf key
  generalize ONE = o
  generalize keyRaw p lo mu b r C = x
  generalize pace p lo mu a0 a2 1 192 _ b r C = y
  rfl

/-- The channel of a head and a place in it. -/
abbrev ch (h : Fin 8) (e : Fin 64) : Fin 512 := ⟨h.val * 64 + e.val, by omega⟩

/-- The channels put by heads, read at a head and a place in it. -/
theorem by_heads (W : Vec Ideal S4x2048x512 .f32) (b : Fin 4) (r : Fin 2048) (h : Fin 8) (e : Fin 64) :
    shapeCast S4x2048x8x64 W shapeCasts_S4x2048x512_S4x2048x8x64 (ix4 b r h e) = W (ix3 b r (ch h e)) := by
  pointwise []

theorem ref_gain (kk : Vec Ideal S2x512 .f32) (b : Fin 4) (r : Fin 2048) (C : Fin 512) : val_main_v28 (F := Ideal) kk (ix3 b r C) = kk (ix2 0 C) := by
  pointwise [val_main_v28, val_main_v27, val_main_v26, val_main_v25]

theorem ref_scaled (kk : Vec Ideal S2x512 .f32) (b : Fin 4) (r : Fin 2048) (h : Fin 8) (e : Fin 64) :
    val_main_v30 (F := Ideal) p lo mu kk (ix4 b r h e) = keyRaw p lo mu b r (ch h e) * kk (ix2 0 (ch h e)) := by
  unfold val_main_v30
  rw [by_heads, val_main_v29_apply, ref_keyRaw, ref_gain]
  rfl

theorem ref_square (kk : Vec Ideal S2x512 .f32) (b : Fin 4) (r : Fin 2048) (h : Fin 8) (C : Fin 512) (hC : h.val = C.val / 64) :
    val_main_v32 (F := Ideal) p lo mu kk (ix3 b r h) = headSum (fun c => keyRaw p lo mu b r c * kk (ix2 0 c) * (keyRaw p lo mu b r c * kk (ix2 0 c))) C := by
  rw [← headSum_at _ C h hC]
  have e : ∀ x, val_main_v31 (F := Ideal) p lo mu kk (ix4 b r h x) = keyRaw p lo mu b r (ch h x) * kk (ix2 0 (ch h x)) * (keyRaw p lo mu b r (ch h x) * kk (ix2 0 (ch h x))) := by
    intro x
    rw [val_main_v31_apply, ref_scaled]
    rfl
  refine Eq.trans ?_ (Finset.sum_congr rfl fun x _ => e x)
  unfold val_main_v32
  generalize val_main_v31 (F := Ideal) p lo mu kk = W
  pointwise [val_main_cst_0]

theorem ref_removal (kk : Vec Ideal S2x512 .f32) (b : Fin 4) (r : Fin 2048) (h : Fin 8) (e : Fin 64) :
    val_main_v38 (F := Ideal) p lo mu kk (ix4 b r h e) = removal p lo mu kk b r (ch h e) := by
  have h1 : val_main_v37 (F := Ideal) p lo mu kk (ix4 b r h e) = val_main_v36 (F := Ideal) p lo mu kk (ix4 b r h 0) := by
    unfold val_main_v37
    generalize val_main_v36 (F := Ideal) p lo mu kk = W
    pointwise []
  have h2 : val_main_v33 (F := Ideal) p lo mu kk (ix4 b r h 0) = val_main_v32 (F := Ideal) p lo mu kk (ix3 b r h) := by
    unfold val_main_v33
    generalize val_main_v32 (F := Ideal) p lo mu kk = W
    pointwise []
  have h3 : val_main_v34 (F := Ideal) (ix4 b r h 0) = EPS := by pointwise [val_main_v34, val_main_cst_1]
  rw [val_main_v38_apply, h1, val_main_v36_apply, val_main_v35_apply, h2, h3, ref_square p lo mu kk b r h (ch h e) (by dsimp only; omega), ref_scaled]
  unfold removal unit
  generalize EPS = o
  generalize headSum _ _ = s
  rfl

theorem ref_bonus0 (a0 : Vec Ideal S2x2x512 .f32) (a2 : Vec Ideal S2x2x64x512 .f32) (ka : Vec Ideal S2x512 .f32) (rk : Vec Ideal S2x8x64 .f32)
    (b : Fin 4) (r : Fin 2048) (h : Fin 8) (e : Fin 64) :
    val_main_v105 (F := Ideal) p lo mu a0 a2 ka rk (ix4 b r h e) = bonusOf p lo mu a0 a2 ka rk 0 128 (by omega) b r (ch h e) := by
  have h1 (x : Fin 64) : val_main_v48 (F := Ideal) p lo mu (ix4 b r h x) = recept p lo mu b r (ch h x) := by
    unfold val_main_v48
    rw [by_heads, ref_recept]
  have h2 (x : Fin 64) : val_main_v88 (F := Ideal) p lo mu a0 a2 ka (ix4 b r h x) = keyOf p lo mu a0 a2 ka 0 128 (by omega) b r (ch h x) := by
    unfold val_main_v88
    rw [by_heads, ref_key0]
  have h3 : val_main_v49 (F := Ideal) p lo mu (ix4 b r h e) = value p lo mu b r (ch h e) := by
    unfold val_main_v49
    rw [by_heads, ref_value]
  have h4 (x : Fin 64) : val_main_v100 (F := Ideal) rk (ix4 b r h x) = rk (ix3 0 h x) := by
    pointwise [val_main_v100, val_main_v99, val_main_v98, val_main_v97]
  have h5 (x : Fin 64) : val_main_v101 (F := Ideal) p lo mu a0 a2 ka rk (ix4 b r h x)
      = recept p lo mu b r (ch h x) * keyOf p lo mu a0 a2 ka 0 128 (by omega) b r (ch h x) * rk (ix3 0 h x) := by
    rw [val_main_v101_apply, val_main_v96_apply, h1, h2, h4]
    rfl
  have h6 : val_main_v104 (F := Ideal) p lo mu a0 a2 ka rk (ix4 b r h e) = ∑ x : Fin 64, val_main_v101 (F := Ideal) p lo mu a0 a2 ka rk (ix4 b r h x) := by
    unfold val_main_v104 val_main_v103 val_main_v102
    generalize val_main_v101 (F := Ideal) p lo mu a0 a2 ka rk = W
    pointwise [val_main_cst_9]
  rw [val_main_v105_apply, h6, h3]
  unfold bonusOf bonus
  rw [← headSum_at _ (ch h e) h (by dsimp only; omega)]
  simp only [h5]
  generalize value p lo mu b r (ch h e) = x
  refine congrArg (fun s : EReal => s * x) ?_
  refine Finset.sum_congr rfl fun x _ => ?_
  have q1 : (⟨(ch h x).val / 64, by omega⟩ : Fin 8) = h := Fin.ext (by dsimp only; omega)
  have q2 : (⟨(ch h x).val % 64, by omega⟩ : Fin 64) = x := Fin.ext (by dsimp only; omega)
  rw [q1, q2]

theorem ref_bonus1 (a0 : Vec Ideal S2x2x512 .f32) (a2 : Vec Ideal S2x2x64x512 .f32) (ka : Vec Ideal S2x512 .f32) (rk : Vec Ideal S2x8x64 .f32)
    (b : Fin 4) (r : Fin 2048) (h : Fin 8) (e : Fin 64) :
    val_main_v161 (F := Ideal) p lo mu a0 a2 ka rk (ix4 b r h e) = bonusOf p lo mu a0 a2 ka rk 1 192 (by omega) b r (ch h e) := by
  have h1 (x : Fin 64) : val_main_v48 (F := Ideal) p lo mu (ix4 b r h x) = recept p lo mu b r (ch h x) := by
    unfold val_main_v48
    rw [by_heads, ref_recept]
  have h2 (x : Fin 64) : val_main_v144 (F := Ideal) p lo mu a0 a2 ka (ix4 b r h x) = keyOf p lo mu a0 a2 ka 1 192 (by omega) b r (ch h x) := by
    unfold val_main_v144
    rw [by_heads, ref_key1]
  have h3 : val_main_v49 (F := Ideal) p lo mu (ix4 b r h e) = value p lo mu b r (ch h e) := by
    unfold val_main_v49
    rw [by_heads, ref_value]
  have h4 (x : Fin 64) : val_main_v156 (F := Ideal) rk (ix4 b r h x) = rk (ix3 0 h x) := by
    pointwise [val_main_v156, val_main_v155, val_main_v154, val_main_v153]
  have h5 (x : Fin 64) : val_main_v157 (F := Ideal) p lo mu a0 a2 ka rk (ix4 b r h x)
      = recept p lo mu b r (ch h x) * keyOf p lo mu a0 a2 ka 1 192 (by omega) b r (ch h x) * rk (ix3 0 h x) := by
    rw [val_main_v157_apply, val_main_v152_apply, h1, h2, h4]
    rfl
  have h6 : val_main_v160 (F := Ideal) p lo mu a0 a2 ka rk (ix4 b r h e) = ∑ x : Fin 64, val_main_v157 (F := Ideal) p lo mu a0 a2 ka rk (ix4 b r h x) := by
    unfold val_main_v160 val_main_v159 val_main_v158
    generalize val_main_v157 (F := Ideal) p lo mu a0 a2 ka rk = W
    pointwise [val_main_cst_15]
  rw [val_main_v161_apply, h6, h3]
  unfold bonusOf bonus
  rw [← headSum_at _ (ch h e) h (by dsimp only; omega)]
  simp only [h5]
  generalize value p lo mu b r (ch h e) = x
  refine congrArg (fun s : EReal => s * x) ?_
  refine Finset.sum_congr rfl fun x _ => ?_
  have q1 : (⟨(ch h x).val / 64, by omega⟩ : Fin 8) = h := Fin.ext (by dsimp only; omega)
  have q2 : (⟨(ch h x).val % 64, by omega⟩ : Fin 64) = x := Fin.ext (by dsimp only; omega)
  rw [q1, q2]

/-- A row's sequence and its place there, and a channel's head and its place there. -/
abbrev sq (R : Fin 8192) : Fin 4 := ⟨R.val / 2048, by omega⟩
abbrev tk (R : Fin 8192) : Fin 2048 := ⟨R.val % 2048, by omega⟩
abbrev hd (C : Fin 512) : Fin 8 := ⟨C.val / 64, by omega⟩
abbrev pl (C : Fin 512) : Fin 64 := ⟨C.val % 64, by omega⟩

theorem ch_hd (C : Fin 512) : ch (hd C) (pl C) = C := Fin.ext (by dsimp only; omega)

theorem flat3 (W : Vec Ideal S4x2048x512 .f32) (R : Fin 8192) (C : Fin 512) :
    shapeCast S8192x512 W shapeCasts_S4x2048x512_S8192x512 (ix2 R C) = W (ix3 (sq R) (tk R) C) := by
  pointwise []

theorem flat4 (W : Vec Ideal S4x2048x8x64 .f32) (R : Fin 8192) (C : Fin 512) :
    shapeCast S8192x512 W shapeCasts_S4x2048x8x64_S8192x512 (ix2 R C) = W (ix4 (sq R) (tk R) (hd C) (pl C)) := by
  pointwise []

theorem out16 : val_main_v162 (F := Ideal) p lo mu = flat (recept p lo mu) := by
  funext i
  idx_vars i
  unfold val_main_v162 flat
  rw [flat3, ref_recept]
  rfl

theorem out17 : val_main_v163 (F := Ideal) p lo mu = flat (value p lo mu) := by
  funext i
  idx_vars i
  unfold val_main_v163 flat
  rw [flat3, ref_value]
  rfl

theorem out18 (kk : Vec Ideal S2x512 .f32) : val_main_v164 (F := Ideal) p lo mu kk = flat (removal p lo mu kk) := by
  funext i
  idx_vars i
  unfold val_main_v164 flat
  rw [flat4, ref_removal, ch_hd]
  rfl

theorem out19 (a0 : Vec Ideal S2x2x512 .f32) (a2 : Vec Ideal S2x2x64x512 .f32) (ka : Vec Ideal S2x512 .f32) (rk : Vec Ideal S2x8x64 .f32) : val_main_v166 (F := Ideal) p lo mu a0 a2 ka rk = flat (fun b r C => bonusOf p lo mu a0 a2 ka rk 0 128 (by omega) b r C + bonusOf p lo mu a0 a2 ka rk 1 192 (by omega) b r C) := by
  funext i
  idx_vars i
  unfold val_main_v166 flat
  rw [flat4, val_main_v165_apply, ref_bonus0, ref_bonus1, ch_hd]
  rfl

theorem out20 (g2 : Vec Ideal S2x128x512 .f32) : val_main_v167 (F := Ideal) p lo mu g2 = flat (gate p lo mu g2) := by
  funext i
  idx_vars i
  unfold val_main_v167 flat
  rw [flat3, ref_gate]
  rfl

theorem out21 (w0 : Vec Ideal S2x2x512 .f32) (w2 : Vec Ideal S2x2x64x512 .f32) : val_main_v91 (F := Ideal) p lo mu w0 w2 = flat (logDecay p lo mu w0 w2 0 0 (by omega)) := by
  funext i
  idx_vars i
  unfold val_main_v91 flat
  rw [flat3, ref_log0]
  rfl

theorem out22 (w0 : Vec Ideal S2x2x512 .f32) (w2 : Vec Ideal S2x2x64x512 .f32) : val_main_v147 (F := Ideal) p lo mu w0 w2 = flat (logDecay p lo mu w0 w2 1 64 (by omega)) := by
  funext i
  idx_vars i
  unfold val_main_v147 flat
  rw [flat3, ref_log1]
  rfl

theorem out23 (a0 : Vec Ideal S2x2x512 .f32) (a2 : Vec Ideal S2x2x64x512 .f32) (ka : Vec Ideal S2x512 .f32) : val_main_v92 (F := Ideal) p lo mu a0 a2 ka = flat (keyOf p lo mu a0 a2 ka 0 128 (by omega)) := by
  funext i
  idx_vars i
  unfold val_main_v92 flat
  rw [flat4]
  unfold val_main_v88
  rw [by_heads, ref_key0, ch_hd]
  rfl

theorem out24 (a0 : Vec Ideal S2x2x512 .f32) (a2 : Vec Ideal S2x2x64x512 .f32) (ka : Vec Ideal S2x512 .f32) : val_main_v148 (F := Ideal) p lo mu a0 a2 ka = flat (keyOf p lo mu a0 a2 ka 1 192 (by omega)) := by
  funext i
  idx_vars i
  unfold val_main_v148 flat
  rw [flat4]
  unfold val_main_v144
  rw [by_heads, ref_key1, ch_hd]
  rfl

theorem out25 (a0 : Vec Ideal S2x2x512 .f32) (a2 : Vec Ideal S2x2x64x512 .f32) (kk : Vec Ideal S2x512 .f32) : val_main_v95 (F := Ideal) p lo mu a0 a2 kk = flat (fun b r C => removal p lo mu kk b r C * pace p lo mu a0 a2 0 128 (by omega) b r C) := by
  funext i
  idx_vars i
  unfold val_main_v95 flat
  rw [flat4, val_main_v94_apply, ref_removal, ch_hd]
  unfold val_main_v93
  rw [by_heads, ref_pace0, ch_hd]
  rfl

theorem out26 (a0 : Vec Ideal S2x2x512 .f32) (a2 : Vec Ideal S2x2x64x512 .f32) (kk : Vec Ideal S2x512 .f32) : val_main_v151 (F := Ideal) p lo mu a0 a2 kk = flat (fun b r C => removal p lo mu kk b r C * pace p lo mu a0 a2 1 192 (by omega) b r C) := by
  funext i
  idx_vars i
  unfold val_main_v151 flat
  rw [flat4, val_main_v150_apply, ref_removal, ch_hd]
  unfold val_main_v149
  rw [by_heads, ref_pace1, ch_hd]
  rfl

end Cert.RwPrepRefIdeal.Whole

end

end
-- ==== Proof.RwPrepTile.lean ====
module

public import proofs.«01_k».proof.Proof.RwPrepOuts
public import proofs.«01_k».proof.Proof.RwPrepBody
public import proofs.«01_k».proof.Proof.RwPrepRef
public import Idealize.ShloMosaic.Lib.Pointwise

@[expose] public section

set_option maxRecDepth 16384

/-! What the body stores of a tile, against the same places of the whole arrays. -/

noncomputable section

open Idealize Idealize.ShloMosaic
open scoped BigOperators

namespace Cert.RwPrepIdeal.Tile

open Cert.RwPrepIdeal Cert.RwPrepIdeal.Gen Cert.RwPrepIdeal.Run Cert.RwPrepIdeal.Body Cert.RwPrepSpec Cert.Softmax
open Cert.RwPrepRefIdeal.Whole (wide chan recept keyRaw value rank removal gate logDecay pace keyOf bonusOf)

theorem hz2 : (![0, 0] : Fin 2 → Nat) = fun _ => 0 := funext fun a => by fin_cases a <;> rfl

/-- Channel `q` of tile `ct`. -/
abbrev col (ct : Fin 4) (q : Fin 128) : Fin 512 := ⟨ct.val * 128 + q.val, by omega⟩

/-- Row `d` of two, and slab `d` of two. -/
theorem row0 (w : Vec Ideal S2x128 .f32) (q : Fin 128) : View.ld w r0_5 (ix2 (0 : Fin 1) q) = w (ix2 0 q) := by
  show w (r0_5.idx (ix2 (0 : Fin 1) q)) = _
  congr 1
  funext a; apply Fin.ext
  match a with
  | ⟨0, _⟩ => rfl
  | ⟨1, _⟩ => show 0 + 1 * q.val = q.val; omega

theorem row1 (w : Vec Ideal S2x128 .f32) (q : Fin 128) : View.ld w r0_7 (ix2 (0 : Fin 1) q) = w (ix2 1 q) := by
  show w (r0_7.idx (ix2 (0 : Fin 1) q)) = _
  congr 1
  funext a; apply Fin.ext
  match a with
  | ⟨0, _⟩ => rfl
  | ⟨1, _⟩ => show 0 + 1 * q.val = q.val; omega

theorem slab0 (w : Vec Ideal S2x64x128 .f32) (e : Fin 64) (q : Fin 128) : View.ld w r0_6 (ix3 (0 : Fin 1) e q) = w (ix3 0 e q) := by
  show w (r0_6.idx (ix3 (0 : Fin 1) e q)) = _
  congr 1
  funext a; apply Fin.ext
  match a with
  | ⟨0, _⟩ => rfl
  | ⟨1, _⟩ => show 0 + 1 * e.val = e.val; omega
  | ⟨2, _⟩ => show 0 + 1 * q.val = q.val; omega

theorem slab1 (w : Vec Ideal S2x64x128 .f32) (e : Fin 64) (q : Fin 128) : View.ld w r0_8 (ix3 (0 : Fin 1) e q) = w (ix3 1 e q) := by
  show w (r0_8.idx (ix3 (0 : Fin 1) e q)) = _
  congr 1
  funext a; apply Fin.ext
  match a with
  | ⟨0, _⟩ => rfl
  | ⟨1, _⟩ => show 0 + 1 * e.val = e.val; omega
  | ⟨2, _⟩ => show 0 + 1 * q.val = q.val; omega

section

variable (p : Vec Ideal S8192x6144 .bf16) (lo : Vec Ideal S8192x384 .f32) (mu : Vec Ideal S2x1920 .f32)
  (w0 : Vec Ideal S2x2x512 .f32) (w2 : Vec Ideal S2x2x64x512 .f32) (a0 : Vec Ideal S2x2x512 .f32) (a2 : Vec Ideal S2x2x64x512 .f32)
  (g2 : Vec Ideal S2x128x512 .f32) (kk ka : Vec Ideal S2x512 .f32) (rk : Vec Ideal S2x8x64 .f32) (b ct : Fin 4)
  (x0 x1 x2 : Vec Ideal S2048x128 .bf16) (x3 : Vec Ideal S2048x384 .f32) (x4 x5 x6 : Vec Ideal S1x128 .f32) (x7 : Vec Ideal S1x384 .f32)
  (x8 : Vec Ideal S2x128 .f32) (x9 : Vec Ideal S2x64x128 .f32) (x10 : Vec Ideal S2x128 .f32) (x11 : Vec Ideal S2x64x128 .f32)
  (x12 : Vec Ideal S128x128 .f32) (x13 x14 x15 : Vec Ideal S1x128 .f32)

/-- The blocks are those of sequence `b` and tile `ct`. -/
structure Tiled : Prop where
  h0 : ∀ s q, x0 (ix2 s q) = wide p lo b s ⟨(col ct q).val, by omega⟩
  h1 : ∀ s q, x1 (ix2 s q) = wide p lo b s ⟨512 + (col ct q).val, by omega⟩
  h2 : ∀ s q, x2 (ix2 s q) = wide p lo b s ⟨1024 + (col ct q).val, by omega⟩
  h3 : ∀ s (l : Fin 384), x3 (ix2 s l) = wide p lo b s ⟨1536 + l.val, by omega⟩
  h4 : ∀ q, x4 (ix2 0 q) = mu (ix2 0 ⟨(col ct q).val, by omega⟩)
  h5 : ∀ q, x5 (ix2 0 q) = mu (ix2 0 ⟨512 + (col ct q).val, by omega⟩)
  h6 : ∀ q, x6 (ix2 0 q) = mu (ix2 0 ⟨1024 + (col ct q).val, by omega⟩)
  h7 : ∀ l : Fin 384, x7 (ix2 0 l) = mu (ix2 0 ⟨1536 + l.val, by omega⟩)
  h8 : ∀ d q, x8 (ix2 d q) = w0 (ix3 0 d (col ct q))
  h9 : ∀ d e q, x9 (ix3 d e q) = w2 (ix4 0 d e (col ct q))
  h10 : ∀ d q, x10 (ix2 d q) = a0 (ix3 0 d (col ct q))
  h11 : ∀ d e q, x11 (ix3 d e q) = a2 (ix4 0 d e (col ct q))
  h12 : ∀ e q, x12 (ix2 e q) = g2 (ix3 0 e (col ct q))
  h13 : ∀ q, x13 (ix2 0 q) = kk (ix2 0 (col ct q))
  h14 : ∀ q, x14 (ix2 0 q) = ka (ix2 0 (col ct q))
  h15 : ∀ q, x15 (ix2 0 q) = rk (ix3 0 ⟨(col ct q).val / 64, by omega⟩ ⟨(col ct q).val % 64, by omega⟩)

/-- The numbers whose sums over heads are taken are finite. -/
structure Finite : Prop where
  f0 : ∀ b s (j : Fin 1920), j.val < 1536 → IsReal (wide p lo b s j)
  f2 : ∀ j : Fin 1920, j.val < 1536 → IsReal (mu (ix2 0 j))
  f8 : ∀ C, IsReal (kk (ix2 0 C))
  f9 : ∀ C, IsReal (ka (ix2 0 C))
  f10 : ∀ h e, IsReal (rk (ix3 0 h e))

end

section

variable {p : Vec Ideal S8192x6144 .bf16} {lo : Vec Ideal S8192x384 .f32} {mu : Vec Ideal S2x1920 .f32}
  {w0 : Vec Ideal S2x2x512 .f32} {w2 : Vec Ideal S2x2x64x512 .f32} {a0 : Vec Ideal S2x2x512 .f32} {a2 : Vec Ideal S2x2x64x512 .f32}
  {g2 : Vec Ideal S2x128x512 .f32} {kk ka : Vec Ideal S2x512 .f32} {rk : Vec Ideal S2x8x64 .f32} {b ct : Fin 4}
  {x0 x1 x2 : Vec Ideal S2048x128 .bf16} {x3 : Vec Ideal S2048x384 .f32} {x4 x5 x6 : Vec Ideal S1x128 .f32} {x7 : Vec Ideal S1x384 .f32}
  {x8 : Vec Ideal S2x128 .f32} {x9 : Vec Ideal S2x64x128 .f32} {x10 : Vec Ideal S2x128 .f32} {x11 : Vec Ideal S2x64x128 .f32}
  {x12 : Vec Ideal S128x128 .f32} {x13 x14 x15 : Vec Ideal S1x128 .f32}

theorem recept_isReal (f : Finite p lo mu kk ka rk) (r : Fin 2048) (C : Fin 512) : IsReal (recept p lo mu b r C) :=
  mixed_isReal _ _ r (fun s => f.f0 b s _ (by dsimp only; omega)) (f.f2 _ (by dsimp only; omega))

theorem keyRaw_isReal (f : Finite p lo mu kk ka rk) (r : Fin 2048) (C : Fin 512) : IsReal (keyRaw p lo mu b r C) :=
  mixed_isReal _ _ r (fun s => f.f0 b s _ (by dsimp only; omega)) (f.f2 _ (by dsimp only; omega))

theorem keyOf_isReal (f : Finite p lo mu kk ka rk) (d : Fin 2) (o : ℕ) (ho : o ≤ 320) (r : Fin 2048) (C : Fin 512) : IsReal (keyOf p lo mu a0 a2 ka d o ho b r C) :=
  key_isReal (keyRaw_isReal f r C) (squash_isReal _) (f.f9 C)

variable (t : Tiled p lo mu w0 w2 a0 a2 g2 kk ka rk b ct x0 x1 x2 x3 x4 x5 x6 x7 x8 x9 x10 x11 x12 x13 x14 x15)
include t

/-! The mixed projections. -/

theorem recept_tile (r : Fin 2048) (q : Fin 128) : k0_pay2 (F := Ideal) x0 x4 (ix2 r q) = recept p lo mu b r (col ct q) := by
  rw [pay2_apply]
  simp only [t.h0, t.h4]
  rfl

theorem key_tile (r : Fin 2048) (q : Fin 128) : k0_pay7 (F := Ideal) (k0_pay3 x1) (k0_pay4 x5) (k0_pay5 x1) k0_pay6 (ix2 r q) = keyRaw p lo mu b r (col ct q) := by
  rw [pay7_apply]
  simp only [t.h1, t.h5]
  rfl

theorem value_tile (r : Fin 2048) (q : Fin 128) : k0_pay8 (F := Ideal) (iota .tc S2048x1 32 [0] iota_S2048x1_d0_w32) x2 x6 (ix2 r q) = value p lo mu b r (col ct q) := by
  rw [pay8_apply]
  simp only [t.h2, t.h6]
  rfl

theorem rank_tile (r : Fin 2048) (l : Fin 384) : k0_pay11 (F := Ideal) (iota .tc S2048x1 32 [0] iota_S2048x1_d0_w32) x3 (k0_pay9 x7) k0_pay10 (ix2 r l) = rank p lo mu b r l := by
  rw [pay11_apply]
  simp only [t.h3, t.h7]
  rfl

/-! The rates, keys, removal key and decays. -/

theorem pace0_tile (A : Vec Ideal S1x128 .f32) (B : Vec Ideal S1x64x128 .f32) (hA : ∀ q, A (ix2 0 q) = a0 (ix3 0 0 (col ct q)))
    (hB : ∀ e q, B (ix3 0 e q) = a2 (ix4 0 0 e (col ct q))) (L : Vec Ideal S2048x384 .f32) (r : Fin 2048) (hL : ∀ l, L (ix2 r l) = rank p lo mu b r l) (q : Fin 128) :
    k0_pay22 (F := Ideal) (k0_pay18 L) A B (ix2 r q) = pace p lo mu a0 a2 0 128 (by omega) b r (col ct q) := by
  rw [pay22_apply]
  simp only [hA, hB, hL]
  rfl

theorem pace1_tile (A : Vec Ideal S1x128 .f32) (B : Vec Ideal S1x64x128 .f32) (hA : ∀ q, A (ix2 0 q) = a0 (ix3 0 1 (col ct q)))
    (hB : ∀ e q, B (ix3 0 e q) = a2 (ix4 0 1 e (col ct q))) (L : Vec Ideal S2048x384 .f32) (r : Fin 2048) (hL : ∀ l, L (ix2 r l) = rank p lo mu b r l) (q : Fin 128) :
    k0_pay29 (F := Ideal) (k0_pay27 L) A B (ix2 r q) = pace p lo mu a0 a2 1 192 (by omega) b r (col ct q) := by
  rw [pay29_apply]
  simp only [hA, hB, hL]
  rfl

theorem key0_tile (A : Vec Ideal S1x128 .f32) (B : Vec Ideal S1x64x128 .f32) (hA : ∀ q, A (ix2 0 q) = a0 (ix3 0 0 (col ct q)))
    (hB : ∀ e q, B (ix3 0 e q) = a2 (ix4 0 0 e (col ct q))) (K : Vec Ideal S2048x128 .f32) (L : Vec Ideal S2048x384 .f32) (r : Fin 2048) (hK : ∀ q, K (ix2 r q) = keyRaw p lo mu b r (col ct q))
    (hL : ∀ l, L (ix2 r l) = rank p lo mu b r l) (q : Fin 128) :
    k0_pay23 (F := Ideal) K (k0_pay18 L) A B x14 (ix2 r q) = keyOf p lo mu a0 a2 ka 0 128 (by omega) b r (col ct q) := by
  rw [pay23_apply]
  simp only [hA, hB, t.h14, hL, hK]
  rfl

theorem key1_tile (A : Vec Ideal S1x128 .f32) (B : Vec Ideal S1x64x128 .f32) (hA : ∀ q, A (ix2 0 q) = a0 (ix3 0 1 (col ct q)))
    (hB : ∀ e q, B (ix3 0 e q) = a2 (ix4 0 1 e (col ct q))) (K : Vec Ideal S2048x128 .f32) (L : Vec Ideal S2048x384 .f32) (r : Fin 2048) (hK : ∀ q, K (ix2 r q) = keyRaw p lo mu b r (col ct q))
    (hL : ∀ l, L (ix2 r l) = rank p lo mu b r l) (q : Fin 128) :
    k0_pay30 (F := Ideal) K (k0_pay27 L) A B x14 (ix2 r q) = keyOf p lo mu a0 a2 ka 1 192 (by omega) b r (col ct q) := by
  rw [pay30_apply]
  simp only [hA, hB, t.h14, hL, hK]
  rfl

theorem removal_tile (f : Finite p lo mu kk ka rk) (K : Vec Ideal S2048x128 .f32) (r : Fin 2048) (hK : ∀ q, K (ix2 r q) = keyRaw p lo mu b r (col ct q)) (q : Fin 128) :
    k0_pay14 (F := Ideal) K (iota .tc S128x128 32 [1] iota_S128x128_d1_w32) k0_pay12 64#32 x13 (ix2 r q) = removal p lo mu kk b r (col ct q) := by
  rw [pay14_apply K x13 r q (fun j => by rw [hK]; exact keyRaw_isReal f r _) (fun j => by rw [t.h13]; exact f.f8 _)]
  simp only [hK, t.h13]
  exact unit_block ct.isLt (fun c => keyRaw p lo mu b r c * kk (ix2 0 c)) q

theorem bonus0_tile (f : Finite p lo mu kk ka rk) (R V K : Vec Ideal S2048x128 .f32) (r : Fin 2048)
    (hR : ∀ q, R (ix2 r q) = recept p lo mu b r (col ct q)) (hV : ∀ q, V (ix2 r q) = value p lo mu b r (col ct q))
    (hK : ∀ q, K (ix2 r q) = keyOf p lo mu a0 a2 ka 0 128 (by omega) b r (col ct q)) (q : Fin 128) :
    k0_pay26 (F := Ideal) R V (k0_pay13 (iota .tc S128x128 32 [1] iota_S128x128_d1_w32) k0_pay12 64#32) k0_pay17 K x15 (ix2 r q)
      = bonusOf p lo mu a0 a2 ka rk 0 128 (by omega) b r (col ct q) := by
  rw [pay26_apply R V K x15 r q (fun j => by rw [hR]; exact recept_isReal f r _) (fun j => by rw [hK]; exact keyOf_isReal f _ _ _ r _)
    (fun j => by rw [t.h15]; exact f.f10 _ _)]
  simp only [hR, hV, hK, t.h15]
  exact bonus_block ct.isLt (recept p lo mu b r) (keyOf p lo mu a0 a2 ka 0 128 (by omega) b r) (value p lo mu b r)
    (fun c => rk (ix3 0 ⟨c.val / 64, by omega⟩ ⟨c.val % 64, by omega⟩)) q

theorem bonus1_tile (f : Finite p lo mu kk ka rk) (R V K A : Vec Ideal S2048x128 .f32) (r : Fin 2048)
    (hR : ∀ q, R (ix2 r q) = recept p lo mu b r (col ct q)) (hV : ∀ q, V (ix2 r q) = value p lo mu b r (col ct q))
    (hK : ∀ q, K (ix2 r q) = keyOf p lo mu a0 a2 ka 1 192 (by omega) b r (col ct q)) (q : Fin 128) :
    k0_pay1 (F := Ideal) V (k0_pay13 (iota .tc S128x128 32 [1] iota_S128x128_d1_w32) k0_pay12 64#32) A (mulf R K) x15 (ix2 r q)
      = A (ix2 r q) + bonusOf p lo mu a0 a2 ka rk 1 192 (by omega) b r (col ct q) := by
  rw [pay1_apply R V K A x15 r q (fun j => by rw [hR]; exact recept_isReal f r _) (fun j => by rw [hK]; exact keyOf_isReal f _ _ _ r _)
    (fun j => by rw [t.h15]; exact f.f10 _ _)]
  simp only [hR, hV, hK, t.h15]
  congr 1
  exact bonus_block ct.isLt (recept p lo mu b r) (keyOf p lo mu a0 a2 ka 1 192 (by omega) b r) (value p lo mu b r)
    (fun c => rk (ix3 0 ⟨c.val / 64, by omega⟩ ⟨c.val % 64, by omega⟩)) q

theorem log0_tile (A : Vec Ideal S1x128 .f32) (B : Vec Ideal S1x64x128 .f32) (hA : ∀ q, A (ix2 0 q) = w0 (ix3 0 0 (col ct q)))
    (hB : ∀ e q, B (ix3 0 e q) = w2 (ix4 0 0 e (col ct q))) (L : Vec Ideal S2048x384 .f32) (r : Fin 2048) (hL : ∀ l, L (ix2 r l) = rank p lo mu b r l) (q : Fin 128) :
    k0_pay24 (F := Ideal) (k0_pay20 L A B) (k0_pay21 L A B) (ix2 r q) = logDecay p lo mu w0 w2 0 0 (by omega) b r (col ct q) := by
  rw [pay24_apply]
  simp only [hA, hB, hL]
  unfold logDecay
  simp only [Nat.zero_add]

theorem log1_tile (A : Vec Ideal S1x128 .f32) (B : Vec Ideal S1x64x128 .f32) (hA : ∀ q, A (ix2 0 q) = w0 (ix3 0 1 (col ct q)))
    (hB : ∀ e q, B (ix3 0 e q) = w2 (ix4 0 1 e (col ct q))) (L : Vec Ideal S2048x384 .f32) (r : Fin 2048) (hL : ∀ l, L (ix2 r l) = rank p lo mu b r l) (q : Fin 128) :
    k0_pay31 (F := Ideal) (k0_pay28 L A B) (ix2 r q) = logDecay p lo mu w0 w2 1 64 (by omega) b r (col ct q) := by
  rw [pay31_apply]
  simp only [hA, hB, hL]
  rfl

theorem gate_tile (L : Vec Ideal S2048x384 .f32) (r : Fin 2048) (hL : ∀ l, L (ix2 r l) = rank p lo mu b r l) (q : Fin 128) :
    k0_pay16 (F := Ideal) (k0_pay15 L) (Scalar.ofBits .f32 0x00000000#32) x12 (ix2 r q) = gate p lo mu g2 b r (col ct q) := by
  rw [pay16_apply]
  simp only [t.h12, hL]
  rfl

/-! What the body stores. -/

theorem out16_tile (r : Fin 2048) (q : Fin 128) : out0_16 x0 x1 x2 x3 x4 x5 x6 x7 x8 x9 x10 x11 x12 x13 x14 x15 (ix2 r q) = recept p lo mu b r (col ct q) := by
  unfold out0_16 k0_pay35
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact recept_tile t r q

theorem out17_tile (r : Fin 2048) (q : Fin 128) : out0_17 x0 x1 x2 x3 x4 x5 x6 x7 x8 x9 x10 x11 x12 x13 x14 x15 (ix2 r q) = value p lo mu b r (col ct q) := by
  unfold out0_17 k0_pay37 k0_pay34
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact value_tile t r q

theorem out18_tile (f : Finite p lo mu kk ka rk) (r : Fin 2048) (q : Fin 128) : out0_18 x0 x1 x2 x3 x4 x5 x6 x7 x8 x9 x10 x11 x12 x13 x14 x15 (ix2 r q) = removal p lo mu kk b r (col ct q) := by
  unfold out0_18 k0_pay42 k0_pay40 k0_pay38 k0_pay36
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact removal_tile t f _ r (key_tile t r) q

theorem out19_tile (f : Finite p lo mu kk ka rk) (r : Fin 2048) (q : Fin 128) : out0_19 x0 x1 x2 x3 x4 x5 x6 x7 x8 x9 x10 x11 x12 x13 x14 x15 (ix2 r q) = bonusOf p lo mu a0 a2 ka rk 0 128 (by omega) b r (col ct q) + bonusOf p lo mu a0 a2 ka rk 1 192 (by omega) b r (col ct q) := by
  unfold out0_19 k0_pay45 k0_pay44 k0_pay43 k0_pay41 k0_pay40 k0_pay39 k0_pay38 k0_pay37 k0_pay36 k0_pay35 k0_pay34
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact (bonus1_tile t f _ _ _ _ r (recept_tile t r) (value_tile t r) (key1_tile t (View.ld x10 r0_7) (View.ld x11 r0_8) (fun q => (row1 x10 q).trans (t.h10 1 q)) (fun e q => (slab1 x11 e q).trans (t.h11 1 e q)) _ _ r (key_tile t r) (rank_tile t r)) q).trans (congrArg (· + _) (bonus0_tile t f _ _ _ r (recept_tile t r) (value_tile t r) (key0_tile t (View.ld x10 r0_5) (View.ld x11 r0_6) (fun q => (row0 x10 q).trans (t.h10 0 q)) (fun e q => (slab0 x11 e q).trans (t.h11 0 e q)) _ _ r (key_tile t r) (rank_tile t r)) q))

theorem out20_tile (r : Fin 2048) (q : Fin 128) : out0_20 x0 x1 x2 x3 x4 x5 x6 x7 x8 x9 x10 x11 x12 x13 x14 x15 (ix2 r q) = gate p lo mu g2 b r (col ct q) := by
  unfold out0_20 k0_pay39 k0_pay34
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact gate_tile t _ r (rank_tile t r) q

theorem out21_tile (r : Fin 2048) (q : Fin 128) : out0_21 x0 x1 x2 x3 x4 x5 x6 x7 x8 x9 x10 x11 x12 x13 x14 x15 (ix2 r q) = logDecay p lo mu w0 w2 0 0 (by omega) b r (col ct q) := by
  unfold out0_21 k0_pay39 k0_pay34
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact log0_tile t (View.ld x8 r0_5) (View.ld x9 r0_6) (fun q => (row0 x8 q).trans (t.h8 0 q)) (fun e q => (slab0 x9 e q).trans (t.h9 0 e q)) _ r (rank_tile t r) q

theorem out22_tile (r : Fin 2048) (q : Fin 128) : out0_22 x0 x1 x2 x3 x4 x5 x6 x7 x8 x9 x10 x11 x12 x13 x14 x15 (ix2 r q) = logDecay p lo mu w0 w2 1 64 (by omega) b r (col ct q) := by
  unfold out0_22 k0_pay39 k0_pay34
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact log1_tile t (View.ld x8 r0_7) (View.ld x9 r0_8) (fun q => (row1 x8 q).trans (t.h8 1 q)) (fun e q => (slab1 x9 e q).trans (t.h9 1 e q)) _ r (rank_tile t r) q

theorem out23_tile (r : Fin 2048) (q : Fin 128) : out0_23 x0 x1 x2 x3 x4 x5 x6 x7 x8 x9 x10 x11 x12 x13 x14 x15 (ix2 r q) = keyOf p lo mu a0 a2 ka 0 128 (by omega) b r (col ct q) := by
  unfold out0_23 k0_pay44 k0_pay43 k0_pay39 k0_pay36 k0_pay34
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact (key0_tile t (View.ld x10 r0_5) (View.ld x11 r0_6) (fun q => (row0 x10 q).trans (t.h10 0 q)) (fun e q => (slab0 x11 e q).trans (t.h11 0 e q)) _ _ r (key_tile t r) (rank_tile t r)) q

theorem out24_tile (r : Fin 2048) (q : Fin 128) : out0_24 x0 x1 x2 x3 x4 x5 x6 x7 x8 x9 x10 x11 x12 x13 x14 x15 (ix2 r q) = keyOf p lo mu a0 a2 ka 1 192 (by omega) b r (col ct q) := by
  unfold out0_24 k0_pay45 k0_pay39 k0_pay36 k0_pay34
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact (key1_tile t (View.ld x10 r0_7) (View.ld x11 r0_8) (fun q => (row1 x10 q).trans (t.h10 1 q)) (fun e q => (slab1 x11 e q).trans (t.h11 1 e q)) _ _ r (key_tile t r) (rank_tile t r)) q

theorem out25_tile (f : Finite p lo mu kk ka rk) (r : Fin 2048) (q : Fin 128) : out0_25 x0 x1 x2 x3 x4 x5 x6 x7 x8 x9 x10 x11 x12 x13 x14 x15 (ix2 r q) = removal p lo mu kk b r (col ct q) * pace p lo mu a0 a2 0 128 (by omega) b r (col ct q) := by
  unfold out0_25 k0_pay43 k0_pay42 k0_pay40 k0_pay39 k0_pay38 k0_pay36 k0_pay34
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact congr (congrArg (· * ·) (removal_tile t f _ r (key_tile t r) q)) (pace0_tile t (View.ld x10 r0_5) (View.ld x11 r0_6) (fun q => (row0 x10 q).trans (t.h10 0 q)) (fun e q => (slab0 x11 e q).trans (t.h11 0 e q)) _ r (rank_tile t r) q)

theorem out26_tile (f : Finite p lo mu kk ka rk) (r : Fin 2048) (q : Fin 128) : out0_26 x0 x1 x2 x3 x4 x5 x6 x7 x8 x9 x10 x11 x12 x13 x14 x15 (ix2 r q) = removal p lo mu kk b r (col ct q) * pace p lo mu a0 a2 1 192 (by omega) b r (col ct q) := by
  unfold out0_26 k0_pay45 k0_pay42 k0_pay40 k0_pay39 k0_pay38 k0_pay36 k0_pay34
  rw [View.canon_unit_zero hz2]
  simp only [View.ld_unit_zero (S := S2048x128) hz2, View.ld_unit_zero (S := S2048x384) hz2, View.ld_unit_zero (S := S1x128) hz2,
    View.ld_unit_zero (S := S1x384) hz2, View.ld_unit_zero (S := S128x128) hz2]
  exact congr (congrArg (· * ·) (removal_tile t f _ r (key_tile t r) q)) (pace1_tile t (View.ld x10 r0_7) (View.ld x11 r0_8) (fun q => (row1 x10 q).trans (t.h10 1 q)) (fun e q => (slab1 x11 e q).trans (t.h11 1 e q)) _ r (rank_tile t r) q)

end

end Cert.RwPrepIdeal.Tile

end

end
-- ==== Proof.RwPrepPlaces.lean ====
module

public import proofs.«01_k».proof.Defs
public import proofs.«01_k».proof.Proof.RwPrepBlocks
public import proofs.«01_k».proof.Proof.RwPrepTile
public import proofs.«01_k».proof.Proof.XAttn
public import Idealize.ShloMosaic.Lib.Pointwise
public import Idealize.ShloMosaic.Lib.StableHlo.RunRead

@[expose] public section

set_option maxRecDepth 16384

/-! The blocks of a point of the grid are those of a sequence and of a tile of channels. -/

noncomputable section

open Idealize Idealize.ShloMosaic Idealize.SL
open scoped BigOperators

namespace Cert.RwPrepIdeal.Claims

open Cert.RwPrepIdeal Cert.RwPrepIdeal.Gen Cert.RwPrepIdeal.Run Cert.RwPrepIdeal.Tile Cert.RwPrepSpec Cert.Softmax
open Cert.XAttnIdeal.Heads (isReal_of_cmp)
open Cert.RwPrepRefIdeal.Whole (wide flat)

variable (m : (ℓ : Loc nD τ sig) → Buf (Elt Ideal) ℓ) (ρ : Dev nD → PrngReg)

/-! The arguments. -/

abbrev argP (c : Dev nD) : Vec Ideal S8192x6144 .bf16 := m ((c.tc : Thread nD τ).loc main_arg0)
abbrev argLo (c : Dev nD) : Vec Ideal S8192x384 .f32 := m ((c.tc : Thread nD τ).loc main_arg1)
abbrev argMu (c : Dev nD) : Vec Ideal S2x1920 .f32 := m ((c.tc : Thread nD τ).loc main_arg2)
abbrev argW0 (c : Dev nD) : Vec Ideal S2x2x512 .f32 := m ((c.tc : Thread nD τ).loc main_arg3)
abbrev argW2 (c : Dev nD) : Vec Ideal S2x2x64x512 .f32 := m ((c.tc : Thread nD τ).loc main_arg4)
abbrev argA0 (c : Dev nD) : Vec Ideal S2x2x512 .f32 := m ((c.tc : Thread nD τ).loc main_arg5)
abbrev argA2 (c : Dev nD) : Vec Ideal S2x2x64x512 .f32 := m ((c.tc : Thread nD τ).loc main_arg6)
abbrev argG2 (c : Dev nD) : Vec Ideal S2x128x512 .f32 := m ((c.tc : Thread nD τ).loc main_arg7)
abbrev argKk (c : Dev nD) : Vec Ideal S2x512 .f32 := m ((c.tc : Thread nD τ).loc main_arg8)
abbrev argKa (c : Dev nD) : Vec Ideal S2x512 .f32 := m ((c.tc : Thread nD τ).loc main_arg9)
abbrev argRk (c : Dev nD) : Vec Ideal S2x8x64 .f32 := m ((c.tc : Thread nD τ).loc main_arg10)

/-! The arrays the launch finds. -/

theorem V_v19' (c : Dev nD) : (V m c main_v19 : Vec Ideal S1x1536 .f32) = shapeCast S1x1536 (extractStridedSlice S1536 ![0] (shapeCast S1920 (extractStridedSlice S1x1920 ![0, 0] (argMu m c) slices_S2x1920_S1x1920_0_0) shapeCasts_S1x1920_S1920) slices_S1920_S1536_0) shapeCasts_S1536_S1x1536 := by
  show StableHlo.after hostOps0 _ _ = _
  after_reads_simp
  rfl

theorem V_v19 (c : Dev nD) (j : Fin 1536) : (V m c main_v19 : Vec Ideal S1x1536 .f32) (ix2 0 j) = argMu m c (ix2 0 ⟨j.val, by omega⟩) := by
  rw [V_v19']
  generalize argMu m c = w
  pointwise

theorem V_v21' (c : Dev nD) : (V m c main_v21 : Vec Ideal S1x384 .f32) = shapeCast S1x384 (extractStridedSlice S384 ![1536] (shapeCast S1920 (extractStridedSlice S1x1920 ![0, 0] (argMu m c) slices_S2x1920_S1x1920_0_0) shapeCasts_S1x1920_S1920) slices_S1920_S384_1536) shapeCasts_S384_S1x384 := by
  show StableHlo.after hostOps0 _ _ = _
  after_reads_simp
  rfl

theorem V_v21 (c : Dev nD) (j : Fin 384) : (V m c main_v21 : Vec Ideal S1x384 .f32) (ix2 0 j) = argMu m c (ix2 0 ⟨1536 + j.val, by omega⟩) := by
  rw [V_v21']
  generalize argMu m c = w
  pointwise

theorem V_v3' (c : Dev nD) : (V m c main_v3 : Vec Ideal S2x512 .f32) = shapeCast S2x512 (extractStridedSlice S1x2x512 ![0, 0, 0] (argW0 m c) slices_S2x2x512_S1x2x512_0_0_0) shapeCasts_S1x2x512_S2x512 := by
  show StableHlo.after hostOps0 _ _ = _
  after_reads_simp
  rfl

theorem V_v3 (c : Dev nD) (d : Fin 2) (j : Fin 512) : (V m c main_v3 : Vec Ideal S2x512 .f32) (ix2 d j) = argW0 m c (ix3 0 d j) := by
  rw [V_v3']
  generalize argW0 m c = w
  pointwise

theorem V_v5' (c : Dev nD) : (V m c main_v5 : Vec Ideal S2x64x512 .f32) = shapeCast S2x64x512 (extractStridedSlice S1x2x64x512 ![0, 0, 0, 0] (argW2 m c) slices_S2x2x64x512_S1x2x64x512_0_0_0_0) shapeCasts_S1x2x64x512_S2x64x512 := by
  show StableHlo.after hostOps0 _ _ = _
  after_reads_simp
  rfl

theorem V_v5 (c : Dev nD) (d : Fin 2) (e : Fin 64) (j : Fin 512) : (V m c main_v5 : Vec Ideal S2x64x512 .f32) (ix3 d e j) = argW2 m c (ix4 0 d e j) := by
  rw [V_v5']
  generalize argW2 m c = w
  pointwise

theorem V_v7' (c : Dev nD) : (V m c main_v7 : Vec Ideal S2x512 .f32) = shapeCast S2x512 (extractStridedSlice S1x2x512 ![0, 0, 0] (argA0 m c) slices_S2x2x512_S1x2x512_0_0_0) shapeCasts_S1x2x512_S2x512 := by
  show StableHlo.after hostOps0 _ _ = _
  after_reads_simp
  rfl

theorem V_v7 (c : Dev nD) (d : Fin 2) (j : Fin 512) : (V m c main_v7 : Vec Ideal S2x512 .f32) (ix2 d j) = argA0 m c (ix3 0 d j) := by
  rw [V_v7']
  generalize argA0 m c = w
  pointwise

theorem V_v9' (c : Dev nD) : (V m c main_v9 : Vec Ideal S2x64x512 .f32) = shapeCast S2x64x512 (extractStridedSlice S1x2x64x512 ![0, 0, 0, 0] (argA2 m c) slices_S2x2x64x512_S1x2x64x512_0_0_0_0) shapeCasts_S1x2x64x512_S2x64x512 := by
  show StableHlo.after hostOps0 _ _ = _
  after_reads_simp
  rfl

theorem V_v9 (c : Dev nD) (d : Fin 2) (e : Fin 64) (j : Fin 512) : (V m c main_v9 : Vec Ideal S2x64x512 .f32) (ix3 d e j) = argA2 m c (ix4 0 d e j) := by
  rw [V_v9']
  generalize argA2 m c = w
  pointwise

theorem V_v11' (c : Dev nD) : (V m c main_v11 : Vec Ideal S128x512 .f32) = shapeCast S128x512 (extractStridedSlice S1x128x512 ![0, 0, 0] (argG2 m c) slices_S2x128x512_S1x128x512_0_0_0) shapeCasts_S1x128x512_S128x512 := by
  show StableHlo.after hostOps0 _ _ = _
  after_reads_simp
  rfl

theorem V_v11 (c : Dev nD) (e : Fin 128) (j : Fin 512) : (V m c main_v11 : Vec Ideal S128x512 .f32) (ix2 e j) = argG2 m c (ix3 0 e j) := by
  rw [V_v11']
  generalize argG2 m c = w
  pointwise

theorem V_v22' (c : Dev nD) : (V m c main_v22 : Vec Ideal S1x512 .f32) = shapeCast S1x512 (shapeCast S512 (extractStridedSlice S1x512 ![0, 0] (argKk m c) slices_S2x512_S1x512_0_0) shapeCasts_S1x512_S512) shapeCasts_S512_S1x512 := by
  show StableHlo.after hostOps0 _ _ = _
  after_reads_simp
  rfl

theorem V_v22 (c : Dev nD) (j : Fin 512) : (V m c main_v22 : Vec Ideal S1x512 .f32) (ix2 0 j) = argKk m c (ix2 0 j) := by
  rw [V_v22']
  generalize argKk m c = w
  pointwise

theorem V_v23' (c : Dev nD) : (V m c main_v23 : Vec Ideal S1x512 .f32) = shapeCast S1x512 (shapeCast S512 (extractStridedSlice S1x512 ![0, 0] (argKa m c) slices_S2x512_S1x512_0_0) shapeCasts_S1x512_S512) shapeCasts_S512_S1x512 := by
  show StableHlo.after hostOps0 _ _ = _
  after_reads_simp
  rfl

theorem V_v23 (c : Dev nD) (j : Fin 512) : (V m c main_v23 : Vec Ideal S1x512 .f32) (ix2 0 j) = argKa m c (ix2 0 j) := by
  rw [V_v23']
  generalize argKa m c = w
  pointwise

theorem V_v24' (c : Dev nD) : (V m c main_v24 : Vec Ideal S1x512 .f32) = shapeCast S1x512 (shapeCast S8x64 (extractStridedSlice S1x8x64 ![0, 0, 0] (argRk m c) slices_S2x8x64_S1x8x64_0_0_0) shapeCasts_S1x8x64_S8x64) shapeCasts_S8x64_S1x512 := by
  show StableHlo.after hostOps0 _ _ = _
  after_reads_simp
  rfl

theorem V_v24 (c : Dev nD) (j : Fin 512) : (V m c main_v24 : Vec Ideal S1x512 .f32) (ix2 0 j) = argRk m c (ix3 0 ⟨j.val / 64, by omega⟩ ⟨j.val % 64, by omega⟩) := by
  rw [V_v24']
  generalize argRk m c = w
  pointwise

/-! Which blocks the grid's points read, against the ones they write. -/

theorem maps16 : ∀ t : Fin grid0.N, win0_16.index t 0 < 4 ∧ win0_16.index t 1 < 4 := by decide +kernel
theorem maps0 : ∀ t : Fin grid0.N, win0_0.index t 0 = win0_16.index t 0 ∧ win0_0.index t 1 = 36 + win0_16.index t 1 := by decide +kernel
theorem maps1 : ∀ t : Fin grid0.N, win0_1.index t 0 = win0_16.index t 0 ∧ win0_1.index t 1 = 40 + win0_16.index t 1 := by decide +kernel
theorem maps2 : ∀ t : Fin grid0.N, win0_2.index t 0 = win0_16.index t 0 ∧ win0_2.index t 1 = 44 + win0_16.index t 1 := by decide +kernel
theorem maps3 : ∀ t : Fin grid0.N, win0_3.index t 0 = win0_16.index t 0 ∧ win0_3.index t 1 = 0 := by decide +kernel
theorem maps4 : ∀ t : Fin grid0.N, win0_4.index t 0 = 0 ∧ win0_4.index t 1 = win0_16.index t 1 := by decide +kernel
theorem maps5 : ∀ t : Fin grid0.N, win0_5.index t 0 = 0 ∧ win0_5.index t 1 = 4 + win0_16.index t 1 := by decide +kernel
theorem maps6 : ∀ t : Fin grid0.N, win0_6.index t 0 = 0 ∧ win0_6.index t 1 = 8 + win0_16.index t 1 := by decide +kernel
theorem maps7 : ∀ t : Fin grid0.N, win0_7.index t 0 = 0 ∧ win0_7.index t 1 = 0 := by decide +kernel
theorem maps8 : ∀ t : Fin grid0.N, win0_8.index t 0 = 0 ∧ win0_8.index t 1 = win0_16.index t 1 := by decide +kernel
theorem maps9 : ∀ t : Fin grid0.N, win0_9.index t 0 = 0 ∧ win0_9.index t 1 = 0 ∧ win0_9.index t 2 = win0_16.index t 1 := by decide +kernel
theorem maps10 : ∀ t : Fin grid0.N, win0_10.index t 0 = 0 ∧ win0_10.index t 1 = win0_16.index t 1 := by decide +kernel
theorem maps11 : ∀ t : Fin grid0.N, win0_11.index t 0 = 0 ∧ win0_11.index t 1 = 0 ∧ win0_11.index t 2 = win0_16.index t 1 := by decide +kernel
theorem maps12 : ∀ t : Fin grid0.N, win0_12.index t 0 = 0 ∧ win0_12.index t 1 = win0_16.index t 1 := by decide +kernel
theorem maps13 : ∀ t : Fin grid0.N, win0_13.index t 0 = 0 ∧ win0_13.index t 1 = win0_16.index t 1 := by decide +kernel
theorem maps14 : ∀ t : Fin grid0.N, win0_14.index t 0 = 0 ∧ win0_14.index t 1 = win0_16.index t 1 := by decide +kernel
theorem maps15 : ∀ t : Fin grid0.N, win0_15.index t 0 = 0 ∧ win0_15.index t 1 = win0_16.index t 1 := by decide +kernel

/-! The blocks of a point, and their places in the arrays the launch finds. -/

abbrev blk0 (c : Dev nD) (t : Fin cfg0.N) : Vec Ideal S2048x128 .bf16 := iblk m c 0 t
abbrev blk1 (c : Dev nD) (t : Fin cfg0.N) : Vec Ideal S2048x128 .bf16 := iblk m c 1 t
abbrev blk2 (c : Dev nD) (t : Fin cfg0.N) : Vec Ideal S2048x128 .bf16 := iblk m c 2 t
abbrev blk3 (c : Dev nD) (t : Fin cfg0.N) : Vec Ideal S2048x384 .f32 := iblk m c 3 t
abbrev blk4 (c : Dev nD) (t : Fin cfg0.N) : Vec Ideal S1x128 .f32 := iblk m c 4 t
abbrev blk5 (c : Dev nD) (t : Fin cfg0.N) : Vec Ideal S1x128 .f32 := iblk m c 5 t
abbrev blk6 (c : Dev nD) (t : Fin cfg0.N) : Vec Ideal S1x128 .f32 := iblk m c 6 t
abbrev blk7 (c : Dev nD) (t : Fin cfg0.N) : Vec Ideal S1x384 .f32 := iblk m c 7 t
abbrev blk8 (c : Dev nD) (t : Fin cfg0.N) : Vec Ideal S2x128 .f32 := iblk m c 8 t
abbrev blk9 (c : Dev nD) (t : Fin cfg0.N) : Vec Ideal S2x64x128 .f32 := iblk m c 9 t
abbrev blk10 (c : Dev nD) (t : Fin cfg0.N) : Vec Ideal S2x128 .f32 := iblk m c 10 t
abbrev blk11 (c : Dev nD) (t : Fin cfg0.N) : Vec Ideal S2x64x128 .f32 := iblk m c 11 t
abbrev blk12 (c : Dev nD) (t : Fin cfg0.N) : Vec Ideal S128x128 .f32 := iblk m c 12 t
abbrev blk13 (c : Dev nD) (t : Fin cfg0.N) : Vec Ideal S1x128 .f32 := iblk m c 13 t
abbrev blk14 (c : Dev nD) (t : Fin cfg0.N) : Vec Ideal S1x128 .f32 := iblk m c 14 t
abbrev blk15 (c : Dev nD) (t : Fin cfg0.N) : Vec Ideal S1x128 .f32 := iblk m c 15 t

theorem blk0_apply (c : Dev nD) (t : Fin cfg0.N) (r : Fin 2048) (q : Fin 128) (R : Fin 8192) (Q : Fin 6144)
    (hR : R.val = (win0_16.index t 0) * 2048 + r.val) (hQ : Q.val = (36 + win0_16.index t 1) * 128 + q.val) :
    blk0 m c t (ix2 r q) = argP m c (ix2 R Q) := by
  obtain ⟨h0, h1⟩ := maps0 t
  show V m c main_arg0 ((win0_0.rect t).emb (ix2 r q)) = _
  rw [V_main_arg0]
  congr 1
  funext a; apply Fin.ext
  match a with
  | ⟨0, _⟩ => exact (win0_0.rect_emb_val t (ix2 r q) 0).trans (by rw [h0]; exact hR.symm)
  | ⟨1, _⟩ => exact (win0_0.rect_emb_val t (ix2 r q) 1).trans (by rw [h1]; exact hQ.symm)

theorem blk1_apply (c : Dev nD) (t : Fin cfg0.N) (r : Fin 2048) (q : Fin 128) (R : Fin 8192) (Q : Fin 6144)
    (hR : R.val = (win0_16.index t 0) * 2048 + r.val) (hQ : Q.val = (40 + win0_16.index t 1) * 128 + q.val) :
    blk1 m c t (ix2 r q) = argP m c (ix2 R Q) := by
  obtain ⟨h0, h1⟩ := maps1 t
  show V m c main_arg0 ((win0_1.rect t).emb (ix2 r q)) = _
  rw [V_main_arg0]
  congr 1
  funext a; apply Fin.ext
  match a with
  | ⟨0, _⟩ => exact (win0_1.rect_emb_val t (ix2 r q) 0).trans (by rw [h0]; exact hR.symm)
  | ⟨1, _⟩ => exact (win0_1.rect_emb_val t (ix2 r q) 1).trans (by rw [h1]; exact hQ.symm)

theorem blk2_apply (c : Dev nD) (t : Fin cfg0.N) (r : Fin 2048) (q : Fin 128) (R : Fin 8192) (Q : Fin 6144)
    (hR : R.val = (win0_16.index t 0) * 2048 + r.val) (hQ : Q.val = (44 + win0_16.index t 1) * 128 + q.val) :
    blk2 m c t (ix2 r q) = argP m c (ix2 R Q) := by
  obtain ⟨h0, h1⟩ := maps2 t
  show V m c main_arg0 ((win0_2.rect t).emb (ix2 r q)) = _
  rw [V_main_arg0]
  congr 1
  funext a; apply Fin.ext
  match a with
  | ⟨0, _⟩ => exact (win0_2.rect_emb_val t (ix2 r q) 0).trans (by rw [h0]; exact hR.symm)
  | ⟨1, _⟩ => exact (win0_2.rect_emb_val t (ix2 r q) 1).trans (by rw [h1]; exact hQ.symm)

theorem blk3_apply (c : Dev nD) (t : Fin cfg0.N) (r : Fin 2048) (q : Fin 384) (R : Fin 8192) (Q : Fin 384)
    (hR : R.val = (win0_16.index t 0) * 2048 + r.val) (hQ : Q.val = (0) * 384 + q.val) :
    blk3 m c t (ix2 r q) = argLo m c (ix2 R Q) := by
  obtain ⟨h0, h1⟩ := maps3 t
  show V m c main_arg1 ((win0_3.rect t).emb (ix2 r q)) = _
  rw [V_main_arg1]
  congr 1
  funext a; apply Fin.ext
  match a with
  | ⟨0, _⟩ => exact (win0_3.rect_emb_val t (ix2 r q) 0).trans (by rw [h0]; exact hR.symm)
  | ⟨1, _⟩ => exact (win0_3.rect_emb_val t (ix2 r q) 1).trans (by rw [h1]; exact hQ.symm)

theorem blk4_apply (c : Dev nD) (t : Fin cfg0.N) (r : Fin 1) (q : Fin 128) (R : Fin 1) (Q : Fin 1536)
    (hR : R.val = (0) * 1 + r.val) (hQ : Q.val = (win0_16.index t 1) * 128 + q.val) :
    blk4 m c t (ix2 r q) = (V m c main_v19 : Vec Ideal S1x1536 .f32) (ix2 R Q) := by
  obtain ⟨h0, h1⟩ := maps4 t
  show (V m c main_v19 : Vec Ideal S1x1536 .f32) ((win0_4.rect t).emb (ix2 r q)) = _
  congr 1
  funext a; apply Fin.ext
  match a with
  | ⟨0, _⟩ => exact (win0_4.rect_emb_val t (ix2 r q) 0).trans (by rw [h0]; exact hR.symm)
  | ⟨1, _⟩ => exact (win0_4.rect_emb_val t (ix2 r q) 1).trans (by rw [h1]; exact hQ.symm)

theorem blk5_apply (c : Dev nD) (t : Fin cfg0.N) (r : Fin 1) (q : Fin 128) (R : Fin 1) (Q : Fin 1536)
    (hR : R.val = (0) * 1 + r.val) (hQ : Q.val = (4 + win0_16.index t 1) * 128 + q.val) :
    blk5 m c t (ix2 r q) = (V m c main_v19 : Vec Ideal S1x1536 .f32) (ix2 R Q) := by
  obtain ⟨h0, h1⟩ := maps5 t
  show (V m c main_v19 : Vec Ideal S1x1536 .f32) ((win0_5.rect t).emb (ix2 r q)) = _
  congr 1
  funext a; apply Fin.ext
  match a with
  | ⟨0, _⟩ => exact (win0_5.rect_emb_val t (ix2 r q) 0).trans (by rw [h0]; exact hR.symm)
  | ⟨1, _⟩ => exact (win0_5.rect_emb_val t (ix2 r q) 1).trans (by rw [h1]; exact hQ.symm)

theorem blk6_apply (c : Dev nD) (t : Fin cfg0.N) (r : Fin 1) (q : Fin 128) (R : Fin 1) (Q : Fin 1536)
    (hR : R.val = (0) * 1 + r.val) (hQ : Q.val = (8 + win0_16.index t 1) * 128 + q.val) :
    blk6 m c t (ix2 r q) = (V m c main_v19 : Vec Ideal S1x1536 .f32) (ix2 R Q) := by
  obtain ⟨h0, h1⟩ := maps6 t
  show (V m c main_v19 : Vec Ideal S1x1536 .f32) ((win0_6.rect t).emb (ix2 r q)) = _
  congr 1
  funext a; apply Fin.ext
  match a with
  | ⟨0, _⟩ => exact (win0_6.rect_emb_val t (ix2 r q) 0).trans (by rw [h0]; exact hR.symm)
  | ⟨1, _⟩ => exact (win0_6.rect_emb_val t (ix2 r q) 1).trans (by rw [h1]; exact hQ.symm)

theorem blk7_apply (c : Dev nD) (t : Fin cfg0.N) (r : Fin 1) (q : Fin 384) (R : Fin 1) (Q : Fin 384)
    (hR : R.val = (0) * 1 + r.val) (hQ : Q.val = (0) * 384 + q.val) :
    blk7 m c t (ix2 r q) = (V m c main_v21 : Vec Ideal S1x384 .f32) (ix2 R Q) := by
  obtain ⟨h0, h1⟩ := maps7 t
  show (V m c main_v21 : Vec Ideal S1x384 .f32) ((win0_7.rect t).emb (ix2 r q)) = _
  congr 1
  funext a; apply Fin.ext
  match a with
  | ⟨0, _⟩ => exact (win0_7.rect_emb_val t (ix2 r q) 0).trans (by rw [h0]; exact hR.symm)
  | ⟨1, _⟩ => exact (win0_7.rect_emb_val t (ix2 r q) 1).trans (by rw [h1]; exact hQ.symm)

theorem blk8_apply (c : Dev nD) (t : Fin cfg0.N) (r : Fin 2) (q : Fin 128) (R : Fin 2) (Q : Fin 512)
    (hR : R.val = (0) * 2 + r.val) (hQ : Q.val = (win0_16.index t 1) * 128 + q.val) :
    blk8 m c t (ix2 r q) = (V m c main_v3 : Vec Ideal S2x512 .f32) (ix2 R Q) := by
  obtain ⟨h0, h1⟩ := maps8 t
  show (V m c main_v3 : Vec Ideal S2x512 .f32) ((win0_8.rect t).emb (ix2 r q)) = _
  congr 1
  funext a; apply Fin.ext
  match a with
  | ⟨0, _⟩ => exact (win0_8.rect_emb_val t (ix2 r q) 0).trans (by rw [h0]; exact hR.symm)
  | ⟨1, _⟩ => exact (win0_8.rect_emb_val t (ix2 r q) 1).trans (by rw [h1]; exact hQ.symm)

theorem blk9_apply (c : Dev nD) (t : Fin cfg0.N) (r : Fin 2) (q : Fin 64) (z : Fin 128) (R : Fin 2) (Q : Fin 64) (Z : Fin 512)
    (hR : R.val = (0) * 2 + r.val) (hQ : Q.val = (0) * 64 + q.val) (hZ : Z.val = (win0_16.index t 1) * 128 + z.val) :
    blk9 m c t (ix3 r q z) = (V m c main_v5 : Vec Ideal S2x64x512 .f32) (ix3 R Q Z) := by
  obtain ⟨h0, h1, h2⟩ := maps9 t
  show (V m c main_v5 : Vec Ideal S2x64x512 .f32) ((win0_9.rect t).emb (ix3 r q z)) = _
  congr 1
  funext a; apply Fin.ext
  match a with
  | ⟨0, _⟩ => exact (win0_9.rect_emb_val t (ix3 r q z) 0).trans (by rw [h0]; exact hR.symm)
  | ⟨1, _⟩ => exact (win0_9.rect_emb_val t (ix3 r q z) 1).trans (by rw [h1]; exact hQ.symm)
  | ⟨2, _⟩ => exact (win0_9.rect_emb_val t (ix3 r q z) 2).trans (by rw [h2]; exact hZ.symm)

theorem blk10_apply (c : Dev nD) (t : Fin cfg0.N) (r : Fin 2) (q : Fin 128) (R : Fin 2) (Q : Fin 512)
    (hR : R.val = (0) * 2 + r.val) (hQ : Q.val = (win0_16.index t 1) * 128 + q.val) :
    blk10 m c t (ix2 r q) = (V m c main_v7 : Vec Ideal S2x512 .f32) (ix2 R Q) := by
  obtain ⟨h0, h1⟩ := maps10 t
  show (V m c main_v7 : Vec Ideal S2x512 .f32) ((win0_10.rect t).emb (ix2 r q)) = _
  congr 1
  funext a; apply Fin.ext
  match a with
  | ⟨0, _⟩ => exact (win0_10.rect_emb_val t (ix2 r q) 0).trans (by rw [h0]; exact hR.symm)
  | ⟨1, _⟩ => exact (win0_10.rect_emb_val t (ix2 r q) 1).trans (by rw [h1]; exact hQ.symm)

theorem blk11_apply (c : Dev nD) (t : Fin cfg0.N) (r : Fin 2) (q : Fin 64) (z : Fin 128) (R : Fin 2) (Q : Fin 64) (Z : Fin 512)
    (hR : R.val = (0) * 2 + r.val) (hQ : Q.val = (0) * 64 + q.val) (hZ : Z.val = (win0_16.index t 1) * 128 + z.val) :
    blk11 m c t (ix3 r q z) = (V m c main_v9 : Vec Ideal S2x64x512 .f32) (ix3 R Q Z) := by
  obtain ⟨h0, h1, h2⟩ := maps11 t
  show (V m c main_v9 : Vec Ideal S2x64x512 .f32) ((win0_11.rect t).emb (ix3 r q z)) = _
  congr 1
  funext a; apply Fin.ext
  match a with
  | ⟨0, _⟩ => exact (win0_11.rect_emb_val t (ix3 r q z) 0).trans (by rw [h0]; exact hR.symm)
  | ⟨1, _⟩ => exact (win0_11.rect_emb_val t (ix3 r q z) 1).trans (by rw [h1]; exact hQ.symm)
  | ⟨2, _⟩ => exact (win0_11.rect_emb_val t (ix3 r q z) 2).trans (by rw [h2]; exact hZ.symm)

theorem blk12_apply (c : Dev nD) (t : Fin cfg0.N) (r : Fin 128) (q : Fin 128) (R : Fin 128) (Q : Fin 512)
    (hR : R.val = (0) * 128 + r.val) (hQ : Q.val = (win0_16.index t 1) * 128 + q.val) :
    blk12 m c t (ix2 r q) = (V m c main_v11 : Vec Ideal S128x512 .f32) (ix2 R Q) := by
  obtain ⟨h0, h1⟩ := maps12 t
  show (V m c main_v11 : Vec Ideal S128x512 .f32) ((win0_12.rect t).emb (ix2 r q)) = _
  congr 1
  funext a; apply Fin.ext
  match a with
  | ⟨0, _⟩ => exact (win0_12.rect_emb_val t (ix2 r q) 0).trans (by rw [h0]; exact hR.symm)
  | ⟨1, _⟩ => exact (win0_12.rect_emb_val t (ix2 r q) 1).trans (by rw [h1]; exact hQ.symm)

theorem blk13_apply (c : Dev nD) (t : Fin cfg0.N) (r : Fin 1) (q : Fin 128) (R : Fin 1) (Q : Fin 512)
    (hR : R.val = (0) * 1 + r.val) (hQ : Q.val = (win0_16.index t 1) * 128 + q.val) :
    blk13 m c t (ix2 r q) = (V m c main_v22 : Vec Ideal S1x512 .f32) (ix2 R Q) := by
  obtain ⟨h0, h1⟩ := maps13 t
  show (V m c main_v22 : Vec Ideal S1x512 .f32) ((win0_13.rect t).emb (ix2 r q)) = _
  congr 1
  funext a; apply Fin.ext
  match a with
  | ⟨0, _⟩ => exact (win0_13.rect_emb_val t (ix2 r q) 0).trans (by rw [h0]; exact hR.symm)
  | ⟨1, _⟩ => exact (win0_13.rect_emb_val t (ix2 r q) 1).trans (by rw [h1]; exact hQ.symm)

theorem blk14_apply (c : Dev nD) (t : Fin cfg0.N) (r : Fin 1) (q : Fin 128) (R : Fin 1) (Q : Fin 512)
    (hR : R.val = (0) * 1 + r.val) (hQ : Q.val = (win0_16.index t 1) * 128 + q.val) :
    blk14 m c t (ix2 r q) = (V m c main_v23 : Vec Ideal S1x512 .f32) (ix2 R Q) := by
  obtain ⟨h0, h1⟩ := maps14 t
  show (V m c main_v23 : Vec Ideal S1x512 .f32) ((win0_14.rect t).emb (ix2 r q)) = _
  congr 1
  funext a; apply Fin.ext
  match a with
  | ⟨0, _⟩ => exact (win0_14.rect_emb_val t (ix2 r q) 0).trans (by rw [h0]; exact hR.symm)
  | ⟨1, _⟩ => exact (win0_14.rect_emb_val t (ix2 r q) 1).trans (by rw [h1]; exact hQ.symm)

theorem blk15_apply (c : Dev nD) (t : Fin cfg0.N) (r : Fin 1) (q : Fin 128) (R : Fin 1) (Q : Fin 512)
    (hR : R.val = (0) * 1 + r.val) (hQ : Q.val = (win0_16.index t 1) * 128 + q.val) :
    blk15 m c t (ix2 r q) = (V m c main_v24 : Vec Ideal S1x512 .f32) (ix2 R Q) := by
  obtain ⟨h0, h1⟩ := maps15 t
  show (V m c main_v24 : Vec Ideal S1x512 .f32) ((win0_15.rect t).emb (ix2 r q)) = _
  congr 1
  funext a; apply Fin.ext
  match a with
  | ⟨0, _⟩ => exact (win0_15.rect_emb_val t (ix2 r q) 0).trans (by rw [h0]; exact hR.symm)
  | ⟨1, _⟩ => exact (win0_15.rect_emb_val t (ix2 r q) 1).trans (by rw [h1]; exact hQ.symm)

/-- The sequence and the tile of a point. -/
def seq (t : Fin cfg0.N) : Fin 4 := ⟨win0_16.index t 0, (maps16 t).1⟩
def strip (t : Fin cfg0.N) : Fin 4 := ⟨win0_16.index t 1, (maps16 t).2⟩

/-- The blocks are the tile's. -/
theorem tile (c : Dev nD) (t : Fin cfg0.N) :
    Tiled (argP m c) (argLo m c) (argMu m c) (argW0 m c) (argW2 m c) (argA0 m c) (argA2 m c) (argG2 m c) (argKk m c) (argKa m c) (argRk m c) (seq t) (strip t)
      (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) where
  h0 := fun s q => by
    unfold wide
    rw [dif_pos (by show ((strip t).val * 128 + q.val) < 1536; have := (strip t).isLt; omega)]
    exact blk0_apply m c t s q _ _ rfl (by show 4608 + (win0_16.index t 1 * 128 + q.val) = _; omega)
  h1 := fun s q => by
    unfold wide
    rw [dif_pos (by show 512 + ((strip t).val * 128 + q.val) < 1536; have := (strip t).isLt; omega)]
    exact blk1_apply m c t s q _ _ rfl (by show 4608 + (512 + (win0_16.index t 1 * 128 + q.val)) = _; omega)
  h2 := fun s q => by
    unfold wide
    rw [dif_pos (by show 1024 + ((strip t).val * 128 + q.val) < 1536; have := (strip t).isLt; omega)]
    exact blk2_apply m c t s q _ _ rfl (by show 4608 + (1024 + (win0_16.index t 1 * 128 + q.val)) = _; omega)
  h3 := fun s l => by
    unfold wide
    rw [dif_neg (by show ¬ 1536 + l.val < 1536; omega)]
    exact blk3_apply m c t s l _ _ rfl (by show 1536 + l.val - 1536 = _; omega)
  h4 := fun q => (blk4_apply m c t 0 q 0 ⟨(col (strip t) q).val, by have := (col (strip t) q).isLt; omega⟩ rfl (by show (win0_16.index t 1 * 128 + q.val) = _; omega)).trans (V_v19 m c _)
  h5 := fun q => (blk5_apply m c t 0 q 0 ⟨512 + (col (strip t) q).val, by have := (col (strip t) q).isLt; omega⟩ rfl (by show 512 + (win0_16.index t 1 * 128 + q.val) = _; omega)).trans (V_v19 m c _)
  h6 := fun q => (blk6_apply m c t 0 q 0 ⟨1024 + (col (strip t) q).val, by have := (col (strip t) q).isLt; omega⟩ rfl (by show 1024 + (win0_16.index t 1 * 128 + q.val) = _; omega)).trans (V_v19 m c _)
  h7 := fun l => (blk7_apply m c t 0 l 0 l rfl (by omega)).trans (V_v21 m c l)
  h8 := fun d q => (blk8_apply m c t d q d (col (strip t) q) (by omega) rfl).trans (V_v3 m c d _)
  h9 := fun d e q => (blk9_apply m c t d e q d e (col (strip t) q) (by omega) (by omega) rfl).trans (V_v5 m c d e _)
  h10 := fun d q => (blk10_apply m c t d q d (col (strip t) q) (by omega) rfl).trans (V_v7 m c d _)
  h11 := fun d e q => (blk11_apply m c t d e q d e (col (strip t) q) (by omega) (by omega) rfl).trans (V_v9 m c d e _)
  h12 := fun e q => (blk12_apply m c t e q e (col (strip t) q) (by omega) rfl).trans (V_v11 m c e _)
  h13 := fun q => (blk13_apply m c t 0 q 0 (col (strip t) q) rfl rfl).trans (V_v22 m c _)
  h14 := fun q => (blk14_apply m c t 0 q 0 (col (strip t) q) rfl rfl).trans (V_v23 m c _)
  h15 := fun q => (blk15_apply m c t 0 q 0 (col (strip t) q) rfl rfl).trans (V_v24 m c _)

/-- The shapes the precondition's text needs. -/
instance mixFacts : Cert.Pre_finite_mix.Facts where
  slices_S8192x6144_S8192x1536_0_4608 := by decide +kernel
  bitsLt_bf16_f32 := by decide +kernel
  slices_S2x1920_S1x1536_0_0 := by decide +kernel
  shapeCasts_S1x1536_S1536 := by decide +kernel
  slices_S2x512_S1x512_0_0 := by decide +kernel
  shapeCasts_S1x512_S512 := by decide +kernel
  slices_S2x8x64_S1x8x64_0_0_0 := by decide +kernel
  shapeCasts_S1x8x64_S8x64 := by decide +kernel
  bcast_S_S8192x1536 := by decide +kernel
  bcast_S_S1536 := by decide +kernel
  bcast_S_S512 := by decide +kernel
  bcast_S_S8x64 := by decide +kernel

section

open Cert.Pre_finite_mix.Facts

theorem part_p (w : Vec Ideal S8192x6144 .bf16) (R : Fin 8192) (j : Fin 1536) :
    extf (F := Ideal) .f32 (extractStridedSlice Cert.Pre_finite_mix.S8192x1536 ![0, 4608] w slices_S8192x6144_S8192x1536_0_4608) Cert.Pre_finite_mix.Facts.bitsLt_bf16_f32 (ix2 R j) = w (ix2 R ⟨4608 + j.val, by omega⟩) := by
  pointwise

theorem part_mu (w : Vec Ideal S2x1920 .f32) (j : Fin 1536) :
    shapeCast Cert.Pre_finite_mix.S1536 (extractStridedSlice Cert.Pre_finite_mix.S1x1536 ![0, 0] w slices_S2x1920_S1x1536_0_0) shapeCasts_S1x1536_S1536 (ix1 j) = w (ix2 0 ⟨j.val, by omega⟩) := by
  pointwise

theorem part_k (w : Vec Ideal S2x512 .f32) (j : Fin 512) :
    shapeCast Cert.Pre_finite_mix.S512 (extractStridedSlice Cert.Pre_finite_mix.S1x512 ![0, 0] w Cert.Pre_finite_mix.Facts.slices_S2x512_S1x512_0_0) Cert.Pre_finite_mix.Facts.shapeCasts_S1x512_S512 (ix1 j) = w (ix2 0 j) := by
  pointwise

theorem part_r (w : Vec Ideal S2x8x64 .f32) (h : Fin 8) (e : Fin 64) :
    shapeCast Cert.Pre_finite_mix.S8x64 (extractStridedSlice Cert.Pre_finite_mix.S1x8x64 ![0, 0, 0] w Cert.Pre_finite_mix.Facts.slices_S2x8x64_S1x8x64_0_0_0) Cert.Pre_finite_mix.Facts.shapeCasts_S1x8x64_S8x64 (ix2 h e) = w (ix3 0 h e) := by
  pointwise

end

variable {m}

theorem real_p (hpre : Cert.Pre_RwPrepIdeal_finite_mix m) (c : Dev nD) (R : Fin 8192) (j : Fin 1536) : IsReal (argP m c (ix2 R ⟨4608 + j.val, by omega⟩)) := by
  obtain ⟨h0, h1, h2, h3, h4, h5, h6, h7, h8, h9⟩ := hpre c
  have gl := congrFun h0 (ix2 R j)
  have gu := congrFun h1 (ix2 R j)
  clear h0 h1 h2 h3 h4 h5 h6 h7 h8 h9
  unfold Cert.Pre_finite_mix.fn Cert.Pre_finite_mix.fn_part1 at gl gu
  dsimp only at gl gu
  refine isReal_of_cmp _ ?_ ?_
  · exact (congrArg (fun z => FloatOps.cmpf (F := Ideal) (φ := .f32) .ogt z BOT) (part_p _ R j)).symm.trans gl
  · exact (congrArg (fun z => FloatOps.cmpf (F := Ideal) (φ := .f32) .olt z TOP) (part_p _ R j)).symm.trans gu

theorem real_mu (hpre : Cert.Pre_RwPrepIdeal_finite_mix m) (c : Dev nD) (j : Fin 1536) : IsReal (argMu m c (ix2 0 ⟨j.val, by omega⟩)) := by
  obtain ⟨h0, h1, h2, h3, h4, h5, h6, h7, h8, h9⟩ := hpre c
  have gl := congrFun h2 (ix1 j)
  have gu := congrFun h3 (ix1 j)
  clear h0 h1 h2 h3 h4 h5 h6 h7 h8 h9
  unfold Cert.Pre_finite_mix.fn Cert.Pre_finite_mix.fn_part1 at gl gu
  dsimp only at gl gu
  refine isReal_of_cmp _ ?_ ?_
  · exact (congrArg (fun z => FloatOps.cmpf (F := Ideal) (φ := .f32) .ogt z BOT) (part_mu _ j)).symm.trans gl
  · exact (congrArg (fun z => FloatOps.cmpf (F := Ideal) (φ := .f32) .olt z TOP) (part_mu _ j)).symm.trans gu

theorem real_kk (hpre : Cert.Pre_RwPrepIdeal_finite_mix m) (c : Dev nD) (j : Fin 512) : IsReal (argKk m c (ix2 0 j)) := by
  obtain ⟨h0, h1, h2, h3, h4, h5, h6, h7, h8, h9⟩ := hpre c
  have gl := congrFun h4 (ix1 j)
  have gu := congrFun h5 (ix1 j)
  clear h0 h1 h2 h3 h4 h5 h6 h7 h8 h9
  unfold Cert.Pre_finite_mix.fn Cert.Pre_finite_mix.fn_part1 at gl gu
  dsimp only at gl gu
  refine isReal_of_cmp _ ?_ ?_
  · exact (congrArg (fun z => FloatOps.cmpf (F := Ideal) (φ := .f32) .ogt z BOT) (part_k _ j)).symm.trans gl
  · exact (congrArg (fun z => FloatOps.cmpf (F := Ideal) (φ := .f32) .olt z TOP) (part_k _ j)).symm.trans gu

theorem real_ka (hpre : Cert.Pre_RwPrepIdeal_finite_mix m) (c : Dev nD) (j : Fin 512) : IsReal (argKa m c (ix2 0 j)) := by
  obtain ⟨h0, h1, h2, h3, h4, h5, h6, h7, h8, h9⟩ := hpre c
  have gl := congrFun h6 (ix1 j)
  have gu := congrFun h7 (ix1 j)
  clear h0 h1 h2 h3 h4 h5 h6 h7 h8 h9
  unfold Cert.Pre_finite_mix.fn Cert.Pre_finite_mix.fn_part1 at gl gu
  dsimp only at gl gu
  refine isReal_of_cmp _ ?_ ?_
  · exact (congrArg (fun z => FloatOps.cmpf (F := Ideal) (φ := .f32) .ogt z BOT) (part_k _ j)).symm.trans gl
  · exact (congrArg (fun z => FloatOps.cmpf (F := Ideal) (φ := .f32) .olt z TOP) (part_k _ j)).symm.trans gu

theorem real_rk (hpre : Cert.Pre_RwPrepIdeal_finite_mix m) (c : Dev nD) (h : Fin 8) (e : Fin 64) : IsReal (argRk m c (ix3 0 h e)) := by
  obtain ⟨h0, h1, h2, h3, h4, h5, h6, h7, h8, h9⟩ := hpre c
  have gl := congrFun h8 (ix2 h e)
  have gu := congrFun h9 (ix2 h e)
  clear h0 h1 h2 h3 h4 h5 h6 h7 h8 h9
  unfold Cert.Pre_finite_mix.fn Cert.Pre_finite_mix.fn_part1 at gl gu
  dsimp only at gl gu
  refine isReal_of_cmp _ ?_ ?_
  · exact (congrArg (fun z => FloatOps.cmpf (F := Ideal) (φ := .f32) .ogt z BOT) (part_r _ h e)).symm.trans gl
  · exact (congrArg (fun z => FloatOps.cmpf (F := Ideal) (φ := .f32) .olt z TOP) (part_r _ h e)).symm.trans gu

/-- What the precondition says of the numbers summed over heads. -/
theorem finite (hpre : Cert.Pre_RwPrepIdeal_finite_mix m) (c : Dev nD) : Finite (argP m c) (argLo m c) (argMu m c) (argKk m c) (argKa m c) (argRk m c) where
  f0 := fun b s j hj => by
    unfold wide
    rw [dif_pos hj]
    exact real_p hpre c _ ⟨j.val, hj⟩
  f2 := fun j hj => real_mu hpre c ⟨j.val, hj⟩
  f8 := real_kk hpre c
  f9 := real_ka hpre c
  f10 := real_rk hpre c

/-- A place of a flattened array, from its block's place. -/
theorem flat_at (f : Fin 4 → Fin 2048 → Fin 512 → EReal) (i : S8192x512.Idx) (b : Fin 4) (r : Fin 2048) (C : Fin 512)
    (h0 : (i 0).val = b.val * 2048 + r.val) (h1 : (i 1).val = C.val) : flat f i = f b r C :=
  congr (congr (congrArg f (Fin.ext (by show (i 0).val / 2048 = b.val; omega))) (Fin.ext (by show (i 0).val % 2048 = r.val; omega))) (Fin.ext h1)

end Cert.RwPrepIdeal.Claims

end

end
-- ==== Proof.RwPrep.lean ====
module

public import proofs.«01_k».proof.Defs
public import proofs.«01_k».proof.Proof.RwPrepRun
public import proofs.«01_k».proof.Proof.RwPrepPlaces
public import proofs.«01_k».proof.Proof.RwPrepRef
public import proofs.«01_k».proof.Proof.Gen.RwPrepRefIdeal.Run
public import proofs.«01_k».proof.Proof.Gen.RwPrepRefIdeal.Read
public import Idealize.ShloMosaic.Lib.Pointwise

@[expose] public section

set_option maxRecDepth 16384

/-! What the recurrence's scan takes: the kernel's results are the reference's. -/

noncomputable section

open Idealize Idealize.ShloMosaic Idealize.SL
open scoped BigOperators

namespace Cert.RwPrepIdeal.Claims

open Cert.RwPrepIdeal Cert.RwPrepIdeal.Gen Cert.RwPrepIdeal.Run Cert.RwPrepIdeal.Tile Cert.RwPrepSpec Cert.Softmax
open Cert.RwPrepRefIdeal.Whole (flat recept keyRaw value rank removal gate logDecay pace keyOf bonusOf)

variable (m : (ℓ : Loc nD τ sig) → Buf (Elt Ideal) ℓ) (ρ : Dev nD → PrngReg)

/-! Each result is written in the same blocks, and every block is written. -/

theorem maps17 : ∀ t : Fin grid0.N, win0_17.index t 0 = win0_16.index t 0 ∧ win0_17.index t 1 = win0_16.index t 1 := by decide +kernel
theorem maps18 : ∀ t : Fin grid0.N, win0_18.index t 0 = win0_16.index t 0 ∧ win0_18.index t 1 = win0_16.index t 1 := by decide +kernel
theorem maps19 : ∀ t : Fin grid0.N, win0_19.index t 0 = win0_16.index t 0 ∧ win0_19.index t 1 = win0_16.index t 1 := by decide +kernel
theorem maps20 : ∀ t : Fin grid0.N, win0_20.index t 0 = win0_16.index t 0 ∧ win0_20.index t 1 = win0_16.index t 1 := by decide +kernel
theorem maps21 : ∀ t : Fin grid0.N, win0_21.index t 0 = win0_16.index t 0 ∧ win0_21.index t 1 = win0_16.index t 1 := by decide +kernel
theorem maps22 : ∀ t : Fin grid0.N, win0_22.index t 0 = win0_16.index t 0 ∧ win0_22.index t 1 = win0_16.index t 1 := by decide +kernel
theorem maps23 : ∀ t : Fin grid0.N, win0_23.index t 0 = win0_16.index t 0 ∧ win0_23.index t 1 = win0_16.index t 1 := by decide +kernel
theorem maps24 : ∀ t : Fin grid0.N, win0_24.index t 0 = win0_16.index t 0 ∧ win0_24.index t 1 = win0_16.index t 1 := by decide +kernel
theorem maps25 : ∀ t : Fin grid0.N, win0_25.index t 0 = win0_16.index t 0 ∧ win0_25.index t 1 = win0_16.index t 1 := by decide +kernel
theorem maps26 : ∀ t : Fin grid0.N, win0_26.index t 0 = win0_16.index t 0 ∧ win0_26.index t 1 = win0_16.index t 1 := by decide +kernel

theorem onto16 : ∀ a b : Fin 4, ∃ t : Fin grid0.N, win0_16.flush t = true ∧ win0_16.index t 0 = a.1 ∧ win0_16.index t 1 = b.1 := by decide +kernel
theorem onto17 : ∀ a b : Fin 4, ∃ t : Fin grid0.N, win0_17.flush t = true ∧ win0_17.index t 0 = a.1 ∧ win0_17.index t 1 = b.1 := by decide +kernel
theorem onto18 : ∀ a b : Fin 4, ∃ t : Fin grid0.N, win0_18.flush t = true ∧ win0_18.index t 0 = a.1 ∧ win0_18.index t 1 = b.1 := by decide +kernel
theorem onto19 : ∀ a b : Fin 4, ∃ t : Fin grid0.N, win0_19.flush t = true ∧ win0_19.index t 0 = a.1 ∧ win0_19.index t 1 = b.1 := by decide +kernel
theorem onto20 : ∀ a b : Fin 4, ∃ t : Fin grid0.N, win0_20.flush t = true ∧ win0_20.index t 0 = a.1 ∧ win0_20.index t 1 = b.1 := by decide +kernel
theorem onto21 : ∀ a b : Fin 4, ∃ t : Fin grid0.N, win0_21.flush t = true ∧ win0_21.index t 0 = a.1 ∧ win0_21.index t 1 = b.1 := by decide +kernel
theorem onto22 : ∀ a b : Fin 4, ∃ t : Fin grid0.N, win0_22.flush t = true ∧ win0_22.index t 0 = a.1 ∧ win0_22.index t 1 = b.1 := by decide +kernel
theorem onto23 : ∀ a b : Fin 4, ∃ t : Fin grid0.N, win0_23.flush t = true ∧ win0_23.index t 0 = a.1 ∧ win0_23.index t 1 = b.1 := by decide +kernel
theorem onto24 : ∀ a b : Fin 4, ∃ t : Fin grid0.N, win0_24.flush t = true ∧ win0_24.index t 0 = a.1 ∧ win0_24.index t 1 = b.1 := by decide +kernel
theorem onto25 : ∀ a b : Fin 4, ∃ t : Fin grid0.N, win0_25.flush t = true ∧ win0_25.index t 0 = a.1 ∧ win0_25.index t 1 = b.1 := by decide +kernel
theorem onto26 : ∀ a b : Fin 4, ∃ t : Fin grid0.N, win0_26.flush t = true ∧ win0_26.index t 0 = a.1 ∧ win0_26.index t 1 = b.1 := by decide +kernel

def res16 (c : Dev nD) : Vec Ideal S8192x512 .f32 := flat (recept (argP m c) (argLo m c) (argMu m c))

theorem back16 (c : Dev nD) (t : Fin cfg0.N) : (dats m 0 c).flushed 16 t = (win0_16.blk t).view.read (Elt Ideal) (res16 m c) := by
  show (cfg0.win 16).cut (grid0.coords t) ((dats m 0 c).after 16 t) = _
  rw [after0_16]
  funext j
  show out0_16 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res16 m c ((win0_16.rect t).emb j)
  idx_vars j
  rw [out16_tile (tile m c t) j0 j1]
  exact (flat_at (recept (argP m c) (argLo m c) (argMu m c)) ((win0_16.rect t).emb (ix2 j0 j1)) (seq t) j0 (col (strip t) j1) (win0_16.rect_emb_val t (ix2 j0 j1) 0) (win0_16.rect_emb_val t (ix2 j0 j1) 1)).symm

theorem mem_blk16 (t : Fin cfg0.N) (i : S8192x512.Idx) :
    i ∈ ((cfg0.win 16).blk t).view.set ↔ ∀ a : Fin 2, win0_16.index t a * win0_16.size a ≤ (i a).val ∧ (i a).val < win0_16.index t a * win0_16.size a + win0_16.size a := by
  show i ∈ ((View.whole main_v25_0).slice (win0_16.rect t)).set ↔ _
  rw [View.set_slice_whole, Rect.mem_set_unit]
  rfl

theorem cover16 (i : S8192x512.Idx) : ∃ t : Fin cfg0.N, (cfg0.win 16).flush t = true ∧ i ∈ ((cfg0.win 16).blk t).view.set := by
  idx_vars i
  obtain ⟨t, hf, h0, h1⟩ := onto16 ⟨i0.val / 2048, by omega⟩ ⟨i1.val / 128, by omega⟩
  refine ⟨t, hf, (mem_blk16 t _).2 fun a => ?_⟩
  match a with
  | ⟨0, _⟩ => show win0_16.index t 0 * 2048 ≤ i0.val ∧ i0.val < win0_16.index t 0 * 2048 + 2048; rw [h0]; dsimp only; omega
  | ⟨1, _⟩ => show win0_16.index t 1 * 128 ≤ i1.val ∧ i1.val < win0_16.index t 1 * 128 + 128; rw [h1]; dsimp only; omega

theorem final16 (c : Dev nD) : (dats m 0 c).arrAt 16 cfg0.N = res16 m c :=
  (dats m 0 c).arrAt_eq_of_cover 16 (res16 m c) (fun t _ => back16 m c t) cover16

def res17 (c : Dev nD) : Vec Ideal S8192x512 .f32 := flat (value (argP m c) (argLo m c) (argMu m c))

theorem back17 (c : Dev nD) (t : Fin cfg0.N) : (dats m 0 c).flushed 17 t = (win0_17.blk t).view.read (Elt Ideal) (res17 m c) := by
  show (cfg0.win 17).cut (grid0.coords t) ((dats m 0 c).after 17 t) = _
  rw [after0_17]
  funext j
  show out0_17 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res17 m c ((win0_17.rect t).emb j)
  idx_vars j
  rw [out17_tile (tile m c t) j0 j1]
  exact (flat_at (value (argP m c) (argLo m c) (argMu m c)) ((win0_17.rect t).emb (ix2 j0 j1)) (seq t) j0 (col (strip t) j1) ((win0_17.rect_emb_val t (ix2 j0 j1) 0).trans (by rw [(maps17 t).1]; rfl)) ((win0_17.rect_emb_val t (ix2 j0 j1) 1).trans (by rw [(maps17 t).2]; rfl))).symm

theorem mem_blk17 (t : Fin cfg0.N) (i : S8192x512.Idx) :
    i ∈ ((cfg0.win 17).blk t).view.set ↔ ∀ a : Fin 2, win0_17.index t a * win0_17.size a ≤ (i a).val ∧ (i a).val < win0_17.index t a * win0_17.size a + win0_17.size a := by
  show i ∈ ((View.whole main_v25_1).slice (win0_17.rect t)).set ↔ _
  rw [View.set_slice_whole, Rect.mem_set_unit]
  rfl

theorem cover17 (i : S8192x512.Idx) : ∃ t : Fin cfg0.N, (cfg0.win 17).flush t = true ∧ i ∈ ((cfg0.win 17).blk t).view.set := by
  idx_vars i
  obtain ⟨t, hf, h0, h1⟩ := onto17 ⟨i0.val / 2048, by omega⟩ ⟨i1.val / 128, by omega⟩
  refine ⟨t, hf, (mem_blk17 t _).2 fun a => ?_⟩
  match a with
  | ⟨0, _⟩ => show win0_17.index t 0 * 2048 ≤ i0.val ∧ i0.val < win0_17.index t 0 * 2048 + 2048; rw [h0]; dsimp only; omega
  | ⟨1, _⟩ => show win0_17.index t 1 * 128 ≤ i1.val ∧ i1.val < win0_17.index t 1 * 128 + 128; rw [h1]; dsimp only; omega

theorem final17 (c : Dev nD) : (dats m 0 c).arrAt 17 cfg0.N = res17 m c :=
  (dats m 0 c).arrAt_eq_of_cover 17 (res17 m c) (fun t _ => back17 m c t) cover17

def res18 (c : Dev nD) : Vec Ideal S8192x512 .f32 := flat (removal (argP m c) (argLo m c) (argMu m c) (argKk m c))

theorem back18 (c : Dev nD) (f : Finite (argP m c) (argLo m c) (argMu m c) (argKk m c) (argKa m c) (argRk m c)) (t : Fin cfg0.N) : (dats m 0 c).flushed 18 t = (win0_18.blk t).view.read (Elt Ideal) (res18 m c) := by
  show (cfg0.win 18).cut (grid0.coords t) ((dats m 0 c).after 18 t) = _
  rw [after0_18]
  funext j
  show out0_18 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res18 m c ((win0_18.rect t).emb j)
  idx_vars j
  rw [out18_tile (tile m c t) f j0 j1]
  exact (flat_at (removal (argP m c) (argLo m c) (argMu m c) (argKk m c)) ((win0_18.rect t).emb (ix2 j0 j1)) (seq t) j0 (col (strip t) j1) ((win0_18.rect_emb_val t (ix2 j0 j1) 0).trans (by rw [(maps18 t).1]; rfl)) ((win0_18.rect_emb_val t (ix2 j0 j1) 1).trans (by rw [(maps18 t).2]; rfl))).symm

theorem mem_blk18 (t : Fin cfg0.N) (i : S8192x512.Idx) :
    i ∈ ((cfg0.win 18).blk t).view.set ↔ ∀ a : Fin 2, win0_18.index t a * win0_18.size a ≤ (i a).val ∧ (i a).val < win0_18.index t a * win0_18.size a + win0_18.size a := by
  show i ∈ ((View.whole main_v25_2).slice (win0_18.rect t)).set ↔ _
  rw [View.set_slice_whole, Rect.mem_set_unit]
  rfl

theorem cover18 (i : S8192x512.Idx) : ∃ t : Fin cfg0.N, (cfg0.win 18).flush t = true ∧ i ∈ ((cfg0.win 18).blk t).view.set := by
  idx_vars i
  obtain ⟨t, hf, h0, h1⟩ := onto18 ⟨i0.val / 2048, by omega⟩ ⟨i1.val / 128, by omega⟩
  refine ⟨t, hf, (mem_blk18 t _).2 fun a => ?_⟩
  match a with
  | ⟨0, _⟩ => show win0_18.index t 0 * 2048 ≤ i0.val ∧ i0.val < win0_18.index t 0 * 2048 + 2048; rw [h0]; dsimp only; omega
  | ⟨1, _⟩ => show win0_18.index t 1 * 128 ≤ i1.val ∧ i1.val < win0_18.index t 1 * 128 + 128; rw [h1]; dsimp only; omega

theorem final18 (c : Dev nD) (f : Finite (argP m c) (argLo m c) (argMu m c) (argKk m c) (argKa m c) (argRk m c)) : (dats m 0 c).arrAt 18 cfg0.N = res18 m c :=
  (dats m 0 c).arrAt_eq_of_cover 18 (res18 m c) (fun t _ => back18 m c f t) cover18

def res19 (c : Dev nD) : Vec Ideal S8192x512 .f32 := flat (fun b r C => bonusOf (argP m c) (argLo m c) (argMu m c) (argA0 m c) (argA2 m c) (argKa m c) (argRk m c) 0 128 (by omega) b r C + bonusOf (argP m c) (argLo m c) (argMu m c) (argA0 m c) (argA2 m c) (argKa m c) (argRk m c) 1 192 (by omega) b r C)

theorem back19 (c : Dev nD) (f : Finite (argP m c) (argLo m c) (argMu m c) (argKk m c) (argKa m c) (argRk m c)) (t : Fin cfg0.N) : (dats m 0 c).flushed 19 t = (win0_19.blk t).view.read (Elt Ideal) (res19 m c) := by
  show (cfg0.win 19).cut (grid0.coords t) ((dats m 0 c).after 19 t) = _
  rw [after0_19]
  funext j
  show out0_19 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res19 m c ((win0_19.rect t).emb j)
  idx_vars j
  rw [out19_tile (tile m c t) f j0 j1]
  exact (flat_at (fun b r C => bonusOf (argP m c) (argLo m c) (argMu m c) (argA0 m c) (argA2 m c) (argKa m c) (argRk m c) 0 128 (by omega) b r C + bonusOf (argP m c) (argLo m c) (argMu m c) (argA0 m c) (argA2 m c) (argKa m c) (argRk m c) 1 192 (by omega) b r C) ((win0_19.rect t).emb (ix2 j0 j1)) (seq t) j0 (col (strip t) j1) ((win0_19.rect_emb_val t (ix2 j0 j1) 0).trans (by rw [(maps19 t).1]; rfl)) ((win0_19.rect_emb_val t (ix2 j0 j1) 1).trans (by rw [(maps19 t).2]; rfl))).symm

theorem mem_blk19 (t : Fin cfg0.N) (i : S8192x512.Idx) :
    i ∈ ((cfg0.win 19).blk t).view.set ↔ ∀ a : Fin 2, win0_19.index t a * win0_19.size a ≤ (i a).val ∧ (i a).val < win0_19.index t a * win0_19.size a + win0_19.size a := by
  show i ∈ ((View.whole main_v25_3).slice (win0_19.rect t)).set ↔ _
  rw [View.set_slice_whole, Rect.mem_set_unit]
  rfl

theorem cover19 (i : S8192x512.Idx) : ∃ t : Fin cfg0.N, (cfg0.win 19).flush t = true ∧ i ∈ ((cfg0.win 19).blk t).view.set := by
  idx_vars i
  obtain ⟨t, hf, h0, h1⟩ := onto19 ⟨i0.val / 2048, by omega⟩ ⟨i1.val / 128, by omega⟩
  refine ⟨t, hf, (mem_blk19 t _).2 fun a => ?_⟩
  match a with
  | ⟨0, _⟩ => show win0_19.index t 0 * 2048 ≤ i0.val ∧ i0.val < win0_19.index t 0 * 2048 + 2048; rw [h0]; dsimp only; omega
  | ⟨1, _⟩ => show win0_19.index t 1 * 128 ≤ i1.val ∧ i1.val < win0_19.index t 1 * 128 + 128; rw [h1]; dsimp only; omega

theorem final19 (c : Dev nD) (f : Finite (argP m c) (argLo m c) (argMu m c) (argKk m c) (argKa m c) (argRk m c)) : (dats m 0 c).arrAt 19 cfg0.N = res19 m c :=
  (dats m 0 c).arrAt_eq_of_cover 19 (res19 m c) (fun t _ => back19 m c f t) cover19

def res20 (c : Dev nD) : Vec Ideal S8192x512 .f32 := flat (gate (argP m c) (argLo m c) (argMu m c) (argG2 m c))

theorem back20 (c : Dev nD) (t : Fin cfg0.N) : (dats m 0 c).flushed 20 t = (win0_20.blk t).view.read (Elt Ideal) (res20 m c) := by
  show (cfg0.win 20).cut (grid0.coords t) ((dats m 0 c).after 20 t) = _
  rw [after0_20]
  funext j
  show out0_20 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res20 m c ((win0_20.rect t).emb j)
  idx_vars j
  rw [out20_tile (tile m c t) j0 j1]
  exact (flat_at (gate (argP m c) (argLo m c) (argMu m c) (argG2 m c)) ((win0_20.rect t).emb (ix2 j0 j1)) (seq t) j0 (col (strip t) j1) ((win0_20.rect_emb_val t (ix2 j0 j1) 0).trans (by rw [(maps20 t).1]; rfl)) ((win0_20.rect_emb_val t (ix2 j0 j1) 1).trans (by rw [(maps20 t).2]; rfl))).symm

theorem mem_blk20 (t : Fin cfg0.N) (i : S8192x512.Idx) :
    i ∈ ((cfg0.win 20).blk t).view.set ↔ ∀ a : Fin 2, win0_20.index t a * win0_20.size a ≤ (i a).val ∧ (i a).val < win0_20.index t a * win0_20.size a + win0_20.size a := by
  show i ∈ ((View.whole main_v25_4).slice (win0_20.rect t)).set ↔ _
  rw [View.set_slice_whole, Rect.mem_set_unit]
  rfl

theorem cover20 (i : S8192x512.Idx) : ∃ t : Fin cfg0.N, (cfg0.win 20).flush t = true ∧ i ∈ ((cfg0.win 20).blk t).view.set := by
  idx_vars i
  obtain ⟨t, hf, h0, h1⟩ := onto20 ⟨i0.val / 2048, by omega⟩ ⟨i1.val / 128, by omega⟩
  refine ⟨t, hf, (mem_blk20 t _).2 fun a => ?_⟩
  match a with
  | ⟨0, _⟩ => show win0_20.index t 0 * 2048 ≤ i0.val ∧ i0.val < win0_20.index t 0 * 2048 + 2048; rw [h0]; dsimp only; omega
  | ⟨1, _⟩ => show win0_20.index t 1 * 128 ≤ i1.val ∧ i1.val < win0_20.index t 1 * 128 + 128; rw [h1]; dsimp only; omega

theorem final20 (c : Dev nD) : (dats m 0 c).arrAt 20 cfg0.N = res20 m c :=
  (dats m 0 c).arrAt_eq_of_cover 20 (res20 m c) (fun t _ => back20 m c t) cover20

def res21 (c : Dev nD) : Vec Ideal S8192x512 .f32 := flat (logDecay (argP m c) (argLo m c) (argMu m c) (argW0 m c) (argW2 m c) 0 0 (by omega))

theorem back21 (c : Dev nD) (t : Fin cfg0.N) : (dats m 0 c).flushed 21 t = (win0_21.blk t).view.read (Elt Ideal) (res21 m c) := by
  show (cfg0.win 21).cut (grid0.coords t) ((dats m 0 c).after 21 t) = _
  rw [after0_21]
  funext j
  show out0_21 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res21 m c ((win0_21.rect t).emb j)
  idx_vars j
  rw [out21_tile (tile m c t) j0 j1]
  exact (flat_at (logDecay (argP m c) (argLo m c) (argMu m c) (argW0 m c) (argW2 m c) 0 0 (by omega)) ((win0_21.rect t).emb (ix2 j0 j1)) (seq t) j0 (col (strip t) j1) ((win0_21.rect_emb_val t (ix2 j0 j1) 0).trans (by rw [(maps21 t).1]; rfl)) ((win0_21.rect_emb_val t (ix2 j0 j1) 1).trans (by rw [(maps21 t).2]; rfl))).symm

theorem mem_blk21 (t : Fin cfg0.N) (i : S8192x512.Idx) :
    i ∈ ((cfg0.win 21).blk t).view.set ↔ ∀ a : Fin 2, win0_21.index t a * win0_21.size a ≤ (i a).val ∧ (i a).val < win0_21.index t a * win0_21.size a + win0_21.size a := by
  show i ∈ ((View.whole main_v25_5).slice (win0_21.rect t)).set ↔ _
  rw [View.set_slice_whole, Rect.mem_set_unit]
  rfl

theorem cover21 (i : S8192x512.Idx) : ∃ t : Fin cfg0.N, (cfg0.win 21).flush t = true ∧ i ∈ ((cfg0.win 21).blk t).view.set := by
  idx_vars i
  obtain ⟨t, hf, h0, h1⟩ := onto21 ⟨i0.val / 2048, by omega⟩ ⟨i1.val / 128, by omega⟩
  refine ⟨t, hf, (mem_blk21 t _).2 fun a => ?_⟩
  match a with
  | ⟨0, _⟩ => show win0_21.index t 0 * 2048 ≤ i0.val ∧ i0.val < win0_21.index t 0 * 2048 + 2048; rw [h0]; dsimp only; omega
  | ⟨1, _⟩ => show win0_21.index t 1 * 128 ≤ i1.val ∧ i1.val < win0_21.index t 1 * 128 + 128; rw [h1]; dsimp only; omega

theorem final21 (c : Dev nD) : (dats m 0 c).arrAt 21 cfg0.N = res21 m c :=
  (dats m 0 c).arrAt_eq_of_cover 21 (res21 m c) (fun t _ => back21 m c t) cover21

def res22 (c : Dev nD) : Vec Ideal S8192x512 .f32 := flat (logDecay (argP m c) (argLo m c) (argMu m c) (argW0 m c) (argW2 m c) 1 64 (by omega))

theorem back22 (c : Dev nD) (t : Fin cfg0.N) : (dats m 0 c).flushed 22 t = (win0_22.blk t).view.read (Elt Ideal) (res22 m c) := by
  show (cfg0.win 22).cut (grid0.coords t) ((dats m 0 c).after 22 t) = _
  rw [after0_22]
  funext j
  show out0_22 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res22 m c ((win0_22.rect t).emb j)
  idx_vars j
  rw [out22_tile (tile m c t) j0 j1]
  exact (flat_at (logDecay (argP m c) (argLo m c) (argMu m c) (argW0 m c) (argW2 m c) 1 64 (by omega)) ((win0_22.rect t).emb (ix2 j0 j1)) (seq t) j0 (col (strip t) j1) ((win0_22.rect_emb_val t (ix2 j0 j1) 0).trans (by rw [(maps22 t).1]; rfl)) ((win0_22.rect_emb_val t (ix2 j0 j1) 1).trans (by rw [(maps22 t).2]; rfl))).symm

theorem mem_blk22 (t : Fin cfg0.N) (i : S8192x512.Idx) :
    i ∈ ((cfg0.win 22).blk t).view.set ↔ ∀ a : Fin 2, win0_22.index t a * win0_22.size a ≤ (i a).val ∧ (i a).val < win0_22.index t a * win0_22.size a + win0_22.size a := by
  show i ∈ ((View.whole main_v25_6).slice (win0_22.rect t)).set ↔ _
  rw [View.set_slice_whole, Rect.mem_set_unit]
  rfl

theorem cover22 (i : S8192x512.Idx) : ∃ t : Fin cfg0.N, (cfg0.win 22).flush t = true ∧ i ∈ ((cfg0.win 22).blk t).view.set := by
  idx_vars i
  obtain ⟨t, hf, h0, h1⟩ := onto22 ⟨i0.val / 2048, by omega⟩ ⟨i1.val / 128, by omega⟩
  refine ⟨t, hf, (mem_blk22 t _).2 fun a => ?_⟩
  match a with
  | ⟨0, _⟩ => show win0_22.index t 0 * 2048 ≤ i0.val ∧ i0.val < win0_22.index t 0 * 2048 + 2048; rw [h0]; dsimp only; omega
  | ⟨1, _⟩ => show win0_22.index t 1 * 128 ≤ i1.val ∧ i1.val < win0_22.index t 1 * 128 + 128; rw [h1]; dsimp only; omega

theorem final22 (c : Dev nD) : (dats m 0 c).arrAt 22 cfg0.N = res22 m c :=
  (dats m 0 c).arrAt_eq_of_cover 22 (res22 m c) (fun t _ => back22 m c t) cover22

def res23 (c : Dev nD) : Vec Ideal S8192x512 .f32 := flat (keyOf (argP m c) (argLo m c) (argMu m c) (argA0 m c) (argA2 m c) (argKa m c) 0 128 (by omega))

theorem back23 (c : Dev nD) (t : Fin cfg0.N) : (dats m 0 c).flushed 23 t = (win0_23.blk t).view.read (Elt Ideal) (res23 m c) := by
  show (cfg0.win 23).cut (grid0.coords t) ((dats m 0 c).after 23 t) = _
  rw [after0_23]
  funext j
  show out0_23 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res23 m c ((win0_23.rect t).emb j)
  idx_vars j
  rw [out23_tile (tile m c t) j0 j1]
  exact (flat_at (keyOf (argP m c) (argLo m c) (argMu m c) (argA0 m c) (argA2 m c) (argKa m c) 0 128 (by omega)) ((win0_23.rect t).emb (ix2 j0 j1)) (seq t) j0 (col (strip t) j1) ((win0_23.rect_emb_val t (ix2 j0 j1) 0).trans (by rw [(maps23 t).1]; rfl)) ((win0_23.rect_emb_val t (ix2 j0 j1) 1).trans (by rw [(maps23 t).2]; rfl))).symm

theorem mem_blk23 (t : Fin cfg0.N) (i : S8192x512.Idx) :
    i ∈ ((cfg0.win 23).blk t).view.set ↔ ∀ a : Fin 2, win0_23.index t a * win0_23.size a ≤ (i a).val ∧ (i a).val < win0_23.index t a * win0_23.size a + win0_23.size a := by
  show i ∈ ((View.whole main_v25_7).slice (win0_23.rect t)).set ↔ _
  rw [View.set_slice_whole, Rect.mem_set_unit]
  rfl

theorem cover23 (i : S8192x512.Idx) : ∃ t : Fin cfg0.N, (cfg0.win 23).flush t = true ∧ i ∈ ((cfg0.win 23).blk t).view.set := by
  idx_vars i
  obtain ⟨t, hf, h0, h1⟩ := onto23 ⟨i0.val / 2048, by omega⟩ ⟨i1.val / 128, by omega⟩
  refine ⟨t, hf, (mem_blk23 t _).2 fun a => ?_⟩
  match a with
  | ⟨0, _⟩ => show win0_23.index t 0 * 2048 ≤ i0.val ∧ i0.val < win0_23.index t 0 * 2048 + 2048; rw [h0]; dsimp only; omega
  | ⟨1, _⟩ => show win0_23.index t 1 * 128 ≤ i1.val ∧ i1.val < win0_23.index t 1 * 128 + 128; rw [h1]; dsimp only; omega

theorem final23 (c : Dev nD) : (dats m 0 c).arrAt 23 cfg0.N = res23 m c :=
  (dats m 0 c).arrAt_eq_of_cover 23 (res23 m c) (fun t _ => back23 m c t) cover23

def res24 (c : Dev nD) : Vec Ideal S8192x512 .f32 := flat (keyOf (argP m c) (argLo m c) (argMu m c) (argA0 m c) (argA2 m c) (argKa m c) 1 192 (by omega))

theorem back24 (c : Dev nD) (t : Fin cfg0.N) : (dats m 0 c).flushed 24 t = (win0_24.blk t).view.read (Elt Ideal) (res24 m c) := by
  show (cfg0.win 24).cut (grid0.coords t) ((dats m 0 c).after 24 t) = _
  rw [after0_24]
  funext j
  show out0_24 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res24 m c ((win0_24.rect t).emb j)
  idx_vars j
  rw [out24_tile (tile m c t) j0 j1]
  exact (flat_at (keyOf (argP m c) (argLo m c) (argMu m c) (argA0 m c) (argA2 m c) (argKa m c) 1 192 (by omega)) ((win0_24.rect t).emb (ix2 j0 j1)) (seq t) j0 (col (strip t) j1) ((win0_24.rect_emb_val t (ix2 j0 j1) 0).trans (by rw [(maps24 t).1]; rfl)) ((win0_24.rect_emb_val t (ix2 j0 j1) 1).trans (by rw [(maps24 t).2]; rfl))).symm

theorem mem_blk24 (t : Fin cfg0.N) (i : S8192x512.Idx) :
    i ∈ ((cfg0.win 24).blk t).view.set ↔ ∀ a : Fin 2, win0_24.index t a * win0_24.size a ≤ (i a).val ∧ (i a).val < win0_24.index t a * win0_24.size a + win0_24.size a := by
  show i ∈ ((View.whole main_v25_8).slice (win0_24.rect t)).set ↔ _
  rw [View.set_slice_whole, Rect.mem_set_unit]
  rfl

theorem cover24 (i : S8192x512.Idx) : ∃ t : Fin cfg0.N, (cfg0.win 24).flush t = true ∧ i ∈ ((cfg0.win 24).blk t).view.set := by
  idx_vars i
  obtain ⟨t, hf, h0, h1⟩ := onto24 ⟨i0.val / 2048, by omega⟩ ⟨i1.val / 128, by omega⟩
  refine ⟨t, hf, (mem_blk24 t _).2 fun a => ?_⟩
  match a with
  | ⟨0, _⟩ => show win0_24.index t 0 * 2048 ≤ i0.val ∧ i0.val < win0_24.index t 0 * 2048 + 2048; rw [h0]; dsimp only; omega
  | ⟨1, _⟩ => show win0_24.index t 1 * 128 ≤ i1.val ∧ i1.val < win0_24.index t 1 * 128 + 128; rw [h1]; dsimp only; omega

theorem final24 (c : Dev nD) : (dats m 0 c).arrAt 24 cfg0.N = res24 m c :=
  (dats m 0 c).arrAt_eq_of_cover 24 (res24 m c) (fun t _ => back24 m c t) cover24

def res25 (c : Dev nD) : Vec Ideal S8192x512 .f32 := flat (fun b r C => removal (argP m c) (argLo m c) (argMu m c) (argKk m c) b r C * pace (argP m c) (argLo m c) (argMu m c) (argA0 m c) (argA2 m c) 0 128 (by omega) b r C)

theorem back25 (c : Dev nD) (f : Finite (argP m c) (argLo m c) (argMu m c) (argKk m c) (argKa m c) (argRk m c)) (t : Fin cfg0.N) : (dats m 0 c).flushed 25 t = (win0_25.blk t).view.read (Elt Ideal) (res25 m c) := by
  show (cfg0.win 25).cut (grid0.coords t) ((dats m 0 c).after 25 t) = _
  rw [after0_25]
  funext j
  show out0_25 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res25 m c ((win0_25.rect t).emb j)
  idx_vars j
  rw [out25_tile (tile m c t) f j0 j1]
  exact (flat_at (fun b r C => removal (argP m c) (argLo m c) (argMu m c) (argKk m c) b r C * pace (argP m c) (argLo m c) (argMu m c) (argA0 m c) (argA2 m c) 0 128 (by omega) b r C) ((win0_25.rect t).emb (ix2 j0 j1)) (seq t) j0 (col (strip t) j1) ((win0_25.rect_emb_val t (ix2 j0 j1) 0).trans (by rw [(maps25 t).1]; rfl)) ((win0_25.rect_emb_val t (ix2 j0 j1) 1).trans (by rw [(maps25 t).2]; rfl))).symm

theorem mem_blk25 (t : Fin cfg0.N) (i : S8192x512.Idx) :
    i ∈ ((cfg0.win 25).blk t).view.set ↔ ∀ a : Fin 2, win0_25.index t a * win0_25.size a ≤ (i a).val ∧ (i a).val < win0_25.index t a * win0_25.size a + win0_25.size a := by
  show i ∈ ((View.whole main_v25_9).slice (win0_25.rect t)).set ↔ _
  rw [View.set_slice_whole, Rect.mem_set_unit]
  rfl

theorem cover25 (i : S8192x512.Idx) : ∃ t : Fin cfg0.N, (cfg0.win 25).flush t = true ∧ i ∈ ((cfg0.win 25).blk t).view.set := by
  idx_vars i
  obtain ⟨t, hf, h0, h1⟩ := onto25 ⟨i0.val / 2048, by omega⟩ ⟨i1.val / 128, by omega⟩
  refine ⟨t, hf, (mem_blk25 t _).2 fun a => ?_⟩
  match a with
  | ⟨0, _⟩ => show win0_25.index t 0 * 2048 ≤ i0.val ∧ i0.val < win0_25.index t 0 * 2048 + 2048; rw [h0]; dsimp only; omega
  | ⟨1, _⟩ => show win0_25.index t 1 * 128 ≤ i1.val ∧ i1.val < win0_25.index t 1 * 128 + 128; rw [h1]; dsimp only; omega

theorem final25 (c : Dev nD) (f : Finite (argP m c) (argLo m c) (argMu m c) (argKk m c) (argKa m c) (argRk m c)) : (dats m 0 c).arrAt 25 cfg0.N = res25 m c :=
  (dats m 0 c).arrAt_eq_of_cover 25 (res25 m c) (fun t _ => back25 m c f t) cover25

def res26 (c : Dev nD) : Vec Ideal S8192x512 .f32 := flat (fun b r C => removal (argP m c) (argLo m c) (argMu m c) (argKk m c) b r C * pace (argP m c) (argLo m c) (argMu m c) (argA0 m c) (argA2 m c) 1 192 (by omega) b r C)

theorem back26 (c : Dev nD) (f : Finite (argP m c) (argLo m c) (argMu m c) (argKk m c) (argKa m c) (argRk m c)) (t : Fin cfg0.N) : (dats m 0 c).flushed 26 t = (win0_26.blk t).view.read (Elt Ideal) (res26 m c) := by
  show (cfg0.win 26).cut (grid0.coords t) ((dats m 0 c).after 26 t) = _
  rw [after0_26]
  funext j
  show out0_26 (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) j = res26 m c ((win0_26.rect t).emb j)
  idx_vars j
  rw [out26_tile (tile m c t) f j0 j1]
  exact (flat_at (fun b r C => removal (argP m c) (argLo m c) (argMu m c) (argKk m c) b r C * pace (argP m c) (argLo m c) (argMu m c) (argA0 m c) (argA2 m c) 1 192 (by omega) b r C) ((win0_26.rect t).emb (ix2 j0 j1)) (seq t) j0 (col (strip t) j1) ((win0_26.rect_emb_val t (ix2 j0 j1) 0).trans (by rw [(maps26 t).1]; rfl)) ((win0_26.rect_emb_val t (ix2 j0 j1) 1).trans (by rw [(maps26 t).2]; rfl))).symm

theorem mem_blk26 (t : Fin cfg0.N) (i : S8192x512.Idx) :
    i ∈ ((cfg0.win 26).blk t).view.set ↔ ∀ a : Fin 2, win0_26.index t a * win0_26.size a ≤ (i a).val ∧ (i a).val < win0_26.index t a * win0_26.size a + win0_26.size a := by
  show i ∈ ((View.whole main_v25_10).slice (win0_26.rect t)).set ↔ _
  rw [View.set_slice_whole, Rect.mem_set_unit]
  rfl

theorem cover26 (i : S8192x512.Idx) : ∃ t : Fin cfg0.N, (cfg0.win 26).flush t = true ∧ i ∈ ((cfg0.win 26).blk t).view.set := by
  idx_vars i
  obtain ⟨t, hf, h0, h1⟩ := onto26 ⟨i0.val / 2048, by omega⟩ ⟨i1.val / 128, by omega⟩
  refine ⟨t, hf, (mem_blk26 t _).2 fun a => ?_⟩
  match a with
  | ⟨0, _⟩ => show win0_26.index t 0 * 2048 ≤ i0.val ∧ i0.val < win0_26.index t 0 * 2048 + 2048; rw [h0]; dsimp only; omega
  | ⟨1, _⟩ => show win0_26.index t 1 * 128 ≤ i1.val ∧ i1.val < win0_26.index t 1 * 128 + 128; rw [h1]; dsimp only; omega

theorem final26 (c : Dev nD) (f : Finite (argP m c) (argLo m c) (argMu m c) (argKk m c) (argKa m c) (argRk m c)) : (dats m 0 c).arrAt 26 cfg0.N = res26 m c :=
  (dats m 0 c).arrAt_eq_of_cover 26 (res26 m c) (fun t _ => back26 m c f t) cover26

/-- The kernel's results are the reference's. -/
theorem claim : Cert.algebraic_RwPrepIdeal_RwPrepRefIdeal_pre_finite_mix := by
  intro m ρ m' ρ' hpre hagree
  have given (c : Dev nD) : StableHlo.launchContents m' c (Proc.devRef .tc Cert.RwPrepRefIdeal.main_arg0) = m ((c.tc : Thread nD τ).loc main_arg0)
      ∧ StableHlo.launchContents m' c (Proc.devRef .tc Cert.RwPrepRefIdeal.main_arg1) = m ((c.tc : Thread nD τ).loc main_arg1)
      ∧ StableHlo.launchContents m' c (Proc.devRef .tc Cert.RwPrepRefIdeal.main_arg2) = m ((c.tc : Thread nD τ).loc main_arg2)
      ∧ StableHlo.launchContents m' c (Proc.devRef .tc Cert.RwPrepRefIdeal.main_arg3) = m ((c.tc : Thread nD τ).loc main_arg3)
      ∧ StableHlo.launchContents m' c (Proc.devRef .tc Cert.RwPrepRefIdeal.main_arg4) = m ((c.tc : Thread nD τ).loc main_arg4)
      ∧ StableHlo.launchContents m' c (Proc.devRef .tc Cert.RwPrepRefIdeal.main_arg5) = m ((c.tc : Thread nD τ).loc main_arg5)
      ∧ StableHlo.launchContents m' c (Proc.devRef .tc Cert.RwPrepRefIdeal.main_arg6) = m ((c.tc : Thread nD τ).loc main_arg6)
      ∧ StableHlo.launchContents m' c (Proc.devRef .tc Cert.RwPrepRefIdeal.main_arg7) = m ((c.tc : Thread nD τ).loc main_arg7)
      ∧ StableHlo.launchContents m' c (Proc.devRef .tc Cert.RwPrepRefIdeal.main_arg8) = m ((c.tc : Thread nD τ).loc main_arg8)
      ∧ StableHlo.launchContents m' c (Proc.devRef .tc Cert.RwPrepRefIdeal.main_arg9) = m ((c.tc : Thread nD τ).loc main_arg9)
      ∧ StableHlo.launchContents m' c (Proc.devRef .tc Cert.RwPrepRefIdeal.main_arg10) = m ((c.tc : Thread nD τ).loc main_arg10) := hagree c
  refine ⟨fun c => res16 m c, fun c => res17 m c, fun c => res18 m c, fun c => res19 m c, fun c => res20 m c, fun c => res21 m c, fun c => res22 m c, fun c => res23 m c, fun c => res24 m c, fun c => res25 m c, fun c => res26 m c,
    (θ_run defs _ _).mono (fun _ h c => ⟨(h c).1.trans (final16 m c), (h c).2.1.trans (final17 m c), (h c).2.2.1.trans (final18 m c (finite hpre c)), (h c).2.2.2.1.trans (final19 m c (finite hpre c)), (h c).2.2.2.2.1.trans (final20 m c), (h c).2.2.2.2.2.1.trans (final21 m c), (h c).2.2.2.2.2.2.1.trans (final22 m c), (h c).2.2.2.2.2.2.2.1.trans (final23 m c), (h c).2.2.2.2.2.2.2.2.1.trans (final24 m c), (h c).2.2.2.2.2.2.2.2.2.1.trans (final25 m c (finite hpre c)), (h c).2.2.2.2.2.2.2.2.2.2.1.trans (final26 m c (finite hpre c)), (h c).2.2.2.2.2.2.2.2.2.2.2⟩) (run_blocks m ρ),
    (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2⟩) (Cert.RwPrepRefIdeal.Value.run (F := Ideal) m' ρ')⟩
  · obtain ⟨b0, b1, b2, b3, b4, b5, b6, b7, b8, b9, b10⟩ := given c
    clear h hpre
    rw [Cert.RwPrepRefIdeal.Read.val_main_v162_eq, Cert.RwPrepRefIdeal.Whole.out16]
    rw [b0, b1, b2]
    rfl
  · obtain ⟨b0, b1, b2, b3, b4, b5, b6, b7, b8, b9, b10⟩ := given c
    clear h hpre
    rw [Cert.RwPrepRefIdeal.Read.val_main_v163_eq, Cert.RwPrepRefIdeal.Whole.out17]
    rw [b0, b1, b2]
    rfl
  · obtain ⟨b0, b1, b2, b3, b4, b5, b6, b7, b8, b9, b10⟩ := given c
    clear h hpre
    rw [Cert.RwPrepRefIdeal.Read.val_main_v164_eq, Cert.RwPrepRefIdeal.Whole.out18]
    rw [b0, b1, b2, b8]
    rfl
  · obtain ⟨b0, b1, b2, b3, b4, b5, b6, b7, b8, b9, b10⟩ := given c
    clear h hpre
    rw [Cert.RwPrepRefIdeal.Read.val_main_v166_eq, Cert.RwPrepRefIdeal.Whole.out19]
    rw [b0, b1, b2, b5, b6, b9, b10]
    rfl
  · obtain ⟨b0, b1, b2, b3, b4, b5, b6, b7, b8, b9, b10⟩ := given c
    clear h hpre
    rw [Cert.RwPrepRefIdeal.Read.val_main_v167_eq, Cert.RwPrepRefIdeal.Whole.out20]
    rw [b0, b1, b2, b7]
    rfl
  · obtain ⟨b0, b1, b2, b3, b4, b5, b6, b7, b8, b9, b10⟩ := given c
    clear h hpre
    rw [Cert.RwPrepRefIdeal.Read.val_main_v91_eq, Cert.RwPrepRefIdeal.Whole.out21]
    rw [b0, b1, b2, b3, b4]
    rfl
  · obtain ⟨b0, b1, b2, b3, b4, b5, b6, b7, b8, b9, b10⟩ := given c
    clear h hpre
    rw [Cert.RwPrepRefIdeal.Read.val_main_v147_eq, Cert.RwPrepRefIdeal.Whole.out22]
    rw [b0, b1, b2, b3, b4]
    rfl
  · obtain ⟨b0, b1, b2, b3, b4, b5, b6, b7, b8, b9, b10⟩ := given c
    clear h hpre
    rw [Cert.RwPrepRefIdeal.Read.val_main_v92_eq, Cert.RwPrepRefIdeal.Whole.out23]
    rw [b0, b1, b2, b5, b6, b9]
    rfl
  · obtain ⟨b0, b1, b2, b3, b4, b5, b6, b7, b8, b9, b10⟩ := given c
    clear h hpre
    rw [Cert.RwPrepRefIdeal.Read.val_main_v148_eq, Cert.RwPrepRefIdeal.Whole.out24]
    rw [b0, b1, b2, b5, b6, b9]
    rfl
  · obtain ⟨b0, b1, b2, b3, b4, b5, b6, b7, b8, b9, b10⟩ := given c
    clear h hpre
    rw [Cert.RwPrepRefIdeal.Read.val_main_v95_eq, Cert.RwPrepRefIdeal.Whole.out25]
    rw [b0, b1, b2, b5, b6, b8]
    rfl
  · obtain ⟨b0, b1, b2, b3, b4, b5, b6, b7, b8, b9, b10⟩ := given c
    clear h hpre
    rw [Cert.RwPrepRefIdeal.Read.val_main_v151_eq, Cert.RwPrepRefIdeal.Whole.out26]
    rw [b0, b1, b2, b5, b6, b8]
    rfl

end Cert.RwPrepIdeal.Claims

end

end
-- ==== Proof.lean ====
module

public import proofs.«01_k».proof.Defs
public import proofs.«01_k».proof.Proof.Gen.XAttn
public import proofs.«01_k».proof.Proof.Gen.XAttn.Frame
public import proofs.«01_k».proof.Proof.Gen.XAttnIdeal
public import proofs.«01_k».proof.Proof.Gen.XAttnIdeal.Frame
public import proofs.«01_k».proof.Proof.Gen.XAttnRefIdeal
public import proofs.«01_k».proof.Proof.Gen.XAttnRefIdeal.Run
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.ShortConv
public import proofs.«01_k».proof.Proof.Gen.ShortConv.Frame
public import proofs.«01_k».proof.Proof.Gen.ShortConvIdeal
public import proofs.«01_k».proof.Proof.Gen.ShortConvIdeal.Frame
public import proofs.«01_k».proof.Proof.Gen.ShortConvRefIdeal
public import proofs.«01_k».proof.Proof.Gen.ShortConvRefIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInRefIdeal
public import proofs.«01_k».proof.Proof.Gen.EvenInRefIdeal.Run
public import proofs.«01_k».proof.Proof.Gen.OddIn
public import proofs.«01_k».proof.Proof.Gen.OddIn.Frame
public import proofs.«01_k».proof.Proof.Gen.OddInIdeal
public import proofs.«01_k».proof.Proof.Gen.OddInIdeal.Frame
public import proofs.«01_k».proof.Proof.Gen.OddInRefIdeal
public import proofs.«01_k».proof.Proof.Gen.OddInRefIdeal.Run
public import proofs.«01_k».proof.Proof.Gen.EvenOut
public import proofs.«01_k».proof.Proof.Gen.EvenOut.Frame
public import proofs.«01_k».proof.Proof.Gen.EvenOutIdeal
public import proofs.«01_k».proof.Proof.Gen.EvenOutIdeal.Frame
public import proofs.«01_k».proof.Proof.Gen.EvenOutRefIdeal
public import proofs.«01_k».proof.Proof.Gen.EvenOutRefIdeal.Run
public import proofs.«01_k».proof.Proof.Gen.OddOut
public import proofs.«01_k».proof.Proof.Gen.OddOut.Frame
public import proofs.«01_k».proof.Proof.Gen.OddOutIdeal
public import proofs.«01_k».proof.Proof.Gen.OddOutIdeal.Frame
public import proofs.«01_k».proof.Proof.Gen.OddOutRefIdeal
public import proofs.«01_k».proof.Proof.Gen.OddOutRefIdeal.Run
public import proofs.«01_k».proof.Proof.Gen.RwPrep
public import proofs.«01_k».proof.Proof.Gen.RwPrepIdeal
public import proofs.«01_k».proof.Proof.Gen.RwPrepRefIdeal
public import proofs.«01_k».proof.Proof.Gen.RwPrepRefIdeal.Run
public import proofs.«01_k».proof.Proof.XAttn
public import proofs.«01_k».proof.Proof.FfnUp
public import proofs.«01_k».proof.Proof.FfnDown
public import proofs.«01_k».proof.Proof.ShortConv
public import proofs.«01_k».proof.Proof.MemKv
public import proofs.«01_k».proof.Proof.EvenInFrame
public import proofs.«01_k».proof.Proof.EvenInIdealFrame
public import proofs.«01_k».proof.Proof.EvenIn
public import proofs.«01_k».proof.Proof.OddInFrame
public import proofs.«01_k».proof.Proof.OddInIdealFrame
public import proofs.«01_k».proof.Proof.OddIn
public import proofs.«01_k».proof.Proof.EvenOut
public import proofs.«01_k».proof.Proof.OddOut
public import proofs.«01_k».proof.Proof.RwPrepKRun
public import proofs.«01_k».proof.Proof.RwPrep
public import Idealize.ShloMosaic.Adequacy
public import Idealize.ShloMosaic.Init

@[expose] public section

noncomputable section

namespace Cert.Proof

open Idealize.ShloMosaic Idealize.SL.Sem

theorem frame_XAttn : Cert.quiescent_XAttn := fun m ρ _ => Cert.XAttn.Gen.frame m ρ

theorem frame_XAttnIdeal : Cert.quiescent_XAttnIdeal := fun m ρ _ => Cert.XAttnIdeal.Gen.frame m ρ

theorem frame_XAttnRefIdeal : Cert.quiescent_XAttnRefIdeal := fun m ρ _ =>
  (θ_run Cert.XAttnRefIdeal.defs _ _).mono (fun r h => ⟨fun c => (h c).2.2,
    Idealize.ShloMosaic.sem_eq_zero_of_no_sems (by decide) r.2⟩) (Cert.XAttnRefIdeal.Value.run (F := Ideal) m ρ)

theorem frame_XAttnIdeal_finite_gains : Cert.quiescent_XAttnIdeal_pre_finite_gains := fun m ρ _ => Cert.XAttnIdeal.Gen.frame m ρ

theorem frame_XAttnRefIdeal_finite_gains : Cert.quiescent_XAttnRefIdeal_pre_finite_gains := fun m ρ _ => frame_XAttnRefIdeal m ρ trivial

theorem frame_FfnUp : Cert.quiescent_FfnUp := fun m ρ _ => Cert.FfnUp.Gen.frame m ρ

theorem frame_FfnUpIdeal : Cert.quiescent_FfnUpIdeal := fun m ρ _ => Cert.FfnUpIdeal.Gen.frame m ρ

theorem frame_FfnUpRefIdeal : Cert.quiescent_FfnUpRefIdeal := fun m ρ _ =>
  (θ_run Cert.FfnUpRefIdeal.defs _ _).mono (fun r h => ⟨fun c => (h c).2,
    Idealize.ShloMosaic.sem_eq_zero_of_no_sems (by decide) r.2⟩) (Cert.FfnUpRefIdeal.Value.run (F := Ideal) m ρ)

theorem frame_FfnDown : Cert.quiescent_FfnDown := fun m ρ _ => Cert.FfnDown.Gen.frame m ρ

theorem frame_FfnDownIdeal : Cert.quiescent_FfnDownIdeal := fun m ρ _ => Cert.FfnDownIdeal.Gen.frame m ρ

theorem frame_FfnDownRefIdeal : Cert.quiescent_FfnDownRefIdeal := fun m ρ _ =>
  (θ_run Cert.FfnDownRefIdeal.defs _ _).mono (fun r h => ⟨fun c => (h c).2,
    Idealize.ShloMosaic.sem_eq_zero_of_no_sems (by decide) r.2⟩) (Cert.FfnDownRefIdeal.Value.run (F := Ideal) m ρ)

theorem frame_ShortConv : Cert.quiescent_ShortConv := fun m ρ _ => Cert.ShortConv.Gen.frame m ρ

theorem frame_ShortConvIdeal : Cert.quiescent_ShortConvIdeal := fun m ρ _ => Cert.ShortConvIdeal.Gen.frame m ρ

theorem frame_ShortConvRefIdeal : Cert.quiescent_ShortConvRefIdeal := fun m ρ _ =>
  (θ_run Cert.ShortConvRefIdeal.defs _ _).mono (fun r h => ⟨fun c => (h c).2,
    Idealize.ShloMosaic.sem_eq_zero_of_no_sems (by decide) r.2⟩) (Cert.ShortConvRefIdeal.Value.run (F := Ideal) m ρ)

theorem frame_MemKv : Cert.quiescent_MemKv := fun m ρ _ => Cert.MemKv.Gen.frame m ρ

theorem frame_MemKvIdeal : Cert.quiescent_MemKvIdeal := fun m ρ _ => Cert.MemKvIdeal.Gen.frame m ρ

theorem frame_MemKvRefIdeal : Cert.quiescent_MemKvRefIdeal := fun m ρ _ =>
  (θ_run Cert.MemKvRefIdeal.defs _ _).mono (fun r h => ⟨fun c => (h c).2,
    Idealize.ShloMosaic.sem_eq_zero_of_no_sems (by decide) r.2⟩) (Cert.MemKvRefIdeal.Value.run (F := Ideal) m ρ)

theorem frame_EvenIn : Cert.quiescent_EvenIn := fun m ρ _ => Cert.EvenIn.Hand.frame m ρ

theorem frame_EvenInIdeal : Cert.quiescent_EvenInIdeal := fun m ρ _ => Cert.EvenInIdeal.Hand.frame m ρ

theorem frame_EvenInRefIdeal : Cert.quiescent_EvenInRefIdeal := fun m ρ _ =>
  (θ_run Cert.EvenInRefIdeal.defs _ _).mono (fun r h => ⟨fun c => (h c).2.2,
    Idealize.ShloMosaic.sem_eq_zero_of_no_sems (by decide) r.2⟩) (Cert.EvenInRefIdeal.Value.run (F := Ideal) m ρ)

theorem frame_OddIn : Cert.quiescent_OddIn := fun m ρ _ => Cert.OddIn.Hand.frame m ρ

theorem frame_OddInIdeal : Cert.quiescent_OddInIdeal := fun m ρ _ => Cert.OddInIdeal.Hand.frame m ρ

theorem frame_OddInRefIdeal : Cert.quiescent_OddInRefIdeal := fun m ρ _ =>
  (θ_run Cert.OddInRefIdeal.defs _ _).mono (fun r h => ⟨fun c => (h c).2.2,
    Idealize.ShloMosaic.sem_eq_zero_of_no_sems (by decide) r.2⟩) (Cert.OddInRefIdeal.Value.run (F := Ideal) m ρ)

theorem frame_EvenOut : Cert.quiescent_EvenOut := fun m ρ _ => Cert.EvenOut.Gen.frame m ρ

theorem frame_EvenOutIdeal : Cert.quiescent_EvenOutIdeal := fun m ρ _ => Cert.EvenOutIdeal.Gen.frame m ρ

theorem frame_EvenOutRefIdeal : Cert.quiescent_EvenOutRefIdeal := fun m ρ _ =>
  (θ_run Cert.EvenOutRefIdeal.defs _ _).mono (fun r h => ⟨fun c => (h c).2,
    Idealize.ShloMosaic.sem_eq_zero_of_no_sems (by decide) r.2⟩) (Cert.EvenOutRefIdeal.Value.run (F := Ideal) m ρ)

theorem frame_OddOut : Cert.quiescent_OddOut := fun m ρ _ => Cert.OddOut.Gen.frame m ρ

theorem frame_OddOutIdeal : Cert.quiescent_OddOutIdeal := fun m ρ _ => Cert.OddOutIdeal.Gen.frame m ρ

theorem frame_OddOutRefIdeal : Cert.quiescent_OddOutRefIdeal := fun m ρ _ =>
  (θ_run Cert.OddOutRefIdeal.defs _ _).mono (fun r h => ⟨fun c => (h c).2,
    Idealize.ShloMosaic.sem_eq_zero_of_no_sems (by decide) r.2⟩) (Cert.OddOutRefIdeal.Value.run (F := Ideal) m ρ)

theorem frame_RwPrep : Cert.quiescent_RwPrep := fun m ρ _ => Cert.RwPrep.Run.frame m ρ

theorem frame_RwPrepIdeal : Cert.quiescent_RwPrepIdeal := fun m ρ _ => Cert.RwPrepIdeal.Run.frame m ρ

theorem frame_RwPrepRefIdeal : Cert.quiescent_RwPrepRefIdeal := fun m ρ _ =>
  (θ_run Cert.RwPrepRefIdeal.defs _ _).mono (fun r h => ⟨fun c => (h c).2.2.2.2.2.2.2.2.2.2.2,
    Idealize.ShloMosaic.sem_eq_zero_of_no_sems (by decide) r.2⟩) (Cert.RwPrepRefIdeal.Value.run (F := Ideal) m ρ)

theorem frame_RwPrepIdeal_finite_mix : Cert.quiescent_RwPrepIdeal_pre_finite_mix := fun m ρ _ => Cert.RwPrepIdeal.Run.frame m ρ

theorem frame_RwPrepRefIdeal_finite_mix : Cert.quiescent_RwPrepRefIdeal_pre_finite_mix := fun m ρ _ => frame_RwPrepRefIdeal m ρ trivial

theorem claim : Cert.Claim := ⟨Cert.XAttn.Gen.facts, Cert.XAttnIdeal.Gen.facts, Cert.XAttnRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.ShortConv.Gen.facts, Cert.ShortConvIdeal.Gen.facts, Cert.ShortConvRefIdeal.Gen.facts, Cert.MemKv.Gen.facts, Cert.MemKvIdeal.Gen.facts, Cert.MemKvRefIdeal.Gen.facts, Cert.EvenIn.Gen.facts, Cert.EvenInIdeal.Gen.facts, Cert.EvenInRefIdeal.Gen.facts, Cert.OddIn.Gen.facts, Cert.OddInIdeal.Gen.facts, Cert.OddInRefIdeal.Gen.facts, Cert.EvenOut.Gen.facts, Cert.EvenOutIdeal.Gen.facts, Cert.EvenOutRefIdeal.Gen.facts, Cert.OddOut.Gen.facts, Cert.OddOutIdeal.Gen.facts, Cert.OddOutRefIdeal.Gen.facts, Cert.RwPrep.Gen.facts, Cert.RwPrepIdeal.Gen.facts, Cert.RwPrepRefIdeal.Gen.facts, Cert.XAttnIdeal.Heads.gainsFacts, Cert.RwPrepIdeal.Claims.mixFacts,
  frame_XAttn, frame_XAttnIdeal, frame_XAttnIdeal_finite_gains, frame_XAttnRefIdeal, frame_XAttnRefIdeal_finite_gains, frame_FfnUp, frame_FfnUpIdeal, frame_FfnUpRefIdeal, frame_FfnDown, frame_FfnDownIdeal, frame_FfnDownRefIdeal, frame_ShortConv, frame_ShortConvIdeal, frame_ShortConvRefIdeal, frame_MemKv, frame_MemKvIdeal, frame_MemKvRefIdeal, frame_EvenIn, frame_EvenInIdeal, frame_EvenInRefIdeal, frame_OddIn, frame_OddInIdeal, frame_OddInRefIdeal, frame_EvenOut, frame_EvenOutIdeal, frame_EvenOutRefIdeal, frame_OddOut, frame_OddOutIdeal, frame_OddOutRefIdeal, frame_RwPrep, frame_RwPrepIdeal, frame_RwPrepIdeal_finite_mix, frame_RwPrepRefIdeal, frame_RwPrepRefIdeal_finite_mix, trivial, Cert.XAttnIdeal.Heads.claim, trivial, Cert.FfnUpIdeal.Square.claim, trivial, Cert.FfnDownIdeal.Sum.claim, trivial, Cert.ShortConvIdeal.Taps.claim, trivial, Cert.MemKvIdeal.Claims.claim, trivial, Cert.EvenInIdeal.Claims.claim, trivial, Cert.OddInIdeal.Claims.claim, trivial, Cert.EvenOutIdeal.Claims.claim, trivial, Cert.OddOutIdeal.Claims.claim, trivial, Cert.RwPrepIdeal.Claims.claim⟩

end Cert.Proof

end
